-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInReferenceIdeal (m : (ℓ : Loc Cert.WInReferenceIdeal.nD Cert.WInReferenceIdeal.τ Cert.WInReferenceIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite [hPre_finite : Cert.Pre_finite.Facts] (m : (ℓ : Loc Cert.HeadIdeal.nD Cert.HeadIdeal.τ Cert.HeadIdeal.sig) → Buf (Elt Ideal) ℓ) : Prop :=
  ∀ c : Dev Cert.HeadIdeal.nD,
    (Cert.Pre_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))) = (fun _ => 1#1)

def Pre_HeadReferenceIdeal (m : (ℓ : Loc Cert.HeadReferenceIdeal.nD Cert.HeadReferenceIdeal.τ Cert.HeadReferenceIdeal.sig) → Buf (Elt Ideal) ℓ) : Prop :=
  True

def Pre_HeadReferenceIdeal_finite [hPre_finite : Cert.Pre_finite.Facts] (m : (ℓ : Loc Cert.HeadReferenceIdeal.nD Cert.HeadReferenceIdeal.τ Cert.HeadReferenceIdeal.sig) → Buf (Elt Ideal) ℓ) : Prop :=
  ∀ c : Dev Cert.HeadReferenceIdeal.nD,
    (Cert.Pre_finite.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4)) (m ((c.tc : Thread Cert.HeadReferenceIdeal.nD Cert.HeadReferenceIdeal.τ).loc Cert.HeadReferenceIdeal.main_arg5)) (m ((c.tc : Thread Cert.HeadReferenceIdeal.nD Cert.HeadReferenceIdeal.τ).loc Cert.HeadReferenceIdeal.main_arg6))) = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))) = (fun _ => 1#1)

def Pre_ActReferenceIdeal (m : (ℓ : Loc Cert.ActReferenceIdeal.nD Cert.ActReferenceIdeal.τ Cert.ActReferenceIdeal.sig) → Buf (Elt Ideal) ℓ) : Prop :=
  True

def Pre_ActReferenceIdeal_finite_act [hPre_finite_act : Cert.Pre_finite_act.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_finite_act.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_ProjBack (m : (ℓ : Loc Cert.ProjBack.nD Cert.ProjBack.τ Cert.ProjBack.sig) → Buf (Elt Bits) ℓ) : Prop :=
  True

def Pre_ProjBackIdeal (m : (ℓ : Loc Cert.ProjBackIdeal.nD Cert.ProjBackIdeal.τ Cert.ProjBackIdeal.sig) → Buf (Elt Ideal) ℓ) : Prop :=
  True

def Pre_ProjBackReferenceIdeal (m : (ℓ : Loc Cert.ProjBackReferenceIdeal.nD Cert.ProjBackReferenceIdeal.τ Cert.ProjBackReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MixForward (m : (ℓ : Loc Cert.MixForward.nD Cert.MixForward.τ Cert.MixForward.sig) → Buf (Elt Bits) ℓ) : Prop :=
  True

def Pre_MixForwardIdeal (m : (ℓ : Loc Cert.MixForwardIdeal.nD Cert.MixForwardIdeal.τ Cert.MixForwardIdeal.sig) → Buf (Elt Ideal) ℓ) : Prop :=
  True

def Pre_MixForwardReferenceIdeal (m : (ℓ : Loc Cert.MixForwardReferenceIdeal.nD Cert.MixForwardReferenceIdeal.τ Cert.MixForwardReferenceIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWReferenceIdeal (m : (ℓ : Loc Cert.AdamWReferenceIdeal.nD Cert.AdamWReferenceIdeal.τ Cert.AdamWReferenceIdeal.sig) → Buf (Elt Ideal) ℓ) : Prop :=
  True

def Pre_AdamWProj (m : (ℓ : Loc Cert.AdamWProj.nD Cert.AdamWProj.τ Cert.AdamWProj.sig) → Buf (Elt Bits) ℓ) : Prop :=
  True

def Pre_AdamWProjIdeal (m : (ℓ : Loc Cert.AdamWProjIdeal.nD Cert.AdamWProjIdeal.τ Cert.AdamWProjIdeal.sig) → Buf (Elt Ideal) ℓ) : Prop :=
  True

def Pre_AdamWProjReferenceIdeal (m : (ℓ : Loc Cert.AdamWProjReferenceIdeal.nD Cert.AdamWProjReferenceIdeal.τ Cert.AdamWProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1)
      ∧ r.2.mem ((c.tc : Thread Cert.WIn.nD Cert.WIn.τ).loc Cert.WIn.main_arg2) = m ((c.tc : Thread Cert.WIn.nD Cert.WIn.τ).loc Cert.WIn.main_arg2)
      ∧ r.2.mem ((c.tc : Thread Cert.WIn.nD Cert.WIn.τ).loc Cert.WIn.main_arg3) = m ((c.tc : Thread Cert.WIn.nD Cert.WIn.τ).loc Cert.WIn.main_arg3)
      ∧ r.2.mem ((c.tc : Thread Cert.WIn.nD Cert.WIn.τ).loc Cert.WIn.main_arg4) = m ((c.tc : Thread Cert.WIn.nD Cert.WIn.τ).loc Cert.WIn.main_arg4)
      ∧ r.2.mem ((c.tc : Thread Cert.WIn.nD Cert.WIn.τ).loc Cert.WIn.main_arg5) = m ((c.tc : Thread Cert.WIn.nD Cert.WIn.τ).loc Cert.WIn.main_arg5)
      ∧ r.2.mem ((c.tc : Thread Cert.WIn.nD Cert.WIn.τ).loc Cert.WIn.main_arg6) = m ((c.tc : Thread Cert.WIn.nD Cert.WIn.τ).loc Cert.WIn.main_arg6))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1)
      ∧ r.2.mem ((c.tc : Thread Cert.WInIdeal.nD Cert.WInIdeal.τ).loc Cert.WInIdeal.main_arg2) = m ((c.tc : Thread Cert.WInIdeal.nD Cert.WInIdeal.τ).loc Cert.WInIdeal.main_arg2)
      ∧ r.2.mem ((c.tc : Thread Cert.WInIdeal.nD Cert.WInIdeal.τ).loc Cert.WInIdeal.main_arg3) = m ((c.tc : Thread Cert.WInIdeal.nD Cert.WInIdeal.τ).loc Cert.WInIdeal.main_arg3)
      ∧ r.2.mem ((c.tc : Thread Cert.WInIdeal.nD Cert.WInIdeal.τ).loc Cert.WInIdeal.main_arg4) = m ((c.tc : Thread Cert.WInIdeal.nD Cert.WInIdeal.τ).loc Cert.WInIdeal.main_arg4)
      ∧ r.2.mem ((c.tc : Thread Cert.WInIdeal.nD Cert.WInIdeal.τ).loc Cert.WInIdeal.main_arg5) = m ((c.tc : Thread Cert.WInIdeal.nD Cert.WInIdeal.τ).loc Cert.WInIdeal.main_arg5)
      ∧ r.2.mem ((c.tc : Thread Cert.WInIdeal.nD Cert.WInIdeal.τ).loc Cert.WInIdeal.main_arg6) = m ((c.tc : Thread Cert.WInIdeal.nD Cert.WInIdeal.τ).loc Cert.WInIdeal.main_arg6))
      ∧ r.2.sem = fun _ => 0)

def quiescent_WInReferenceIdeal [hWInReferenceIdeal : Cert.WInReferenceIdeal.Facts] : Prop :=
  ∀ (m : (ℓ : Loc Cert.WInReferenceIdeal.nD Cert.WInReferenceIdeal.τ Cert.WInReferenceIdeal.sig) → Buf (Elt Ideal) ℓ) (g : Dev Cert.WInReferenceIdeal.nD → PrngReg), Pre_WInReferenceIdeal m →
    θ_run (Cert.WInReferenceIdeal.defs (F := Ideal)) (onTc (τ := Cert.WInReferenceIdeal.τ) (Cert.WInReferenceIdeal.main (F := Ideal))) ⟨m, fun _ => 0, g⟩ (fun r => (∀ c : Dev Cert.WInReferenceIdeal.nD,
      r.2.mem ((c.tc : Thread Cert.WInReferenceIdeal.nD Cert.WInReferenceIdeal.τ).loc Cert.WInReferenceIdeal.main_arg0) = m ((c.tc : Thread Cert.WInReferenceIdeal.nD Cert.WInReferenceIdeal.τ).loc Cert.WInReferenceIdeal.main_arg0)
      ∧ r.2.mem ((c.tc : Thread Cert.WInReferenceIdeal.nD Cert.WInReferenceIdeal.τ).loc Cert.WInReferenceIdeal.main_arg1) = m ((c.tc : Thread Cert.WInReferenceIdeal.nD Cert.WInReferenceIdeal.τ).loc Cert.WInReferenceIdeal.main_arg1)
      ∧ r.2.mem ((c.tc : Thread Cert.WInReferenceIdeal.nD Cert.WInReferenceIdeal.τ).loc Cert.WInReferenceIdeal.main_arg2) = m ((c.tc : Thread Cert.WInReferenceIdeal.nD Cert.WInReferenceIdeal.τ).loc Cert.WInReferenceIdeal.main_arg2)
      ∧ r.2.mem ((c.tc : Thread Cert.WInReferenceIdeal.nD Cert.WInReferenceIdeal.τ).loc Cert.WInReferenceIdeal.main_arg3) = m ((c.tc : Thread Cert.WInReferenceIdeal.nD Cert.WInReferenceIdeal.τ).loc Cert.WInReferenceIdeal.main_arg3)
      ∧ r.2.mem ((c.tc : Thread Cert.WInReferenceIdeal.nD Cert.WInReferenceIdeal.τ).loc Cert.WInReferenceIdeal.main_arg4) = m ((c.tc : Thread Cert.WInReferenceIdeal.nD Cert.WInReferenceIdeal.τ).loc Cert.WInReferenceIdeal.main_arg4)
      ∧ r.2.mem ((c.tc : Thread Cert.WInReferenceIdeal.nD Cert.WInReferenceIdeal.τ).loc Cert.WInReferenceIdeal.main_arg5) = m ((c.tc : Thread Cert.WInReferenceIdeal.nD Cert.WInReferenceIdeal.τ).loc Cert.WInReferenceIdeal.main_arg5)
      ∧ r.2.mem ((c.tc : Thread Cert.WInReferenceIdeal.nD Cert.WInReferenceIdeal.τ).loc Cert.WInReferenceIdeal.main_arg6) = m ((c.tc : Thread Cert.WInReferenceIdeal.nD Cert.WInReferenceIdeal.τ).loc Cert.WInReferenceIdeal.main_arg6))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadIdeal_pre_finite [hHeadIdeal : Cert.HeadIdeal.Facts] [hPre_finite : Cert.Pre_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6))
      ∧ r.2.sem = fun _ => 0)

def quiescent_HeadReferenceIdeal_pre_finite [hHeadReferenceIdeal : Cert.HeadReferenceIdeal.Facts] [hPre_finite : Cert.Pre_finite.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal_finite m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_ActReferenceIdeal_pre_finite_act [hActReferenceIdeal : Cert.ActReferenceIdeal.Facts] [hPre_finite_act : Cert.Pre_finite_act.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal_finite_act m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_ProjBack [hProjBack : Cert.ProjBack.Facts] : Prop :=
  ∀ (m : (ℓ : Loc Cert.ProjBack.nD Cert.ProjBack.τ Cert.ProjBack.sig) → Buf (Elt Bits) ℓ) (g : Dev Cert.ProjBack.nD → PrngReg), Pre_ProjBack m →
    θ_run (Cert.ProjBack.defs (F := Bits)) (onTc (τ := Cert.ProjBack.τ) (Cert.ProjBack.main (F := Bits))) ⟨m, fun _ => 0, g⟩ (fun r => (∀ c : Dev Cert.ProjBack.nD,
      r.2.mem ((c.tc : Thread Cert.ProjBack.nD Cert.ProjBack.τ).loc Cert.ProjBack.main_arg0) = m ((c.tc : Thread Cert.ProjBack.nD Cert.ProjBack.τ).loc Cert.ProjBack.main_arg0)
      ∧ r.2.mem ((c.tc : Thread Cert.ProjBack.nD Cert.ProjBack.τ).loc Cert.ProjBack.main_arg1) = m ((c.tc : Thread Cert.ProjBack.nD Cert.ProjBack.τ).loc Cert.ProjBack.main_arg1)
      ∧ r.2.mem ((c.tc : Thread Cert.ProjBack.nD Cert.ProjBack.τ).loc Cert.ProjBack.main_arg2) = m ((c.tc : Thread Cert.ProjBack.nD Cert.ProjBack.τ).loc Cert.ProjBack.main_arg2)
      ∧ r.2.mem ((c.tc : Thread Cert.ProjBack.nD Cert.ProjBack.τ).loc Cert.ProjBack.main_arg3) = m ((c.tc : Thread Cert.ProjBack.nD Cert.ProjBack.τ).loc Cert.ProjBack.main_arg3)
      ∧ r.2.mem ((c.tc : Thread Cert.ProjBack.nD Cert.ProjBack.τ).loc Cert.ProjBack.main_arg4) = m ((c.tc : Thread Cert.ProjBack.nD Cert.ProjBack.τ).loc Cert.ProjBack.main_arg4)
      ∧ r.2.mem ((c.tc : Thread Cert.ProjBack.nD Cert.ProjBack.τ).loc Cert.ProjBack.main_arg5) = m ((c.tc : Thread Cert.ProjBack.nD Cert.ProjBack.τ).loc Cert.ProjBack.main_arg5)
      ∧ r.2.mem ((c.tc : Thread Cert.ProjBack.nD Cert.ProjBack.τ).loc Cert.ProjBack.main_arg6) = m ((c.tc : Thread Cert.ProjBack.nD Cert.ProjBack.τ).loc Cert.ProjBack.main_arg6)
      ∧ r.2.mem ((c.tc : Thread Cert.ProjBack.nD Cert.ProjBack.τ).loc Cert.ProjBack.main_arg7) = m ((c.tc : Thread Cert.ProjBack.nD Cert.ProjBack.τ).loc Cert.ProjBack.main_arg7)
      ∧ r.2.mem ((c.tc : Thread Cert.ProjBack.nD Cert.ProjBack.τ).loc Cert.ProjBack.main_arg8) = m ((c.tc : Thread Cert.ProjBack.nD Cert.ProjBack.τ).loc Cert.ProjBack.main_arg8)
      ∧ r.2.mem ((c.tc : Thread Cert.ProjBack.nD Cert.ProjBack.τ).loc Cert.ProjBack.main_arg9) = m ((c.tc : Thread Cert.ProjBack.nD Cert.ProjBack.τ).loc Cert.ProjBack.main_arg9))
      ∧ r.2.sem = fun _ => 0)

def quiescent_ProjBackIdeal [hProjBackIdeal : Cert.ProjBackIdeal.Facts] : Prop :=
  ∀ (m : (ℓ : Loc Cert.ProjBackIdeal.nD Cert.ProjBackIdeal.τ Cert.ProjBackIdeal.sig) → Buf (Elt Ideal) ℓ) (g : Dev Cert.ProjBackIdeal.nD → PrngReg), Pre_ProjBackIdeal m →
    θ_run (Cert.ProjBackIdeal.defs (F := Ideal)) (onTc (τ := Cert.ProjBackIdeal.τ) (Cert.ProjBackIdeal.main (F := Ideal))) ⟨m, fun _ => 0, g⟩ (fun r => (∀ c : Dev Cert.ProjBackIdeal.nD,
      r.2.mem ((c.tc : Thread Cert.ProjBackIdeal.nD Cert.ProjBackIdeal.τ).loc Cert.ProjBackIdeal.main_arg0) = m ((c.tc : Thread Cert.ProjBackIdeal.nD Cert.ProjBackIdeal.τ).loc Cert.ProjBackIdeal.main_arg0)
      ∧ r.2.mem ((c.tc : Thread Cert.ProjBackIdeal.nD Cert.ProjBackIdeal.τ).loc Cert.ProjBackIdeal.main_arg1) = m ((c.tc : Thread Cert.ProjBackIdeal.nD Cert.ProjBackIdeal.τ).loc Cert.ProjBackIdeal.main_arg1)
      ∧ r.2.mem ((c.tc : Thread Cert.ProjBackIdeal.nD Cert.ProjBackIdeal.τ).loc Cert.ProjBackIdeal.main_arg2) = m ((c.tc : Thread Cert.ProjBackIdeal.nD Cert.ProjBackIdeal.τ).loc Cert.ProjBackIdeal.main_arg2)
      ∧ r.2.mem ((c.tc : Thread Cert.ProjBackIdeal.nD Cert.ProjBackIdeal.τ).loc Cert.ProjBackIdeal.main_arg3) = m ((c.tc : Thread Cert.ProjBackIdeal.nD Cert.ProjBackIdeal.τ).loc Cert.ProjBackIdeal.main_arg3)
      ∧ r.2.mem ((c.tc : Thread Cert.ProjBackIdeal.nD Cert.ProjBackIdeal.τ).loc Cert.ProjBackIdeal.main_arg4) = m ((c.tc : Thread Cert.ProjBackIdeal.nD Cert.ProjBackIdeal.τ).loc Cert.ProjBackIdeal.main_arg4)
      ∧ r.2.mem ((c.tc : Thread Cert.ProjBackIdeal.nD Cert.ProjBackIdeal.τ).loc Cert.ProjBackIdeal.main_arg5) = m ((c.tc : Thread Cert.ProjBackIdeal.nD Cert.ProjBackIdeal.τ).loc Cert.ProjBackIdeal.main_arg5)
      ∧ r.2.mem ((c.tc : Thread Cert.ProjBackIdeal.nD Cert.ProjBackIdeal.τ).loc Cert.ProjBackIdeal.main_arg6) = m ((c.tc : Thread Cert.ProjBackIdeal.nD Cert.ProjBackIdeal.τ).loc Cert.ProjBackIdeal.main_arg6)
      ∧ r.2.mem ((c.tc : Thread Cert.ProjBackIdeal.nD Cert.ProjBackIdeal.τ).loc Cert.ProjBackIdeal.main_arg7) = m ((c.tc : Thread Cert.ProjBackIdeal.nD Cert.ProjBackIdeal.τ).loc Cert.ProjBackIdeal.main_arg7)
      ∧ r.2.mem ((c.tc : Thread Cert.ProjBackIdeal.nD Cert.ProjBackIdeal.τ).loc Cert.ProjBackIdeal.main_arg8) = m ((c.tc : Thread Cert.ProjBackIdeal.nD Cert.ProjBackIdeal.τ).loc Cert.ProjBackIdeal.main_arg8)
      ∧ r.2.mem ((c.tc : Thread Cert.ProjBackIdeal.nD Cert.ProjBackIdeal.τ).loc Cert.ProjBackIdeal.main_arg9) = m ((c.tc : Thread Cert.ProjBackIdeal.nD Cert.ProjBackIdeal.τ).loc Cert.ProjBackIdeal.main_arg9))
      ∧ r.2.sem = fun _ => 0)

def quiescent_ProjBackReferenceIdeal [hProjBackReferenceIdeal : Cert.ProjBackReferenceIdeal.Facts] : Prop :=
  ∀ (m : (ℓ : Loc Cert.ProjBackReferenceIdeal.nD Cert.ProjBackReferenceIdeal.τ Cert.ProjBackReferenceIdeal.sig) → Buf (Elt Ideal) ℓ) (g : Dev Cert.ProjBackReferenceIdeal.nD → PrngReg), Pre_ProjBackReferenceIdeal m →
    θ_run (Cert.ProjBackReferenceIdeal.defs (F := Ideal)) (onTc (τ := Cert.ProjBackReferenceIdeal.τ) (Cert.ProjBackReferenceIdeal.main (F := Ideal))) ⟨m, fun _ => 0, g⟩ (fun r => (∀ c : Dev Cert.ProjBackReferenceIdeal.nD,
      r.2.mem ((c.tc : Thread Cert.ProjBackReferenceIdeal.nD Cert.ProjBackReferenceIdeal.τ).loc Cert.ProjBackReferenceIdeal.main_arg0) = m ((c.tc : Thread Cert.ProjBackReferenceIdeal.nD Cert.ProjBackReferenceIdeal.τ).loc Cert.ProjBackReferenceIdeal.main_arg0)
      ∧ r.2.mem ((c.tc : Thread Cert.ProjBackReferenceIdeal.nD Cert.ProjBackReferenceIdeal.τ).loc Cert.ProjBackReferenceIdeal.main_arg1) = m ((c.tc : Thread Cert.ProjBackReferenceIdeal.nD Cert.ProjBackReferenceIdeal.τ).loc Cert.ProjBackReferenceIdeal.main_arg1)
      ∧ r.2.mem ((c.tc : Thread Cert.ProjBackReferenceIdeal.nD Cert.ProjBackReferenceIdeal.τ).loc Cert.ProjBackReferenceIdeal.main_arg2) = m ((c.tc : Thread Cert.ProjBackReferenceIdeal.nD Cert.ProjBackReferenceIdeal.τ).loc Cert.ProjBackReferenceIdeal.main_arg2)
      ∧ r.2.mem ((c.tc : Thread Cert.ProjBackReferenceIdeal.nD Cert.ProjBackReferenceIdeal.τ).loc Cert.ProjBackReferenceIdeal.main_arg3) = m ((c.tc : Thread Cert.ProjBackReferenceIdeal.nD Cert.ProjBackReferenceIdeal.τ).loc Cert.ProjBackReferenceIdeal.main_arg3)
      ∧ r.2.mem ((c.tc : Thread Cert.ProjBackReferenceIdeal.nD Cert.ProjBackReferenceIdeal.τ).loc Cert.ProjBackReferenceIdeal.main_arg4) = m ((c.tc : Thread Cert.ProjBackReferenceIdeal.nD Cert.ProjBackReferenceIdeal.τ).loc Cert.ProjBackReferenceIdeal.main_arg4)
      ∧ r.2.mem ((c.tc : Thread Cert.ProjBackReferenceIdeal.nD Cert.ProjBackReferenceIdeal.τ).loc Cert.ProjBackReferenceIdeal.main_arg5) = m ((c.tc : Thread Cert.ProjBackReferenceIdeal.nD Cert.ProjBackReferenceIdeal.τ).loc Cert.ProjBackReferenceIdeal.main_arg5)
      ∧ r.2.mem ((c.tc : Thread Cert.ProjBackReferenceIdeal.nD Cert.ProjBackReferenceIdeal.τ).loc Cert.ProjBackReferenceIdeal.main_arg6) = m ((c.tc : Thread Cert.ProjBackReferenceIdeal.nD Cert.ProjBackReferenceIdeal.τ).loc Cert.ProjBackReferenceIdeal.main_arg6)
      ∧ r.2.mem ((c.tc : Thread Cert.ProjBackReferenceIdeal.nD Cert.ProjBackReferenceIdeal.τ).loc Cert.ProjBackReferenceIdeal.main_arg7) = m ((c.tc : Thread Cert.ProjBackReferenceIdeal.nD Cert.ProjBackReferenceIdeal.τ).loc Cert.ProjBackReferenceIdeal.main_arg7)
      ∧ r.2.mem ((c.tc : Thread Cert.ProjBackReferenceIdeal.nD Cert.ProjBackReferenceIdeal.τ).loc Cert.ProjBackReferenceIdeal.main_arg8) = m ((c.tc : Thread Cert.ProjBackReferenceIdeal.nD Cert.ProjBackReferenceIdeal.τ).loc Cert.ProjBackReferenceIdeal.main_arg8)
      ∧ r.2.mem ((c.tc : Thread Cert.ProjBackReferenceIdeal.nD Cert.ProjBackReferenceIdeal.τ).loc Cert.ProjBackReferenceIdeal.main_arg9) = m ((c.tc : Thread Cert.ProjBackReferenceIdeal.nD Cert.ProjBackReferenceIdeal.τ).loc Cert.ProjBackReferenceIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_MixForward [hMixForward : Cert.MixForward.Facts] : Prop :=
  ∀ (m : (ℓ : Loc Cert.MixForward.nD Cert.MixForward.τ Cert.MixForward.sig) → Buf (Elt Bits) ℓ) (g : Dev Cert.MixForward.nD → PrngReg), Pre_MixForward m →
    θ_run (Cert.MixForward.defs (F := Bits)) (onTc (τ := Cert.MixForward.τ) (Cert.MixForward.main (F := Bits))) ⟨m, fun _ => 0, g⟩ (fun r => (∀ c : Dev Cert.MixForward.nD,
      r.2.mem ((c.tc : Thread Cert.MixForward.nD Cert.MixForward.τ).loc Cert.MixForward.main_arg0) = m ((c.tc : Thread Cert.MixForward.nD Cert.MixForward.τ).loc Cert.MixForward.main_arg0)
      ∧ r.2.mem ((c.tc : Thread Cert.MixForward.nD Cert.MixForward.τ).loc Cert.MixForward.main_arg1) = m ((c.tc : Thread Cert.MixForward.nD Cert.MixForward.τ).loc Cert.MixForward.main_arg1)
      ∧ r.2.mem ((c.tc : Thread Cert.MixForward.nD Cert.MixForward.τ).loc Cert.MixForward.main_arg2) = m ((c.tc : Thread Cert.MixForward.nD Cert.MixForward.τ).loc Cert.MixForward.main_arg2)
      ∧ r.2.mem ((c.tc : Thread Cert.MixForward.nD Cert.MixForward.τ).loc Cert.MixForward.main_arg3) = m ((c.tc : Thread Cert.MixForward.nD Cert.MixForward.τ).loc Cert.MixForward.main_arg3)
      ∧ r.2.mem ((c.tc : Thread Cert.MixForward.nD Cert.MixForward.τ).loc Cert.MixForward.main_arg4) = m ((c.tc : Thread Cert.MixForward.nD Cert.MixForward.τ).loc Cert.MixForward.main_arg4)
      ∧ r.2.mem ((c.tc : Thread Cert.MixForward.nD Cert.MixForward.τ).loc Cert.MixForward.main_arg5) = m ((c.tc : Thread Cert.MixForward.nD Cert.MixForward.τ).loc Cert.MixForward.main_arg5)
      ∧ r.2.mem ((c.tc : Thread Cert.MixForward.nD Cert.MixForward.τ).loc Cert.MixForward.main_arg6) = m ((c.tc : Thread Cert.MixForward.nD Cert.MixForward.τ).loc Cert.MixForward.main_arg6)
      ∧ r.2.mem ((c.tc : Thread Cert.MixForward.nD Cert.MixForward.τ).loc Cert.MixForward.main_arg7) = m ((c.tc : Thread Cert.MixForward.nD Cert.MixForward.τ).loc Cert.MixForward.main_arg7))
      ∧ r.2.sem = fun _ => 0)

def quiescent_MixForwardIdeal [hMixForwardIdeal : Cert.MixForwardIdeal.Facts] : Prop :=
  ∀ (m : (ℓ : Loc Cert.MixForwardIdeal.nD Cert.MixForwardIdeal.τ Cert.MixForwardIdeal.sig) → Buf (Elt Ideal) ℓ) (g : Dev Cert.MixForwardIdeal.nD → PrngReg), Pre_MixForwardIdeal m →
    θ_run (Cert.MixForwardIdeal.defs (F := Ideal)) (onTc (τ := Cert.MixForwardIdeal.τ) (Cert.MixForwardIdeal.main (F := Ideal))) ⟨m, fun _ => 0, g⟩ (fun r => (∀ c : Dev Cert.MixForwardIdeal.nD,
      r.2.mem ((c.tc : Thread Cert.MixForwardIdeal.nD Cert.MixForwardIdeal.τ).loc Cert.MixForwardIdeal.main_arg0) = m ((c.tc : Thread Cert.MixForwardIdeal.nD Cert.MixForwardIdeal.τ).loc Cert.MixForwardIdeal.main_arg0)
      ∧ r.2.mem ((c.tc : Thread Cert.MixForwardIdeal.nD Cert.MixForwardIdeal.τ).loc Cert.MixForwardIdeal.main_arg1) = m ((c.tc : Thread Cert.MixForwardIdeal.nD Cert.MixForwardIdeal.τ).loc Cert.MixForwardIdeal.main_arg1)
      ∧ r.2.mem ((c.tc : Thread Cert.MixForwardIdeal.nD Cert.MixForwardIdeal.τ).loc Cert.MixForwardIdeal.main_arg2) = m ((c.tc : Thread Cert.MixForwardIdeal.nD Cert.MixForwardIdeal.τ).loc Cert.MixForwardIdeal.main_arg2)
      ∧ r.2.mem ((c.tc : Thread Cert.MixForwardIdeal.nD Cert.MixForwardIdeal.τ).loc Cert.MixForwardIdeal.main_arg3) = m ((c.tc : Thread Cert.MixForwardIdeal.nD Cert.MixForwardIdeal.τ).loc Cert.MixForwardIdeal.main_arg3)
      ∧ r.2.mem ((c.tc : Thread Cert.MixForwardIdeal.nD Cert.MixForwardIdeal.τ).loc Cert.MixForwardIdeal.main_arg4) = m ((c.tc : Thread Cert.MixForwardIdeal.nD Cert.MixForwardIdeal.τ).loc Cert.MixForwardIdeal.main_arg4)
      ∧ r.2.mem ((c.tc : Thread Cert.MixForwardIdeal.nD Cert.MixForwardIdeal.τ).loc Cert.MixForwardIdeal.main_arg5) = m ((c.tc : Thread Cert.MixForwardIdeal.nD Cert.MixForwardIdeal.τ).loc Cert.MixForwardIdeal.main_arg5)
      ∧ r.2.mem ((c.tc : Thread Cert.MixForwardIdeal.nD Cert.MixForwardIdeal.τ).loc Cert.MixForwardIdeal.main_arg6) = m ((c.tc : Thread Cert.MixForwardIdeal.nD Cert.MixForwardIdeal.τ).loc Cert.MixForwardIdeal.main_arg6)
      ∧ r.2.mem ((c.tc : Thread Cert.MixForwardIdeal.nD Cert.MixForwardIdeal.τ).loc Cert.MixForwardIdeal.main_arg7) = m ((c.tc : Thread Cert.MixForwardIdeal.nD Cert.MixForwardIdeal.τ).loc Cert.MixForwardIdeal.main_arg7))
      ∧ r.2.sem = fun _ => 0)

def quiescent_MixForwardReferenceIdeal [hMixForwardReferenceIdeal : Cert.MixForwardReferenceIdeal.Facts] : Prop :=
  ∀ (m : (ℓ : Loc Cert.MixForwardReferenceIdeal.nD Cert.MixForwardReferenceIdeal.τ Cert.MixForwardReferenceIdeal.sig) → Buf (Elt Ideal) ℓ) (g : Dev Cert.MixForwardReferenceIdeal.nD → PrngReg), Pre_MixForwardReferenceIdeal m →
    θ_run (Cert.MixForwardReferenceIdeal.defs (F := Ideal)) (onTc (τ := Cert.MixForwardReferenceIdeal.τ) (Cert.MixForwardReferenceIdeal.main (F := Ideal))) ⟨m, fun _ => 0, g⟩ (fun r => (∀ c : Dev Cert.MixForwardReferenceIdeal.nD,
      r.2.mem ((c.tc : Thread Cert.MixForwardReferenceIdeal.nD Cert.MixForwardReferenceIdeal.τ).loc Cert.MixForwardReferenceIdeal.main_arg0) = m ((c.tc : Thread Cert.MixForwardReferenceIdeal.nD Cert.MixForwardReferenceIdeal.τ).loc Cert.MixForwardReferenceIdeal.main_arg0)
      ∧ r.2.mem ((c.tc : Thread Cert.MixForwardReferenceIdeal.nD Cert.MixForwardReferenceIdeal.τ).loc Cert.MixForwardReferenceIdeal.main_arg1) = m ((c.tc : Thread Cert.MixForwardReferenceIdeal.nD Cert.MixForwardReferenceIdeal.τ).loc Cert.MixForwardReferenceIdeal.main_arg1)
      ∧ r.2.mem ((c.tc : Thread Cert.MixForwardReferenceIdeal.nD Cert.MixForwardReferenceIdeal.τ).loc Cert.MixForwardReferenceIdeal.main_arg2) = m ((c.tc : Thread Cert.MixForwardReferenceIdeal.nD Cert.MixForwardReferenceIdeal.τ).loc Cert.MixForwardReferenceIdeal.main_arg2)
      ∧ r.2.mem ((c.tc : Thread Cert.MixForwardReferenceIdeal.nD Cert.MixForwardReferenceIdeal.τ).loc Cert.MixForwardReferenceIdeal.main_arg3) = m ((c.tc : Thread Cert.MixForwardReferenceIdeal.nD Cert.MixForwardReferenceIdeal.τ).loc Cert.MixForwardReferenceIdeal.main_arg3)
      ∧ r.2.mem ((c.tc : Thread Cert.MixForwardReferenceIdeal.nD Cert.MixForwardReferenceIdeal.τ).loc Cert.MixForwardReferenceIdeal.main_arg4) = m ((c.tc : Thread Cert.MixForwardReferenceIdeal.nD Cert.MixForwardReferenceIdeal.τ).loc Cert.MixForwardReferenceIdeal.main_arg4)
      ∧ r.2.mem ((c.tc : Thread Cert.MixForwardReferenceIdeal.nD Cert.MixForwardReferenceIdeal.τ).loc Cert.MixForwardReferenceIdeal.main_arg5) = m ((c.tc : Thread Cert.MixForwardReferenceIdeal.nD Cert.MixForwardReferenceIdeal.τ).loc Cert.MixForwardReferenceIdeal.main_arg5)
      ∧ r.2.mem ((c.tc : Thread Cert.MixForwardReferenceIdeal.nD Cert.MixForwardReferenceIdeal.τ).loc Cert.MixForwardReferenceIdeal.main_arg6) = m ((c.tc : Thread Cert.MixForwardReferenceIdeal.nD Cert.MixForwardReferenceIdeal.τ).loc Cert.MixForwardReferenceIdeal.main_arg6)
      ∧ r.2.mem ((c.tc : Thread Cert.MixForwardReferenceIdeal.nD Cert.MixForwardReferenceIdeal.τ).loc Cert.MixForwardReferenceIdeal.main_arg7) = m ((c.tc : Thread Cert.MixForwardReferenceIdeal.nD Cert.MixForwardReferenceIdeal.τ).loc Cert.MixForwardReferenceIdeal.main_arg7))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWReferenceIdeal [hAdamWReferenceIdeal : Cert.AdamWReferenceIdeal.Facts] : Prop :=
  ∀ (m : (ℓ : Loc Cert.AdamWReferenceIdeal.nD Cert.AdamWReferenceIdeal.τ Cert.AdamWReferenceIdeal.sig) → Buf (Elt Ideal) ℓ) (g : Dev Cert.AdamWReferenceIdeal.nD → PrngReg), Pre_AdamWReferenceIdeal m →
    θ_run (Cert.AdamWReferenceIdeal.defs (F := Ideal)) (onTc (τ := Cert.AdamWReferenceIdeal.τ) (Cert.AdamWReferenceIdeal.main (F := Ideal))) ⟨m, fun _ => 0, g⟩ (fun r => (∀ c : Dev Cert.AdamWReferenceIdeal.nD,
      r.2.mem ((c.tc : Thread Cert.AdamWReferenceIdeal.nD Cert.AdamWReferenceIdeal.τ).loc Cert.AdamWReferenceIdeal.main_arg0) = m ((c.tc : Thread Cert.AdamWReferenceIdeal.nD Cert.AdamWReferenceIdeal.τ).loc Cert.AdamWReferenceIdeal.main_arg0)
      ∧ r.2.mem ((c.tc : Thread Cert.AdamWReferenceIdeal.nD Cert.AdamWReferenceIdeal.τ).loc Cert.AdamWReferenceIdeal.main_arg1) = m ((c.tc : Thread Cert.AdamWReferenceIdeal.nD Cert.AdamWReferenceIdeal.τ).loc Cert.AdamWReferenceIdeal.main_arg1)
      ∧ r.2.mem ((c.tc : Thread Cert.AdamWReferenceIdeal.nD Cert.AdamWReferenceIdeal.τ).loc Cert.AdamWReferenceIdeal.main_arg2) = m ((c.tc : Thread Cert.AdamWReferenceIdeal.nD Cert.AdamWReferenceIdeal.τ).loc Cert.AdamWReferenceIdeal.main_arg2)
      ∧ r.2.mem ((c.tc : Thread Cert.AdamWReferenceIdeal.nD Cert.AdamWReferenceIdeal.τ).loc Cert.AdamWReferenceIdeal.main_arg3) = m ((c.tc : Thread Cert.AdamWReferenceIdeal.nD Cert.AdamWReferenceIdeal.τ).loc Cert.AdamWReferenceIdeal.main_arg3))
      ∧ r.2.sem = fun _ => 0)

def quiescent_AdamWProj [hAdamWProj : Cert.AdamWProj.Facts] : Prop :=
  ∀ (m : (ℓ : Loc Cert.AdamWProj.nD Cert.AdamWProj.τ Cert.AdamWProj.sig) → Buf (Elt Bits) ℓ) (g : Dev Cert.AdamWProj.nD → PrngReg), Pre_AdamWProj m →
    θ_run (Cert.AdamWProj.defs (F := Bits)) (onTc (τ := Cert.AdamWProj.τ) (Cert.AdamWProj.main (F := Bits))) ⟨m, fun _ => 0, g⟩ (fun r => (∀ c : Dev Cert.AdamWProj.nD,
      r.2.mem ((c.tc : Thread Cert.AdamWProj.nD Cert.AdamWProj.τ).loc Cert.AdamWProj.main_arg0) = m ((c.tc : Thread Cert.AdamWProj.nD Cert.AdamWProj.τ).loc Cert.AdamWProj.main_arg0)
      ∧ r.2.mem ((c.tc : Thread Cert.AdamWProj.nD Cert.AdamWProj.τ).loc Cert.AdamWProj.main_arg1) = m ((c.tc : Thread Cert.AdamWProj.nD Cert.AdamWProj.τ).loc Cert.AdamWProj.main_arg1)
      ∧ r.2.mem ((c.tc : Thread Cert.AdamWProj.nD Cert.AdamWProj.τ).loc Cert.AdamWProj.main_arg2) = m ((c.tc : Thread Cert.AdamWProj.nD Cert.AdamWProj.τ).loc Cert.AdamWProj.main_arg2)
      ∧ r.2.mem ((c.tc : Thread Cert.AdamWProj.nD Cert.AdamWProj.τ).loc Cert.AdamWProj.main_arg3) = m ((c.tc : Thread Cert.AdamWProj.nD Cert.AdamWProj.τ).loc Cert.AdamWProj.main_arg3)
      ∧ r.2.mem ((c.tc : Thread Cert.AdamWProj.nD Cert.AdamWProj.τ).loc Cert.AdamWProj.main_arg4) = m ((c.tc : Thread Cert.AdamWProj.nD Cert.AdamWProj.τ).loc Cert.AdamWProj.main_arg4)
      ∧ r.2.mem ((c.tc : Thread Cert.AdamWProj.nD Cert.AdamWProj.τ).loc Cert.AdamWProj.main_arg5) = m ((c.tc : Thread Cert.AdamWProj.nD Cert.AdamWProj.τ).loc Cert.AdamWProj.main_arg5)
      ∧ r.2.mem ((c.tc : Thread Cert.AdamWProj.nD Cert.AdamWProj.τ).loc Cert.AdamWProj.main_arg6) = m ((c.tc : Thread Cert.AdamWProj.nD Cert.AdamWProj.τ).loc Cert.AdamWProj.main_arg6)
      ∧ r.2.mem ((c.tc : Thread Cert.AdamWProj.nD Cert.AdamWProj.τ).loc Cert.AdamWProj.main_arg7) = m ((c.tc : Thread Cert.AdamWProj.nD Cert.AdamWProj.τ).loc Cert.AdamWProj.main_arg7))
      ∧ r.2.sem = fun _ => 0)

def quiescent_AdamWProjIdeal [hAdamWProjIdeal : Cert.AdamWProjIdeal.Facts] : Prop :=
  ∀ (m : (ℓ : Loc Cert.AdamWProjIdeal.nD Cert.AdamWProjIdeal.τ Cert.AdamWProjIdeal.sig) → Buf (Elt Ideal) ℓ) (g : Dev Cert.AdamWProjIdeal.nD → PrngReg), Pre_AdamWProjIdeal m →
    θ_run (Cert.AdamWProjIdeal.defs (F := Ideal)) (onTc (τ := Cert.AdamWProjIdeal.τ) (Cert.AdamWProjIdeal.main (F := Ideal))) ⟨m, fun _ => 0, g⟩ (fun r => (∀ c : Dev Cert.AdamWProjIdeal.nD,
      r.2.mem ((c.tc : Thread Cert.AdamWProjIdeal.nD Cert.AdamWProjIdeal.τ).loc Cert.AdamWProjIdeal.main_arg0) = m ((c.tc : Thread Cert.AdamWProjIdeal.nD Cert.AdamWProjIdeal.τ).loc Cert.AdamWProjIdeal.main_arg0)
      ∧ r.2.mem ((c.tc : Thread Cert.AdamWProjIdeal.nD Cert.AdamWProjIdeal.τ).loc Cert.AdamWProjIdeal.main_arg1) = m ((c.tc : Thread Cert.AdamWProjIdeal.nD Cert.AdamWProjIdeal.τ).loc Cert.AdamWProjIdeal.main_arg1)
      ∧ r.2.mem ((c.tc : Thread Cert.AdamWProjIdeal.nD Cert.AdamWProjIdeal.τ).loc Cert.AdamWProjIdeal.main_arg2) = m ((c.tc : Thread Cert.AdamWProjIdeal.nD Cert.AdamWProjIdeal.τ).loc Cert.AdamWProjIdeal.main_arg2)
      ∧ r.2.mem ((c.tc : Thread Cert.AdamWProjIdeal.nD Cert.AdamWProjIdeal.τ).loc Cert.AdamWProjIdeal.main_arg3) = m ((c.tc : Thread Cert.AdamWProjIdeal.nD Cert.AdamWProjIdeal.τ).loc Cert.AdamWProjIdeal.main_arg3)
      ∧ r.2.mem ((c.tc : Thread Cert.AdamWProjIdeal.nD Cert.AdamWProjIdeal.τ).loc Cert.AdamWProjIdeal.main_arg4) = m ((c.tc : Thread Cert.AdamWProjIdeal.nD Cert.AdamWProjIdeal.τ).loc Cert.AdamWProjIdeal.main_arg4)
      ∧ r.2.mem ((c.tc : Thread Cert.AdamWProjIdeal.nD Cert.AdamWProjIdeal.τ).loc Cert.AdamWProjIdeal.main_arg5) = m ((c.tc : Thread Cert.AdamWProjIdeal.nD Cert.AdamWProjIdeal.τ).loc Cert.AdamWProjIdeal.main_arg5)
      ∧ r.2.mem ((c.tc : Thread Cert.AdamWProjIdeal.nD Cert.AdamWProjIdeal.τ).loc Cert.AdamWProjIdeal.main_arg6) = m ((c.tc : Thread Cert.AdamWProjIdeal.nD Cert.AdamWProjIdeal.τ).loc Cert.AdamWProjIdeal.main_arg6)
      ∧ r.2.mem ((c.tc : Thread Cert.AdamWProjIdeal.nD Cert.AdamWProjIdeal.τ).loc Cert.AdamWProjIdeal.main_arg7) = m ((c.tc : Thread Cert.AdamWProjIdeal.nD Cert.AdamWProjIdeal.τ).loc Cert.AdamWProjIdeal.main_arg7))
      ∧ r.2.sem = fun _ => 0)

def quiescent_AdamWProjReferenceIdeal [hAdamWProjReferenceIdeal : Cert.AdamWProjReferenceIdeal.Facts] : Prop :=
  ∀ (m : (ℓ : Loc Cert.AdamWProjReferenceIdeal.nD Cert.AdamWProjReferenceIdeal.τ Cert.AdamWProjReferenceIdeal.sig) → Buf (Elt Ideal) ℓ) (g : Dev Cert.AdamWProjReferenceIdeal.nD → PrngReg), Pre_AdamWProjReferenceIdeal m →
    θ_run (Cert.AdamWProjReferenceIdeal.defs (F := Ideal)) (onTc (τ := Cert.AdamWProjReferenceIdeal.τ) (Cert.AdamWProjReferenceIdeal.main (F := Ideal))) ⟨m, fun _ => 0, g⟩ (fun r => (∀ c : Dev Cert.AdamWProjReferenceIdeal.nD,
      r.2.mem ((c.tc : Thread Cert.AdamWProjReferenceIdeal.nD Cert.AdamWProjReferenceIdeal.τ).loc Cert.AdamWProjReferenceIdeal.main_arg0) = m ((c.tc : Thread Cert.AdamWProjReferenceIdeal.nD Cert.AdamWProjReferenceIdeal.τ).loc Cert.AdamWProjReferenceIdeal.main_arg0)
      ∧ r.2.mem ((c.tc : Thread Cert.AdamWProjReferenceIdeal.nD Cert.AdamWProjReferenceIdeal.τ).loc Cert.AdamWProjReferenceIdeal.main_arg1) = m ((c.tc : Thread Cert.AdamWProjReferenceIdeal.nD Cert.AdamWProjReferenceIdeal.τ).loc Cert.AdamWProjReferenceIdeal.main_arg1)
      ∧ r.2.mem ((c.tc : Thread Cert.AdamWProjReferenceIdeal.nD Cert.AdamWProjReferenceIdeal.τ).loc Cert.AdamWProjReferenceIdeal.main_arg2) = m ((c.tc : Thread Cert.AdamWProjReferenceIdeal.nD Cert.AdamWProjReferenceIdeal.τ).loc Cert.AdamWProjReferenceIdeal.main_arg2)
      ∧ r.2.mem ((c.tc : Thread Cert.AdamWProjReferenceIdeal.nD Cert.AdamWProjReferenceIdeal.τ).loc Cert.AdamWProjReferenceIdeal.main_arg3) = m ((c.tc : Thread Cert.AdamWProjReferenceIdeal.nD Cert.AdamWProjReferenceIdeal.τ).loc Cert.AdamWProjReferenceIdeal.main_arg3)
      ∧ r.2.mem ((c.tc : Thread Cert.AdamWProjReferenceIdeal.nD Cert.AdamWProjReferenceIdeal.τ).loc Cert.AdamWProjReferenceIdeal.main_arg4) = m ((c.tc : Thread Cert.AdamWProjReferenceIdeal.nD Cert.AdamWProjReferenceIdeal.τ).loc Cert.AdamWProjReferenceIdeal.main_arg4)
      ∧ r.2.mem ((c.tc : Thread Cert.AdamWProjReferenceIdeal.nD Cert.AdamWProjReferenceIdeal.τ).loc Cert.AdamWProjReferenceIdeal.main_arg5) = m ((c.tc : Thread Cert.AdamWProjReferenceIdeal.nD Cert.AdamWProjReferenceIdeal.τ).loc Cert.AdamWProjReferenceIdeal.main_arg5)
      ∧ r.2.mem ((c.tc : Thread Cert.AdamWProjReferenceIdeal.nD Cert.AdamWProjReferenceIdeal.τ).loc Cert.AdamWProjReferenceIdeal.main_arg6) = m ((c.tc : Thread Cert.AdamWProjReferenceIdeal.nD Cert.AdamWProjReferenceIdeal.τ).loc Cert.AdamWProjReferenceIdeal.main_arg6)
      ∧ r.2.mem ((c.tc : Thread Cert.AdamWProjReferenceIdeal.nD Cert.AdamWProjReferenceIdeal.τ).loc Cert.AdamWProjReferenceIdeal.main_arg7) = m ((c.tc : Thread Cert.AdamWProjReferenceIdeal.nD Cert.AdamWProjReferenceIdeal.τ).loc Cert.AdamWProjReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)) (v3 : (c : Dev Cert.KernelIdeal.nD) → Buf (Elt Ideal) ((c.tc : Thread Cert.KernelIdeal.nD Cert.KernelIdeal.τ).loc Cert.KernelIdeal.main_v27_3)) (v4 : (c : Dev Cert.KernelIdeal.nD) → Buf (Elt Ideal) ((c.tc : Thread Cert.KernelIdeal.nD Cert.KernelIdeal.τ).loc Cert.KernelIdeal.main_v27_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_v27_3) = v3 c
          ∧ r.2.mem ((c.tc : Thread Cert.KernelIdeal.nD Cert.KernelIdeal.τ).loc Cert.KernelIdeal.main_v27_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Weight_WeightIdeal : Prop :=
  True

def algebraic_WeightIdeal_WeightReferenceIdeal [hWeightIdeal : Cert.WeightIdeal.Facts] [hWeightReferenceIdeal : Cert.WeightReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightIdeal m →
    (∀ c : Dev Cert.WeightIdeal.nD,
      m' ((c.tc : Thread Cert.WeightReferenceIdeal.nD Cert.WeightReferenceIdeal.τ).loc Cert.WeightReferenceIdeal.main_arg0) = m ((c.tc : Thread Cert.WeightIdeal.nD Cert.WeightIdeal.τ).loc Cert.WeightIdeal.main_arg0)
      ∧ m' ((c.tc : Thread Cert.WeightReferenceIdeal.nD Cert.WeightReferenceIdeal.τ).loc Cert.WeightReferenceIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v2)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v2) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v5) = v0 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1))

def preserves_WIn_WInIdeal : Prop :=
  True

def algebraic_WInIdeal_WInReferenceIdeal [hWInIdeal : Cert.WInIdeal.Facts] [hWInReferenceIdeal : Cert.WInReferenceIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInReferenceIdeal.nD Cert.WInReferenceIdeal.τ Cert.WInReferenceIdeal.sig) → Buf (Elt Ideal) ℓ) (g' : Dev Cert.WInReferenceIdeal.nD → PrngReg), Pre_WInIdeal m →
    (∀ c : Dev Cert.WInIdeal.nD,
      m' ((c.tc : Thread Cert.WInReferenceIdeal.nD Cert.WInReferenceIdeal.τ).loc Cert.WInReferenceIdeal.main_arg0) = m ((c.tc : Thread Cert.WInIdeal.nD Cert.WInIdeal.τ).loc Cert.WInIdeal.main_arg0)
      ∧ m' ((c.tc : Thread Cert.WInReferenceIdeal.nD Cert.WInReferenceIdeal.τ).loc Cert.WInReferenceIdeal.main_arg1) = m ((c.tc : Thread Cert.WInIdeal.nD Cert.WInIdeal.τ).loc Cert.WInIdeal.main_arg1)
      ∧ m' ((c.tc : Thread Cert.WInReferenceIdeal.nD Cert.WInReferenceIdeal.τ).loc Cert.WInReferenceIdeal.main_arg2) = m ((c.tc : Thread Cert.WInIdeal.nD Cert.WInIdeal.τ).loc Cert.WInIdeal.main_arg2)
      ∧ m' ((c.tc : Thread Cert.WInReferenceIdeal.nD Cert.WInReferenceIdeal.τ).loc Cert.WInReferenceIdeal.main_arg3) = m ((c.tc : Thread Cert.WInIdeal.nD Cert.WInIdeal.τ).loc Cert.WInIdeal.main_arg3)
      ∧ m' ((c.tc : Thread Cert.WInReferenceIdeal.nD Cert.WInReferenceIdeal.τ).loc Cert.WInReferenceIdeal.main_arg4) = m ((c.tc : Thread Cert.WInIdeal.nD Cert.WInIdeal.τ).loc Cert.WInIdeal.main_arg4)
      ∧ m' ((c.tc : Thread Cert.WInReferenceIdeal.nD Cert.WInReferenceIdeal.τ).loc Cert.WInReferenceIdeal.main_arg5) = m ((c.tc : Thread Cert.WInIdeal.nD Cert.WInIdeal.τ).loc Cert.WInIdeal.main_arg5)
      ∧ m' ((c.tc : Thread Cert.WInReferenceIdeal.nD Cert.WInReferenceIdeal.τ).loc Cert.WInReferenceIdeal.main_arg6) = m ((c.tc : Thread Cert.WInIdeal.nD Cert.WInIdeal.τ).loc Cert.WInIdeal.main_arg6)) →
    ∃ (v0 : (c : Dev Cert.WInIdeal.nD) → Buf (Elt Ideal) ((c.tc : Thread Cert.WInIdeal.nD Cert.WInIdeal.τ).loc Cert.WInIdeal.main_v7)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v7) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1)
          ∧ r.2.mem ((c.tc : Thread Cert.WInIdeal.nD Cert.WInIdeal.τ).loc Cert.WInIdeal.main_arg2) = m ((c.tc : Thread Cert.WInIdeal.nD Cert.WInIdeal.τ).loc Cert.WInIdeal.main_arg2)
          ∧ r.2.mem ((c.tc : Thread Cert.WInIdeal.nD Cert.WInIdeal.τ).loc Cert.WInIdeal.main_arg3) = m ((c.tc : Thread Cert.WInIdeal.nD Cert.WInIdeal.τ).loc Cert.WInIdeal.main_arg3)
          ∧ r.2.mem ((c.tc : Thread Cert.WInIdeal.nD Cert.WInIdeal.τ).loc Cert.WInIdeal.main_arg4) = m ((c.tc : Thread Cert.WInIdeal.nD Cert.WInIdeal.τ).loc Cert.WInIdeal.main_arg4)
          ∧ r.2.mem ((c.tc : Thread Cert.WInIdeal.nD Cert.WInIdeal.τ).loc Cert.WInIdeal.main_arg5) = m ((c.tc : Thread Cert.WInIdeal.nD Cert.WInIdeal.τ).loc Cert.WInIdeal.main_arg5)
          ∧ r.2.mem ((c.tc : Thread Cert.WInIdeal.nD Cert.WInIdeal.τ).loc Cert.WInIdeal.main_arg6) = m ((c.tc : Thread Cert.WInIdeal.nD Cert.WInIdeal.τ).loc Cert.WInIdeal.main_arg6))
      ∧ θ_run (Cert.WInReferenceIdeal.defs (F := Ideal)) (onTc (τ := Cert.WInReferenceIdeal.τ) (Cert.WInReferenceIdeal.main (F := Ideal))) ⟨m', fun _ => 0, g'⟩ (fun r => ∀ c : Dev Cert.WInReferenceIdeal.nD,
          r.2.mem ((c.tc : Thread Cert.WInReferenceIdeal.nD Cert.WInReferenceIdeal.τ).loc Cert.WInReferenceIdeal.main_v6) = v0 c
          ∧ r.2.mem ((c.tc : Thread Cert.WInReferenceIdeal.nD Cert.WInReferenceIdeal.τ).loc Cert.WInReferenceIdeal.main_arg0) = m' ((c.tc : Thread Cert.WInReferenceIdeal.nD Cert.WInReferenceIdeal.τ).loc Cert.WInReferenceIdeal.main_arg0)
          ∧ r.2.mem ((c.tc : Thread Cert.WInReferenceIdeal.nD Cert.WInReferenceIdeal.τ).loc Cert.WInReferenceIdeal.main_arg1) = m' ((c.tc : Thread Cert.WInReferenceIdeal.nD Cert.WInReferenceIdeal.τ).loc Cert.WInReferenceIdeal.main_arg1)
          ∧ r.2.mem ((c.tc : Thread Cert.WInReferenceIdeal.nD Cert.WInReferenceIdeal.τ).loc Cert.WInReferenceIdeal.main_arg2) = m' ((c.tc : Thread Cert.WInReferenceIdeal.nD Cert.WInReferenceIdeal.τ).loc Cert.WInReferenceIdeal.main_arg2)
          ∧ r.2.mem ((c.tc : Thread Cert.WInReferenceIdeal.nD Cert.WInReferenceIdeal.τ).loc Cert.WInReferenceIdeal.main_arg3) = m' ((c.tc : Thread Cert.WInReferenceIdeal.nD Cert.WInReferenceIdeal.τ).loc Cert.WInReferenceIdeal.main_arg3)
          ∧ r.2.mem ((c.tc : Thread Cert.WInReferenceIdeal.nD Cert.WInReferenceIdeal.τ).loc Cert.WInReferenceIdeal.main_arg4) = m' ((c.tc : Thread Cert.WInReferenceIdeal.nD Cert.WInReferenceIdeal.τ).loc Cert.WInReferenceIdeal.main_arg4)
          ∧ r.2.mem ((c.tc : Thread Cert.WInReferenceIdeal.nD Cert.WInReferenceIdeal.τ).loc Cert.WInReferenceIdeal.main_arg5) = m' ((c.tc : Thread Cert.WInReferenceIdeal.nD Cert.WInReferenceIdeal.τ).loc Cert.WInReferenceIdeal.main_arg5)
          ∧ r.2.mem ((c.tc : Thread Cert.WInReferenceIdeal.nD Cert.WInReferenceIdeal.τ).loc Cert.WInReferenceIdeal.main_arg6) = m' ((c.tc : Thread Cert.WInReferenceIdeal.nD Cert.WInReferenceIdeal.τ).loc Cert.WInReferenceIdeal.main_arg6))

def preserves_Head_HeadIdeal : Prop :=
  True

def algebraic_HeadIdeal_HeadReferenceIdeal_pre_finite [hHeadIdeal : Cert.HeadIdeal.Facts] [hHeadReferenceIdeal : Cert.HeadReferenceIdeal.Facts] [hPre_finite : Cert.Pre_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal_finite m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)
      ∧ m' ((c.tc : Thread Cert.HeadReferenceIdeal.nD Cert.HeadReferenceIdeal.τ).loc Cert.HeadReferenceIdeal.main_arg4) = m ((c.tc : Thread Cert.HeadIdeal.nD Cert.HeadIdeal.τ).loc Cert.HeadIdeal.main_arg4)
      ∧ m' ((c.tc : Thread Cert.HeadReferenceIdeal.nD Cert.HeadReferenceIdeal.τ).loc Cert.HeadReferenceIdeal.main_arg5) = m ((c.tc : Thread Cert.HeadIdeal.nD Cert.HeadIdeal.τ).loc Cert.HeadIdeal.main_arg5)
      ∧ m' ((c.tc : Thread Cert.HeadReferenceIdeal.nD Cert.HeadReferenceIdeal.τ).loc Cert.HeadReferenceIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v27_0)) (v1 : (c : Dev Cert.HeadIdeal.nD) → Buf (Elt Ideal) ((c.tc : Thread Cert.HeadIdeal.nD Cert.HeadIdeal.τ).loc Cert.HeadIdeal.main_v27_1)) (v2 : (c : Dev Cert.HeadIdeal.nD) → Buf (Elt Ideal) ((c.tc : Thread Cert.HeadIdeal.nD Cert.HeadIdeal.τ).loc Cert.HeadIdeal.main_v27_2)) (v3 : (c : Dev Cert.HeadIdeal.nD) → Buf (Elt Ideal) ((c.tc : Thread Cert.HeadIdeal.nD Cert.HeadIdeal.τ).loc Cert.HeadIdeal.main_v27_3)) (v4 : (c : Dev Cert.HeadIdeal.nD) → Buf (Elt Ideal) ((c.tc : Thread Cert.HeadIdeal.nD Cert.HeadIdeal.τ).loc Cert.HeadIdeal.main_v27_4)) (v5 : (c : Dev Cert.HeadIdeal.nD) → Buf (Elt Ideal) ((c.tc : Thread Cert.HeadIdeal.nD Cert.HeadIdeal.τ).loc Cert.HeadIdeal.main_v27_5)) (v6 : (c : Dev Cert.HeadIdeal.nD) → Buf (Elt Ideal) ((c.tc : Thread Cert.HeadIdeal.nD Cert.HeadIdeal.τ).loc Cert.HeadIdeal.main_v27_6)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v27_0) = v0 c
          ∧ r.2.mem ((c.tc : Thread Cert.HeadIdeal.nD Cert.HeadIdeal.τ).loc Cert.HeadIdeal.main_v27_1) = v1 c
          ∧ r.2.mem ((c.tc : Thread Cert.HeadIdeal.nD Cert.HeadIdeal.τ).loc Cert.HeadIdeal.main_v27_2) = v2 c
          ∧ r.2.mem ((c.tc : Thread Cert.HeadIdeal.nD Cert.HeadIdeal.τ).loc Cert.HeadIdeal.main_v27_3) = v3 c
          ∧ r.2.mem ((c.tc : Thread Cert.HeadIdeal.nD Cert.HeadIdeal.τ).loc Cert.HeadIdeal.main_v27_4) = v4 c
          ∧ r.2.mem ((c.tc : Thread Cert.HeadIdeal.nD Cert.HeadIdeal.τ).loc Cert.HeadIdeal.main_v27_5) = v5 c
          ∧ r.2.mem ((c.tc : Thread Cert.HeadIdeal.nD Cert.HeadIdeal.τ).loc Cert.HeadIdeal.main_v27_6) = v6 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v99) = v0 c
          ∧ r.2.mem ((c.tc : Thread Cert.HeadReferenceIdeal.nD Cert.HeadReferenceIdeal.τ).loc Cert.HeadReferenceIdeal.main_v100) = v1 c
          ∧ r.2.mem ((c.tc : Thread Cert.HeadReferenceIdeal.nD Cert.HeadReferenceIdeal.τ).loc Cert.HeadReferenceIdeal.main_v101) = v2 c
          ∧ r.2.mem ((c.tc : Thread Cert.HeadReferenceIdeal.nD Cert.HeadReferenceIdeal.τ).loc Cert.HeadReferenceIdeal.main_v102) = v3 c
          ∧ r.2.mem ((c.tc : Thread Cert.HeadReferenceIdeal.nD Cert.HeadReferenceIdeal.τ).loc Cert.HeadReferenceIdeal.main_v104) = v4 c
          ∧ r.2.mem ((c.tc : Thread Cert.HeadReferenceIdeal.nD Cert.HeadReferenceIdeal.τ).loc Cert.HeadReferenceIdeal.main_v106) = v5 c
          ∧ r.2.mem ((c.tc : Thread Cert.HeadReferenceIdeal.nD Cert.HeadReferenceIdeal.τ).loc Cert.HeadReferenceIdeal.main_v112) = v6 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4)
          ∧ r.2.mem ((c.tc : Thread Cert.HeadReferenceIdeal.nD Cert.HeadReferenceIdeal.τ).loc Cert.HeadReferenceIdeal.main_arg5) = m' ((c.tc : Thread Cert.HeadReferenceIdeal.nD Cert.HeadReferenceIdeal.τ).loc Cert.HeadReferenceIdeal.main_arg5)
          ∧ r.2.mem ((c.tc : Thread Cert.HeadReferenceIdeal.nD Cert.HeadReferenceIdeal.τ).loc Cert.HeadReferenceIdeal.main_arg6) = m' ((c.tc : Thread Cert.HeadReferenceIdeal.nD Cert.HeadReferenceIdeal.τ).loc Cert.HeadReferenceIdeal.main_arg6))

def preserves_Act_ActIdeal : Prop :=
  True

def algebraic_ActIdeal_ActReferenceIdeal_pre_finite_act [hActIdeal : Cert.ActIdeal.Facts] [hActReferenceIdeal : Cert.ActReferenceIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal_finite_act m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)
      ∧ m' ((c.tc : Thread Cert.ActReferenceIdeal.nD Cert.ActReferenceIdeal.τ).loc Cert.ActReferenceIdeal.main_arg1) = m ((c.tc : Thread Cert.ActIdeal.nD Cert.ActIdeal.τ).loc Cert.ActIdeal.main_arg1)
      ∧ m' ((c.tc : Thread Cert.ActReferenceIdeal.nD Cert.ActReferenceIdeal.τ).loc Cert.ActReferenceIdeal.main_arg2) = m ((c.tc : Thread Cert.ActIdeal.nD Cert.ActIdeal.τ).loc Cert.ActIdeal.main_arg2)
      ∧ m' ((c.tc : Thread Cert.ActReferenceIdeal.nD Cert.ActReferenceIdeal.τ).loc Cert.ActReferenceIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v3_0)) (v1 : (c : Dev Cert.ActIdeal.nD) → Buf (Elt Ideal) ((c.tc : Thread Cert.ActIdeal.nD Cert.ActIdeal.τ).loc Cert.ActIdeal.main_v3_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v3_0) = v0 c
          ∧ r.2.mem ((c.tc : Thread Cert.ActIdeal.nD Cert.ActIdeal.τ).loc Cert.ActIdeal.main_v3_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v11) = v0 c
          ∧ r.2.mem ((c.tc : Thread Cert.ActReferenceIdeal.nD Cert.ActReferenceIdeal.τ).loc Cert.ActReferenceIdeal.main_v12) = v1 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)
      ∧ m' ((c.tc : Thread Cert.NormReferenceIdeal.nD Cert.NormReferenceIdeal.τ).loc Cert.NormReferenceIdeal.main_arg5) = m ((c.tc : Thread Cert.NormIdeal.nD Cert.NormIdeal.τ).loc Cert.NormIdeal.main_arg5)
      ∧ m' ((c.tc : Thread Cert.NormReferenceIdeal.nD Cert.NormReferenceIdeal.τ).loc Cert.NormReferenceIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v6_0)) (v1 : (c : Dev Cert.NormIdeal.nD) → Buf (Elt Ideal) ((c.tc : Thread Cert.NormIdeal.nD Cert.NormIdeal.τ).loc Cert.NormIdeal.main_v6_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v6_0) = v0 c
          ∧ r.2.mem ((c.tc : Thread Cert.NormIdeal.nD Cert.NormIdeal.τ).loc Cert.NormIdeal.main_v6_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v36) = v0 c
          ∧ r.2.mem ((c.tc : Thread Cert.NormReferenceIdeal.nD Cert.NormReferenceIdeal.τ).loc Cert.NormReferenceIdeal.main_v38) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5)
          ∧ r.2.mem ((c.tc : Thread Cert.NormReferenceIdeal.nD Cert.NormReferenceIdeal.τ).loc Cert.NormReferenceIdeal.main_arg6) = m' ((c.tc : Thread Cert.NormReferenceIdeal.nD Cert.NormReferenceIdeal.τ).loc Cert.NormReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)) (v2 : (c : Dev Cert.FfnIdeal.nD) → Buf (Elt Ideal) ((c.tc : Thread Cert.FfnIdeal.nD Cert.FfnIdeal.τ).loc Cert.FfnIdeal.main_v5_2)) (v3 : (c : Dev Cert.FfnIdeal.nD) → Buf (Elt Ideal) ((c.tc : Thread Cert.FfnIdeal.nD Cert.FfnIdeal.τ).loc Cert.FfnIdeal.main_v5_3)) (v4 : (c : Dev Cert.FfnIdeal.nD) → Buf (Elt Ideal) ((c.tc : Thread Cert.FfnIdeal.nD Cert.FfnIdeal.τ).loc Cert.FfnIdeal.main_v5_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_v5_2) = v2 c
          ∧ r.2.mem ((c.tc : Thread Cert.FfnIdeal.nD Cert.FfnIdeal.τ).loc Cert.FfnIdeal.main_v5_3) = v3 c
          ∧ r.2.mem ((c.tc : Thread Cert.FfnIdeal.nD Cert.FfnIdeal.τ).loc Cert.FfnIdeal.main_v5_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v16) = v0 c
          ∧ r.2.mem ((c.tc : Thread Cert.FfnReferenceIdeal.nD Cert.FfnReferenceIdeal.τ).loc Cert.FfnReferenceIdeal.main_v17) = v1 c
          ∧ r.2.mem ((c.tc : Thread Cert.FfnReferenceIdeal.nD Cert.FfnReferenceIdeal.τ).loc Cert.FfnReferenceIdeal.main_v18) = v2 c
          ∧ r.2.mem ((c.tc : Thread Cert.FfnReferenceIdeal.nD Cert.FfnReferenceIdeal.τ).loc Cert.FfnReferenceIdeal.main_v19) = v3 c
          ∧ r.2.mem ((c.tc : Thread Cert.FfnReferenceIdeal.nD Cert.FfnReferenceIdeal.τ).loc Cert.FfnReferenceIdeal.main_v23) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)) (v2 : (c : Dev Cert.UpIdeal.nD) → Buf (Elt Ideal) ((c.tc : Thread Cert.UpIdeal.nD Cert.UpIdeal.τ).loc Cert.UpIdeal.main_v4_2)) (v3 : (c : Dev Cert.UpIdeal.nD) → Buf (Elt Ideal) ((c.tc : Thread Cert.UpIdeal.nD Cert.UpIdeal.τ).loc Cert.UpIdeal.main_v4_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_v4_2) = v2 c
          ∧ r.2.mem ((c.tc : Thread Cert.UpIdeal.nD Cert.UpIdeal.τ).loc Cert.UpIdeal.main_v4_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v16) = v0 c
          ∧ r.2.mem ((c.tc : Thread Cert.UpReferenceIdeal.nD Cert.UpReferenceIdeal.τ).loc Cert.UpReferenceIdeal.main_v17) = v1 c
          ∧ r.2.mem ((c.tc : Thread Cert.UpReferenceIdeal.nD Cert.UpReferenceIdeal.τ).loc Cert.UpReferenceIdeal.main_v18) = v2 c
          ∧ r.2.mem ((c.tc : Thread Cert.UpReferenceIdeal.nD Cert.UpReferenceIdeal.τ).loc Cert.UpReferenceIdeal.main_v19) = v3 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_ProjBack_ProjBackIdeal : Prop :=
  True

def algebraic_ProjBackIdeal_ProjBackReferenceIdeal [hProjBackIdeal : Cert.ProjBackIdeal.Facts] [hProjBackReferenceIdeal : Cert.ProjBackReferenceIdeal.Facts] : Prop :=
  ∀ (m : (ℓ : Loc Cert.ProjBackIdeal.nD Cert.ProjBackIdeal.τ Cert.ProjBackIdeal.sig) → Buf (Elt Ideal) ℓ) (g : Dev Cert.ProjBackIdeal.nD → PrngReg)
    (m' : (ℓ : Loc Cert.ProjBackReferenceIdeal.nD Cert.ProjBackReferenceIdeal.τ Cert.ProjBackReferenceIdeal.sig) → Buf (Elt Ideal) ℓ) (g' : Dev Cert.ProjBackReferenceIdeal.nD → PrngReg), Pre_ProjBackIdeal m →
    (∀ c : Dev Cert.ProjBackIdeal.nD,
      m' ((c.tc : Thread Cert.ProjBackReferenceIdeal.nD Cert.ProjBackReferenceIdeal.τ).loc Cert.ProjBackReferenceIdeal.main_arg0) = m ((c.tc : Thread Cert.ProjBackIdeal.nD Cert.ProjBackIdeal.τ).loc Cert.ProjBackIdeal.main_arg0)
      ∧ m' ((c.tc : Thread Cert.ProjBackReferenceIdeal.nD Cert.ProjBackReferenceIdeal.τ).loc Cert.ProjBackReferenceIdeal.main_arg1) = m ((c.tc : Thread Cert.ProjBackIdeal.nD Cert.ProjBackIdeal.τ).loc Cert.ProjBackIdeal.main_arg1)
      ∧ m' ((c.tc : Thread Cert.ProjBackReferenceIdeal.nD Cert.ProjBackReferenceIdeal.τ).loc Cert.ProjBackReferenceIdeal.main_arg2) = m ((c.tc : Thread Cert.ProjBackIdeal.nD Cert.ProjBackIdeal.τ).loc Cert.ProjBackIdeal.main_arg2)
      ∧ m' ((c.tc : Thread Cert.ProjBackReferenceIdeal.nD Cert.ProjBackReferenceIdeal.τ).loc Cert.ProjBackReferenceIdeal.main_arg3) = m ((c.tc : Thread Cert.ProjBackIdeal.nD Cert.ProjBackIdeal.τ).loc Cert.ProjBackIdeal.main_arg3)
      ∧ m' ((c.tc : Thread Cert.ProjBackReferenceIdeal.nD Cert.ProjBackReferenceIdeal.τ).loc Cert.ProjBackReferenceIdeal.main_arg4) = m ((c.tc : Thread Cert.ProjBackIdeal.nD Cert.ProjBackIdeal.τ).loc Cert.ProjBackIdeal.main_arg4)
      ∧ m' ((c.tc : Thread Cert.ProjBackReferenceIdeal.nD Cert.ProjBackReferenceIdeal.τ).loc Cert.ProjBackReferenceIdeal.main_arg5) = m ((c.tc : Thread Cert.ProjBackIdeal.nD Cert.ProjBackIdeal.τ).loc Cert.ProjBackIdeal.main_arg5)
      ∧ m' ((c.tc : Thread Cert.ProjBackReferenceIdeal.nD Cert.ProjBackReferenceIdeal.τ).loc Cert.ProjBackReferenceIdeal.main_arg6) = m ((c.tc : Thread Cert.ProjBackIdeal.nD Cert.ProjBackIdeal.τ).loc Cert.ProjBackIdeal.main_arg6)
      ∧ m' ((c.tc : Thread Cert.ProjBackReferenceIdeal.nD Cert.ProjBackReferenceIdeal.τ).loc Cert.ProjBackReferenceIdeal.main_arg7) = m ((c.tc : Thread Cert.ProjBackIdeal.nD Cert.ProjBackIdeal.τ).loc Cert.ProjBackIdeal.main_arg7)
      ∧ m' ((c.tc : Thread Cert.ProjBackReferenceIdeal.nD Cert.ProjBackReferenceIdeal.τ).loc Cert.ProjBackReferenceIdeal.main_arg8) = m ((c.tc : Thread Cert.ProjBackIdeal.nD Cert.ProjBackIdeal.τ).loc Cert.ProjBackIdeal.main_arg8)
      ∧ m' ((c.tc : Thread Cert.ProjBackReferenceIdeal.nD Cert.ProjBackReferenceIdeal.τ).loc Cert.ProjBackReferenceIdeal.main_arg9) = m ((c.tc : Thread Cert.ProjBackIdeal.nD Cert.ProjBackIdeal.τ).loc Cert.ProjBackIdeal.main_arg9)) →
    ∃ (v0 : (c : Dev Cert.ProjBackIdeal.nD) → Buf (Elt Ideal) ((c.tc : Thread Cert.ProjBackIdeal.nD Cert.ProjBackIdeal.τ).loc Cert.ProjBackIdeal.main_v8_0)) (v1 : (c : Dev Cert.ProjBackIdeal.nD) → Buf (Elt Ideal) ((c.tc : Thread Cert.ProjBackIdeal.nD Cert.ProjBackIdeal.τ).loc Cert.ProjBackIdeal.main_v8_1)) (v2 : (c : Dev Cert.ProjBackIdeal.nD) → Buf (Elt Ideal) ((c.tc : Thread Cert.ProjBackIdeal.nD Cert.ProjBackIdeal.τ).loc Cert.ProjBackIdeal.main_v8_2)),
      θ_run (Cert.ProjBackIdeal.defs (F := Ideal)) (onTc (τ := Cert.ProjBackIdeal.τ) (Cert.ProjBackIdeal.main (F := Ideal))) ⟨m, fun _ => 0, g⟩ (fun r => ∀ c : Dev Cert.ProjBackIdeal.nD,
          r.2.mem ((c.tc : Thread Cert.ProjBackIdeal.nD Cert.ProjBackIdeal.τ).loc Cert.ProjBackIdeal.main_v8_0) = v0 c
          ∧ r.2.mem ((c.tc : Thread Cert.ProjBackIdeal.nD Cert.ProjBackIdeal.τ).loc Cert.ProjBackIdeal.main_v8_1) = v1 c
          ∧ r.2.mem ((c.tc : Thread Cert.ProjBackIdeal.nD Cert.ProjBackIdeal.τ).loc Cert.ProjBackIdeal.main_v8_2) = v2 c
          ∧ r.2.mem ((c.tc : Thread Cert.ProjBackIdeal.nD Cert.ProjBackIdeal.τ).loc Cert.ProjBackIdeal.main_arg0) = m ((c.tc : Thread Cert.ProjBackIdeal.nD Cert.ProjBackIdeal.τ).loc Cert.ProjBackIdeal.main_arg0)
          ∧ r.2.mem ((c.tc : Thread Cert.ProjBackIdeal.nD Cert.ProjBackIdeal.τ).loc Cert.ProjBackIdeal.main_arg1) = m ((c.tc : Thread Cert.ProjBackIdeal.nD Cert.ProjBackIdeal.τ).loc Cert.ProjBackIdeal.main_arg1)
          ∧ r.2.mem ((c.tc : Thread Cert.ProjBackIdeal.nD Cert.ProjBackIdeal.τ).loc Cert.ProjBackIdeal.main_arg2) = m ((c.tc : Thread Cert.ProjBackIdeal.nD Cert.ProjBackIdeal.τ).loc Cert.ProjBackIdeal.main_arg2)
          ∧ r.2.mem ((c.tc : Thread Cert.ProjBackIdeal.nD Cert.ProjBackIdeal.τ).loc Cert.ProjBackIdeal.main_arg3) = m ((c.tc : Thread Cert.ProjBackIdeal.nD Cert.ProjBackIdeal.τ).loc Cert.ProjBackIdeal.main_arg3)
          ∧ r.2.mem ((c.tc : Thread Cert.ProjBackIdeal.nD Cert.ProjBackIdeal.τ).loc Cert.ProjBackIdeal.main_arg4) = m ((c.tc : Thread Cert.ProjBackIdeal.nD Cert.ProjBackIdeal.τ).loc Cert.ProjBackIdeal.main_arg4)
          ∧ r.2.mem ((c.tc : Thread Cert.ProjBackIdeal.nD Cert.ProjBackIdeal.τ).loc Cert.ProjBackIdeal.main_arg5) = m ((c.tc : Thread Cert.ProjBackIdeal.nD Cert.ProjBackIdeal.τ).loc Cert.ProjBackIdeal.main_arg5)
          ∧ r.2.mem ((c.tc : Thread Cert.ProjBackIdeal.nD Cert.ProjBackIdeal.τ).loc Cert.ProjBackIdeal.main_arg6) = m ((c.tc : Thread Cert.ProjBackIdeal.nD Cert.ProjBackIdeal.τ).loc Cert.ProjBackIdeal.main_arg6)
          ∧ r.2.mem ((c.tc : Thread Cert.ProjBackIdeal.nD Cert.ProjBackIdeal.τ).loc Cert.ProjBackIdeal.main_arg7) = m ((c.tc : Thread Cert.ProjBackIdeal.nD Cert.ProjBackIdeal.τ).loc Cert.ProjBackIdeal.main_arg7)
          ∧ r.2.mem ((c.tc : Thread Cert.ProjBackIdeal.nD Cert.ProjBackIdeal.τ).loc Cert.ProjBackIdeal.main_arg8) = m ((c.tc : Thread Cert.ProjBackIdeal.nD Cert.ProjBackIdeal.τ).loc Cert.ProjBackIdeal.main_arg8)
          ∧ r.2.mem ((c.tc : Thread Cert.ProjBackIdeal.nD Cert.ProjBackIdeal.τ).loc Cert.ProjBackIdeal.main_arg9) = m ((c.tc : Thread Cert.ProjBackIdeal.nD Cert.ProjBackIdeal.τ).loc Cert.ProjBackIdeal.main_arg9))
      ∧ θ_run (Cert.ProjBackReferenceIdeal.defs (F := Ideal)) (onTc (τ := Cert.ProjBackReferenceIdeal.τ) (Cert.ProjBackReferenceIdeal.main (F := Ideal))) ⟨m', fun _ => 0, g'⟩ (fun r => ∀ c : Dev Cert.ProjBackReferenceIdeal.nD,
          r.2.mem ((c.tc : Thread Cert.ProjBackReferenceIdeal.nD Cert.ProjBackReferenceIdeal.τ).loc Cert.ProjBackReferenceIdeal.main_v34) = v0 c
          ∧ r.2.mem ((c.tc : Thread Cert.ProjBackReferenceIdeal.nD Cert.ProjBackReferenceIdeal.τ).loc Cert.ProjBackReferenceIdeal.main_v39) = v1 c
          ∧ r.2.mem ((c.tc : Thread Cert.ProjBackReferenceIdeal.nD Cert.ProjBackReferenceIdeal.τ).loc Cert.ProjBackReferenceIdeal.main_v41) = v2 c
          ∧ r.2.mem ((c.tc : Thread Cert.ProjBackReferenceIdeal.nD Cert.ProjBackReferenceIdeal.τ).loc Cert.ProjBackReferenceIdeal.main_arg0) = m' ((c.tc : Thread Cert.ProjBackReferenceIdeal.nD Cert.ProjBackReferenceIdeal.τ).loc Cert.ProjBackReferenceIdeal.main_arg0)
          ∧ r.2.mem ((c.tc : Thread Cert.ProjBackReferenceIdeal.nD Cert.ProjBackReferenceIdeal.τ).loc Cert.ProjBackReferenceIdeal.main_arg1) = m' ((c.tc : Thread Cert.ProjBackReferenceIdeal.nD Cert.ProjBackReferenceIdeal.τ).loc Cert.ProjBackReferenceIdeal.main_arg1)
          ∧ r.2.mem ((c.tc : Thread Cert.ProjBackReferenceIdeal.nD Cert.ProjBackReferenceIdeal.τ).loc Cert.ProjBackReferenceIdeal.main_arg2) = m' ((c.tc : Thread Cert.ProjBackReferenceIdeal.nD Cert.ProjBackReferenceIdeal.τ).loc Cert.ProjBackReferenceIdeal.main_arg2)
          ∧ r.2.mem ((c.tc : Thread Cert.ProjBackReferenceIdeal.nD Cert.ProjBackReferenceIdeal.τ).loc Cert.ProjBackReferenceIdeal.main_arg3) = m' ((c.tc : Thread Cert.ProjBackReferenceIdeal.nD Cert.ProjBackReferenceIdeal.τ).loc Cert.ProjBackReferenceIdeal.main_arg3)
          ∧ r.2.mem ((c.tc : Thread Cert.ProjBackReferenceIdeal.nD Cert.ProjBackReferenceIdeal.τ).loc Cert.ProjBackReferenceIdeal.main_arg4) = m' ((c.tc : Thread Cert.ProjBackReferenceIdeal.nD Cert.ProjBackReferenceIdeal.τ).loc Cert.ProjBackReferenceIdeal.main_arg4)
          ∧ r.2.mem ((c.tc : Thread Cert.ProjBackReferenceIdeal.nD Cert.ProjBackReferenceIdeal.τ).loc Cert.ProjBackReferenceIdeal.main_arg5) = m' ((c.tc : Thread Cert.ProjBackReferenceIdeal.nD Cert.ProjBackReferenceIdeal.τ).loc Cert.ProjBackReferenceIdeal.main_arg5)
          ∧ r.2.mem ((c.tc : Thread Cert.ProjBackReferenceIdeal.nD Cert.ProjBackReferenceIdeal.τ).loc Cert.ProjBackReferenceIdeal.main_arg6) = m' ((c.tc : Thread Cert.ProjBackReferenceIdeal.nD Cert.ProjBackReferenceIdeal.τ).loc Cert.ProjBackReferenceIdeal.main_arg6)
          ∧ r.2.mem ((c.tc : Thread Cert.ProjBackReferenceIdeal.nD Cert.ProjBackReferenceIdeal.τ).loc Cert.ProjBackReferenceIdeal.main_arg7) = m' ((c.tc : Thread Cert.ProjBackReferenceIdeal.nD Cert.ProjBackReferenceIdeal.τ).loc Cert.ProjBackReferenceIdeal.main_arg7)
          ∧ r.2.mem ((c.tc : Thread Cert.ProjBackReferenceIdeal.nD Cert.ProjBackReferenceIdeal.τ).loc Cert.ProjBackReferenceIdeal.main_arg8) = m' ((c.tc : Thread Cert.ProjBackReferenceIdeal.nD Cert.ProjBackReferenceIdeal.τ).loc Cert.ProjBackReferenceIdeal.main_arg8)
          ∧ r.2.mem ((c.tc : Thread Cert.ProjBackReferenceIdeal.nD Cert.ProjBackReferenceIdeal.τ).loc Cert.ProjBackReferenceIdeal.main_arg9) = m' ((c.tc : Thread Cert.ProjBackReferenceIdeal.nD Cert.ProjBackReferenceIdeal.τ).loc Cert.ProjBackReferenceIdeal.main_arg9))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)) (v2 : (c : Dev Cert.ProjIdeal.nD) → Buf (Elt Ideal) ((c.tc : Thread Cert.ProjIdeal.nD Cert.ProjIdeal.τ).loc Cert.ProjIdeal.main_v2_2)) (v3 : (c : Dev Cert.ProjIdeal.nD) → Buf (Elt Ideal) ((c.tc : Thread Cert.ProjIdeal.nD Cert.ProjIdeal.τ).loc Cert.ProjIdeal.main_v2_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_v2_2) = v2 c
          ∧ r.2.mem ((c.tc : Thread Cert.ProjIdeal.nD Cert.ProjIdeal.τ).loc Cert.ProjIdeal.main_v2_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v16) = v0 c
          ∧ r.2.mem ((c.tc : Thread Cert.ProjReferenceIdeal.nD Cert.ProjReferenceIdeal.τ).loc Cert.ProjReferenceIdeal.main_v17) = v1 c
          ∧ r.2.mem ((c.tc : Thread Cert.ProjReferenceIdeal.nD Cert.ProjReferenceIdeal.τ).loc Cert.ProjReferenceIdeal.main_v18) = v2 c
          ∧ r.2.mem ((c.tc : Thread Cert.ProjReferenceIdeal.nD Cert.ProjReferenceIdeal.τ).loc Cert.ProjReferenceIdeal.main_v15) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_MixForward_MixForwardIdeal : Prop :=
  True

def algebraic_MixForwardIdeal_MixForwardReferenceIdeal [hMixForwardIdeal : Cert.MixForwardIdeal.Facts] [hMixForwardReferenceIdeal : Cert.MixForwardReferenceIdeal.Facts] : Prop :=
  ∀ (m : (ℓ : Loc Cert.MixForwardIdeal.nD Cert.MixForwardIdeal.τ Cert.MixForwardIdeal.sig) → Buf (Elt Ideal) ℓ) (g : Dev Cert.MixForwardIdeal.nD → PrngReg)
    (m' : (ℓ : Loc Cert.MixForwardReferenceIdeal.nD Cert.MixForwardReferenceIdeal.τ Cert.MixForwardReferenceIdeal.sig) → Buf (Elt Ideal) ℓ) (g' : Dev Cert.MixForwardReferenceIdeal.nD → PrngReg), Pre_MixForwardIdeal m →
    (∀ c : Dev Cert.MixForwardIdeal.nD,
      m' ((c.tc : Thread Cert.MixForwardReferenceIdeal.nD Cert.MixForwardReferenceIdeal.τ).loc Cert.MixForwardReferenceIdeal.main_arg0) = m ((c.tc : Thread Cert.MixForwardIdeal.nD Cert.MixForwardIdeal.τ).loc Cert.MixForwardIdeal.main_arg0)
      ∧ m' ((c.tc : Thread Cert.MixForwardReferenceIdeal.nD Cert.MixForwardReferenceIdeal.τ).loc Cert.MixForwardReferenceIdeal.main_arg1) = m ((c.tc : Thread Cert.MixForwardIdeal.nD Cert.MixForwardIdeal.τ).loc Cert.MixForwardIdeal.main_arg1)
      ∧ m' ((c.tc : Thread Cert.MixForwardReferenceIdeal.nD Cert.MixForwardReferenceIdeal.τ).loc Cert.MixForwardReferenceIdeal.main_arg2) = m ((c.tc : Thread Cert.MixForwardIdeal.nD Cert.MixForwardIdeal.τ).loc Cert.MixForwardIdeal.main_arg2)
      ∧ m' ((c.tc : Thread Cert.MixForwardReferenceIdeal.nD Cert.MixForwardReferenceIdeal.τ).loc Cert.MixForwardReferenceIdeal.main_arg3) = m ((c.tc : Thread Cert.MixForwardIdeal.nD Cert.MixForwardIdeal.τ).loc Cert.MixForwardIdeal.main_arg3)
      ∧ m' ((c.tc : Thread Cert.MixForwardReferenceIdeal.nD Cert.MixForwardReferenceIdeal.τ).loc Cert.MixForwardReferenceIdeal.main_arg4) = m ((c.tc : Thread Cert.MixForwardIdeal.nD Cert.MixForwardIdeal.τ).loc Cert.MixForwardIdeal.main_arg4)
      ∧ m' ((c.tc : Thread Cert.MixForwardReferenceIdeal.nD Cert.MixForwardReferenceIdeal.τ).loc Cert.MixForwardReferenceIdeal.main_arg5) = m ((c.tc : Thread Cert.MixForwardIdeal.nD Cert.MixForwardIdeal.τ).loc Cert.MixForwardIdeal.main_arg5)
      ∧ m' ((c.tc : Thread Cert.MixForwardReferenceIdeal.nD Cert.MixForwardReferenceIdeal.τ).loc Cert.MixForwardReferenceIdeal.main_arg6) = m ((c.tc : Thread Cert.MixForwardIdeal.nD Cert.MixForwardIdeal.τ).loc Cert.MixForwardIdeal.main_arg6)
      ∧ m' ((c.tc : Thread Cert.MixForwardReferenceIdeal.nD Cert.MixForwardReferenceIdeal.τ).loc Cert.MixForwardReferenceIdeal.main_arg7) = m ((c.tc : Thread Cert.MixForwardIdeal.nD Cert.MixForwardIdeal.τ).loc Cert.MixForwardIdeal.main_arg7)) →
    ∃ (v0 : (c : Dev Cert.MixForwardIdeal.nD) → Buf (Elt Ideal) ((c.tc : Thread Cert.MixForwardIdeal.nD Cert.MixForwardIdeal.τ).loc Cert.MixForwardIdeal.main_v7_0)) (v1 : (c : Dev Cert.MixForwardIdeal.nD) → Buf (Elt Ideal) ((c.tc : Thread Cert.MixForwardIdeal.nD Cert.MixForwardIdeal.τ).loc Cert.MixForwardIdeal.main_v7_1)) (v2 : (c : Dev Cert.MixForwardIdeal.nD) → Buf (Elt Ideal) ((c.tc : Thread Cert.MixForwardIdeal.nD Cert.MixForwardIdeal.τ).loc Cert.MixForwardIdeal.main_v7_2)) (v3 : (c : Dev Cert.MixForwardIdeal.nD) → Buf (Elt Ideal) ((c.tc : Thread Cert.MixForwardIdeal.nD Cert.MixForwardIdeal.τ).loc Cert.MixForwardIdeal.main_v7_3)),
      θ_run (Cert.MixForwardIdeal.defs (F := Ideal)) (onTc (τ := Cert.MixForwardIdeal.τ) (Cert.MixForwardIdeal.main (F := Ideal))) ⟨m, fun _ => 0, g⟩ (fun r => ∀ c : Dev Cert.MixForwardIdeal.nD,
          r.2.mem ((c.tc : Thread Cert.MixForwardIdeal.nD Cert.MixForwardIdeal.τ).loc Cert.MixForwardIdeal.main_v7_0) = v0 c
          ∧ r.2.mem ((c.tc : Thread Cert.MixForwardIdeal.nD Cert.MixForwardIdeal.τ).loc Cert.MixForwardIdeal.main_v7_1) = v1 c
          ∧ r.2.mem ((c.tc : Thread Cert.MixForwardIdeal.nD Cert.MixForwardIdeal.τ).loc Cert.MixForwardIdeal.main_v7_2) = v2 c
          ∧ r.2.mem ((c.tc : Thread Cert.MixForwardIdeal.nD Cert.MixForwardIdeal.τ).loc Cert.MixForwardIdeal.main_v7_3) = v3 c
          ∧ r.2.mem ((c.tc : Thread Cert.MixForwardIdeal.nD Cert.MixForwardIdeal.τ).loc Cert.MixForwardIdeal.main_arg0) = m ((c.tc : Thread Cert.MixForwardIdeal.nD Cert.MixForwardIdeal.τ).loc Cert.MixForwardIdeal.main_arg0)
          ∧ r.2.mem ((c.tc : Thread Cert.MixForwardIdeal.nD Cert.MixForwardIdeal.τ).loc Cert.MixForwardIdeal.main_arg1) = m ((c.tc : Thread Cert.MixForwardIdeal.nD Cert.MixForwardIdeal.τ).loc Cert.MixForwardIdeal.main_arg1)
          ∧ r.2.mem ((c.tc : Thread Cert.MixForwardIdeal.nD Cert.MixForwardIdeal.τ).loc Cert.MixForwardIdeal.main_arg2) = m ((c.tc : Thread Cert.MixForwardIdeal.nD Cert.MixForwardIdeal.τ).loc Cert.MixForwardIdeal.main_arg2)
          ∧ r.2.mem ((c.tc : Thread Cert.MixForwardIdeal.nD Cert.MixForwardIdeal.τ).loc Cert.MixForwardIdeal.main_arg3) = m ((c.tc : Thread Cert.MixForwardIdeal.nD Cert.MixForwardIdeal.τ).loc Cert.MixForwardIdeal.main_arg3)
          ∧ r.2.mem ((c.tc : Thread Cert.MixForwardIdeal.nD Cert.MixForwardIdeal.τ).loc Cert.MixForwardIdeal.main_arg4) = m ((c.tc : Thread Cert.MixForwardIdeal.nD Cert.MixForwardIdeal.τ).loc Cert.MixForwardIdeal.main_arg4)
          ∧ r.2.mem ((c.tc : Thread Cert.MixForwardIdeal.nD Cert.MixForwardIdeal.τ).loc Cert.MixForwardIdeal.main_arg5) = m ((c.tc : Thread Cert.MixForwardIdeal.nD Cert.MixForwardIdeal.τ).loc Cert.MixForwardIdeal.main_arg5)
          ∧ r.2.mem ((c.tc : Thread Cert.MixForwardIdeal.nD Cert.MixForwardIdeal.τ).loc Cert.MixForwardIdeal.main_arg6) = m ((c.tc : Thread Cert.MixForwardIdeal.nD Cert.MixForwardIdeal.τ).loc Cert.MixForwardIdeal.main_arg6)
          ∧ r.2.mem ((c.tc : Thread Cert.MixForwardIdeal.nD Cert.MixForwardIdeal.τ).loc Cert.MixForwardIdeal.main_arg7) = m ((c.tc : Thread Cert.MixForwardIdeal.nD Cert.MixForwardIdeal.τ).loc Cert.MixForwardIdeal.main_arg7))
      ∧ θ_run (Cert.MixForwardReferenceIdeal.defs (F := Ideal)) (onTc (τ := Cert.MixForwardReferenceIdeal.τ) (Cert.MixForwardReferenceIdeal.main (F := Ideal))) ⟨m', fun _ => 0, g'⟩ (fun r => ∀ c : Dev Cert.MixForwardReferenceIdeal.nD,
          r.2.mem ((c.tc : Thread Cert.MixForwardReferenceIdeal.nD Cert.MixForwardReferenceIdeal.τ).loc Cert.MixForwardReferenceIdeal.main_v18) = v0 c
          ∧ r.2.mem ((c.tc : Thread Cert.MixForwardReferenceIdeal.nD Cert.MixForwardReferenceIdeal.τ).loc Cert.MixForwardReferenceIdeal.main_v19) = v1 c
          ∧ r.2.mem ((c.tc : Thread Cert.MixForwardReferenceIdeal.nD Cert.MixForwardReferenceIdeal.τ).loc Cert.MixForwardReferenceIdeal.main_v20) = v2 c
          ∧ r.2.mem ((c.tc : Thread Cert.MixForwardReferenceIdeal.nD Cert.MixForwardReferenceIdeal.τ).loc Cert.MixForwardReferenceIdeal.main_v21) = v3 c
          ∧ r.2.mem ((c.tc : Thread Cert.MixForwardReferenceIdeal.nD Cert.MixForwardReferenceIdeal.τ).loc Cert.MixForwardReferenceIdeal.main_arg0) = m' ((c.tc : Thread Cert.MixForwardReferenceIdeal.nD Cert.MixForwardReferenceIdeal.τ).loc Cert.MixForwardReferenceIdeal.main_arg0)
          ∧ r.2.mem ((c.tc : Thread Cert.MixForwardReferenceIdeal.nD Cert.MixForwardReferenceIdeal.τ).loc Cert.MixForwardReferenceIdeal.main_arg1) = m' ((c.tc : Thread Cert.MixForwardReferenceIdeal.nD Cert.MixForwardReferenceIdeal.τ).loc Cert.MixForwardReferenceIdeal.main_arg1)
          ∧ r.2.mem ((c.tc : Thread Cert.MixForwardReferenceIdeal.nD Cert.MixForwardReferenceIdeal.τ).loc Cert.MixForwardReferenceIdeal.main_arg2) = m' ((c.tc : Thread Cert.MixForwardReferenceIdeal.nD Cert.MixForwardReferenceIdeal.τ).loc Cert.MixForwardReferenceIdeal.main_arg2)
          ∧ r.2.mem ((c.tc : Thread Cert.MixForwardReferenceIdeal.nD Cert.MixForwardReferenceIdeal.τ).loc Cert.MixForwardReferenceIdeal.main_arg3) = m' ((c.tc : Thread Cert.MixForwardReferenceIdeal.nD Cert.MixForwardReferenceIdeal.τ).loc Cert.MixForwardReferenceIdeal.main_arg3)
          ∧ r.2.mem ((c.tc : Thread Cert.MixForwardReferenceIdeal.nD Cert.MixForwardReferenceIdeal.τ).loc Cert.MixForwardReferenceIdeal.main_arg4) = m' ((c.tc : Thread Cert.MixForwardReferenceIdeal.nD Cert.MixForwardReferenceIdeal.τ).loc Cert.MixForwardReferenceIdeal.main_arg4)
          ∧ r.2.mem ((c.tc : Thread Cert.MixForwardReferenceIdeal.nD Cert.MixForwardReferenceIdeal.τ).loc Cert.MixForwardReferenceIdeal.main_arg5) = m' ((c.tc : Thread Cert.MixForwardReferenceIdeal.nD Cert.MixForwardReferenceIdeal.τ).loc Cert.MixForwardReferenceIdeal.main_arg5)
          ∧ r.2.mem ((c.tc : Thread Cert.MixForwardReferenceIdeal.nD Cert.MixForwardReferenceIdeal.τ).loc Cert.MixForwardReferenceIdeal.main_arg6) = m' ((c.tc : Thread Cert.MixForwardReferenceIdeal.nD Cert.MixForwardReferenceIdeal.τ).loc Cert.MixForwardReferenceIdeal.main_arg6)
          ∧ r.2.mem ((c.tc : Thread Cert.MixForwardReferenceIdeal.nD Cert.MixForwardReferenceIdeal.τ).loc Cert.MixForwardReferenceIdeal.main_arg7) = m' ((c.tc : Thread Cert.MixForwardReferenceIdeal.nD Cert.MixForwardReferenceIdeal.τ).loc Cert.MixForwardReferenceIdeal.main_arg7))

def preserves_AdamW_AdamWIdeal : Prop :=
  IdealRules.named_const.Statement Cert.AdamWIdeal.κ "inv_c1" .f32 0x3FC48605#32 ((8388608 / 5463681 : ℝ) : EReal)
  ∧ IdealRules.named_const.Statement Cert.AdamWIdeal.κ "inv_c2" .f32 0x42C8E6D3#32 ((268435456 / 2672307 : ℝ) : EReal)

def algebraic_AdamWIdeal_AdamWReferenceIdeal [hAdamWIdeal : Cert.AdamWIdeal.Facts] [hAdamWReferenceIdeal : Cert.AdamWReferenceIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWReferenceIdeal.nD Cert.AdamWReferenceIdeal.τ Cert.AdamWReferenceIdeal.sig) → Buf (Elt Ideal) ℓ) (g' : Dev Cert.AdamWReferenceIdeal.nD → PrngReg), Pre_AdamWIdeal m →
    (∀ c : Dev Cert.AdamWIdeal.nD,
      m' ((c.tc : Thread Cert.AdamWReferenceIdeal.nD Cert.AdamWReferenceIdeal.τ).loc Cert.AdamWReferenceIdeal.main_arg0) = m ((c.tc : Thread Cert.AdamWIdeal.nD Cert.AdamWIdeal.τ).loc Cert.AdamWIdeal.main_arg0)
      ∧ m' ((c.tc : Thread Cert.AdamWReferenceIdeal.nD Cert.AdamWReferenceIdeal.τ).loc Cert.AdamWReferenceIdeal.main_arg1) = m ((c.tc : Thread Cert.AdamWIdeal.nD Cert.AdamWIdeal.τ).loc Cert.AdamWIdeal.main_arg1)
      ∧ m' ((c.tc : Thread Cert.AdamWReferenceIdeal.nD Cert.AdamWReferenceIdeal.τ).loc Cert.AdamWReferenceIdeal.main_arg2) = m ((c.tc : Thread Cert.AdamWIdeal.nD Cert.AdamWIdeal.τ).loc Cert.AdamWIdeal.main_arg2)
      ∧ m' ((c.tc : Thread Cert.AdamWReferenceIdeal.nD Cert.AdamWReferenceIdeal.τ).loc Cert.AdamWReferenceIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWReferenceIdeal.defs (F := Ideal)) (onTc (τ := Cert.AdamWReferenceIdeal.τ) (Cert.AdamWReferenceIdeal.main (F := Ideal))) ⟨m', fun _ => 0, g'⟩ (fun r => ∀ c : Dev Cert.AdamWReferenceIdeal.nD,
          r.2.mem ((c.tc : Thread Cert.AdamWReferenceIdeal.nD Cert.AdamWReferenceIdeal.τ).loc Cert.AdamWReferenceIdeal.main_v23) = v0 c
          ∧ r.2.mem ((c.tc : Thread Cert.AdamWReferenceIdeal.nD Cert.AdamWReferenceIdeal.τ).loc Cert.AdamWReferenceIdeal.main_v4) = v1 c
          ∧ r.2.mem ((c.tc : Thread Cert.AdamWReferenceIdeal.nD Cert.AdamWReferenceIdeal.τ).loc Cert.AdamWReferenceIdeal.main_v10) = v2 c
          ∧ r.2.mem ((c.tc : Thread Cert.AdamWReferenceIdeal.nD Cert.AdamWReferenceIdeal.τ).loc Cert.AdamWReferenceIdeal.main_arg0) = m' ((c.tc : Thread Cert.AdamWReferenceIdeal.nD Cert.AdamWReferenceIdeal.τ).loc Cert.AdamWReferenceIdeal.main_arg0)
          ∧ r.2.mem ((c.tc : Thread Cert.AdamWReferenceIdeal.nD Cert.AdamWReferenceIdeal.τ).loc Cert.AdamWReferenceIdeal.main_arg1) = m' ((c.tc : Thread Cert.AdamWReferenceIdeal.nD Cert.AdamWReferenceIdeal.τ).loc Cert.AdamWReferenceIdeal.main_arg1)
          ∧ r.2.mem ((c.tc : Thread Cert.AdamWReferenceIdeal.nD Cert.AdamWReferenceIdeal.τ).loc Cert.AdamWReferenceIdeal.main_arg2) = m' ((c.tc : Thread Cert.AdamWReferenceIdeal.nD Cert.AdamWReferenceIdeal.τ).loc Cert.AdamWReferenceIdeal.main_arg2)
          ∧ r.2.mem ((c.tc : Thread Cert.AdamWReferenceIdeal.nD Cert.AdamWReferenceIdeal.τ).loc Cert.AdamWReferenceIdeal.main_arg3) = m' ((c.tc : Thread Cert.AdamWReferenceIdeal.nD Cert.AdamWReferenceIdeal.τ).loc Cert.AdamWReferenceIdeal.main_arg3))

def preserves_AdamWProj_AdamWProjIdeal : Prop :=
  IdealRules.named_const.Statement Cert.AdamWProjIdeal.κ "inv_c1" .f32 0x3FC48605#32 ((8388608 / 5463681 : ℝ) : EReal)
  ∧ IdealRules.named_const.Statement Cert.AdamWProjIdeal.κ "inv_c2" .f32 0x42C8E6D3#32 ((268435456 / 2672307 : ℝ) : EReal)

def algebraic_AdamWProjIdeal_AdamWProjReferenceIdeal [hAdamWProjIdeal : Cert.AdamWProjIdeal.Facts] [hAdamWProjReferenceIdeal : Cert.AdamWProjReferenceIdeal.Facts] : Prop :=
  ∀ (m : (ℓ : Loc Cert.AdamWProjIdeal.nD Cert.AdamWProjIdeal.τ Cert.AdamWProjIdeal.sig) → Buf (Elt Ideal) ℓ) (g : Dev Cert.AdamWProjIdeal.nD → PrngReg)
    (m' : (ℓ : Loc Cert.AdamWProjReferenceIdeal.nD Cert.AdamWProjReferenceIdeal.τ Cert.AdamWProjReferenceIdeal.sig) → Buf (Elt Ideal) ℓ) (g' : Dev Cert.AdamWProjReferenceIdeal.nD → PrngReg), Pre_AdamWProjIdeal m →
    (∀ c : Dev Cert.AdamWProjIdeal.nD,
      m' ((c.tc : Thread Cert.AdamWProjReferenceIdeal.nD Cert.AdamWProjReferenceIdeal.τ).loc Cert.AdamWProjReferenceIdeal.main_arg0) = m ((c.tc : Thread Cert.AdamWProjIdeal.nD Cert.AdamWProjIdeal.τ).loc Cert.AdamWProjIdeal.main_arg0)
      ∧ m' ((c.tc : Thread Cert.AdamWProjReferenceIdeal.nD Cert.AdamWProjReferenceIdeal.τ).loc Cert.AdamWProjReferenceIdeal.main_arg1) = m ((c.tc : Thread Cert.AdamWProjIdeal.nD Cert.AdamWProjIdeal.τ).loc Cert.AdamWProjIdeal.main_arg1)
      ∧ m' ((c.tc : Thread Cert.AdamWProjReferenceIdeal.nD Cert.AdamWProjReferenceIdeal.τ).loc Cert.AdamWProjReferenceIdeal.main_arg2) = m ((c.tc : Thread Cert.AdamWProjIdeal.nD Cert.AdamWProjIdeal.τ).loc Cert.AdamWProjIdeal.main_arg2)
      ∧ m' ((c.tc : Thread Cert.AdamWProjReferenceIdeal.nD Cert.AdamWProjReferenceIdeal.τ).loc Cert.AdamWProjReferenceIdeal.main_arg3) = m ((c.tc : Thread Cert.AdamWProjIdeal.nD Cert.AdamWProjIdeal.τ).loc Cert.AdamWProjIdeal.main_arg3)
      ∧ m' ((c.tc : Thread Cert.AdamWProjReferenceIdeal.nD Cert.AdamWProjReferenceIdeal.τ).loc Cert.AdamWProjReferenceIdeal.main_arg4) = m ((c.tc : Thread Cert.AdamWProjIdeal.nD Cert.AdamWProjIdeal.τ).loc Cert.AdamWProjIdeal.main_arg4)
      ∧ m' ((c.tc : Thread Cert.AdamWProjReferenceIdeal.nD Cert.AdamWProjReferenceIdeal.τ).loc Cert.AdamWProjReferenceIdeal.main_arg5) = m ((c.tc : Thread Cert.AdamWProjIdeal.nD Cert.AdamWProjIdeal.τ).loc Cert.AdamWProjIdeal.main_arg5)
      ∧ m' ((c.tc : Thread Cert.AdamWProjReferenceIdeal.nD Cert.AdamWProjReferenceIdeal.τ).loc Cert.AdamWProjReferenceIdeal.main_arg6) = m ((c.tc : Thread Cert.AdamWProjIdeal.nD Cert.AdamWProjIdeal.τ).loc Cert.AdamWProjIdeal.main_arg6)
      ∧ m' ((c.tc : Thread Cert.AdamWProjReferenceIdeal.nD Cert.AdamWProjReferenceIdeal.τ).loc Cert.AdamWProjReferenceIdeal.main_arg7) = m ((c.tc : Thread Cert.AdamWProjIdeal.nD Cert.AdamWProjIdeal.τ).loc Cert.AdamWProjIdeal.main_arg7)) →
    ∃ (v0 : (c : Dev Cert.AdamWProjIdeal.nD) → Buf (Elt Ideal) ((c.tc : Thread Cert.AdamWProjIdeal.nD Cert.AdamWProjIdeal.τ).loc Cert.AdamWProjIdeal.main_v0_0)) (v1 : (c : Dev Cert.AdamWProjIdeal.nD) → Buf (Elt Ideal) ((c.tc : Thread Cert.AdamWProjIdeal.nD Cert.AdamWProjIdeal.τ).loc Cert.AdamWProjIdeal.main_v0_1)) (v2 : (c : Dev Cert.AdamWProjIdeal.nD) → Buf (Elt Ideal) ((c.tc : Thread Cert.AdamWProjIdeal.nD Cert.AdamWProjIdeal.τ).loc Cert.AdamWProjIdeal.main_v0_2)) (v3 : (c : Dev Cert.AdamWProjIdeal.nD) → Buf (Elt Ideal) ((c.tc : Thread Cert.AdamWProjIdeal.nD Cert.AdamWProjIdeal.τ).loc Cert.AdamWProjIdeal.main_v0_3)) (v4 : (c : Dev Cert.AdamWProjIdeal.nD) → Buf (Elt Ideal) ((c.tc : Thread Cert.AdamWProjIdeal.nD Cert.AdamWProjIdeal.τ).loc Cert.AdamWProjIdeal.main_v0_4)) (v5 : (c : Dev Cert.AdamWProjIdeal.nD) → Buf (Elt Ideal) ((c.tc : Thread Cert.AdamWProjIdeal.nD Cert.AdamWProjIdeal.τ).loc Cert.AdamWProjIdeal.main_v0_5)),
      θ_run (Cert.AdamWProjIdeal.defs (F := Ideal)) (onTc (τ := Cert.AdamWProjIdeal.τ) (Cert.AdamWProjIdeal.main (F := Ideal))) ⟨m, fun _ => 0, g⟩ (fun r => ∀ c : Dev Cert.AdamWProjIdeal.nD,
          r.2.mem ((c.tc : Thread Cert.AdamWProjIdeal.nD Cert.AdamWProjIdeal.τ).loc Cert.AdamWProjIdeal.main_v0_0) = v0 c
          ∧ r.2.mem ((c.tc : Thread Cert.AdamWProjIdeal.nD Cert.AdamWProjIdeal.τ).loc Cert.AdamWProjIdeal.main_v0_1) = v1 c
          ∧ r.2.mem ((c.tc : Thread Cert.AdamWProjIdeal.nD Cert.AdamWProjIdeal.τ).loc Cert.AdamWProjIdeal.main_v0_2) = v2 c
          ∧ r.2.mem ((c.tc : Thread Cert.AdamWProjIdeal.nD Cert.AdamWProjIdeal.τ).loc Cert.AdamWProjIdeal.main_v0_3) = v3 c
          ∧ r.2.mem ((c.tc : Thread Cert.AdamWProjIdeal.nD Cert.AdamWProjIdeal.τ).loc Cert.AdamWProjIdeal.main_v0_4) = v4 c
          ∧ r.2.mem ((c.tc : Thread Cert.AdamWProjIdeal.nD Cert.AdamWProjIdeal.τ).loc Cert.AdamWProjIdeal.main_v0_5) = v5 c
          ∧ r.2.mem ((c.tc : Thread Cert.AdamWProjIdeal.nD Cert.AdamWProjIdeal.τ).loc Cert.AdamWProjIdeal.main_arg0) = m ((c.tc : Thread Cert.AdamWProjIdeal.nD Cert.AdamWProjIdeal.τ).loc Cert.AdamWProjIdeal.main_arg0)
          ∧ r.2.mem ((c.tc : Thread Cert.AdamWProjIdeal.nD Cert.AdamWProjIdeal.τ).loc Cert.AdamWProjIdeal.main_arg1) = m ((c.tc : Thread Cert.AdamWProjIdeal.nD Cert.AdamWProjIdeal.τ).loc Cert.AdamWProjIdeal.main_arg1)
          ∧ r.2.mem ((c.tc : Thread Cert.AdamWProjIdeal.nD Cert.AdamWProjIdeal.τ).loc Cert.AdamWProjIdeal.main_arg2) = m ((c.tc : Thread Cert.AdamWProjIdeal.nD Cert.AdamWProjIdeal.τ).loc Cert.AdamWProjIdeal.main_arg2)
          ∧ r.2.mem ((c.tc : Thread Cert.AdamWProjIdeal.nD Cert.AdamWProjIdeal.τ).loc Cert.AdamWProjIdeal.main_arg3) = m ((c.tc : Thread Cert.AdamWProjIdeal.nD Cert.AdamWProjIdeal.τ).loc Cert.AdamWProjIdeal.main_arg3)
          ∧ r.2.mem ((c.tc : Thread Cert.AdamWProjIdeal.nD Cert.AdamWProjIdeal.τ).loc Cert.AdamWProjIdeal.main_arg4) = m ((c.tc : Thread Cert.AdamWProjIdeal.nD Cert.AdamWProjIdeal.τ).loc Cert.AdamWProjIdeal.main_arg4)
          ∧ r.2.mem ((c.tc : Thread Cert.AdamWProjIdeal.nD Cert.AdamWProjIdeal.τ).loc Cert.AdamWProjIdeal.main_arg5) = m ((c.tc : Thread Cert.AdamWProjIdeal.nD Cert.AdamWProjIdeal.τ).loc Cert.AdamWProjIdeal.main_arg5)
          ∧ r.2.mem ((c.tc : Thread Cert.AdamWProjIdeal.nD Cert.AdamWProjIdeal.τ).loc Cert.AdamWProjIdeal.main_arg6) = m ((c.tc : Thread Cert.AdamWProjIdeal.nD Cert.AdamWProjIdeal.τ).loc Cert.AdamWProjIdeal.main_arg6)
          ∧ r.2.mem ((c.tc : Thread Cert.AdamWProjIdeal.nD Cert.AdamWProjIdeal.τ).loc Cert.AdamWProjIdeal.main_arg7) = m ((c.tc : Thread Cert.AdamWProjIdeal.nD Cert.AdamWProjIdeal.τ).loc Cert.AdamWProjIdeal.main_arg7))
      ∧ θ_run (Cert.AdamWProjReferenceIdeal.defs (F := Ideal)) (onTc (τ := Cert.AdamWProjReferenceIdeal.τ) (Cert.AdamWProjReferenceIdeal.main (F := Ideal))) ⟨m', fun _ => 0, g'⟩ (fun r => ∀ c : Dev Cert.AdamWProjReferenceIdeal.nD,
          r.2.mem ((c.tc : Thread Cert.AdamWProjReferenceIdeal.nD Cert.AdamWProjReferenceIdeal.τ).loc Cert.AdamWProjReferenceIdeal.main_v23) = v0 c
          ∧ r.2.mem ((c.tc : Thread Cert.AdamWProjReferenceIdeal.nD Cert.AdamWProjReferenceIdeal.τ).loc Cert.AdamWProjReferenceIdeal.main_v47) = v1 c
          ∧ r.2.mem ((c.tc : Thread Cert.AdamWProjReferenceIdeal.nD Cert.AdamWProjReferenceIdeal.τ).loc Cert.AdamWProjReferenceIdeal.main_v4) = v2 c
          ∧ r.2.mem ((c.tc : Thread Cert.AdamWProjReferenceIdeal.nD Cert.AdamWProjReferenceIdeal.τ).loc Cert.AdamWProjReferenceIdeal.main_v28) = v3 c
          ∧ r.2.mem ((c.tc : Thread Cert.AdamWProjReferenceIdeal.nD Cert.AdamWProjReferenceIdeal.τ).loc Cert.AdamWProjReferenceIdeal.main_v10) = v4 c
          ∧ r.2.mem ((c.tc : Thread Cert.AdamWProjReferenceIdeal.nD Cert.AdamWProjReferenceIdeal.τ).loc Cert.AdamWProjReferenceIdeal.main_v34) = v5 c
          ∧ r.2.mem ((c.tc : Thread Cert.AdamWProjReferenceIdeal.nD Cert.AdamWProjReferenceIdeal.τ).loc Cert.AdamWProjReferenceIdeal.main_arg0) = m' ((c.tc : Thread Cert.AdamWProjReferenceIdeal.nD Cert.AdamWProjReferenceIdeal.τ).loc Cert.AdamWProjReferenceIdeal.main_arg0)
          ∧ r.2.mem ((c.tc : Thread Cert.AdamWProjReferenceIdeal.nD Cert.AdamWProjReferenceIdeal.τ).loc Cert.AdamWProjReferenceIdeal.main_arg1) = m' ((c.tc : Thread Cert.AdamWProjReferenceIdeal.nD Cert.AdamWProjReferenceIdeal.τ).loc Cert.AdamWProjReferenceIdeal.main_arg1)
          ∧ r.2.mem ((c.tc : Thread Cert.AdamWProjReferenceIdeal.nD Cert.AdamWProjReferenceIdeal.τ).loc Cert.AdamWProjReferenceIdeal.main_arg2) = m' ((c.tc : Thread Cert.AdamWProjReferenceIdeal.nD Cert.AdamWProjReferenceIdeal.τ).loc Cert.AdamWProjReferenceIdeal.main_arg2)
          ∧ r.2.mem ((c.tc : Thread Cert.AdamWProjReferenceIdeal.nD Cert.AdamWProjReferenceIdeal.τ).loc Cert.AdamWProjReferenceIdeal.main_arg3) = m' ((c.tc : Thread Cert.AdamWProjReferenceIdeal.nD Cert.AdamWProjReferenceIdeal.τ).loc Cert.AdamWProjReferenceIdeal.main_arg3)
          ∧ r.2.mem ((c.tc : Thread Cert.AdamWProjReferenceIdeal.nD Cert.AdamWProjReferenceIdeal.τ).loc Cert.AdamWProjReferenceIdeal.main_arg4) = m' ((c.tc : Thread Cert.AdamWProjReferenceIdeal.nD Cert.AdamWProjReferenceIdeal.τ).loc Cert.AdamWProjReferenceIdeal.main_arg4)
          ∧ r.2.mem ((c.tc : Thread Cert.AdamWProjReferenceIdeal.nD Cert.AdamWProjReferenceIdeal.τ).loc Cert.AdamWProjReferenceIdeal.main_arg5) = m' ((c.tc : Thread Cert.AdamWProjReferenceIdeal.nD Cert.AdamWProjReferenceIdeal.τ).loc Cert.AdamWProjReferenceIdeal.main_arg5)
          ∧ r.2.mem ((c.tc : Thread Cert.AdamWProjReferenceIdeal.nD Cert.AdamWProjReferenceIdeal.τ).loc Cert.AdamWProjReferenceIdeal.main_arg6) = m' ((c.tc : Thread Cert.AdamWProjReferenceIdeal.nD Cert.AdamWProjReferenceIdeal.τ).loc Cert.AdamWProjReferenceIdeal.main_arg6)
          ∧ r.2.mem ((c.tc : Thread Cert.AdamWProjReferenceIdeal.nD Cert.AdamWProjReferenceIdeal.τ).loc Cert.AdamWProjReferenceIdeal.main_arg7) = m' ((c.tc : Thread Cert.AdamWProjReferenceIdeal.nD Cert.AdamWProjReferenceIdeal.τ).loc Cert.AdamWProjReferenceIdeal.main_arg7))

def Claim : Prop :=
  ∃ (hKernel : Cert.Kernel.Facts) (hKernelIdeal : Cert.KernelIdeal.Facts) (hReferenceIdeal : Cert.ReferenceIdeal.Facts) (hWeight : Cert.Weight.Facts) (hWeightIdeal : Cert.WeightIdeal.Facts) (hWeightReferenceIdeal : Cert.WeightReferenceIdeal.Facts) (hWIn : Cert.WIn.Facts) (hWInIdeal : Cert.WInIdeal.Facts) (hWInReferenceIdeal : Cert.WInReferenceIdeal.Facts) (hHead : Cert.Head.Facts) (hHeadIdeal : Cert.HeadIdeal.Facts) (hHeadReferenceIdeal : Cert.HeadReferenceIdeal.Facts) (hAct : Cert.Act.Facts) (hActIdeal : Cert.ActIdeal.Facts) (hActReferenceIdeal : Cert.ActReferenceIdeal.Facts) (hNorm : Cert.Norm.Facts) (hNormIdeal : Cert.NormIdeal.Facts) (hNormReferenceIdeal : Cert.NormReferenceIdeal.Facts) (hFfn : Cert.Ffn.Facts) (hFfnIdeal : Cert.FfnIdeal.Facts) (hFfnReferenceIdeal : Cert.FfnReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hProjBack : Cert.ProjBack.Facts) (hProjBackIdeal : Cert.ProjBackIdeal.Facts) (hProjBackReferenceIdeal : Cert.ProjBackReferenceIdeal.Facts) (hProj : Cert.Proj.Facts) (hProjIdeal : Cert.ProjIdeal.Facts) (hProjReferenceIdeal : Cert.ProjReferenceIdeal.Facts) (hMixForward : Cert.MixForward.Facts) (hMixForwardIdeal : Cert.MixForwardIdeal.Facts) (hMixForwardReferenceIdeal : Cert.MixForwardReferenceIdeal.Facts) (hAdamW : Cert.AdamW.Facts) (hAdamWIdeal : Cert.AdamWIdeal.Facts) (hAdamWReferenceIdeal : Cert.AdamWReferenceIdeal.Facts) (hAdamWProj : Cert.AdamWProj.Facts) (hAdamWProjIdeal : Cert.AdamWProjIdeal.Facts) (hAdamWProjReferenceIdeal : Cert.AdamWProjReferenceIdeal.Facts) (hPre_finite : Cert.Pre_finite.Facts) (hPre_finite_act : Cert.Pre_finite_act.Facts),
    quiescent_Kernel (hKernel := hKernel)
    ∧ quiescent_KernelIdeal (hKernelIdeal := hKernelIdeal)
    ∧ quiescent_ReferenceIdeal (hReferenceIdeal := hReferenceIdeal)
    ∧ quiescent_Weight (hWeight := hWeight)
    ∧ quiescent_WeightIdeal (hWeightIdeal := hWeightIdeal)
    ∧ quiescent_WeightReferenceIdeal (hWeightReferenceIdeal := hWeightReferenceIdeal)
    ∧ quiescent_WIn (hWIn := hWIn)
    ∧ quiescent_WInIdeal (hWInIdeal := hWInIdeal)
    ∧ quiescent_WInReferenceIdeal (hWInReferenceIdeal := hWInReferenceIdeal)
    ∧ quiescent_Head (hHead := hHead)
    ∧ quiescent_HeadIdeal (hHeadIdeal := hHeadIdeal)
    ∧ quiescent_HeadIdeal_pre_finite (hHeadIdeal := hHeadIdeal) (hPre_finite := hPre_finite)
    ∧ quiescent_HeadReferenceIdeal (hHeadReferenceIdeal := hHeadReferenceIdeal)
    ∧ quiescent_HeadReferenceIdeal_pre_finite (hHeadReferenceIdeal := hHeadReferenceIdeal) (hPre_finite := hPre_finite)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActReferenceIdeal (hActReferenceIdeal := hActReferenceIdeal)
    ∧ quiescent_ActReferenceIdeal_pre_finite_act (hActReferenceIdeal := hActReferenceIdeal) (hPre_finite_act := hPre_finite_act)
    ∧ quiescent_Norm (hNorm := hNorm)
    ∧ quiescent_NormIdeal (hNormIdeal := hNormIdeal)
    ∧ quiescent_NormReferenceIdeal (hNormReferenceIdeal := hNormReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_ProjBack (hProjBack := hProjBack)
    ∧ quiescent_ProjBackIdeal (hProjBackIdeal := hProjBackIdeal)
    ∧ quiescent_ProjBackReferenceIdeal (hProjBackReferenceIdeal := hProjBackReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_MixForward (hMixForward := hMixForward)
    ∧ quiescent_MixForwardIdeal (hMixForwardIdeal := hMixForwardIdeal)
    ∧ quiescent_MixForwardReferenceIdeal (hMixForwardReferenceIdeal := hMixForwardReferenceIdeal)
    ∧ quiescent_AdamW (hAdamW := hAdamW)
    ∧ quiescent_AdamWIdeal (hAdamWIdeal := hAdamWIdeal)
    ∧ quiescent_AdamWReferenceIdeal (hAdamWReferenceIdeal := hAdamWReferenceIdeal)
    ∧ quiescent_AdamWProj (hAdamWProj := hAdamWProj)
    ∧ quiescent_AdamWProjIdeal (hAdamWProjIdeal := hAdamWProjIdeal)
    ∧ quiescent_AdamWProjReferenceIdeal (hAdamWProjReferenceIdeal := hAdamWProjReferenceIdeal)
    ∧ preserves_Kernel_KernelIdeal
    ∧ algebraic_KernelIdeal_ReferenceIdeal (hKernelIdeal := hKernelIdeal) (hReferenceIdeal := hReferenceIdeal)
    ∧ preserves_Weight_WeightIdeal
    ∧ algebraic_WeightIdeal_WeightReferenceIdeal (hWeightIdeal := hWeightIdeal) (hWeightReferenceIdeal := hWeightReferenceIdeal)
    ∧ preserves_WIn_WInIdeal
    ∧ algebraic_WInIdeal_WInReferenceIdeal (hWInIdeal := hWInIdeal) (hWInReferenceIdeal := hWInReferenceIdeal)
    ∧ preserves_Head_HeadIdeal
    ∧ algebraic_HeadIdeal_HeadReferenceIdeal_pre_finite (hHeadIdeal := hHeadIdeal) (hHeadReferenceIdeal := hHeadReferenceIdeal) (hPre_finite := hPre_finite)
    ∧ preserves_Act_ActIdeal
    ∧ algebraic_ActIdeal_ActReferenceIdeal_pre_finite_act (hActIdeal := hActIdeal) (hActReferenceIdeal := hActReferenceIdeal) (hPre_finite_act := hPre_finite_act)
    ∧ preserves_Norm_NormIdeal
    ∧ algebraic_NormIdeal_NormReferenceIdeal (hNormIdeal := hNormIdeal) (hNormReferenceIdeal := hNormReferenceIdeal)
    ∧ preserves_Ffn_FfnIdeal
    ∧ algebraic_FfnIdeal_FfnReferenceIdeal (hFfnIdeal := hFfnIdeal) (hFfnReferenceIdeal := hFfnReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_ProjBack_ProjBackIdeal
    ∧ algebraic_ProjBackIdeal_ProjBackReferenceIdeal (hProjBackIdeal := hProjBackIdeal) (hProjBackReferenceIdeal := hProjBackReferenceIdeal)
    ∧ preserves_Proj_ProjIdeal
    ∧ algebraic_ProjIdeal_ProjReferenceIdeal (hProjIdeal := hProjIdeal) (hProjReferenceIdeal := hProjReferenceIdeal)
    ∧ preserves_MixForward_MixForwardIdeal
    ∧ algebraic_MixForwardIdeal_MixForwardReferenceIdeal (hMixForwardIdeal := hMixForwardIdeal) (hMixForwardReferenceIdeal := hMixForwardReferenceIdeal)
    ∧ preserves_AdamW_AdamWIdeal
    ∧ algebraic_AdamWIdeal_AdamWReferenceIdeal (hAdamWIdeal := hAdamWIdeal) (hAdamWReferenceIdeal := hAdamWReferenceIdeal)
    ∧ preserves_AdamWProj_AdamWProjIdeal
    ∧ algebraic_AdamWProjIdeal_AdamWProjReferenceIdeal (hAdamWProjIdeal := hAdamWProjIdeal) (hAdamWProjReferenceIdeal := hAdamWProjReferenceIdeal)
-- ==== Pre_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S1x1024 .f32) (main_arg6 : FVec F S4096x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S1x1024 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_finite_act.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2816 : S_.BroadcastsInDim S4096x2816 (![] : Fin 0 → Fin S4096x2816.rank)
  reducesTo_S4096x2816_S_d0_1 : S4096x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S4096x1024 .f32) (main_arg1 : FVec F S4096x2816 .f32) (main_arg2 : FVec F S4096x2816 .f32) (main_arg3 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S4096x2816 .f32 := Host.absf main_arg2
  let main_cst_2 : FVec F S_ .f32 := constant S_ .f32 0x7F800000#32
  let main_v10 : FVec F S4096x2816 .f32 := broadcastInDim S4096x2816 ![] bcast_S_S4096x2816 main_cst_2
  let main_v11 : IVec S4096x2816 1 := cmpf .olt main_v9 main_v10
  let main_c_3 : IVec S_ 1 := constantI S_ 1 1#1
  let main_v12 : IVec S_ 1 := (fun x v => Host.reduce IntOp.andi x v reducesTo_S4096x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Kernel.lean ====
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S_ : Shape := ⟨0, ![]⟩
abbrev S4096x2048 : Shape := ⟨2, ![4096, 2048]⟩
abbrev S256x1024 : Shape := ⟨2, ![256, 1024]⟩
abbrev S256x2048 : Shape := ⟨2, ![256, 2048]⟩
abbrev S256x512 : Shape := ⟨2, ![256, 512]⟩
abbrev S1024x512 : Shape := ⟨2, ![1024, 512]⟩

abbrev nBuf : Space → Nat
  | .hbm => 44
  | .vmem => 26
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x2048, .f32⟩
  | .hbm, ⟨30, _⟩ => ⟨S1024x1024, .f32⟩
  | .hbm, ⟨31, _⟩ => ⟨S1024x1024, .f32⟩
  | .hbm, ⟨32, _⟩ => ⟨S1024x1024, .bf16⟩
  | .hbm, ⟨33, _⟩ => ⟨S4096x1024, .bf16⟩
  | .hbm, ⟨34, _⟩ => ⟨S4096x1024, .bf16⟩
  | .hbm, ⟨35, _⟩ => ⟨S4096x1024, .bf16⟩
  | .hbm, ⟨36, _⟩ => ⟨S4096x512, .bf16⟩
  | .hbm, ⟨37, _⟩ => ⟨S4096x512, .bf16⟩
  | .hbm, ⟨38, _⟩ => ⟨S1024x1024, .bf16⟩
  | .hbm, ⟨39, _⟩ => ⟨S4096x512, .bf16⟩
  | .hbm, ⟨40, _⟩ => ⟨S4096x512, .bf16⟩
  | .hbm, ⟨41, _⟩ => ⟨S4096x2048, .bf16⟩
  | .hbm, ⟨42, _⟩ => ⟨S1024x1024, .bf16⟩
  | .hbm, ⟨43, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1024x1024, .bf16⟩
  | .local _ .vmem, ⟨15, _⟩ => ⟨S1024x1024, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x2048, .bf16⟩
  | .local _ .vmem, ⟨21, _⟩ => ⟨S256x2048, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .f32⟩
  | .local _ .vmem, ⟨25, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v27_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v72 : BitVec 1 := Scalar.cmpi .eq arg0 c15_i32
  let v73 : BitVec 32 := Scalar.extui v72
  let c0_i32_47 : BitVec 32 := 0#32
  let v74 : BitVec 1 := Scalar.cmpi .ne v73 c0_i32_47
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S_ : Shape := ⟨0, ![]⟩
abbrev S1024x512 : Shape := ⟨2, ![1024, 512]⟩
abbrev S4096x2048 : Shape := ⟨2, ![4096, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1024x1024, .f32⟩
  | .hbm, ⟨39, _⟩ => ⟨S1024x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S1024x512, .f32⟩
  | .hbm, ⟨48, _⟩ => ⟨S512x1024, .f32⟩
  | .hbm, ⟨49, _⟩ => ⟨S4096x512, .f32⟩
  | .hbm, ⟨50, _⟩ => ⟨S1024x512, .f32⟩
  | .hbm, ⟨51, _⟩ => ⟨S512x1024, .f32⟩
  | .hbm, ⟨52, _⟩ => ⟨S4096x512, .f32⟩
  | .hbm, ⟨53, _⟩ => ⟨S4096x2048, .f32⟩
  | .hbm, ⟨54, _⟩ => ⟨S1024x512, .f32⟩
  | .hbm, ⟨55, _⟩ => ⟨S1024x512, .f32⟩
  | .hbm, ⟨56, _⟩ => ⟨S1024x1024, .f32⟩
  | .hbm, ⟨57, _⟩ => ⟨S4096x512, .bf16⟩
  | .hbm, ⟨58, _⟩ => ⟨S4096x512, .bf16⟩
  | .hbm, ⟨59, _⟩ => ⟨S4096x2048, .bf16⟩
  | .hbm, ⟨60, _⟩ => ⟨S1024x1024, .bf16⟩
  | .hbm, ⟨61, _⟩ => ⟨S1024x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Weight.lean ====
abbrev S4096x1024 : Shape := ⟨2, ![4096, 1024]⟩
abbrev S4096x2816 : Shape := ⟨2, ![4096, 2816]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c11_i32 : BitVec 32 := 11#32
  let v1 : BitVec 1 := Scalar.cmpi .slt arg0 c11_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WeightReferenceIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WIn.lean ====
abbrev S4096x1024 : Shape := ⟨2, ![4096, 1024]⟩
abbrev S4096x512 : Shape := ⟨2, ![4096, 512]⟩
abbrev S4096x256 : Shape := ⟨2, ![4096, 256]⟩
abbrev S4096x2048 : Shape := ⟨2, ![4096, 2048]⟩
abbrev S4352x1024 : Shape := ⟨2, ![4352, 1024]⟩
abbrev S256x1024 : Shape := ⟨2, ![256, 1024]⟩

abbrev nBuf : Space → Nat
  | .hbm => 15
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x256, .f32⟩
  | .hbm, ⟨6, _⟩ => ⟨S4096x2048, .f32⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x256, .bf16⟩
  | .hbm, ⟨12, _⟩ => ⟨S4096x2048, .bf16⟩
  | .hbm, ⟨13, _⟩ => ⟨S4096x1024, .bf16⟩
  | .hbm, ⟨14, _⟩ => ⟨S4352x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x1024, .bf16⟩
  | .local _ .vmem, ⟨13, _⟩ => ⟨S256x1024, .bf16⟩
  | .local _ .vmem, ⟨14, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c4_i32 : BitVec 32 := 4#32
  let v6 : BitVec 1 := Scalar.cmpi .slt arg0 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c4_i32_3 : BitVec 32 := 4#32
  let v10 : BitVec 1 := Scalar.cmpi .sge arg0 c4_i32_3
  let c6_i32 : BitVec 32 := 6#32
  let v11 : BitVec 1 := Scalar.cmpi .slt arg0 c6_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c6_i32_5 : BitVec 32 := 6#32
  let v15 : BitVec 1 := Scalar.cmpi .sge arg0 c6_i32_5
  let c8_i32 : BitVec 32 := 8#32
  let v16 : BitVec 1 := Scalar.cmpi .slt arg0 c8_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg0 : BitVec 32 := BitVec.ofNat 32 (i 0).val
  let c8_i32_7 : BitVec 32 := 8#32
  let v20 : BitVec 1 := Scalar.cmpi .sge arg0 c8_i32_7
  let c9_i32 : BitVec 32 := 9#32
  let v21 : BitVec 1 := Scalar.cmpi .slt arg0 c9_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg0 : BitVec 32 := BitVec.ofNat 32 (i 0).val
  let c9_i32_9 : BitVec 32 := 9#32
  let v25 : BitVec 1 := Scalar.cmpi .sge arg0 c9_i32_9
  let c17_i32 : BitVec 32 := 17#32
  let v26 : BitVec 1 := Scalar.cmpi .slt arg0 c17_i32
  let v27 : BitVec 1 := Scalar.andi v25 v26
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_5 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WInReferenceIdeal.lean ====
abbrev S4096x1024 : Shape := ⟨2, ![4096, 1024]⟩
abbrev S4096x512 : Shape := ⟨2, ![4096, 512]⟩
abbrev S4096x256 : Shape := ⟨2, ![4096, 256]⟩
abbrev S4096x2048 : Shape := ⟨2, ![4096, 2048]⟩
abbrev S_ : Shape := ⟨0, ![]⟩
abbrev S1024x4352 : Shape := ⟨2, ![1024, 4352]⟩
abbrev S4096x4352 : Shape := ⟨2, ![4096, 4352]⟩
abbrev S4352x1024 : Shape := ⟨2, ![4352, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x256, .f32⟩
  | .hbm, ⟨6, _⟩ => ⟨S4096x2048, .f32⟩
  | .hbm, ⟨7, _⟩ => ⟨S_, .f32⟩
  | .hbm, ⟨8, _⟩ => ⟨S1024x4352, .f32⟩
  | .hbm, ⟨9, _⟩ => ⟨S4096x4352, .f32⟩
  | .hbm, ⟨10, _⟩ => ⟨S4096x4352, .f32⟩
  | .hbm, ⟨11, _⟩ => ⟨S4352x1024, .f32⟩
  | .hbm, ⟨12, _⟩ => ⟨S1024x4352, .f32⟩
  | .hbm, ⟨13, _⟩ => ⟨S4352x1024, .f32⟩
  | .hbm, ⟨14, _⟩ => ⟨S4352x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]
-- ==== Head.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S32x8x1024 : Shape := ⟨3, ![32, 8, 1024]⟩
abbrev S256x256 : Shape := ⟨2, ![256, 256]⟩

abbrev nBuf : Space → Nat
  | .hbm => 53
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x2816, .bf16⟩
  | .hbm, ⟨40, _⟩ => ⟨S4096x2816, .bf16⟩
  | .hbm, ⟨41, _⟩ => ⟨S2816x1024, .f32⟩
  | .hbm, ⟨42, _⟩ => ⟨S2816x1024, .bf16⟩
  | .hbm, ⟨43, _⟩ => ⟨S2816x1024, .f32⟩
  | .hbm, ⟨44, _⟩ => ⟨S2816x1024, .bf16⟩
  | .hbm, ⟨45, _⟩ => ⟨S2816x1024, .bf16⟩
  | .hbm, ⟨46, _⟩ => ⟨S4096x1024, .f32⟩
  | .hbm, ⟨47, _⟩ => ⟨S4096x2816, .bf16⟩
  | .hbm, ⟨48, _⟩ => ⟨S4096x2816, .bf16⟩
  | .hbm, ⟨49, _⟩ => ⟨S4096x1024, .bf16⟩
  | .hbm, ⟨50, _⟩ => ⟨S8x1024, .f32⟩
  | .hbm, ⟨51, _⟩ => ⟨S8x1024, .f32⟩
  | .hbm, ⟨52, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S2816x1024, .bf16⟩
  | .local _ .vmem, ⟨13, _⟩ => ⟨S2816x1024, .bf16⟩
  | .local _ .vmem, ⟨14, _⟩ => ⟨S2816x1024, .bf16⟩
  | .local _ .vmem, ⟨15, _⟩ => ⟨S256x1024, .f32⟩
  | .local _ .vmem, ⟨16, _⟩ => ⟨S256x1024, .f32⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .bf16⟩
  | .local _ .vmem, ⟨22, _⟩ => ⟨S256x1024, .bf16⟩
  | .local _ .vmem, ⟨23, _⟩ => ⟨S8x1024, .f32⟩
  | .local _ .vmem, ⟨24, _⟩ => ⟨S8x1024, .f32⟩
  | .local _ .vmem, ⟨25, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_v27_2 : Ref sig .tc := ⟨.hbm, 48, rfl⟩
abbrev main_v27_3 : Ref sig .tc := ⟨.hbm, 49, rfl⟩
abbrev main_v27_4 : Ref sig .tc := ⟨.hbm, 50, rfl⟩
abbrev main_v27_5 : Ref sig .tc := ⟨.hbm, 51, rfl⟩
abbrev main_v27_6 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== HeadReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S512x8x1024 : Shape := ⟨3, ![512, 8, 1024]⟩
abbrev S8x1024 : Shape := ⟨2, ![8, 1024]⟩

abbrev nBuf : Space → Nat
  | .hbm => 166
  | .vmem => 0
  | .smem => 0
  | _ => 0

abbrev hbmTy0_0 (i : Nat) : BufTy := match i % 128 with
  | 0 => ⟨S4096x1024, .f32⟩
  | 1 => ⟨S1x1024, .f32⟩
  | 2 => ⟨S1024x2816, .f32⟩
  | 3 => ⟨S1024x2816, .f32⟩
  | 4 => ⟨S2816x1024, .f32⟩
  | 5 => ⟨S1x1024, .f32⟩
  | 6 => ⟨S4096x1024, .f32⟩
  | 7 => ⟨S_, .f32⟩
  | 8 => ⟨S4096x2816, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S4096x2816, .f32⟩
  | 32 => ⟨S4096x2816, .f32⟩
  | 33 => ⟨S4096x2816, .f32⟩
  | 34 => ⟨S4096x2816, .f32⟩
  | 35 => ⟨S_, .f32⟩
  | 36 => ⟨S4096x2816, .f32⟩
  | 37 => ⟨S4096x2816, .f32⟩
  | 38 => ⟨S_, .f32⟩
  | 39 => ⟨S4096x2816, .f32⟩
  | 40 => ⟨S4096x2816, .f32⟩
  | 41 => ⟨S_, .f32⟩
  | 42 => ⟨S4096x2816, .f32⟩
  | 43 => ⟨S4096x2816, .f32⟩
  | 44 => ⟨S4096x2816, .f32⟩
  | 45 => ⟨S4096x2816, .f32⟩
  | 46 => ⟨S4096x2816, .f32⟩
  | 47 => ⟨S4096x2816, .f32⟩
  | 48 => ⟨S4096x2816, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S4096x1024, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S_, .f32⟩
  | 79 => ⟨S4096, .f32⟩
  | 80 => ⟨S_, .f32⟩
  | 81 => ⟨S4096, .f32⟩
  | 82 => ⟨S4096, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S4096, .f32⟩
  | 91 => ⟨S_, .f32⟩
  | 92 => ⟨S4096, .f32⟩
  | 93 => ⟨S4096, .f32⟩
  | 94 => ⟨S4096x1024, .f32⟩
  | 95 => ⟨S4096x1024, .f32⟩
  | 96 => ⟨S4096x1024, .f32⟩
  | 97 => ⟨S4096x1024, .f32⟩
  | 98 => ⟨S4096x1024, .f32⟩
  | 99 => ⟨S_, .f32⟩
  | 100 => ⟨S4096, .f32⟩
  | 101 => ⟨S4096x1, .f32⟩
  | 102 => ⟨S4096x1024, .f32⟩
  | 103 => ⟨S4096x1024, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S_, .f32⟩
  | 116 => ⟨S4096x1024, .f32⟩
  | 117 => ⟨S4096x1024, .f32⟩
  | 118 => ⟨S4096x2816, .f32⟩
  | 119 => ⟨S4096x2816, .f32⟩
  | 120 => ⟨S4096x2816, .f32⟩
  | 121 => ⟨S4096x1024, .f32⟩
  | 122 => ⟨S4096x2816, .f32⟩
  | 123 => ⟨S4096x2816, .f32⟩
  | 124 => ⟨S4096x2816, .f32⟩
  | 125 => ⟨S4096x2816, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096, .f32⟩
  | 5 => ⟨S4096x1, .f32⟩
  | 6 => ⟨S4096x1024, .f32⟩
  | 7 => ⟨S4096x1024, .f32⟩
  | 8 => ⟨S4096x1024, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x2816, .bf16⟩
  | 21 => ⟨S4096x2816, .bf16⟩
  | 22 => ⟨S4096x1024, .bf16⟩
  | 23 => ⟨S512x8x1024, .f32⟩
  | 24 => ⟨S_, .f32⟩
  | 25 => ⟨S8x1024, .f32⟩
  | 26 => ⟨S512x8x1024, .f32⟩
  | 27 => ⟨S_, .f32⟩
  | 28 => ⟨S8x1024, .f32⟩
  | 29 => ⟨S_, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S512x8x1024, .f32⟩
  | 36 => ⟨S_, .f32⟩
  | 37 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v20_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v20_1 : Ref sig .tc := ⟨.hbm, 44, rfl⟩
abbrev main_v20_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_9 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_cst_12 : Ref sig .tc := ⟨.hbm, 80, rfl⟩
abbrev main_v48 : Ref sig .tc := ⟨.hbm, 81, rfl⟩
abbrev main_v49 : Ref sig .tc := ⟨.hbm, 82, rfl⟩
abbrev main_cst_13 : Ref sig .tc := ⟨.hbm, 83, rfl⟩
abbrev main_v50 : Ref sig .tc := ⟨.hbm, 84, rfl⟩
abbrev main_cst_14 : Ref sig .tc := ⟨.hbm, 85, rfl⟩
abbrev main_v51 : Ref sig .tc := ⟨.hbm, 86, rfl⟩
abbrev main_cst_15 : Ref sig .tc := ⟨.hbm, 87, rfl⟩
abbrev main_cst_16 : Ref sig .tc := ⟨.hbm, 88, rfl⟩
abbrev main_v52 : Ref sig .tc := ⟨.hbm, 89, rfl⟩
abbrev main_v53 : Ref sig .tc := ⟨.hbm, 90, rfl⟩
abbrev main_cst_17 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_18 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_19 : Ref sig .tc := ⟨.hbm, 105, rfl⟩
abbrev main_v66 : Ref sig .tc := ⟨.hbm, 106, rfl⟩
abbrev main_v67 : Ref sig .tc := ⟨.hbm, 107, rfl⟩
abbrev main_cst_20 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_21 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_22 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_23 : Ref sig .tc := ⟨.hbm, 138, rfl⟩
abbrev main_v92 : Ref sig .tc := ⟨.hbm, 139, rfl⟩
abbrev main_v93 : Ref sig .tc := ⟨.hbm, 140, rfl⟩
abbrev main_cst_24 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_25 : Ref sig .tc := ⟨.hbm, 152, rfl⟩
abbrev main_v104 : Ref sig .tc := ⟨.hbm, 153, rfl⟩
abbrev main_v105 : Ref sig .tc := ⟨.hbm, 154, rfl⟩
abbrev main_cst_26 : Ref sig .tc := ⟨.hbm, 155, rfl⟩
abbrev main_v106 : Ref sig .tc := ⟨.hbm, 156, rfl⟩
abbrev main_cst_27 : Ref sig .tc := ⟨.hbm, 157, rfl⟩
abbrev main_v107 : Ref sig .tc := ⟨.hbm, 158, rfl⟩
abbrev main_v108 : Ref sig .tc := ⟨.hbm, 159, rfl⟩
abbrev main_cst_28 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_29 : Ref sig .tc := ⟨.hbm, 164, rfl⟩
abbrev main_v112 : Ref sig .tc := ⟨.hbm, 165, rfl⟩

abbrev nD : Nat := 1
abbrev τ : Topo := Topo.v7x

variable {F : FTy → Type} [FloatOps F]
-- ==== Act.lean ====
abbrev S4096x1024 : Shape := ⟨2, ![4096, 1024]⟩
abbrev S4096x2816 : Shape := ⟨2, ![4096, 2816]⟩
abbrev S2816x1024 : Shape := ⟨2, ![2816, 1024]⟩
abbrev S256x1024 : Shape := ⟨2, ![256, 1024]⟩
abbrev S256x2816 : Shape := ⟨2, ![256, 2816]⟩
abbrev S256x256 : Shape := ⟨2, ![256, 256]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x2816, .bf16⟩
  | .hbm, ⟨5, _⟩ => ⟨S4096x2816, .bf16⟩
  | .hbm, ⟨6, _⟩ => ⟨S2816x1024, .bf16⟩
  | .hbm, ⟨7, _⟩ => ⟨S4096x2816, .bf16⟩
  | .hbm, ⟨8, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S2816x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ActReferenceIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S4096x2816 : Shape := ⟨2, ![4096, 2816]⟩
abbrev S1024x2816 : Shape := ⟨2, ![1024, 2816]⟩
abbrev S2816x1024 : Shape := ⟨2, ![2816, 1024]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S32x8x1024 : Shape := ⟨3, ![32, 8, 1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .f32⟩
  | .hbm, ⟨4, _⟩ => ⟨S4096x2816, .f32⟩
  | .hbm, ⟨5, _⟩ => ⟨S1024x2816, .f32⟩
  | .hbm, ⟨6, _⟩ => ⟨S1024x2816, .f32⟩
  | .hbm, ⟨7, _⟩ => ⟨S4096x2816, .bf16⟩
  | .hbm, ⟨8, _⟩ => ⟨S4096x2816, .bf16⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S4096x1024, .f32⟩
  | .hbm, ⟨14, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S2816x1024, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormReferenceIdeal.lean ====
abbrev S4096x1024 : Shape := ⟨2, ![4096, 1024]⟩
abbrev S1x1024 : Shape := ⟨2, ![1, 1024]⟩
abbrev S4096x2816 : Shape := ⟨2, ![4096, 2816]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S512x8x1024 : Shape := ⟨3, ![512, 8, 1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .f32⟩
  | .hbm, ⟨4, _⟩ => ⟨S4096x2816, .f32⟩
  | .hbm, ⟨5, _⟩ => ⟨S1024x2816, .f32⟩
  | .hbm, ⟨6, _⟩ => ⟨S1024x2816, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S512x8x1024, .f32⟩
  | .hbm, ⟨52, _⟩ => ⟨S_, .f32⟩
  | .hbm, ⟨53, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S256x256 : Shape := ⟨2, ![256, 256]⟩

abbrev nBuf : Space → Nat
  | .hbm => 15
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S4096x1024, .bf16⟩
  | .hbm, ⟨11, _⟩ => ⟨S4096x2816, .bf16⟩
  | .hbm, ⟨12, _⟩ => ⟨S4096x2816, .bf16⟩
  | .hbm, ⟨13, _⟩ => ⟨S4096x2816, .bf16⟩
  | .hbm, ⟨14, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .bf16⟩
  | .hbm, ⟨33, _⟩ => ⟨S4096x2816, .bf16⟩
  | .hbm, ⟨34, _⟩ => ⟨S4096x2816, .bf16⟩
  | .hbm, ⟨35, _⟩ => ⟨S4096x2816, .bf16⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Up.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S256x256 : Shape := ⟨2, ![256, 256]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x1024, .bf16⟩
  | .hbm, ⟨9, _⟩ => ⟨S4096x2816, .bf16⟩
  | .hbm, ⟨10, _⟩ => ⟨S4096x2816, .bf16⟩
  | .hbm, ⟨11, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpReferenceIdeal.lean ====
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x1024, .bf16⟩
  | .hbm, ⟨32, _⟩ => ⟨S4096x2816, .bf16⟩
  | .hbm, ⟨33, _⟩ => ⟨S4096x2816, .bf16⟩
  | .hbm, ⟨34, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Down.lean ====
abbrev S4096x1024 : Shape := ⟨2, ![4096, 1024]⟩
abbrev S4096x2816 : Shape := ⟨2, ![4096, 2816]⟩
abbrev S2816x1024 : Shape := ⟨2, ![2816, 1024]⟩
abbrev S256x1024 : Shape := ⟨2, ![256, 1024]⟩
abbrev S256x2816 : Shape := ⟨2, ![256, 2816]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownReferenceIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== ProjBack.lean ====
abbrev S4096x1024 : Shape := ⟨2, ![4096, 1024]⟩
abbrev S1x1024 : Shape := ⟨2, ![1, 1024]⟩
abbrev S4096x512 : Shape := ⟨2, ![4096, 512]⟩
abbrev S4096x256 : Shape := ⟨2, ![4096, 256]⟩
abbrev S4096x2048 : Shape := ⟨2, ![4096, 2048]⟩
abbrev S1024x4352 : Shape := ⟨2, ![1024, 4352]⟩
abbrev S4352x1024 : Shape := ⟨2, ![4352, 1024]⟩
abbrev S8x1024 : Shape := ⟨2, ![8, 1024]⟩
abbrev S256x1024 : Shape := ⟨2, ![256, 1024]⟩
abbrev S256x512 : Shape := ⟨2, ![256, 512]⟩
abbrev S256x256 : Shape := ⟨2, ![256, 256]⟩
abbrev S256x2048 : Shape := ⟨2, ![256, 2048]⟩
abbrev S512x1024 : Shape := ⟨2, ![512, 1024]⟩
abbrev S2048x1024 : Shape := ⟨2, ![2048, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 21
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x256, .f32⟩
  | .hbm, ⟨8, _⟩ => ⟨S4096x2048, .f32⟩
  | .hbm, ⟨9, _⟩ => ⟨S1024x4352, .f32⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x256, .bf16⟩
  | .hbm, ⟨15, _⟩ => ⟨S4096x2048, .bf16⟩
  | .hbm, ⟨16, _⟩ => ⟨S4352x1024, .f32⟩
  | .hbm, ⟨17, _⟩ => ⟨S4352x1024, .bf16⟩
  | .hbm, ⟨18, _⟩ => ⟨S4096x1024, .f32⟩
  | .hbm, ⟨19, _⟩ => ⟨S4096x1024, .bf16⟩
  | .hbm, ⟨20, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x256, .bf16⟩
  | .local _ .vmem, ⟨14, _⟩ => ⟨S256x256, .bf16⟩
  | .local _ .vmem, ⟨15, _⟩ => ⟨S256x2048, .bf16⟩
  | .local _ .vmem, ⟨16, _⟩ => ⟨S256x2048, .bf16⟩
  | .local _ .vmem, ⟨17, _⟩ => ⟨S4352x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4352x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ProjBackReferenceIdeal.lean ====
abbrev S4096x1024 : Shape := ⟨2, ![4096, 1024]⟩
abbrev S1x1024 : Shape := ⟨2, ![1, 1024]⟩
abbrev S4096x512 : Shape := ⟨2, ![4096, 512]⟩
abbrev S4096x256 : Shape := ⟨2, ![4096, 256]⟩
abbrev S4096x2048 : Shape := ⟨2, ![4096, 2048]⟩
abbrev S1024x4352 : Shape := ⟨2, ![1024, 4352]⟩
abbrev S4096x4352 : Shape := ⟨2, ![4096, 4352]⟩
abbrev S_ : Shape := ⟨0, ![]⟩
abbrev S4096 : Shape := ⟨1, ![4096]⟩
abbrev S4096x1 : Shape := ⟨2, ![4096, 1]⟩
abbrev S512x8x1024 : Shape := ⟨3, ![512, 8, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x256, .f32⟩
  | .hbm, ⟨8, _⟩ => ⟨S4096x2048, .f32⟩
  | .hbm, ⟨9, _⟩ => ⟨S1024x4352, .f32⟩
  | .hbm, ⟨10, _⟩ => ⟨S4096x4352, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x4352, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S512x8x1024, .f32⟩
  | .hbm, ⟨60, _⟩ => ⟨S_, .f32⟩
  | .hbm, ⟨61, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Proj.lean ====
abbrev S4096x1024 : Shape := ⟨2, ![4096, 1024]⟩
abbrev S1x1024 : Shape := ⟨2, ![1, 1024]⟩
abbrev S1024x4352 : Shape := ⟨2, ![1024, 4352]⟩
abbrev S4352x1024 : Shape := ⟨2, ![4352, 1024]⟩
abbrev S4096x1536 : Shape := ⟨2, ![4096, 1536]⟩
abbrev S4096x768 : Shape := ⟨2, ![4096, 768]⟩
abbrev S4096x2048 : Shape := ⟨2, ![4096, 2048]⟩
abbrev S256x1024 : Shape := ⟨2, ![256, 1024]⟩
abbrev S256x1536 : Shape := ⟨2, ![256, 1536]⟩
abbrev S256x768 : Shape := ⟨2, ![256, 768]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4352, .f32⟩
  | .hbm, ⟨3, _⟩ => ⟨S4352x1024, .f32⟩
  | .hbm, ⟨4, _⟩ => ⟨S4352x1024, .bf16⟩
  | .hbm, ⟨5, _⟩ => ⟨S4096x1024, .bf16⟩
  | .hbm, ⟨6, _⟩ => ⟨S4096x1536, .bf16⟩
  | .hbm, ⟨7, _⟩ => ⟨S4096x768, .bf16⟩
  | .hbm, ⟨8, _⟩ => ⟨S4096x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4352x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1536, .bf16⟩
  | .local _ .vmem, ⟨7, _⟩ => ⟨S256x1536, .bf16⟩
  | .local _ .vmem, ⟨8, _⟩ => ⟨S256x768, .bf16⟩
  | .local _ .vmem, ⟨9, _⟩ => ⟨S256x768, .bf16⟩
  | .local _ .vmem, ⟨10, _⟩ => ⟨S256x2048, .f32⟩
  | .local _ .vmem, ⟨11, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjReferenceIdeal.lean ====
abbrev S4096x1024 : Shape := ⟨2, ![4096, 1024]⟩
abbrev S1x1024 : Shape := ⟨2, ![1, 1024]⟩
abbrev S1024x4352 : Shape := ⟨2, ![1024, 4352]⟩
abbrev S_ : Shape := ⟨0, ![]⟩
abbrev S4096 : Shape := ⟨1, ![4096]⟩
abbrev S4096x1 : Shape := ⟨2, ![4096, 1]⟩
abbrev S4096x4352 : Shape := ⟨2, ![4096, 4352]⟩
abbrev S4096x1536 : Shape := ⟨2, ![4096, 1536]⟩
abbrev S4096x768 : Shape := ⟨2, ![4096, 768]⟩
abbrev S4096x2048 : Shape := ⟨2, ![4096, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4352, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4352, .f32⟩
  | .hbm, ⟨19, _⟩ => ⟨S4096x1536, .f32⟩
  | .hbm, ⟨20, _⟩ => ⟨S4096x768, .f32⟩
  | .hbm, ⟨21, _⟩ => ⟨S4096x2048, .f32⟩
  | .hbm, ⟨22, _⟩ => ⟨S4096x1024, .bf16⟩
  | .hbm, ⟨23, _⟩ => ⟨S4096x1536, .bf16⟩
  | .hbm, ⟨24, _⟩ => ⟨S4096x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== MixForward.lean ====
abbrev S4096x1024 : Shape := ⟨2, ![4096, 1024]⟩
abbrev S4096x512 : Shape := ⟨2, ![4096, 512]⟩
abbrev S512x1024 : Shape := ⟨2, ![512, 1024]⟩
abbrev S1024x1024 : Shape := ⟨2, ![1024, 1024]⟩
abbrev S4096x2048 : Shape := ⟨2, ![4096, 2048]⟩
abbrev S256x1024 : Shape := ⟨2, ![256, 1024]⟩
abbrev S256x512 : Shape := ⟨2, ![256, 512]⟩
abbrev S256x2048 : Shape := ⟨2, ![256, 2048]⟩
abbrev S1024x512 : Shape := ⟨2, ![1024, 512]⟩

abbrev nBuf : Space → Nat
  | .hbm => 19
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S4096x512, .bf16⟩
  | .hbm, ⟨12, _⟩ => ⟨S4096x512, .bf16⟩
  | .hbm, ⟨13, _⟩ => ⟨S4096x2048, .f32⟩
  | .hbm, ⟨14, _⟩ => ⟨S1024x1024, .bf16⟩
  | .hbm, ⟨15, _⟩ => ⟨S4096x1024, .f32⟩
  | .hbm, ⟨16, _⟩ => ⟨S4096x1024, .bf16⟩
  | .hbm, ⟨17, _⟩ => ⟨S4096x1024, .bf16⟩
  | .hbm, ⟨18, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .f32⟩
  | .local _ .vmem, ⟨7, _⟩ => ⟨S256x2048, .f32⟩
  | .local _ .vmem, ⟨8, _⟩ => ⟨S1024x1024, .bf16⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixForwardReferenceIdeal.lean ====
abbrev S4096x1024 : Shape := ⟨2, ![4096, 1024]⟩
abbrev S4096x512 : Shape := ⟨2, ![4096, 512]⟩
abbrev S512x1024 : Shape := ⟨2, ![512, 1024]⟩
abbrev S1024x1024 : Shape := ⟨2, ![1024, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x1024, .bf16⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== AdamW.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdamWReferenceIdeal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWProj.lean ====
abbrev S512x128 : Shape := ⟨2, ![512, 128]⟩
abbrev S128x128 : Shape := ⟨2, ![128, 128]⟩

abbrev nBuf : Space → Nat
  | .hbm => 14
  | .vmem => 28
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S512x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== AdamWProjIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdamWProjReferenceIdeal.lean ====
abbrev S512x128 : Shape := ⟨2, ![512, 128]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S_, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S_, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x128, .f32⟩
  | .hbm, ⟨41, _⟩ => ⟨S_, .f32⟩
  | .hbm, ⟨42, _⟩ => ⟨S512x128, .f32⟩
  | .hbm, ⟨43, _⟩ => ⟨S512x128, .f32⟩
  | .hbm, ⟨44, _⟩ => ⟨S_, .f32⟩
  | .hbm, ⟨45, _⟩ => ⟨S512x128, .f32⟩
  | .hbm, ⟨46, _⟩ => ⟨S512x128, .f32⟩
  | .hbm, ⟨47, _⟩ => ⟨S512x128, .f32⟩
  | .hbm, ⟨48, _⟩ => ⟨S_, .f32⟩
  | .hbm, ⟨49, _⟩ => ⟨S512x128, .f32⟩
  | .hbm, ⟨50, _⟩ => ⟨S512x128, .f32⟩
  | .hbm, ⟨51, _⟩ => ⟨S512x128, .f32⟩
  | .hbm, ⟨52, _⟩ => ⟨S_, .f32⟩
  | .hbm, ⟨53, _⟩ => ⟨S512x128, .f32⟩
  | .hbm, ⟨54, _⟩ => ⟨S512x128, .f32⟩
  | .hbm, ⟨55, _⟩ => ⟨S512x128, .f32⟩
  | .hbm, ⟨56, _⟩ => ⟨S_, .f32⟩
  | .hbm, ⟨57, _⟩ => ⟨S512x128, .f32⟩
  | .hbm, ⟨58, _⟩ => ⟨S512x128, .f32⟩
  | .hbm, ⟨59, _⟩ => ⟨S_, .f32⟩
  | .hbm, ⟨60, _⟩ => ⟨S512x128, .f32⟩
  | .hbm, ⟨61, _⟩ => ⟨S512x128, .f32⟩
  | .hbm, ⟨62, _⟩ => ⟨S512x128, .f32⟩
  | .hbm, ⟨63, _⟩ => ⟨S_, .f32⟩
  | .hbm, ⟨64, _⟩ => ⟨S512x128, .f32⟩
  | .hbm, ⟨65, _⟩ => ⟨S512x128, .f32⟩
  | .hbm, ⟨66, _⟩ => ⟨S512x128, .f32⟩
  | .hbm, ⟨67, _⟩ => ⟨S_, .f32⟩
  | .hbm, ⟨68, _⟩ => ⟨S512x128, .f32⟩
  | .hbm, ⟨69, _⟩ => ⟨S512x128, .f32⟩
  | .hbm, ⟨70, _⟩ => ⟨S512x128, .f32⟩
  | .hbm, ⟨71, _⟩ => ⟨S_, .f32⟩
  | .hbm, ⟨72, _⟩ => ⟨S512x128, .f32⟩
  | .hbm, ⟨73, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.Gradient.lean ====
/- The gradient of the gated mixing layer `merged @ w_out`, `merged = σ(gate_a)·(oa @ w_proj_a) + σ(gate_b)·(ob @ w_proj_b)`,
   written as plain sums over the extended reals, and one fact about sums: a sum over 4096 rows is the sum, over 16 tiles
   of 256 rows, of the tiles' sums. No program is mentioned here. -/
module

public import Idealize.ShloMosaic.Lib.Pointwise
public import Idealize.ShloMosaic.PureOps.Ideal

@[expose] public section

noncomputable section

open Idealize.ShloMosaic

namespace Cert.Mix

/-- An array of two axes over the extended reals. -/
abbrev Arr (a b : Nat) := (⟨2, ![a, b]⟩ : Shape).Idx → EReal

/-- `d @ w_outᵀ`: the gradient that reaches the merged value. -/
def dMerged (wo : Arr 1024 1024) (d : Arr 4096 1024) (r : Fin 4096) (j : Fin 1024) : EReal :=
  ∑ k : Fin 1024, d (ix2 r k) * wo (ix2 j k)

/-- The gradient that passes the gate: `dMerged · σ(gate)`, which is the gradient of the projected branch. -/
def gated (g : Arr 4096 1024) (wo : Arr 1024 1024) (d : Arr 4096 1024) (r : Fin 4096) (j : Fin 1024) : EReal :=
  dMerged wo d r j * Ideal.logistic (g (ix2 r j))

/-- One branch's projection `o @ w`. -/
def branch (o : Arr 4096 512) (w : Arr 512 1024) (r : Fin 4096) (j : Fin 1024) : EReal :=
  ∑ k : Fin 512, o (ix2 r k) * w (ix2 k j)

/-- The forward pass's merged value, the gated sum of both branches. -/
def merged (oa ob : Arr 4096 512) (ga gb : Arr 4096 1024) (wa wb : Arr 512 1024) (r : Fin 4096) (j : Fin 1024) : EReal :=
  Ideal.logistic (ga (ix2 r j)) * branch oa wa r j + Ideal.logistic (gb (ix2 r j)) * branch ob wb r j

/-- The gradient of a branch's input (`oa` or `ob`). -/
def gradBranch (g : Arr 4096 1024) (w : Arr 512 1024) (wo : Arr 1024 1024) (d : Arr 4096 1024) (r : Fin 4096) (j : Fin 512) : EReal :=
  ∑ k : Fin 1024, gated g wo d r k * w (ix2 j k)

/-- The gradient of a gate's argument: `dMerged · y · σ(1 − σ)`. -/
def gradGate (o : Arr 4096 512) (g : Arr 4096 1024) (w : Arr 512 1024) (wo : Arr 1024 1024) (d : Arr 4096 1024) (r : Fin 4096)
    (j : Fin 1024) : EReal :=
  dMerged wo d r j * branch o w r j * (Ideal.logistic (g (ix2 r j)) * (1 - Ideal.logistic (g (ix2 r j))))

/-- The gradient of `w_out`. -/
def gradOut (oa ob : Arr 4096 512) (ga gb : Arr 4096 1024) (wa wb : Arr 512 1024) (d : Arr 4096 1024) (i j : Fin 1024) : EReal :=
  ∑ r : Fin 4096, merged oa ob ga gb wa wb r i * d (ix2 r j)

/-- The transposed gradient of a projection (`w_proj_a` or `w_proj_b`). -/
def gradProj (o : Arr 4096 512) (g : Arr 4096 1024) (wo : Arr 1024 1024) (d : Arr 4096 1024) (i : Fin 1024) (j : Fin 512) : EReal :=
  ∑ r : Fin 4096, gated g wo d r i * o (ix2 r j)

/-- Row `a` of tile `s`. -/
abbrev row (s : Fin 16) (a : Fin 256) : Fin 4096 := ⟨256 * s.val + a.val, by omega⟩

/-- What tile `n` adds to a sum over the rows (nothing past the sixteenth tile). -/
def tileSum (f : Fin 4096 → EReal) (n : Nat) : EReal :=
  if h : n < 16 then ∑ a : Fin 256, f (row ⟨n, h⟩ a) else 0

theorem tileSum_of_lt (f : Fin 4096 → EReal) {n : Nat} (h : n < 16) : tileSum f n = ∑ a : Fin 256, f (row ⟨n, h⟩ a) := dif_pos h

/-- The sixteen tiles' sums make up the sum over all rows. -/
theorem sum_tileSum (f : Fin 4096 → EReal) : ∑ n ∈ Finset.range 16, tileSum f n = ∑ r : Fin 4096, f r := by
  rw [← Fin.sum_univ_eq_sum_range (fun n => tileSum f n) 16, ← Equiv.sum_comp (finProdFinEquiv (m := 16) (n := 256)) f, Fintype.sum_prod_type]
  refine Finset.sum_congr rfl fun s _ => ?_
  rw [tileSum_of_lt f s.isLt]
  refine Finset.sum_congr rfl fun a _ => congrArg f (Fin.ext ?_)
  simp only [finProdFinEquiv_apply_val]
  omega

end Cert.Mix

end
-- ==== Proof.Blocks.lean ====
/- What the kernel's input blocks hold: the blocks of the launch's arguments that the host code prepares (the two gates side by
   side, the two projections stacked and transposed, the forward pass's branches and merged value), read at an index as the
   program's own arguments. -/
module

public import proofs.«01_k».proof.Proof.Gen.KernelIdeal.Value
public import proofs.«01_k».proof.Proof.Gradient
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.Mix

open Cert.KernelIdeal Cert.KernelIdeal.Gen

variable (m : (ℓ : Loc nD τ sig) → Buf (Elt Ideal) ℓ) (c : Dev nD)

/-- The program's arguments on device `c`. -/
abbrev aOa : Arr 4096 512 := m (c, Proc.tc.devRef main_arg0)
abbrev aOb : Arr 4096 512 := m (c, Proc.tc.devRef main_arg1)
abbrev aGa : Arr 4096 1024 := m (c, Proc.tc.devRef main_arg2)
abbrev aGb : Arr 4096 1024 := m (c, Proc.tc.devRef main_arg3)
abbrev aWa : Arr 512 1024 := m (c, Proc.tc.devRef main_arg4)
abbrev aWb : Arr 512 1024 := m (c, Proc.tc.devRef main_arg5)
abbrev aWo : Arr 1024 1024 := m (c, Proc.tc.devRef main_arg6)
abbrev aD : Arr 4096 1024 := m (c, Proc.tc.devRef main_arg7)

/-- A grid point as the number of a tile of 256 rows. -/
abbrev tile (t : Fin cfg0.N) : Fin 16 := ⟨t.val, lt_of_lt_of_eq t.isLt N_0⟩

/-! ### The arrays the launch is given -/

theorem V_d (r : Fin 4096) (j : Fin 1024) : (V m c main_arg7 : Arr 4096 1024) (ix2 r j) = aD m c (ix2 r j) := by
  rw [V_main_arg7]

set_option maxHeartbeats 1000000 in
theorem V_gates (r : Fin 4096) (j : Fin 2048) : (V m c main_v17 : Arr 4096 2048) (ix2 r j) =
    if h : j.val < 1024 then aGa m c (ix2 r ⟨j.val, h⟩) else aGb m c (ix2 r ⟨j.val - 1024, by omega⟩) := by
  unfold V
  after_reads_at

set_option maxHeartbeats 1000000 in
theorem V_ya (r : Fin 4096) (j : Fin 1024) : (V m c main_v21 : Arr 4096 1024) (ix2 r j) = branch (aOa m c) (aWa m c) r j := by
  unfold V branch
  after_reads_at

set_option maxHeartbeats 1000000 in
theorem V_yb (r : Fin 4096) (j : Fin 1024) : (V m c main_v22 : Arr 4096 1024) (ix2 r j) = branch (aOb m c) (aWb m c) r j := by
  unfold V branch
  after_reads_at

set_option maxHeartbeats 1000000 in
theorem V_merged (r : Fin 4096) (j : Fin 1024) : (V m c main_v23 : Arr 4096 1024) (ix2 r j) =
    merged (aOa m c) (aOb m c) (aGa m c) (aGb m c) (aWa m c) (aWb m c) r j := by
  unfold V merged branch
  after_reads_at
  rfl

set_option maxHeartbeats 1000000 in
theorem V_oa (r : Fin 4096) (j : Fin 512) : (V m c main_v24 : Arr 4096 512) (ix2 r j) = aOa m c (ix2 r j) := by
  unfold V
  after_reads_at

set_option maxHeartbeats 1000000 in
theorem V_ob (r : Fin 4096) (j : Fin 512) : (V m c main_v25 : Arr 4096 512) (ix2 r j) = aOb m c (ix2 r j) := by
  unfold V
  after_reads_at

set_option maxHeartbeats 1000000 in
theorem V_proj (k : Fin 1024) (j : Fin 1024) : (V m c main_v20 : Arr 1024 1024) (ix2 k j) =
    if h : j.val < 512 then aWa m c (ix2 ⟨j.val, h⟩ k) else aWb m c (ix2 ⟨j.val - 512, by omega⟩ k) := by
  unfold V
  after_reads_at
  split
  · after_reads_at
  · after_reads_at

set_option maxHeartbeats 1000000 in
theorem V_wout (k : Fin 1024) (j : Fin 1024) : (V m c main_v26 : Arr 1024 1024) (ix2 k j) = aWo m c (ix2 k j) := by
  unfold V
  after_reads_at

/-! ### The blocks -/

/-- The printed index maps, decided over the grid: a row-tiled window's block at point `t` is tile `t`. -/
theorem index_facts : ∀ t : Fin cfg0.N,
    ((cfg0.win 0).index t 0 = t.val ∧ (cfg0.win 0).index t 1 = 0) ∧ ((cfg0.win 1).index t 0 = t.val ∧ (cfg0.win 1).index t 1 = 0)
    ∧ ((cfg0.win 2).index t 0 = t.val ∧ (cfg0.win 2).index t 1 = 0) ∧ ((cfg0.win 3).index t 0 = t.val ∧ (cfg0.win 3).index t 1 = 0)
    ∧ ((cfg0.win 4).index t 0 = t.val ∧ (cfg0.win 4).index t 1 = 0) ∧ ((cfg0.win 5).index t 0 = t.val ∧ (cfg0.win 5).index t 1 = 0)
    ∧ ((cfg0.win 6).index t 0 = t.val ∧ (cfg0.win 6).index t 1 = 0) ∧ ((cfg0.win 7).index t 0 = 0 ∧ (cfg0.win 7).index t 1 = 0)
    ∧ ((cfg0.win 8).index t 0 = 0 ∧ (cfg0.win 8).index t 1 = 0) := by
  decide +kernel

/-- The tile's rows of the incoming gradient. -/
theorem iblk_d (t : Fin cfg0.N) (a : Fin 256) (j : Fin 1024) :
    (iblk m c 0 t : Arr 256 1024) (ix2 a j) = aD m c (ix2 (row (tile t) a) j) := by
  obtain ⟨h0, h1⟩ := (index_facts t).1
  refine Eq.trans ?_ (V_d m c (row (tile t) a) j)
  blk_simp [iblk]
  refine congrArg (V m c main_arg7) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

/-- The tile's rows of both gates, side by side. -/
theorem iblk_gates (t : Fin cfg0.N) (a : Fin 256) (j : Fin 2048) :
    (iblk m c 1 t : Arr 256 2048) (ix2 a j) =
    if h : j.val < 1024 then aGa m c (ix2 (row (tile t) a) ⟨j.val, h⟩) else aGb m c (ix2 (row (tile t) a) ⟨j.val - 1024, by omega⟩) := by
  obtain ⟨h0, h1⟩ := (index_facts t).2.1
  refine Eq.trans ?_ (V_gates m c (row (tile t) a) j)
  blk_simp [iblk]
  refine congrArg (V m c main_v17) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 2048 + j.val = j.val; omega)

/-- The tile's rows of the first branch. -/
theorem iblk_ya (t : Fin cfg0.N) (a : Fin 256) (j : Fin 1024) :
    (iblk m c 2 t : Arr 256 1024) (ix2 a j) = branch (aOa m c) (aWa m c) (row (tile t) a) j := by
  obtain ⟨h0, h1⟩ := (index_facts t).2.2.1
  refine Eq.trans ?_ (V_ya m c (row (tile t) a) j)
  blk_simp [iblk]
  refine congrArg (V m c main_v21) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

/-- The tile's rows of the second branch. -/
theorem iblk_yb (t : Fin cfg0.N) (a : Fin 256) (j : Fin 1024) :
    (iblk m c 3 t : Arr 256 1024) (ix2 a j) = branch (aOb m c) (aWb m c) (row (tile t) a) j := by
  obtain ⟨h0, h1⟩ := (index_facts t).2.2.2.1
  refine Eq.trans ?_ (V_yb m c (row (tile t) a) j)
  blk_simp [iblk]
  refine congrArg (V m c main_v22) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

/-- The tile's rows of the merged value. -/
theorem iblk_merged (t : Fin cfg0.N) (a : Fin 256) (j : Fin 1024) :
    (iblk m c 4 t : Arr 256 1024) (ix2 a j) =
    merged (aOa m c) (aOb m c) (aGa m c) (aGb m c) (aWa m c) (aWb m c) (row (tile t) a) j := by
  obtain ⟨h0, h1⟩ := (index_facts t).2.2.2.2.1
  refine Eq.trans ?_ (V_merged m c (row (tile t) a) j)
  blk_simp [iblk]
  refine congrArg (V m c main_v23) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

/-- The tile's rows of the first branch's input. -/
theorem iblk_oa (t : Fin cfg0.N) (a : Fin 256) (j : Fin 512) :
    (iblk m c 5 t : Arr 256 512) (ix2 a j) = aOa m c (ix2 (row (tile t) a) j) := by
  obtain ⟨h0, h1⟩ := (index_facts t).2.2.2.2.2.1
  refine Eq.trans ?_ (V_oa m c (row (tile t) a) j)
  blk_simp [iblk]
  refine congrArg (V m c main_v24) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 512 + j.val = j.val; omega)

/-- The tile's rows of the second branch's input. -/
theorem iblk_ob (t : Fin cfg0.N) (a : Fin 256) (j : Fin 512) :
    (iblk m c 6 t : Arr 256 512) (ix2 a j) = aOb m c (ix2 (row (tile t) a) j) := by
  obtain ⟨h0, h1⟩ := (index_facts t).2.2.2.2.2.2.1
  refine Eq.trans ?_ (V_ob m c (row (tile t) a) j)
  blk_simp [iblk]
  refine congrArg (V m c main_v25) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 512 + j.val = j.val; omega)

/-- Both projections, transposed, side by side (the same block at every point). -/
theorem iblk_proj (t : Fin cfg0.N) (a : Fin 1024) (j : Fin 1024) :
    (iblk m c 7 t : Arr 1024 1024) (ix2 a j) =
    if h : j.val < 512 then aWa m c (ix2 ⟨j.val, h⟩ a) else aWb m c (ix2 ⟨j.val - 512, by omega⟩ a) := by
  obtain ⟨h0, h1⟩ := (index_facts t).2.2.2.2.2.2.2.1
  refine Eq.trans ?_ (V_proj m c a j)
  blk_simp [iblk]
  refine congrArg (V m c main_v20) (funext fun x => Fin.ext ?_)
  match x with
  | ⟨0, _⟩ => exact (Pipeline.Window.rect_emb_val _ t _ 0).trans (by rw [h0]; show 0 * 1024 + a.val = a.val; omega)
  | ⟨1, _⟩ => exact (Pipeline.Window.rect_emb_val _ t _ 1).trans (by rw [h1]; show 0 * 1024 + j.val = j.val; omega)

/-- The output projection (the same block at every point). -/
theorem iblk_wout (t : Fin cfg0.N) (a : Fin 1024) (j : Fin 1024) :
    (iblk m c 8 t : Arr 1024 1024) (ix2 a j) = aWo m c (ix2 a j) := by
  obtain ⟨h0, h1⟩ := (index_facts t).2.2.2.2.2.2.2.2
  refine Eq.trans ?_ (V_wout m c a j)
  blk_simp [iblk]
  refine congrArg (V m c main_v26) (funext fun x => Fin.ext ?_)
  match x with
  | ⟨0, _⟩ => exact (Pipeline.Window.rect_emb_val _ t _ 0).trans (by rw [h0]; show 0 * 1024 + a.val = a.val; omega)
  | ⟨1, _⟩ => exact (Pipeline.Window.rect_emb_val _ t _ 1).trans (by rw [h1]; show 0 * 1024 + j.val = j.val; omega)

end Cert.Mix

end
-- ==== Proof.Points.lean ====
/- What one grid point computes: the tile's rows of the three row gradients, and what the point adds to the two accumulators
   of the weight gradients, read at an index as the formulas of the module `Gradient`. -/
module

public import proofs.«01_k».proof.Proof.Blocks

@[expose] public section

set_option maxRecDepth 16384

noncomputable section

open Idealize.ShloMosaic Idealize.ShloMosaic.TcCoe Idealize.SL.Sem

namespace Cert.Mix

open Cert.KernelIdeal Cert.KernelIdeal.Gen

variable (m : (ℓ : Loc nD τ sig) → Buf (Elt Ideal) ℓ) (c : Dev nD)

/-! ### The body's values -/

/-- The left (right) half of a tile's gates. -/
abbrev gatesL (t : Fin cfg0.N) : FVec Ideal S256x1024 .f32 :=
  View.ld (iblk m c 1 t) (Rect.unit (s := S256x2048) ![0, 0] S256x1024.size inb_S256x2048_S256x1024_0_0)
abbrev gatesR (t : Fin cfg0.N) : FVec Ideal S256x1024 .f32 :=
  View.ld (iblk m c 1 t) (Rect.unit (s := S256x2048) ![0, 1024] S256x1024.size inb_S256x2048_S256x1024_0_1024)
/-- The left (right) half of the projections. -/
abbrev projL (t : Fin cfg0.N) : FVec Ideal S1024x512 .bf16 :=
  View.ld (iblk m c 7 t) (Rect.unit (s := S1024x1024) ![0, 0] S1024x512.size inb_S1024x1024_S1024x512_0_0)
abbrev projR (t : Fin cfg0.N) : FVec Ideal S1024x512 .bf16 :=
  View.ld (iblk m c 7 t) (Rect.unit (s := S1024x1024) ![0, 512] S1024x512.size inb_S1024x1024_S1024x512_0_512)

theorem gatesL_apply (t : Fin cfg0.N) (a : Fin 256) (j : Fin 1024) : gatesL m c t (ix2 a j) = aGa m c (ix2 (row (tile t) a) j) := by
  have h := iblk_gates m c t a ⟨j.val, by omega⟩
  rw [dif_pos j.isLt] at h
  refine Eq.trans ?_ h
  unfold gatesL
  pointwise

theorem gatesR_apply (t : Fin cfg0.N) (a : Fin 256) (j : Fin 1024) : gatesR m c t (ix2 a j) = aGb m c (ix2 (row (tile t) a) j) := by
  have h := iblk_gates m c t a ⟨1024 + j.val, by omega⟩
  rw [dif_neg (by simp)] at h
  simp only [Nat.add_sub_cancel_left] at h
  refine Eq.trans ?_ h
  unfold gatesR
  pointwise

theorem projL_apply (t : Fin cfg0.N) (k : Fin 1024) (j : Fin 512) : projL m c t (ix2 k j) = aWa m c (ix2 j k) := by
  have h := iblk_proj m c t k ⟨j.val, by omega⟩
  rw [dif_pos j.isLt] at h
  refine Eq.trans ?_ h
  unfold projL
  pointwise

theorem projR_apply (t : Fin cfg0.N) (k : Fin 1024) (j : Fin 512) : projR m c t (ix2 k j) = aWb m c (ix2 j k) := by
  have h := iblk_proj m c t k ⟨512 + j.val, by omega⟩
  rw [dif_neg (by simp)] at h
  simp only [Nat.add_sub_cancel_left] at h
  refine Eq.trans ?_ h
  unfold projR
  pointwise

theorem pay5_apply (t : Fin cfg0.N) (a : Fin 256) (j : Fin 1024) :
    k0_pay5 (F := Ideal) (iblk m c 0 t) (iblk m c 8 t) (ix2 a j) = dMerged (aWo m c) (aD m c) (row (tile t) a) j := by
  unfold dMerged
  pointwise [k0_pay5, k0_pay4]
  exact Finset.sum_congr rfl fun k _ => congrArg₂ (· * ·) (iblk_d m c t a k) (iblk_wout m c t j k)

theorem pay8_apply (t : Fin cfg0.N) (a : Fin 256) (j : Fin 1024) :
    k0_pay8 (F := Ideal) (iblk m c 0 t) (iblk m c 8 t) (gatesL m c t) (ix2 a j) =
      gated (aGa m c) (aWo m c) (aD m c) (row (tile t) a) j := by
  unfold gated
  rw [← pay5_apply m c, ← gatesL_apply m c]
  generalize gatesL m c t = g
  pointwise [k0_pay8, k0_pay6]

theorem pay9_apply (t : Fin cfg0.N) (a : Fin 256) (j : Fin 1024) :
    k0_pay9 (F := Ideal) (iblk m c 0 t) (iblk m c 8 t) (gatesR m c t) (ix2 a j) =
      gated (aGb m c) (aWo m c) (aD m c) (row (tile t) a) j := by
  unfold gated
  rw [← pay5_apply m c, ← gatesR_apply m c]
  generalize gatesR m c t = g
  pointwise [k0_pay9, k0_pay7]

theorem pay10_apply (t : Fin cfg0.N) (a : Fin 256) (j : Fin 1024) :
    k0_pay10 (F := Ideal) (iblk m c 0 t) (iblk m c 8 t) (gatesL m c t) (iblk m c 2 t) (ix2 a j) =
      gradGate (aOa m c) (aGa m c) (aWa m c) (aWo m c) (aD m c) (row (tile t) a) j := by
  unfold gradGate
  rw [← pay5_apply m c, ← gatesL_apply m c, ← iblk_ya m c]
  generalize gatesL m c t = g
  pointwise [k0_pay10, k0_pay6]

theorem pay11_apply (t : Fin cfg0.N) (a : Fin 256) (j : Fin 1024) :
    k0_pay11 (F := Ideal) (iblk m c 0 t) (iblk m c 8 t) (gatesR m c t) (iblk m c 3 t) (ix2 a j) =
      gradGate (aOb m c) (aGb m c) (aWb m c) (aWo m c) (aD m c) (row (tile t) a) j := by
  unfold gradGate
  rw [← pay5_apply m c, ← gatesR_apply m c, ← iblk_yb m c]
  generalize gatesR m c t = g
  pointwise [k0_pay11, k0_pay7]

theorem pay12_apply (t : Fin cfg0.N) (a : Fin 256) (j : Fin 512) :
    k0_pay12 (F := Ideal) (k0_pay8 (iblk m c 0 t) (iblk m c 8 t) (gatesL m c t)) (projL m c t) (ix2 a j) =
      gradBranch (aGa m c) (aWa m c) (aWo m c) (aD m c) (row (tile t) a) j := by
  unfold gradBranch
  simp only [← pay8_apply m c, ← projL_apply m c t]
  generalize k0_pay8 (F := Ideal) (iblk m c 0 t) (iblk m c 8 t) (gatesL m c t) = g
  generalize projL m c t = p
  pointwise [k0_pay12]

theorem pay13_apply (t : Fin cfg0.N) (a : Fin 256) (j : Fin 512) :
    k0_pay13 (F := Ideal) (k0_pay9 (iblk m c 0 t) (iblk m c 8 t) (gatesR m c t)) (projR m c t) (ix2 a j) =
      gradBranch (aGb m c) (aWb m c) (aWo m c) (aD m c) (row (tile t) a) j := by
  unfold gradBranch
  simp only [← pay9_apply m c, ← projR_apply m c t]
  generalize k0_pay9 (F := Ideal) (iblk m c 0 t) (iblk m c 8 t) (gatesR m c t) = g
  generalize projR m c t = p
  pointwise [k0_pay13]

/-- What a point adds to the accumulator of `w_out`'s gradient. -/
theorem pay16_apply (t : Fin cfg0.N) (X : FVec Ideal S1024x1024 .f32) (i j : Fin 1024) :
    k0_pay16 (F := Ideal) (k0_pay4 (iblk m c 0 t)) X (iblk m c 4 t) (ix2 i j) = X (ix2 i j) +
      tileSum (fun r => merged (aOa m c) (aOb m c) (aGa m c) (aGb m c) (aWa m c) (aWb m c) r i * aD m c (ix2 r j)) t.val := by
  rw [tileSum_of_lt _ (tile t).isLt]
  pointwise [k0_pay16, k0_pay4]
  exact congrArg (X (ix2 i j) + ·) (Finset.sum_congr rfl fun a _ => congrArg₂ (· * ·) (iblk_merged m c t a i) (iblk_d m c t a j))

/-- What a point adds to the left half of the accumulator of the projections' gradients. -/
theorem pay17_apply (t : Fin cfg0.N) (X : FVec Ideal S1024x512 .f32) (i : Fin 1024) (j : Fin 512) :
    k0_pay17 (F := Ideal) (k0_pay8 (iblk m c 0 t) (iblk m c 8 t) (gatesL m c t)) X (iblk m c 5 t) (ix2 i j) = X (ix2 i j) +
      tileSum (fun r => gated (aGa m c) (aWo m c) (aD m c) r i * aOa m c (ix2 r j)) t.val := by
  rw [tileSum_of_lt _ (tile t).isLt]
  have h : ∀ a : Fin 256, _ := fun a => pay8_apply m c t a i
  generalize k0_pay8 (F := Ideal) (iblk m c 0 t) (iblk m c 8 t) (gatesL m c t) = g at h ⊢
  pointwise [k0_pay17]
  exact congrArg (X (ix2 i j) + ·) (Finset.sum_congr rfl fun a _ => congrArg₂ (· * ·) (h a) (iblk_oa m c t a j))

/-- What a point adds to its right half. -/
theorem pay1_apply (t : Fin cfg0.N) (X : FVec Ideal S1024x512 .f32) (i : Fin 1024) (j : Fin 512) :
    k0_pay1 (F := Ideal) (k0_pay9 (iblk m c 0 t) (iblk m c 8 t) (gatesR m c t)) X (iblk m c 6 t) (ix2 i j) = X (ix2 i j) +
      tileSum (fun r => gated (aGb m c) (aWo m c) (aD m c) r i * aOb m c (ix2 r j)) t.val := by
  rw [tileSum_of_lt _ (tile t).isLt]
  have h : ∀ a : Fin 256, _ := fun a => pay9_apply m c t a i
  generalize k0_pay9 (F := Ideal) (iblk m c 0 t) (iblk m c 8 t) (gatesR m c t) = g at h ⊢
  pointwise [k0_pay1]
  exact congrArg (X (ix2 i j) + ·) (Finset.sum_congr rfl fun a _ => congrArg₂ (· * ·) (h a) (iblk_ob m c t a j))

end Cert.Mix

end
-- ==== Proof.Outputs.lean ====
/- What the launch leaves in its five result arrays. Each point's contents are read from the generated case equations: the three
   row gradients at every point; the two accumulators as what they held before plus the point's tile; at the last point the
   weight gradients, which are the accumulators' sums over all sixteen tiles, hence over all rows. -/
module

public import proofs.«01_k».proof.Proof.Points

@[expose] public section

set_option maxRecDepth 16384

noncomputable section

open Idealize.ShloMosaic Idealize.ShloMosaic.TcCoe Idealize.SL.Sem

namespace Cert.Mix

open Cert.KernelIdeal Cert.KernelIdeal.Gen

variable (m : (ℓ : Loc nD τ sig) → Buf (Elt Ideal) ℓ) (c : Dev nD)

/-! ### Contents written as two halves -/

/-- Contents written as a left and a right half of the columns (the left first), over whatever was there: an element is its
    half's. -/
theorem canon_halves {R w W : Nat} {e : EltTy} (hW : W = w + w)
    (inbR : ∀ a, (![0, w] : Fin 2 → Nat) a + (⟨2, ![R, w]⟩ : Shape).size a ≤ (⟨2, ![R, W]⟩ : Shape).size a)
    (inbL : ∀ a, (![0, 0] : Fin 2 → Nat) a + (⟨2, ![R, w]⟩ : Shape).size a ≤ (⟨2, ![R, W]⟩ : Shape).size a)
    (p q : (⟨2, ![R, w]⟩ : Shape).Idx → Elt Ideal e) (rest : List (View.Piece (Elt Ideal) (⟨2, ![R, W]⟩ : Shape) e)) (i : Fin R) (j : Fin W) :
    View.canon (⟨Rect.unit (s := ⟨2, ![R, W]⟩) ![0, w] (⟨2, ![R, w]⟩ : Shape).size inbR, p⟩ ::
      ⟨Rect.unit (s := ⟨2, ![R, W]⟩) ![0, 0] (⟨2, ![R, w]⟩ : Shape).size inbL, q⟩ :: rest) (ix2 i j) =
      if h : j.val < w then q (ix2 i ⟨j.val, h⟩) else p (ix2 i ⟨j.val - w, by omega⟩) := by
  split
  · rename_i h
    rw [View.canon_cons_of_not_mem]
    · have e : ix2 i j = (Rect.unit (s := ⟨2, ![R, W]⟩) ![0, 0] (⟨2, ![R, w]⟩ : Shape).size inbL).emb (ix2 i ⟨j.val, h⟩) := by
        funext x
        refine Fin.ext ?_
        rw [Rect.emb_apply]
        match x with
        | ⟨0, _⟩ => show i.val = 0 + 1 * i.val; omega
        | ⟨1, _⟩ => show j.val = 0 + 1 * j.val; omega
      rw [e, View.canon_cons_emb]
    · rw [Rect.mem_set_unit]
      intro hm
      have := (hm 1).1
      change w ≤ j.val at this
      omega
  · rename_i h
    have e : ix2 i j = (Rect.unit (s := ⟨2, ![R, W]⟩) ![0, w] (⟨2, ![R, w]⟩ : Shape).size inbR).emb (ix2 i ⟨j.val - w, by omega⟩) := by
      funext x
      refine Fin.ext ?_
      rw [Rect.emb_apply]
      match x with
      | ⟨0, _⟩ => show i.val = 0 + 1 * i.val; omega
      | ⟨1, _⟩ => show j.val = w + 1 * (j.val - w); omega
    rw [e, View.canon_cons_emb]

/-! ### The row gradients, at every point -/

set_option maxHeartbeats 1000000 in
theorem out_doa (t : Fin cfg0.N) : (outsAt0 m c t.val t.isLt).1 =
    k0_pay12 (k0_pay8 (iblk m c 0 t) (iblk m c 8 t) (gatesL m c t)) (projL m c t) := by
  by_cases h0 : t.val % 16 = 0
  · rw [outsAt0_A m c t h0 (by omega)]; frame_out; rfl
  · by_cases h1 : t.val % 16 = 15
    · rw [outsAt0_C m c t h0 h1]; frame_out; rfl
    · rw [outsAt0_B m c t h0 h1]; frame_out; rfl

set_option maxHeartbeats 1000000 in
theorem out_dob (t : Fin cfg0.N) : (outsAt0 m c t.val t.isLt).2.1 =
    k0_pay13 (k0_pay9 (iblk m c 0 t) (iblk m c 8 t) (gatesR m c t)) (projR m c t) := by
  by_cases h0 : t.val % 16 = 0
  · rw [outsAt0_A m c t h0 (by omega)]; frame_out; rfl
  · by_cases h1 : t.val % 16 = 15
    · rw [outsAt0_C m c t h0 h1]; frame_out; rfl
    · rw [outsAt0_B m c t h0 h1]; frame_out; rfl

/-- The gates' gradient in a tile: the left half the first gate's, the right half the second's. -/
def gatePieces (t : Fin cfg0.N) : List (View.Piece (Elt Ideal) S256x2048 .bf16) :=
  [⟨Rect.unit (s := S256x2048) ![0, 1024] S256x1024.size inb_S256x2048_S256x1024_0_1024,
      k0_pay11 (iblk m c 0 t) (iblk m c 8 t) (gatesR m c t) (iblk m c 3 t)⟩,
   ⟨Rect.unit (s := S256x2048) ![0, 0] S256x1024.size inb_S256x2048_S256x1024_0_0,
      k0_pay10 (iblk m c 0 t) (iblk m c 8 t) (gatesL m c t) (iblk m c 2 t)⟩]

set_option maxHeartbeats 1000000 in
theorem out_dgt (t : Fin cfg0.N) : (outsAt0 m c t.val t.isLt).2.2.1 = View.canon (gatePieces m c t) := by
  by_cases h0 : t.val % 16 = 0
  · rw [outsAt0_A m c t h0 (by omega)]; frame_out; rfl
  · by_cases h1 : t.val % 16 = 15
    · rw [outsAt0_C m c t h0 h1]; frame_out; rfl
    · rw [outsAt0_B m c t h0 h1]; frame_out; rfl

/-- What the gates' gradient holds in a tile. -/
theorem gatePieces_apply (t : Fin cfg0.N) (a : Fin 256) (j : Fin 2048) : (View.canon (gatePieces m c t) : Arr 256 2048) (ix2 a j) =
    if h : j.val < 1024 then gradGate (aOa m c) (aGa m c) (aWa m c) (aWo m c) (aD m c) (row (tile t) a) ⟨j.val, h⟩
    else gradGate (aOb m c) (aGb m c) (aWb m c) (aWo m c) (aD m c) (row (tile t) a) ⟨j.val - 1024, by omega⟩ := by
  refine (canon_halves (R := 256) (w := 1024) (W := 2048) rfl _ _ _ _ [] a j).trans ?_
  split
  · exact pay10_apply m c t a _
  · exact pay11_apply m c t a _

/-! ### The accumulators -/

set_option maxHeartbeats 1000000 in
theorem accO_first (t : Fin cfg0.N) (h0 : t.val % 16 = 0) : (outsAt0 m c t.val t.isLt).2.2.2.2.2.1 =
    k0_pay16 (F := Ideal) (k0_pay4 (iblk m c 0 t)) (k0_pay14 (F := Ideal)) (iblk m c 4 t) := by
  rw [outsAt0_A m c t h0 (by omega)]; frame_out

set_option maxHeartbeats 1000000 in
theorem accO_step (n : Nat) (hn : n + 1 < cfg0.N) (h0 : ¬(n + 1) % 16 = 0) : (outsAt0 m c (n + 1) hn).2.2.2.2.2.1 =
    k0_pay16 (k0_pay4 (iblk m c 0 ⟨n + 1, hn⟩)) (outsAt0 m c n (by omega)).2.2.2.2.2.1 (iblk m c 4 ⟨n + 1, hn⟩) := by
  by_cases h1 : (n + 1) % 16 = 15
  · refine (congrArg (·.2.2.2.2.2.1) (outsAt0_C m c ⟨n + 1, hn⟩ h0 h1)).trans ?_; frame_out
    simp only [read_unread_whole]; rfl
  · refine (congrArg (·.2.2.2.2.2.1) (outsAt0_B m c ⟨n + 1, hn⟩ h0 h1)).trans ?_; frame_out
    simp only [read_unread_whole]; rfl

/-- The two halves a point writes into the accumulator of the projections' gradients, over its contents `X`. -/
def accPieces (t : Fin cfg0.N) (X : FVec Ideal S1024x1024 .f32) (rest : List (View.Piece (Elt Ideal) S1024x1024 .f32)) :
    List (View.Piece (Elt Ideal) S1024x1024 .f32) :=
  ⟨Rect.unit (s := S1024x1024) ![0, 512] S1024x512.size inb_S1024x1024_S1024x512_0_512,
      k0_pay1 (k0_pay9 (iblk m c 0 t) (iblk m c 8 t) (gatesR m c t))
        (View.ld (Val := Elt Ideal) (e' := .f32) X (Rect.unit (s := S1024x1024) ![0, 512] S1024x512.size inb_S1024x1024_S1024x512_0_512)) (iblk m c 6 t)⟩ ::
   ⟨Rect.unit (s := S1024x1024) ![0, 0] S1024x512.size inb_S1024x1024_S1024x512_0_0,
      k0_pay17 (k0_pay8 (iblk m c 0 t) (iblk m c 8 t) (gatesL m c t))
        (View.ld (Val := Elt Ideal) (e' := .f32) X (Rect.unit (s := S1024x1024) ![0, 0] S1024x512.size inb_S1024x1024_S1024x512_0_0)) (iblk m c 5 t)⟩ :: rest

/-- The terms over the rows whose sum is element (i, j) of the projections' gradients, side by side. -/
def projTerm (i j : Fin 1024) (r : Fin 4096) : EReal :=
  if h : j.val < 512 then gated (aGa m c) (aWo m c) (aD m c) r i * aOa m c (ix2 r ⟨j.val, h⟩)
  else gated (aGb m c) (aWo m c) (aD m c) r i * aOb m c (ix2 r ⟨j.val - 512, by omega⟩)

/-- A point adds its tile's terms. -/
theorem accPieces_apply (t : Fin cfg0.N) (X : FVec Ideal S1024x1024 .f32) (rest) (i j : Fin 1024) :
    (View.canon (accPieces m c t X rest) : Arr 1024 1024) (ix2 i j) = X (ix2 i j) + tileSum (projTerm m c i j) t.val := by
  refine (canon_halves (R := 1024) (w := 512) (W := 1024) rfl _ _ _ _ rest i j).trans ?_
  split
  · rename_i h
    refine (pay17_apply m c t _ i ⟨j.val, h⟩).trans (congrArg₂ (· + ·) ?_ (congrArg (tileSum · t.val) ?_))
    · pointwise
    · funext r; simp only [projTerm, dif_pos h]
  · rename_i h
    refine (pay1_apply m c t _ i ⟨j.val - 512, by omega⟩).trans (congrArg₂ (· + ·) ?_ (congrArg (tileSum · t.val) ?_))
    · pointwise
      refine congrArg X (congrArg (ix2 i) (Fin.ext ?_))
      show 512 + (j.val - 512) = j.val
      omega
    · funext r; simp only [projTerm, dif_neg h]

set_option maxHeartbeats 1000000 in
theorem accP_first (t : Fin cfg0.N) (h0 : t.val % 16 = 0) : ∃ rest, (outsAt0 m c t.val t.isLt).2.2.2.2.2.2 =
    View.canon (accPieces m c t (k0_pay15 (F := Ideal)) rest) := by
  refine ⟨[⟨Rect.unit (s := S1024x1024) ![0, 0] S1024x1024.size inb_S1024x1024_S1024x1024_0_0, k0_pay15 (F := Ideal)⟩], ?_⟩
  · rw [outsAt0_A m c t h0 (by omega)]; frame_out
    simp (disch := decide) only [↓ View.readCov_skip, ↓ View.readCov_cons_toLoadRect, ↓ View.readCov_fill]
    rfl

set_option maxHeartbeats 1000000 in
theorem accP_step (n : Nat) (hn : n + 1 < cfg0.N) (h0 : ¬(n + 1) % 16 = 0) : (outsAt0 m c (n + 1) hn).2.2.2.2.2.2 =
    View.canon (accPieces m c ⟨n + 1, hn⟩ (outsAt0 m c n (by omega)).2.2.2.2.2.2 []) := by
  by_cases h1 : (n + 1) % 16 = 15
  · refine (congrArg (·.2.2.2.2.2.2) (outsAt0_C m c ⟨n + 1, hn⟩ h0 h1)).trans ?_; frame_out
    simp only [read_unread_whole]; rfl
  · refine (congrArg (·.2.2.2.2.2.2) (outsAt0_B m c ⟨n + 1, hn⟩ h0 h1)).trans ?_; frame_out
    simp only [read_unread_whole]; rfl

/-- After point `n` the accumulator of `w_out`'s gradient holds the tiles up to `n`. -/
theorem accO_apply (n : Nat) (hn : n < cfg0.N) (i j : Fin 1024) : ((outsAt0 m c n hn).2.2.2.2.2.1 : Arr 1024 1024) (ix2 i j) =
    ∑ s ∈ Finset.range (n + 1),
      tileSum (fun r => merged (aOa m c) (aOb m c) (aGa m c) (aGb m c) (aWa m c) (aWb m c) r i * aD m c (ix2 r j)) s := by
  have hN : cfg0.N = 16 := N_0
  induction n with
  | zero =>
    rw [accO_first m c ⟨0, hn⟩ rfl, pay16_apply, Finset.sum_range_one]
    refine (congrArg (· + _) ?_).trans (zero_add _)
    pointwise [k0_pay14]
  | succ n ih =>
    rw [accO_step m c n hn (by omega), pay16_apply, ih, Finset.sum_range_succ _ (n + 1)]

/-- After point `n` the accumulator of the projections' gradients holds the tiles up to `n`. -/
theorem accP_apply (n : Nat) (hn : n < cfg0.N) (i j : Fin 1024) : ((outsAt0 m c n hn).2.2.2.2.2.2 : Arr 1024 1024) (ix2 i j) =
    ∑ s ∈ Finset.range (n + 1), tileSum (projTerm m c i j) s := by
  have hN : cfg0.N = 16 := N_0
  induction n with
  | zero =>
    obtain ⟨rest, h⟩ := accP_first m c ⟨0, hn⟩ rfl
    rw [h, accPieces_apply, Finset.sum_range_one]
    refine (congrArg (· + _) ?_).trans (zero_add _)
    pointwise [k0_pay15]
  | succ n ih =>
    rw [accP_step m c n hn (by omega), accPieces_apply, ih, Finset.sum_range_succ _ (n + 1)]

set_option maxHeartbeats 1000000 in
theorem out_gwo (t : Fin cfg0.N) (h1 : t.val % 16 = 15) : (outsAt0 m c t.val t.isLt).2.2.2.1 =
    k0_pay2 (outsAt0 m c t.val t.isLt).2.2.2.2.2.1 := by
  rw [outsAt0_C m c t (by omega) h1]; frame_out

set_option maxHeartbeats 1000000 in
theorem out_gwp (t : Fin cfg0.N) (h1 : t.val % 16 = 15) : (outsAt0 m c t.val t.isLt).2.2.2.2.1 =
    k0_pay3 (outsAt0 m c t.val t.isLt).2.2.2.2.2.2 := by
  rw [outsAt0_C m c t (by omega) h1]; frame_out
  rw [View.readCov_eq_canon']
  refine congrArg k0_pay3 (funext fun x => congrArg _ (funext fun a => Fin.ext ?_))
  match a with
  | ⟨0, _⟩ => show 0 + 1 * (x 0).val = (x 0).val; omega
  | ⟨1, _⟩ => show 0 + 1 * (x 1).val = (x 1).val; omega

end Cert.Mix

end
-- ==== Proof.Reference.lean ====
/- What the reference's five results are: the formulas of the module `Gradient`. -/
module

public import proofs.«01_k».proof.Proof.Gen.ReferenceIdeal.Read
public import proofs.«01_k».proof.Proof.Gradient

@[expose] public section

set_option maxRecDepth 16384

noncomputable section

open Idealize.ShloMosaic Idealize.ShloMosaic.TcCoe Idealize.SL.Sem

namespace Cert.Mix.Ref

open Cert.ReferenceIdeal Cert.ReferenceIdeal.Read

variable (oa ob : Arr 4096 512) (ga gb : Arr 4096 1024) (wa wb : Arr 512 1024) (wo : Arr 1024 1024) (d : Arr 4096 1024)

/-- The reference's sigmoid of the first gate. -/
theorem v7_apply (r : Fin 4096) (j : Fin 1024) : val_main_v7 (F := Ideal) ga (ix2 r j) = Ideal.logistic (ga (ix2 r j)) := by
  pointwise [val_main_v7, val_main_v6, val_main_cst_0, val_main_v5, val_main_v4, val_main_cst, val_main_v3, val_main_v2]
  rfl

theorem v17_apply (r : Fin 4096) (j : Fin 1024) : val_main_v17 (F := Ideal) gb (ix2 r j) = Ideal.logistic (gb (ix2 r j)) := by
  pointwise [val_main_v17, val_main_v16, val_main_v15, val_main_v14, val_main_v13, val_main_v12, val_main_cst_2, val_main_cst_3]
  rfl

theorem v26_apply (r : Fin 4096) (j : Fin 1024) : val_main_v26 (F := Ideal) wo d (ix2 r j) = dMerged wo d r j := by
  unfold dMerged
  pointwise [val_main_v26]

theorem v30_apply (r : Fin 4096) (j : Fin 1024) : val_main_v30 (F := Ideal) ga wo d (ix2 r j) = gated ga wo d r j := by
  unfold gated
  rw [← v26_apply, ← v7_apply]
  exact mul_comm _ _

theorem v27_apply (r : Fin 4096) (j : Fin 1024) : val_main_v27 (F := Ideal) gb wo d (ix2 r j) = gated gb wo d r j := by
  unfold gated
  rw [← v26_apply, ← v17_apply]
  exact mul_comm _ _

theorem v0_apply (r : Fin 4096) (j : Fin 1024) : val_main_v0 (F := Ideal) oa wa (ix2 r j) = branch oa wa r j := by
  unfold branch
  pointwise [val_main_v0]

theorem v1_apply (r : Fin 4096) (j : Fin 1024) : val_main_v1 (F := Ideal) ob wb (ix2 r j) = branch ob wb r j := by
  unfold branch
  pointwise [val_main_v1]

theorem v22_apply (r : Fin 4096) (j : Fin 1024) : val_main_v22 (F := Ideal) oa ob ga gb wa wb (ix2 r j) = merged oa ob ga gb wa wb r j := by
  unfold merged
  rw [← v7_apply ga, ← v17_apply gb, ← v0_apply, ← v1_apply]
  rfl

/-- The gradient of the first branch's input. -/
theorem doa_apply (r : Fin 4096) (j : Fin 512) : (val_main_v43 (F := Ideal) ga wa wo d : Arr 4096 512) (ix2 r j) = gradBranch ga wa wo d r j := by
  unfold gradBranch
  simp only [← v30_apply]
  refine (show _ = val_main_v38 (F := Ideal) ga wa wo d (ix2 r j) from rfl).trans ?_
  unfold val_main_v38
  generalize val_main_v30 (F := Ideal) ga wo d = y
  pointwise

/-- The gradient of the second branch's input. -/
theorem dob_apply (r : Fin 4096) (j : Fin 512) : (val_main_v44 (F := Ideal) gb wb wo d : Arr 4096 512) (ix2 r j) = gradBranch gb wb wo d r j := by
  unfold gradBranch
  simp only [← v27_apply]
  refine (show _ = val_main_v35 (F := Ideal) gb wb wo d (ix2 r j) from rfl).trans ?_
  unfold val_main_v35
  generalize val_main_v27 (F := Ideal) gb wo d = y
  pointwise

theorem v32_apply (r : Fin 4096) (j : Fin 1024) : val_main_v32 (F := Ideal) oa ga wa wo d (ix2 r j) = gradGate oa ga wa wo d r j := by
  unfold gradGate
  rw [← v26_apply, ← v0_apply, ← v7_apply]
  have h : val_main_v9 (F := Ideal) ga (ix2 r j) = 1 - val_main_v7 (F := Ideal) ga (ix2 r j) := by
    generalize hy : val_main_v7 (F := Ideal) ga = y
    unfold val_main_v9
    rw [hy]
    pointwise [val_main_v8, val_main_cst_1]
  rw [← h]
  rfl

theorem v29_apply (r : Fin 4096) (j : Fin 1024) : val_main_v29 (F := Ideal) ob gb wb wo d (ix2 r j) = gradGate ob gb wb wo d r j := by
  unfold gradGate
  rw [← v26_apply, ← v1_apply, ← v17_apply]
  have h : val_main_v19 (F := Ideal) gb (ix2 r j) = 1 - val_main_v17 (F := Ideal) gb (ix2 r j) := by
    generalize hy : val_main_v17 (F := Ideal) gb = y
    unfold val_main_v19
    rw [hy]
    pointwise [val_main_v18, val_main_cst_4]
  rw [← h]
  rfl

/-- The gates' gradients, side by side. -/
theorem dgt_apply (r : Fin 4096) (j : Fin 2048) : (val_main_v45 (F := Ideal) oa ob ga gb wa wb wo d : Arr 4096 2048) (ix2 r j) =
    if h : j.val < 1024 then gradGate oa ga wa wo d r ⟨j.val, h⟩ else gradGate ob gb wb wo d r ⟨j.val - 1024, by omega⟩ := by
  simp only [← v32_apply oa ga wa, ← v29_apply ob gb wb]
  refine (show _ = val_main_v39 (F := Ideal) oa ob ga gb wa wb wo d (ix2 r j) from rfl).trans ?_
  unfold val_main_v39
  generalize val_main_v32 (F := Ideal) oa ga wa wo d = y
  generalize val_main_v29 (F := Ideal) ob gb wb wo d = z
  pointwise

/-- The gradient of `w_out`. -/
theorem gwo_apply (i j : Fin 1024) : (val_main_v46 (F := Ideal) oa ob ga gb wa wb d : Arr 1024 1024) (ix2 i j) =
    gradOut oa ob ga gb wa wb d i j := by
  unfold gradOut
  simp only [← v22_apply]
  refine (show _ = val_main_v25 (F := Ideal) oa ob ga gb wa wb d (ix2 i j) from rfl).trans ?_
  unfold val_main_v25 val_main_v24
  generalize val_main_v22 (F := Ideal) oa ob ga gb wa wb = y
  pointwise
  exact Finset.sum_congr rfl fun k _ => mul_comm _ _

/-- The transposed gradients of the projections, side by side. -/
theorem gwp_apply (i j : Fin 1024) : (val_main_v47 (F := Ideal) oa ob ga gb wo d : Arr 1024 1024) (ix2 i j) =
    if h : j.val < 512 then gradProj oa ga wo d i ⟨j.val, h⟩ else gradProj ob gb wo d i ⟨j.val - 512, by omega⟩ := by
  unfold gradProj
  simp only [← v30_apply ga, ← v27_apply gb]
  refine (show _ = val_main_v42 (F := Ideal) oa ob ga gb wo d (ix2 i j) from rfl).trans ?_
  unfold val_main_v42 val_main_v41 val_main_v40 val_main_v37 val_main_v36 val_main_v34 val_main_v33
  generalize val_main_v30 (F := Ideal) ga wo d = y
  generalize val_main_v27 (F := Ideal) gb wo d = z
  pointwise

end Cert.Mix.Ref

end
-- ==== Proof.Results.lean ====
/- The launch's five result arrays, at an index, are the formulas of the module `Gradient`; hence they are the reference's results. -/
module

public import proofs.«01_k».proof.Proof.Gen.KernelIdeal.Value
public import proofs.«01_k».proof.Proof.Outputs
public import proofs.«01_k».proof.Proof.Reference

@[expose] public section

set_option maxRecDepth 16384

noncomputable section

open Idealize.ShloMosaic Idealize.ShloMosaic.TcCoe Idealize.SL.Sem

namespace Cert.Mix

open Cert.KernelIdeal Cert.KernelIdeal.Gen Cert.KernelIdeal.Value

variable (m : (ℓ : Loc nD τ sig) → Buf (Elt Ideal) ℓ) (c : Dev nD)

/-- Row `r` lies in tile `r / 256`. -/
abbrev tileOf (r : Fin 4096) : Fin cfg0.N := ⟨r.val / 256, lt_of_lt_of_eq (by omega) N_0.symm⟩

theorem row_tileOf (r : Fin 4096) : row (tile (tileOf r)) ⟨r.val % 256, Nat.mod_lt _ (by decide)⟩ = r := Fin.ext (by
  show 256 * (r.val / 256) + r.val % 256 = r.val
  omega)

theorem G9_apply (r : Fin 4096) (j : Fin 512) : (G9 m c : Arr 4096 512) (ix2 r j) =
    gradBranch (aGa m c) (aWa m c) (aWo m c) (aD m c) r j := by
  have hp : pt9Of (ix2 r j) = (tileOf r).val := by
    show 1 * (r.val / 256 - 0) + 1 * (j.val / 512 - 0) = r.val / 256
    omega
  have hl : loc9Of (ix2 r j) = ix2 ⟨r.val % 256, Nat.mod_lt _ (by decide)⟩ j := by
    funext x
    match x with
    | ⟨0, _⟩ => rfl
    | ⟨1, _⟩ => exact Fin.ext (show j.val % 512 = j.val by omega)
  unfold G9
  rw [dif_pos (hp ▸ (tileOf r).isLt), ← outsAt0_sweep m c _ (hp ▸ (tileOf r).isLt), hl]
  simp only [hp]
  rw [out_doa m c (tileOf r), pay12_apply, row_tileOf]

theorem G10_apply (r : Fin 4096) (j : Fin 512) : (G10 m c : Arr 4096 512) (ix2 r j) =
    gradBranch (aGb m c) (aWb m c) (aWo m c) (aD m c) r j := by
  have hp : pt10Of (ix2 r j) = (tileOf r).val := by
    show 1 * (r.val / 256 - 0) + 1 * (j.val / 512 - 0) = r.val / 256
    omega
  have hl : loc10Of (ix2 r j) = ix2 ⟨r.val % 256, Nat.mod_lt _ (by decide)⟩ j := by
    funext x
    match x with
    | ⟨0, _⟩ => rfl
    | ⟨1, _⟩ => exact Fin.ext (show j.val % 512 = j.val by omega)
  unfold G10
  rw [dif_pos (hp ▸ (tileOf r).isLt), ← outsAt0_sweep m c _ (hp ▸ (tileOf r).isLt), hl]
  simp only [hp]
  rw [out_dob m c (tileOf r), pay13_apply, row_tileOf]

theorem G11_apply (r : Fin 4096) (j : Fin 2048) : (G11 m c : Arr 4096 2048) (ix2 r j) =
    if h : j.val < 1024 then gradGate (aOa m c) (aGa m c) (aWa m c) (aWo m c) (aD m c) r ⟨j.val, h⟩
    else gradGate (aOb m c) (aGb m c) (aWb m c) (aWo m c) (aD m c) r ⟨j.val - 1024, by omega⟩ := by
  have hp : pt11Of (ix2 r j) = (tileOf r).val := by
    show 1 * (r.val / 256 - 0) + 1 * (j.val / 2048 - 0) = r.val / 256
    omega
  have hl : loc11Of (ix2 r j) = ix2 ⟨r.val % 256, Nat.mod_lt _ (by decide)⟩ j := by
    funext x
    match x with
    | ⟨0, _⟩ => rfl
    | ⟨1, _⟩ => exact Fin.ext (show j.val % 2048 = j.val by omega)
  unfold G11
  rw [dif_pos (hp ▸ (tileOf r).isLt), ← outsAt0_sweep m c _ (hp ▸ (tileOf r).isLt), hl]
  simp only [hp]
  rw [out_dgt m c (tileOf r), gatePieces_apply, row_tileOf]

/-- The last grid point. -/
abbrev lastPt : Fin cfg0.N := ⟨15, lt_of_lt_of_eq (by decide) N_0.symm⟩

theorem G12_apply (i j : Fin 1024) : (G12 m c : Arr 1024 1024) (ix2 i j) =
    gradOut (aOa m c) (aOb m c) (aGa m c) (aGb m c) (aWa m c) (aWb m c) (aD m c) i j := by
  rw [G12_last, ← outsAt0_sweep m c _ lastPt.isLt, out_gwo m c lastPt rfl]
  unfold gradOut
  rw [← sum_tileSum]
  exact accO_apply m c 15 _ i j

theorem sum_projTerm (i j : Fin 1024) : ∑ r : Fin 4096, projTerm m c i j r =
    if h : j.val < 512 then gradProj (aOa m c) (aGa m c) (aWo m c) (aD m c) i ⟨j.val, h⟩
    else gradProj (aOb m c) (aGb m c) (aWo m c) (aD m c) i ⟨j.val - 512, by omega⟩ := by
  unfold projTerm gradProj
  split <;> rfl

theorem G13_apply (i j : Fin 1024) : (G13 m c : Arr 1024 1024) (ix2 i j) =
    if h : j.val < 512 then gradProj (aOa m c) (aGa m c) (aWo m c) (aD m c) i ⟨j.val, h⟩
    else gradProj (aOb m c) (aGb m c) (aWo m c) (aD m c) i ⟨j.val - 512, by omega⟩ := by
  rw [G13_last, ← outsAt0_sweep m c _ lastPt.isLt, out_gwp m c lastPt rfl, ← sum_projTerm, ← sum_tileSum]
  exact accP_apply m c 15 _ i j

/-! ### The kernel's results are the reference's -/

open Cert.ReferenceIdeal.Read

/-- Two arrays of two axes are equal when they agree at every pair of coordinates. -/
theorem ext_ix2 {a b : Nat} (f g : Arr a b) (h : ∀ i j, f (ix2 i j) = g (ix2 i j)) : f = g := by
  funext i
  have e : i = ix2 (i 0) (i 1) := by
    funext x
    match x with
    | ⟨0, _⟩ => rfl
    | ⟨1, _⟩ => rfl
  rw [e]
  exact h _ _

theorem doa_eq : (G9 m c : Arr 4096 512) = val_main_v43 (F := Ideal) (aGa m c) (aWa m c) (aWo m c) (aD m c) :=
  ext_ix2 _ _ fun r j => (G9_apply m c r j).trans (Ref.doa_apply _ _ _ _ r j).symm
theorem dob_eq : (G10 m c : Arr 4096 512) = val_main_v44 (F := Ideal) (aGb m c) (aWb m c) (aWo m c) (aD m c) :=
  ext_ix2 _ _ fun r j => (G10_apply m c r j).trans (Ref.dob_apply _ _ _ _ r j).symm
theorem dgt_eq : (G11 m c : Arr 4096 2048) =
    val_main_v45 (F := Ideal) (aOa m c) (aOb m c) (aGa m c) (aGb m c) (aWa m c) (aWb m c) (aWo m c) (aD m c) :=
  ext_ix2 _ _ fun r j => (G11_apply m c r j).trans (Ref.dgt_apply _ _ _ _ _ _ _ _ r j).symm
theorem gwo_eq : (G12 m c : Arr 1024 1024) =
    val_main_v46 (F := Ideal) (aOa m c) (aOb m c) (aGa m c) (aGb m c) (aWa m c) (aWb m c) (aD m c) :=
  ext_ix2 _ _ fun i j => (G12_apply m c i j).trans (Ref.gwo_apply _ _ _ _ _ _ _ i j).symm
theorem gwp_eq : (G13 m c : Arr 1024 1024) =
    val_main_v47 (F := Ideal) (aOa m c) (aOb m c) (aGa m c) (aGb m c) (aWo m c) (aD m c) :=
  ext_ix2 _ _ fun i j => (G13_apply m c i j).trans (Ref.gwp_apply _ _ _ _ _ _ i j).symm

end Cert.Mix

end
-- ==== Proof.WeightGradient.lean ====
/- The gradient of an FFN weight, `dᵀ @ h`: each grid point computes 256 of its rows from one column tile of `d` and the whole of
   `h`, and the array the launch leaves is the reference's gradient of `h @ w` with respect to `w`, transposed. -/
module

public import proofs.«01_k».proof.Proof.Gen.WeightIdeal.Value
public import proofs.«01_k».proof.Proof.Gen.WeightReferenceIdeal.Read
public import proofs.«01_k».proof.Proof.Gradient
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.WeightGradient

open Cert.WeightIdeal Cert.WeightIdeal.Gen Cert.WeightIdeal.Value
open Cert.Mix (Arr)

variable (m : (ℓ : Loc nD τ sig) → Buf (Elt Ideal) ℓ) (c : Dev nD)

/-- The program's arguments on device `c`: the layer's input and the gradient of its output. -/
abbrev aH : Arr 4096 1024 := m (c, Proc.tc.devRef main_arg0)
abbrev aD : Arr 4096 2816 := m (c, Proc.tc.devRef main_arg1)

/-- Entry `(i, j)` of the transposed weight gradient. -/
def grad (h : Arr 4096 1024) (d : Arr 4096 2816) (i : Fin 2816) (j : Fin 1024) : EReal := ∑ r : Fin 4096, d (ix2 r i) * h (ix2 r j)

/-- Column `a` of column tile `t`. -/
abbrev col (t : Fin cfg0.N) (a : Fin 256) : Fin 2816 := ⟨256 * t.val + a.val, by have := lt_of_lt_of_eq t.isLt N_0; omega⟩

set_option maxHeartbeats 1000000 in
theorem V_d (r : Fin 4096) (j : Fin 2816) : (V m c main_v0 : Arr 4096 2816) (ix2 r j) = aD m c (ix2 r j) := by
  unfold V
  after_reads_at

set_option maxHeartbeats 1000000 in
theorem V_h (r : Fin 4096) (j : Fin 1024) : (V m c main_v1 : Arr 4096 1024) (ix2 r j) = aH m c (ix2 r j) := by
  unfold V
  after_reads_at

theorem index_facts : ∀ t : Fin cfg0.N,
    ((cfg0.win 0).index t 0 = 0 ∧ (cfg0.win 0).index t 1 = t.val) ∧ ((cfg0.win 1).index t 0 = 0 ∧ (cfg0.win 1).index t 1 = 0)
    ∧ ((cfg0.win 2).index t 0 = t.val ∧ (cfg0.win 2).index t 1 = 0) := by
  decide +kernel

theorem iblk_d (t : Fin cfg0.N) (r : Fin 4096) (a : Fin 256) : (iblk m c 0 t : Arr 4096 256) (ix2 r a) = aD m c (ix2 r (col t a)) := by
  obtain ⟨h0, h1⟩ := (index_facts t).1
  refine Eq.trans ?_ (V_d m c r (col t a))
  blk_simp [iblk]
  refine congrArg (V m c main_v0) (funext fun x => Fin.ext ?_)
  match x with
  | ⟨0, _⟩ => exact (Pipeline.Window.rect_emb_val _ t _ 0).trans (by rw [h0]; show 0 * 4096 + r.val = r.val; omega)
  | ⟨1, _⟩ => exact (Pipeline.Window.rect_emb_val _ t _ 1).trans (by rw [h1]; show t.val * 256 + a.val = 256 * t.val + a.val; omega)

theorem iblk_h (t : Fin cfg0.N) (r : Fin 4096) (j : Fin 1024) : (iblk m c 1 t : Arr 4096 1024) (ix2 r j) = aH m c (ix2 r j) := by
  obtain ⟨h0, h1⟩ := (index_facts t).2.1
  refine Eq.trans ?_ (V_h m c r j)
  blk_simp [iblk]
  refine congrArg (V m c main_v1) (funext fun x => Fin.ext ?_)
  match x with
  | ⟨0, _⟩ => exact (Pipeline.Window.rect_emb_val _ t _ 0).trans (by rw [h0]; show 0 * 4096 + r.val = r.val; omega)
  | ⟨1, _⟩ => exact (Pipeline.Window.rect_emb_val _ t _ 1).trans (by rw [h1]; show 0 * 1024 + j.val = j.val; omega)

/-- What a point computes: 256 rows of the gradient. -/
theorem pay_apply (t : Fin cfg0.N) (a : Fin 256) (j : Fin 1024) :
    k0_pay1 (F := Ideal) (iblk m c 0 t) (iblk m c 1 t) (ix2 a j) = grad (aH m c) (aD m c) (col t a) j := by
  unfold grad
  pointwise [k0_pay1]
  exact Finset.sum_congr rfl fun r _ => congrArg₂ (· * ·) (iblk_d m c t r a) (iblk_h m c t r j)

/-- The point's contents of the output window are the value it computes. -/
theorem outsAt_apply (t : Fin cfg0.N) : (outsAt0 m c t : Arr 256 1024) = k0_pay1 (F := Ideal) (iblk m c 0 t) (iblk m c 1 t) := by
  unfold outsAt0
  frame_out

/-- The tile that row `i` of the gradient lies in. -/
abbrev tileOf (i : Fin 2816) : Fin cfg0.N := ⟨i.val / 256, lt_of_lt_of_eq (by omega) N_0.symm⟩

/-- The array the launch leaves. -/
theorem result_apply (i : Fin 2816) (j : Fin 1024) : ((dats m 0 c).arrAt 2 cfg0.N : Arr 2816 1024) (ix2 i j) = grad (aH m c) (aD m c) i j := by
  obtain ⟨h0, h1⟩ := (index_facts (tileOf i)).2.2
  have hf : (cfg0.win 2).flush (tileOf i) = true := (by decide +kernel : ∀ t : Fin cfg0.N, (cfg0.win 2).flush t = true) _
  have e := congrFun (blocks2 m c (tileOf i) hf) (ix2 (⟨i.val % 256, Nat.mod_lt _ (by decide)⟩ : Fin 256) j)
  rw [flushed2] at e
  have hc : col (tileOf i) ⟨i.val % 256, Nat.mod_lt _ (by decide)⟩ = i := Fin.ext (by show 256 * (i.val / 256) + i.val % 256 = i.val; omega)
  refine Eq.trans ?_ (e.trans ?_)
  · refine congrArg ((dats m 0 c).arrAt 2 cfg0.N) (funext fun x => Fin.ext ?_)
    match x with
    | ⟨0, _⟩ => exact ((Pipeline.Window.rect_emb_val _ (tileOf i) _ 0).trans (by rw [h0]; show i.val / 256 * 256 + i.val % 256 = i.val; omega)).symm
    | ⟨1, _⟩ => exact ((Pipeline.Window.rect_emb_val _ (tileOf i) _ 1).trans (by rw [h1]; show 0 * 1024 + j.val = j.val; omega)).symm
  · refine (congrFun (outsAt_apply m c (tileOf i)) _).trans ((pay_apply m c _ _ j).trans ?_)
    rw [hc]

open Cert.WeightReferenceIdeal Cert.WeightReferenceIdeal.Read in
/-- The reference's gradient. -/
theorem reference_apply (h : Arr 4096 1024) (d : Arr 4096 2816) (i : Fin 2816) (j : Fin 1024) :
    (val_main_v5 (F := Ideal) h d : Arr 2816 1024) (ix2 i j) = grad h d i j := by
  unfold grad
  refine (show _ = val_main_v4 (F := Ideal) h d (ix2 i j) from rfl).trans ?_
  pointwise [val_main_v4, val_main_v3, val_main_v2]

/-- The kernel's result is the reference's. -/
theorem result_eq : ((dats m 0 c).arrAt 2 cfg0.N : Arr 2816 1024) = Cert.WeightReferenceIdeal.Read.val_main_v5 (F := Ideal) (aH m c) (aD m c) := by
  funext x
  have e : x = ix2 (x 0) (x 1) := by
    funext y
    match y with
    | ⟨0, _⟩ => rfl
    | ⟨1, _⟩ => rfl
  rw [e]
  exact (result_apply m c _ _).trans (reference_apply _ _ _ _).symm

end Cert.WeightGradient

end
-- ==== Proof.WInGradient.lean ====
/- The gradient of the input projection's weight, `dᵀ @ h`, where `d` comes in six pieces side by side. Grid point `t` computes
   rows `256 t … 256 t + 255` from one column tile of the piece they belong to and the whole of `h`. Piece by piece, the array the
   launch leaves is the reference's gradient of `h @ w` with respect to `w`, transposed. -/
module

public import proofs.«01_k».proof.Proof.Gen.WInIdeal.Value
public import proofs.«01_k».proof.Proof.Gen.WInReferenceIdeal.Read
public import proofs.«01_k».proof.Proof.Gradient
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.WInGradient

open Cert.WInIdeal Cert.WInIdeal.Gen Cert.WInIdeal.Value
open Cert.Mix (Arr)

variable (m : (ℓ : Loc nD τ sig) → Buf (Elt Ideal) ℓ) (c : Dev nD)

/-- The program's arguments on device `c`: the layer's input and the six pieces of the gradient of its output. -/
abbrev aH : Arr 4096 1024 := m (c, Proc.tc.devRef main_arg0)
abbrev aQa : Arr 4096 512 := m (c, Proc.tc.devRef main_arg1)
abbrev aKa : Arr 4096 512 := m (c, Proc.tc.devRef main_arg2)
abbrev aVa : Arr 4096 512 := m (c, Proc.tc.devRef main_arg3)
abbrev aQb : Arr 4096 512 := m (c, Proc.tc.devRef main_arg4)
abbrev aKvb : Arr 4096 256 := m (c, Proc.tc.devRef main_arg5)
abbrev aGates : Arr 4096 2048 := m (c, Proc.tc.devRef main_arg6)

/-- Entry `(i, j)` of `dᵀ @ h`. -/
def grad {w : Nat} (h : Arr 4096 1024) (d : Arr 4096 w) (i : Fin w) (j : Fin 1024) : EReal := ∑ r : Fin 4096, d (ix2 r i) * h (ix2 r j)

/-- One product of a column tile with `h`, as the body computes it. -/
abbrev prod (d : FVec Ideal S4096x256 .bf16) (h : FVec Ideal S4096x1024 .bf16) : FVec Ideal S256x1024 .bf16 := k0_pay1 (F := Ideal) d h

theorem prod_apply (d : Arr 4096 256) (h : Arr 4096 1024) (a : Fin 256) (j : Fin 1024) :
    prod d h (ix2 a j) = ∑ r : Fin 4096, d (ix2 r a) * h (ix2 r j) := by
  unfold prod
  pointwise [k0_pay1]

/-! ### The arrays the launch is given -/

set_option maxHeartbeats 1000000 in
theorem V_h (r : Fin 4096) (j : Fin 1024) : (V m c main_v6 : Arr 4096 1024) (ix2 r j) = aH m c (ix2 r j) := by
  unfold V
  after_reads_at

set_option maxHeartbeats 1000000 in
theorem V_Qa (r : Fin 4096) (j : Fin 512) : (V m c main_v0 : Arr 4096 512) (ix2 r j) = aQa m c (ix2 r j) := by
  unfold V
  after_reads_at

set_option maxHeartbeats 1000000 in
theorem V_Ka (r : Fin 4096) (j : Fin 512) : (V m c main_v1 : Arr 4096 512) (ix2 r j) = aKa m c (ix2 r j) := by
  unfold V
  after_reads_at

set_option maxHeartbeats 1000000 in
theorem V_Va (r : Fin 4096) (j : Fin 512) : (V m c main_v2 : Arr 4096 512) (ix2 r j) = aVa m c (ix2 r j) := by
  unfold V
  after_reads_at

set_option maxHeartbeats 1000000 in
theorem V_Qb (r : Fin 4096) (j : Fin 512) : (V m c main_v3 : Arr 4096 512) (ix2 r j) = aQb m c (ix2 r j) := by
  unfold V
  after_reads_at

set_option maxHeartbeats 1000000 in
theorem V_Kvb (r : Fin 4096) (j : Fin 256) : (V m c main_v4 : Arr 4096 256) (ix2 r j) = aKvb m c (ix2 r j) := by
  unfold V
  after_reads_at

set_option maxHeartbeats 1000000 in
theorem V_Gates (r : Fin 4096) (j : Fin 2048) : (V m c main_v5 : Arr 4096 2048) (ix2 r j) = aGates m c (ix2 r j) := by
  unfold V
  after_reads_at

/-! ### The blocks -/

theorem index_h : ∀ t : Fin cfg0.N, (cfg0.win 6).index t 0 = 0 ∧ (cfg0.win 6).index t 1 = 0 := by decide +kernel

theorem index_out : ∀ t : Fin cfg0.N, (cfg0.win 7).index t 0 = t.val ∧ (cfg0.win 7).index t 1 = 0 := by decide +kernel

theorem flush_out : ∀ t : Fin cfg0.N, (cfg0.win 7).flush t = true := by decide +kernel

theorem iblk_h (t : Fin cfg0.N) (r : Fin 4096) (j : Fin 1024) : (iblk m c 6 t : Arr 4096 1024) (ix2 r j) = aH m c (ix2 r j) := by
  obtain ⟨h0, h1⟩ := index_h t
  refine Eq.trans ?_ (V_h m c r j)
  blk_simp [iblk]
  refine congrArg (V m c main_v6) (funext fun x => Fin.ext ?_)
  match x with
  | ⟨0, _⟩ => exact (Pipeline.Window.rect_emb_val _ t _ 0).trans (by rw [h0]; show 0 * 4096 + r.val = r.val; omega)
  | ⟨1, _⟩ => exact (Pipeline.Window.rect_emb_val _ t _ 1).trans (by rw [h1]; show 0 * 1024 + j.val = j.val; omega)

/-- Point `0 + s` (`s < 2`). -/
abbrev ptQa (s : Fin 2) : Fin cfg0.N := ⟨0 + s.val, lt_of_lt_of_eq (by omega) N_0.symm⟩

theorem index_Qa : ∀ s : Fin 2, (cfg0.win 0).index (ptQa s) 0 = 0 ∧ (cfg0.win 0).index (ptQa s) 1 = s.val := by decide +kernel

theorem iblk_Qa (s : Fin 2) (r : Fin 4096) (a : Fin 256) :
    (iblk m c 0 (ptQa s) : Arr 4096 256) (ix2 r a) = aQa m c (ix2 r ⟨256 * s.val + a.val, by omega⟩) := by
  obtain ⟨h0, h1⟩ := index_Qa s
  refine Eq.trans ?_ (V_Qa m c r ⟨256 * s.val + a.val, by omega⟩)
  blk_simp [iblk]
  refine congrArg (V m c main_v0) (funext fun x => Fin.ext ?_)
  match x with
  | ⟨0, _⟩ => exact (Pipeline.Window.rect_emb_val _ (ptQa s) _ 0).trans (by rw [h0]; show 0 * 4096 + r.val = r.val; omega)
  | ⟨1, _⟩ => exact (Pipeline.Window.rect_emb_val _ (ptQa s) _ 1).trans (by rw [h1]; show s.val * 256 + a.val = 256 * s.val + a.val; omega)

theorem outs_Qa (s : Fin 2) : (outsAt0 m c (ptQa s).val (ptQa s).isLt : Arr 256 1024) =
    prod (iblk m c 0 (ptQa s)) (iblk m c 6 (ptQa s)) := by
  have hv : (ptQa s).val = 0 + s.val := rfl
  rw [outsAt0_A m c (ptQa s) (by omega) (by omega) (by omega) (by omega) (by omega) (by omega)]
  frame_out

/-- Point `2 + s` (`s < 2`). -/
abbrev ptKa (s : Fin 2) : Fin cfg0.N := ⟨2 + s.val, lt_of_lt_of_eq (by omega) N_0.symm⟩

theorem index_Ka : ∀ s : Fin 2, (cfg0.win 1).index (ptKa s) 0 = 0 ∧ (cfg0.win 1).index (ptKa s) 1 = s.val := by decide +kernel

theorem iblk_Ka (s : Fin 2) (r : Fin 4096) (a : Fin 256) :
    (iblk m c 1 (ptKa s) : Arr 4096 256) (ix2 r a) = aKa m c (ix2 r ⟨256 * s.val + a.val, by omega⟩) := by
  obtain ⟨h0, h1⟩ := index_Ka s
  refine Eq.trans ?_ (V_Ka m c r ⟨256 * s.val + a.val, by omega⟩)
  blk_simp [iblk]
  refine congrArg (V m c main_v1) (funext fun x => Fin.ext ?_)
  match x with
  | ⟨0, _⟩ => exact (Pipeline.Window.rect_emb_val _ (ptKa s) _ 0).trans (by rw [h0]; show 0 * 4096 + r.val = r.val; omega)
  | ⟨1, _⟩ => exact (Pipeline.Window.rect_emb_val _ (ptKa s) _ 1).trans (by rw [h1]; show s.val * 256 + a.val = 256 * s.val + a.val; omega)

theorem outs_Ka (s : Fin 2) : (outsAt0 m c (ptKa s).val (ptKa s).isLt : Arr 256 1024) =
    prod (iblk m c 1 (ptKa s)) (iblk m c 6 (ptKa s)) := by
  have hv : (ptKa s).val = 2 + s.val := rfl
  rw [outsAt0_B m c (ptKa s) (by omega) (by omega) (by omega) (by omega) (by omega) (by omega)]
  frame_out
  rfl

/-- Point `4 + s` (`s < 2`). -/
abbrev ptVa (s : Fin 2) : Fin cfg0.N := ⟨4 + s.val, lt_of_lt_of_eq (by omega) N_0.symm⟩

theorem index_Va : ∀ s : Fin 2, (cfg0.win 2).index (ptVa s) 0 = 0 ∧ (cfg0.win 2).index (ptVa s) 1 = s.val := by decide +kernel

theorem iblk_Va (s : Fin 2) (r : Fin 4096) (a : Fin 256) :
    (iblk m c 2 (ptVa s) : Arr 4096 256) (ix2 r a) = aVa m c (ix2 r ⟨256 * s.val + a.val, by omega⟩) := by
  obtain ⟨h0, h1⟩ := index_Va s
  refine Eq.trans ?_ (V_Va m c r ⟨256 * s.val + a.val, by omega⟩)
  blk_simp [iblk]
  refine congrArg (V m c main_v2) (funext fun x => Fin.ext ?_)
  match x with
  | ⟨0, _⟩ => exact (Pipeline.Window.rect_emb_val _ (ptVa s) _ 0).trans (by rw [h0]; show 0 * 4096 + r.val = r.val; omega)
  | ⟨1, _⟩ => exact (Pipeline.Window.rect_emb_val _ (ptVa s) _ 1).trans (by rw [h1]; show s.val * 256 + a.val = 256 * s.val + a.val; omega)

theorem outs_Va (s : Fin 2) : (outsAt0 m c (ptVa s).val (ptVa s).isLt : Arr 256 1024) =
    prod (iblk m c 2 (ptVa s)) (iblk m c 6 (ptVa s)) := by
  have hv : (ptVa s).val = 4 + s.val := rfl
  rw [outsAt0_C m c (ptVa s) (by omega) (by omega) (by omega) (by omega) (by omega) (by omega)]
  frame_out
  rfl

/-- Point `6 + s` (`s < 2`). -/
abbrev ptQb (s : Fin 2) : Fin cfg0.N := ⟨6 + s.val, lt_of_lt_of_eq (by omega) N_0.symm⟩

theorem index_Qb : ∀ s : Fin 2, (cfg0.win 3).index (ptQb s) 0 = 0 ∧ (cfg0.win 3).index (ptQb s) 1 = s.val := by decide +kernel

theorem iblk_Qb (s : Fin 2) (r : Fin 4096) (a : Fin 256) :
    (iblk m c 3 (ptQb s) : Arr 4096 256) (ix2 r a) = aQb m c (ix2 r ⟨256 * s.val + a.val, by omega⟩) := by
  obtain ⟨h0, h1⟩ := index_Qb s
  refine Eq.trans ?_ (V_Qb m c r ⟨256 * s.val + a.val, by omega⟩)
  blk_simp [iblk]
  refine congrArg (V m c main_v3) (funext fun x => Fin.ext ?_)
  match x with
  | ⟨0, _⟩ => exact (Pipeline.Window.rect_emb_val _ (ptQb s) _ 0).trans (by rw [h0]; show 0 * 4096 + r.val = r.val; omega)
  | ⟨1, _⟩ => exact (Pipeline.Window.rect_emb_val _ (ptQb s) _ 1).trans (by rw [h1]; show s.val * 256 + a.val = 256 * s.val + a.val; omega)

theorem outs_Qb (s : Fin 2) : (outsAt0 m c (ptQb s).val (ptQb s).isLt : Arr 256 1024) =
    prod (iblk m c 3 (ptQb s)) (iblk m c 6 (ptQb s)) := by
  have hv : (ptQb s).val = 6 + s.val := rfl
  rw [outsAt0_D m c (ptQb s) (by omega) (by omega) (by omega) (by omega) (by omega) (by omega)]
  frame_out
  rfl

/-- Point `8 + s` (`s < 1`). -/
abbrev ptKvb (s : Fin 1) : Fin cfg0.N := ⟨8 + s.val, lt_of_lt_of_eq (by omega) N_0.symm⟩

theorem index_Kvb : ∀ s : Fin 1, (cfg0.win 4).index (ptKvb s) 0 = 0 ∧ (cfg0.win 4).index (ptKvb s) 1 = s.val := by decide +kernel

theorem iblk_Kvb (s : Fin 1) (r : Fin 4096) (a : Fin 256) :
    (iblk m c 4 (ptKvb s) : Arr 4096 256) (ix2 r a) = aKvb m c (ix2 r ⟨256 * s.val + a.val, by omega⟩) := by
  obtain ⟨h0, h1⟩ := index_Kvb s
  refine Eq.trans ?_ (V_Kvb m c r ⟨256 * s.val + a.val, by omega⟩)
  blk_simp [iblk]
  refine congrArg (V m c main_v4) (funext fun x => Fin.ext ?_)
  match x with
  | ⟨0, _⟩ => exact (Pipeline.Window.rect_emb_val _ (ptKvb s) _ 0).trans (by rw [h0]; show 0 * 4096 + r.val = r.val; omega)
  | ⟨1, _⟩ => exact (Pipeline.Window.rect_emb_val _ (ptKvb s) _ 1).trans (by rw [h1]; show s.val * 256 + a.val = 256 * 0 + a.val; omega)

theorem outs_Kvb (s : Fin 1) : (outsAt0 m c (ptKvb s).val (ptKvb s).isLt : Arr 256 1024) =
    prod (iblk m c 4 (ptKvb s)) (iblk m c 6 (ptKvb s)) := by
  have hv : (ptKvb s).val = 8 + s.val := rfl
  rw [outsAt0_E m c (ptKvb s) (by omega) (by omega) (by omega) (by omega) (by omega) (by omega)]
  frame_out
  rfl

/-- Point `9 + s` (`s < 8`). -/
abbrev ptGates (s : Fin 8) : Fin cfg0.N := ⟨9 + s.val, lt_of_lt_of_eq (by omega) N_0.symm⟩

theorem index_Gates : ∀ s : Fin 8, (cfg0.win 5).index (ptGates s) 0 = 0 ∧ (cfg0.win 5).index (ptGates s) 1 = s.val := by decide +kernel

theorem iblk_Gates (s : Fin 8) (r : Fin 4096) (a : Fin 256) :
    (iblk m c 5 (ptGates s) : Arr 4096 256) (ix2 r a) = aGates m c (ix2 r ⟨256 * s.val + a.val, by omega⟩) := by
  obtain ⟨h0, h1⟩ := index_Gates s
  refine Eq.trans ?_ (V_Gates m c r ⟨256 * s.val + a.val, by omega⟩)
  blk_simp [iblk]
  refine congrArg (V m c main_v5) (funext fun x => Fin.ext ?_)
  match x with
  | ⟨0, _⟩ => exact (Pipeline.Window.rect_emb_val _ (ptGates s) _ 0).trans (by rw [h0]; show 0 * 4096 + r.val = r.val; omega)
  | ⟨1, _⟩ => exact (Pipeline.Window.rect_emb_val _ (ptGates s) _ 1).trans (by rw [h1]; show s.val * 256 + a.val = 256 * s.val + a.val; omega)

theorem outs_Gates (s : Fin 8) : (outsAt0 m c (ptGates s).val (ptGates s).isLt : Arr 256 1024) =
    prod (iblk m c 5 (ptGates s)) (iblk m c 6 (ptGates s)) := by
  have hv : (ptGates s).val = 9 + s.val := rfl
  rw [outsAt0_F m c (ptGates s) (by omega) (by omega) (by omega) (by omega) (by omega) (by omega)]
  frame_out
  rfl

/-! ### The array the launch leaves -/

/-- Row `256 t + a` of the array is what point `t` left in row `a` of its block. -/
theorem result_block (t : Fin cfg0.N) (a : Fin 256) (j : Fin 1024) (i : Fin 4352) (hi : i.val = 256 * t.val + a.val) :
    ((dats m 0 c).arrAt 7 cfg0.N : Arr 4352 1024) (ix2 i j) = (outsAt0 m c t.val t.isLt : Arr 256 1024) (ix2 a j) := by
  obtain ⟨h0, h1⟩ := index_out t
  have e := congrFun (blocks7 m c t (flush_out t)) (ix2 a j)
  rw [flushed7] at e
  refine Eq.trans ?_ e
  refine congrArg ((dats m 0 c).arrAt 7 cfg0.N) (funext fun x => Fin.ext ?_)
  match x with
  | ⟨0, _⟩ => exact ((Pipeline.Window.rect_emb_val _ t _ 0).trans (by rw [h0]; show t.val * 256 + a.val = i.val; omega)).symm
  | ⟨1, _⟩ => exact ((Pipeline.Window.rect_emb_val _ t _ 1).trans (by rw [h1]; show 0 * 1024 + j.val = j.val; omega)).symm

theorem result_Qa (i : Fin 512) (j : Fin 1024) : ((dats m 0 c).arrAt 7 cfg0.N : Arr 4352 1024) (ix2 ⟨0 + i.val, by omega⟩ j) =
    grad (aH m c) (aQa m c) i j := by
  have hs : i.val / 256 < 2 := by omega
  have hi : (⟨256 * (i.val / 256) + i.val % 256, by omega⟩ : Fin 512) = i := Fin.ext (by show 256 * (i.val / 256) + i.val % 256 = i.val; omega)
  rw [result_block m c (ptQa ⟨i.val / 256, hs⟩) ⟨i.val % 256, Nat.mod_lt _ (by decide)⟩ j _
    (by show 0 + i.val = 256 * (0 + i.val / 256) + i.val % 256; omega), outs_Qa]
  refine (prod_apply _ _ _ _).trans ?_
  unfold grad
  refine Finset.sum_congr rfl fun r _ => congrArg₂ (· * ·) ((iblk_Qa m c _ r _).trans ?_) (iblk_h m c _ r j)
  exact congrArg (fun y => aQa m c (ix2 r y)) hi

theorem result_Ka (i : Fin 512) (j : Fin 1024) : ((dats m 0 c).arrAt 7 cfg0.N : Arr 4352 1024) (ix2 ⟨512 + i.val, by omega⟩ j) =
    grad (aH m c) (aKa m c) i j := by
  have hs : i.val / 256 < 2 := by omega
  have hi : (⟨256 * (i.val / 256) + i.val % 256, by omega⟩ : Fin 512) = i := Fin.ext (by show 256 * (i.val / 256) + i.val % 256 = i.val; omega)
  rw [result_block m c (ptKa ⟨i.val / 256, hs⟩) ⟨i.val % 256, Nat.mod_lt _ (by decide)⟩ j _
    (by show 512 + i.val = 256 * (2 + i.val / 256) + i.val % 256; omega), outs_Ka]
  refine (prod_apply _ _ _ _).trans ?_
  unfold grad
  refine Finset.sum_congr rfl fun r _ => congrArg₂ (· * ·) ((iblk_Ka m c _ r _).trans ?_) (iblk_h m c _ r j)
  exact congrArg (fun y => aKa m c (ix2 r y)) hi

theorem result_Va (i : Fin 512) (j : Fin 1024) : ((dats m 0 c).arrAt 7 cfg0.N : Arr 4352 1024) (ix2 ⟨1024 + i.val, by omega⟩ j) =
    grad (aH m c) (aVa m c) i j := by
  have hs : i.val / 256 < 2 := by omega
  have hi : (⟨256 * (i.val / 256) + i.val % 256, by omega⟩ : Fin 512) = i := Fin.ext (by show 256 * (i.val / 256) + i.val % 256 = i.val; omega)
  rw [result_block m c (ptVa ⟨i.val / 256, hs⟩) ⟨i.val % 256, Nat.mod_lt _ (by decide)⟩ j _
    (by show 1024 + i.val = 256 * (4 + i.val / 256) + i.val % 256; omega), outs_Va]
  refine (prod_apply _ _ _ _).trans ?_
  unfold grad
  refine Finset.sum_congr rfl fun r _ => congrArg₂ (· * ·) ((iblk_Va m c _ r _).trans ?_) (iblk_h m c _ r j)
  exact congrArg (fun y => aVa m c (ix2 r y)) hi

theorem result_Qb (i : Fin 512) (j : Fin 1024) : ((dats m 0 c).arrAt 7 cfg0.N : Arr 4352 1024) (ix2 ⟨1536 + i.val, by omega⟩ j) =
    grad (aH m c) (aQb m c) i j := by
  have hs : i.val / 256 < 2 := by omega
  have hi : (⟨256 * (i.val / 256) + i.val % 256, by omega⟩ : Fin 512) = i := Fin.ext (by show 256 * (i.val / 256) + i.val % 256 = i.val; omega)
  rw [result_block m c (ptQb ⟨i.val / 256, hs⟩) ⟨i.val % 256, Nat.mod_lt _ (by decide)⟩ j _
    (by show 1536 + i.val = 256 * (6 + i.val / 256) + i.val % 256; omega), outs_Qb]
  refine (prod_apply _ _ _ _).trans ?_
  unfold grad
  refine Finset.sum_congr rfl fun r _ => congrArg₂ (· * ·) ((iblk_Qb m c _ r _).trans ?_) (iblk_h m c _ r j)
  exact congrArg (fun y => aQb m c (ix2 r y)) hi

theorem result_Kvb (i : Fin 256) (j : Fin 1024) : ((dats m 0 c).arrAt 7 cfg0.N : Arr 4352 1024) (ix2 ⟨2048 + i.val, by omega⟩ j) =
    grad (aH m c) (aKvb m c) i j := by
  have hs : i.val / 256 < 1 := by omega
  have hi : (⟨256 * (i.val / 256) + i.val % 256, by omega⟩ : Fin 256) = i := Fin.ext (by show 256 * (i.val / 256) + i.val % 256 = i.val; omega)
  rw [result_block m c (ptKvb ⟨i.val / 256, hs⟩) ⟨i.val % 256, Nat.mod_lt _ (by decide)⟩ j _
    (by show 2048 + i.val = 256 * (8 + i.val / 256) + i.val % 256; omega), outs_Kvb]
  refine (prod_apply _ _ _ _).trans ?_
  unfold grad
  refine Finset.sum_congr rfl fun r _ => congrArg₂ (· * ·) ((iblk_Kvb m c _ r _).trans ?_) (iblk_h m c _ r j)
  exact congrArg (fun y => aKvb m c (ix2 r y)) hi

theorem result_Gates (i : Fin 2048) (j : Fin 1024) : ((dats m 0 c).arrAt 7 cfg0.N : Arr 4352 1024) (ix2 ⟨2304 + i.val, by omega⟩ j) =
    grad (aH m c) (aGates m c) i j := by
  have hs : i.val / 256 < 8 := by omega
  have hi : (⟨256 * (i.val / 256) + i.val % 256, by omega⟩ : Fin 2048) = i := Fin.ext (by show 256 * (i.val / 256) + i.val % 256 = i.val; omega)
  rw [result_block m c (ptGates ⟨i.val / 256, hs⟩) ⟨i.val % 256, Nat.mod_lt _ (by decide)⟩ j _
    (by show 2304 + i.val = 256 * (9 + i.val / 256) + i.val % 256; omega), outs_Gates]
  refine (prod_apply _ _ _ _).trans ?_
  unfold grad
  refine Finset.sum_congr rfl fun r _ => congrArg₂ (· * ·) ((iblk_Gates m c _ r _).trans ?_) (iblk_h m c _ r j)
  exact congrArg (fun y => aGates m c (ix2 r y)) hi

/-! ### The reference -/

section Reference
open Cert.WInReferenceIdeal.Read

theorem joined_Qa (d1 : Arr 4096 512) (d2 : Arr 4096 512) (d3 : Arr 4096 512) (d4 : Arr 4096 512) (d5 : Arr 4096 256) (d6 : Arr 4096 2048) (r : Fin 4096) (i : Fin 512) :
    (val_main_v1 (F := Ideal) d1 d2 d3 d4 d5 d6 : Arr 4096 4352) (ix2 r ⟨0 + i.val, by omega⟩) = d1 (ix2 r i) := by
  pointwise [val_main_v1]

theorem reference_Qa (h : Arr 4096 1024) (d1 : Arr 4096 512) (d2 : Arr 4096 512) (d3 : Arr 4096 512) (d4 : Arr 4096 512) (d5 : Arr 4096 256) (d6 : Arr 4096 2048) (i : Fin 512) (j : Fin 1024) :
    (val_main_v6 (F := Ideal) h d1 d2 d3 d4 d5 d6 : Arr 4352 1024) (ix2 ⟨0 + i.val, by omega⟩ j) = grad h d1 i j := by
  unfold grad
  simp only [← joined_Qa d1 d2 d3 d4 d5 d6]
  refine (show _ = val_main_v5 (F := Ideal) h d1 d2 d3 d4 d5 d6 (ix2 ⟨0 + i.val, by omega⟩ j) from rfl).trans ?_
  unfold val_main_v5 val_main_v4 val_main_v3
  generalize val_main_v1 (F := Ideal) d1 d2 d3 d4 d5 d6 = y
  pointwise

theorem joined_Ka (d1 : Arr 4096 512) (d2 : Arr 4096 512) (d3 : Arr 4096 512) (d4 : Arr 4096 512) (d5 : Arr 4096 256) (d6 : Arr 4096 2048) (r : Fin 4096) (i : Fin 512) :
    (val_main_v1 (F := Ideal) d1 d2 d3 d4 d5 d6 : Arr 4096 4352) (ix2 r ⟨512 + i.val, by omega⟩) = d2 (ix2 r i) := by
  pointwise [val_main_v1]

theorem reference_Ka (h : Arr 4096 1024) (d1 : Arr 4096 512) (d2 : Arr 4096 512) (d3 : Arr 4096 512) (d4 : Arr 4096 512) (d5 : Arr 4096 256) (d6 : Arr 4096 2048) (i : Fin 512) (j : Fin 1024) :
    (val_main_v6 (F := Ideal) h d1 d2 d3 d4 d5 d6 : Arr 4352 1024) (ix2 ⟨512 + i.val, by omega⟩ j) = grad h d2 i j := by
  unfold grad
  simp only [← joined_Ka d1 d2 d3 d4 d5 d6]
  refine (show _ = val_main_v5 (F := Ideal) h d1 d2 d3 d4 d5 d6 (ix2 ⟨512 + i.val, by omega⟩ j) from rfl).trans ?_
  unfold val_main_v5 val_main_v4 val_main_v3
  generalize val_main_v1 (F := Ideal) d1 d2 d3 d4 d5 d6 = y
  pointwise

theorem joined_Va (d1 : Arr 4096 512) (d2 : Arr 4096 512) (d3 : Arr 4096 512) (d4 : Arr 4096 512) (d5 : Arr 4096 256) (d6 : Arr 4096 2048) (r : Fin 4096) (i : Fin 512) :
    (val_main_v1 (F := Ideal) d1 d2 d3 d4 d5 d6 : Arr 4096 4352) (ix2 r ⟨1024 + i.val, by omega⟩) = d3 (ix2 r i) := by
  pointwise [val_main_v1]
  rw [dif_neg (by omega), dif_neg (by omega), dif_pos (by omega)]
  exact congrArg (fun z => d3 (ix2 r z)) (Fin.ext (by dsimp only; omega))

theorem reference_Va (h : Arr 4096 1024) (d1 : Arr 4096 512) (d2 : Arr 4096 512) (d3 : Arr 4096 512) (d4 : Arr 4096 512) (d5 : Arr 4096 256) (d6 : Arr 4096 2048) (i : Fin 512) (j : Fin 1024) :
    (val_main_v6 (F := Ideal) h d1 d2 d3 d4 d5 d6 : Arr 4352 1024) (ix2 ⟨1024 + i.val, by omega⟩ j) = grad h d3 i j := by
  unfold grad
  simp only [← joined_Va d1 d2 d3 d4 d5 d6]
  refine (show _ = val_main_v5 (F := Ideal) h d1 d2 d3 d4 d5 d6 (ix2 ⟨1024 + i.val, by omega⟩ j) from rfl).trans ?_
  unfold val_main_v5 val_main_v4 val_main_v3
  generalize val_main_v1 (F := Ideal) d1 d2 d3 d4 d5 d6 = y
  pointwise

theorem joined_Qb (d1 : Arr 4096 512) (d2 : Arr 4096 512) (d3 : Arr 4096 512) (d4 : Arr 4096 512) (d5 : Arr 4096 256) (d6 : Arr 4096 2048) (r : Fin 4096) (i : Fin 512) :
    (val_main_v1 (F := Ideal) d1 d2 d3 d4 d5 d6 : Arr 4096 4352) (ix2 r ⟨1536 + i.val, by omega⟩) = d4 (ix2 r i) := by
  pointwise [val_main_v1]
  rw [dif_neg (by omega), dif_neg (by omega), dif_neg (by omega), dif_pos (by omega)]
  exact congrArg (fun z => d4 (ix2 r z)) (Fin.ext (by dsimp only; omega))

theorem reference_Qb (h : Arr 4096 1024) (d1 : Arr 4096 512) (d2 : Arr 4096 512) (d3 : Arr 4096 512) (d4 : Arr 4096 512) (d5 : Arr 4096 256) (d6 : Arr 4096 2048) (i : Fin 512) (j : Fin 1024) :
    (val_main_v6 (F := Ideal) h d1 d2 d3 d4 d5 d6 : Arr 4352 1024) (ix2 ⟨1536 + i.val, by omega⟩ j) = grad h d4 i j := by
  unfold grad
  simp only [← joined_Qb d1 d2 d3 d4 d5 d6]
  refine (show _ = val_main_v5 (F := Ideal) h d1 d2 d3 d4 d5 d6 (ix2 ⟨1536 + i.val, by omega⟩ j) from rfl).trans ?_
  unfold val_main_v5 val_main_v4 val_main_v3
  generalize val_main_v1 (F := Ideal) d1 d2 d3 d4 d5 d6 = y
  pointwise

theorem joined_Kvb (d1 : Arr 4096 512) (d2 : Arr 4096 512) (d3 : Arr 4096 512) (d4 : Arr 4096 512) (d5 : Arr 4096 256) (d6 : Arr 4096 2048) (r : Fin 4096) (i : Fin 256) :
    (val_main_v1 (F := Ideal) d1 d2 d3 d4 d5 d6 : Arr 4096 4352) (ix2 r ⟨2048 + i.val, by omega⟩) = d5 (ix2 r i) := by
  pointwise [val_main_v1]
  rw [dif_neg (by omega), dif_neg (by omega), dif_neg (by omega), dif_neg (by omega), dif_pos (by omega)]
  exact congrArg (fun z => d5 (ix2 r z)) (Fin.ext (by dsimp only; omega))

theorem reference_Kvb (h : Arr 4096 1024) (d1 : Arr 4096 512) (d2 : Arr 4096 512) (d3 : Arr 4096 512) (d4 : Arr 4096 512) (d5 : Arr 4096 256) (d6 : Arr 4096 2048) (i : Fin 256) (j : Fin 1024) :
    (val_main_v6 (F := Ideal) h d1 d2 d3 d4 d5 d6 : Arr 4352 1024) (ix2 ⟨2048 + i.val, by omega⟩ j) = grad h d5 i j := by
  unfold grad
  simp only [← joined_Kvb d1 d2 d3 d4 d5 d6]
  refine (show _ = val_main_v5 (F := Ideal) h d1 d2 d3 d4 d5 d6 (ix2 ⟨2048 + i.val, by omega⟩ j) from rfl).trans ?_
  unfold val_main_v5 val_main_v4 val_main_v3
  generalize val_main_v1 (F := Ideal) d1 d2 d3 d4 d5 d6 = y
  pointwise

theorem joined_Gates (d1 : Arr 4096 512) (d2 : Arr 4096 512) (d3 : Arr 4096 512) (d4 : Arr 4096 512) (d5 : Arr 4096 256) (d6 : Arr 4096 2048) (r : Fin 4096) (i : Fin 2048) :
    (val_main_v1 (F := Ideal) d1 d2 d3 d4 d5 d6 : Arr 4096 4352) (ix2 r ⟨2304 + i.val, by omega⟩) = d6 (ix2 r i) := by
  pointwise [val_main_v1]
  rw [dif_neg (by omega), dif_neg (by omega), dif_neg (by omega), dif_neg (by omega), dif_neg (by omega)]
  exact congrArg (fun z => d6 (ix2 r z)) (Fin.ext (by dsimp only; omega))

theorem reference_Gates (h : Arr 4096 1024) (d1 : Arr 4096 512) (d2 : Arr 4096 512) (d3 : Arr 4096 512) (d4 : Arr 4096 512) (d5 : Arr 4096 256) (d6 : Arr 4096 2048) (i : Fin 2048) (j : Fin 1024) :
    (val_main_v6 (F := Ideal) h d1 d2 d3 d4 d5 d6 : Arr 4352 1024) (ix2 ⟨2304 + i.val, by omega⟩ j) = grad h d6 i j := by
  unfold grad
  simp only [← joined_Gates d1 d2 d3 d4 d5 d6]
  refine (show _ = val_main_v5 (F := Ideal) h d1 d2 d3 d4 d5 d6 (ix2 ⟨2304 + i.val, by omega⟩ j) from rfl).trans ?_
  unfold val_main_v5 val_main_v4 val_main_v3
  generalize val_main_v1 (F := Ideal) d1 d2 d3 d4 d5 d6 = y
  pointwise

end Reference

/-- The kernel's result is the reference's. -/
theorem result_eq : ((dats m 0 c).arrAt 7 cfg0.N : Arr 4352 1024) =
    Cert.WInReferenceIdeal.Read.val_main_v6 (F := Ideal) (aH m c) (aQa m c) (aKa m c) (aVa m c) (aQb m c) (aKvb m c) (aGates m c) := by
  funext x
  obtain ⟨i, hi⟩ : ∃ i : Fin 4352, i = x 0 := ⟨_, rfl⟩
  obtain ⟨j, hj⟩ : ∃ j : Fin 1024, j = x 1 := ⟨_, rfl⟩
  have e : x = ix2 i j := by
    funext y
    match y with
    | ⟨0, _⟩ => exact hi.symm
    | ⟨1, _⟩ => exact hj.symm
  rw [e]
  clear e hi hj x
  rcases Nat.lt_or_ge i.val 512 with h1 | h1
  · have e : i = ⟨0 + (⟨i.val - 0, by omega⟩ : Fin 512).val, by have := i.isLt; show 0 + (i.val - 0) < 4352; omega⟩ :=
      Fin.ext (by show i.val = 0 + (i.val - 0); omega)
    rw [e]
    exact (result_Qa m c _ j).trans (reference_Qa _ _ _ _ _ _ _ _ j).symm
  rcases Nat.lt_or_ge i.val 1024 with h2 | h2
  · have e : i = ⟨512 + (⟨i.val - 512, by omega⟩ : Fin 512).val, by have := i.isLt; show 512 + (i.val - 512) < 4352; omega⟩ :=
      Fin.ext (by show i.val = 512 + (i.val - 512); omega)
    rw [e]
    exact (result_Ka m c _ j).trans (reference_Ka _ _ _ _ _ _ _ _ j).symm
  rcases Nat.lt_or_ge i.val 1536 with h3 | h3
  · have e : i = ⟨1024 + (⟨i.val - 1024, by omega⟩ : Fin 512).val, by have := i.isLt; show 1024 + (i.val - 1024) < 4352; omega⟩ :=
      Fin.ext (by show i.val = 1024 + (i.val - 1024); omega)
    rw [e]
    exact (result_Va m c _ j).trans (reference_Va _ _ _ _ _ _ _ _ j).symm
  rcases Nat.lt_or_ge i.val 2048 with h4 | h4
  · have e : i = ⟨1536 + (⟨i.val - 1536, by omega⟩ : Fin 512).val, by have := i.isLt; show 1536 + (i.val - 1536) < 4352; omega⟩ :=
      Fin.ext (by show i.val = 1536 + (i.val - 1536); omega)
    rw [e]
    exact (result_Qb m c _ j).trans (reference_Qb _ _ _ _ _ _ _ _ j).symm
  rcases Nat.lt_or_ge i.val 2304 with h5 | h5
  · have e : i = ⟨2048 + (⟨i.val - 2048, by omega⟩ : Fin 256).val, by have := i.isLt; show 2048 + (i.val - 2048) < 4352; omega⟩ :=
      Fin.ext (by show i.val = 2048 + (i.val - 2048); omega)
    rw [e]
    exact (result_Kvb m c _ j).trans (reference_Kvb _ _ _ _ _ _ _ _ j).symm
  have e : i = ⟨2304 + (⟨i.val - 2304, by omega⟩ : Fin 2048).val, by have := i.isLt; show 2304 + (i.val - 2304) < 4352; omega⟩ :=
    Fin.ext (by show i.val = 2304 + (i.val - 2304); omega)
  rw [e]
  exact (result_Gates m c _ j).trans (reference_Gates _ _ _ _ _ _ _ _ j).symm

end Cert.WInGradient

end
-- ==== Proof.HeadMath.lean ====
/- The gradient of the last feed-forward layer and of the loss head, written as plain sums over the reals: the layer
   `y = x + ½·((silu(h @ w_gate)·(h @ w_up)) @ w_down)` with `h = x/rms(x)·gain`, the final norm, and the squared error against the
   target. Then the two facts that let two texts of such a formula be compared: arithmetic on extended reals that are real is
   real arithmetic, and the two ways of writing the gradient of `v/rms(v)` agree. No program is mentioned here. -/
module

public import Idealize.ShloMosaic.Lib.Pointwise
public import Idealize.ShloMosaic.PureOps.Ideal
public import proofs.«01_k».proof.Proof.Gradient

@[expose] public section

noncomputable section

open Idealize.ShloMosaic

namespace Cert.HeadGrad

open Cert.Mix (Arr)

/-- The constant under the root: the printed single-precision word nearest to 10⁻⁶. -/
def eps : ℝ := 8796093 / 8796093022208

theorem eps_pos : 0 < eps := by unfold eps; norm_num

theorem ofBits_eps : Ideal.ofBits .f32 0x358637BD#32 = ((eps : ℝ) : EReal) := by
  unfold eps
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_inv2048 : Ideal.ofBits .f32 0x3A000000#32 = ((1 / 2048 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-! ### Real arithmetic inside the extended reals -/

theorem coe_sum {ι : Type} (s : Finset ι) (f : ι → ℝ) : (∑ i ∈ s, ((f i : ℝ) : EReal)) = ((∑ i ∈ s, f i : ℝ) : EReal) := by
  classical
  induction s using Finset.induction with
  | empty => simp
  | insert a s h ih => rw [Finset.sum_insert h, Finset.sum_insert h, ih, EReal.coe_add]

/-- A quotient by a positive real. -/
theorem div_real (x y : ℝ) (h : 0 < y) : Ideal.div (x : EReal) (y : EReal) = ((x / y : ℝ) : EReal) := by
  rw [Ideal.div_coe h.ne', ← EReal.coe_mul]
  congr 1
  ring

theorem rsqrt_real (x : ℝ) (h : 0 < x) : Ideal.rsqrt (x : EReal) = (((Real.sqrt x)⁻¹ : ℝ) : EReal) := by
  rw [Ideal.rsqrt_coe, if_neg (not_lt.mpr h.le), if_neg h.ne']

/-! ### The formulas -/

/-- The mean square of a row, with the constant added. -/
def ms (v : Fin 1024 → ℝ) : ℝ := (∑ j, v j * v j) / 1024 + eps

theorem ms_pos (v : Fin 1024 → ℝ) : 0 < ms v :=
  add_pos_of_nonneg_of_pos (div_nonneg (Finset.sum_nonneg fun j _ => mul_self_nonneg _) (by norm_num)) eps_pos

/-- The inverse root mean square of a row. -/
def inv (v : Fin 1024 → ℝ) : ℝ := (Real.sqrt (ms v))⁻¹

/-- The row over its root mean square. -/
def unit (v : Fin 1024 → ℝ) (i : Fin 1024) : ℝ := v i * inv v

/-- The gradient of a row that reaches it through `unit`, from the gradient `q` of `unit v`. -/
def back (v q : Fin 1024 → ℝ) (i : Fin 1024) : ℝ := inv v * (q i - unit v i * ((∑ j, q j * unit v j) / 1024))

theorem inv_mul_inv (v : Fin 1024 → ℝ) : inv v * inv v * ms v = 1 := by
  have h := ms_pos v
  have hs : Real.sqrt (ms v) ≠ 0 := (Real.sqrt_pos.mpr h).ne'
  have e : Real.sqrt (ms v) * Real.sqrt (ms v) = ms v := Real.mul_self_sqrt h.le
  unfold inv
  nth_rewrite 3 [← e]
  field_simp

/-- The same gradient as the chain rule gives it: through the product, and through the mean square, twice. -/
theorem back_eq (v q : Fin 1024 → ℝ) (i : Fin 1024) :
    q i * inv v + v i * ((∑ j, v j * q j) * (-(1 / 2) * (inv v / ms v)) / 1024)
      + (∑ j, v j * q j) * (-(1 / 2) * (inv v / ms v)) / 1024 * v i = back v q i := by
  have h := (ms_pos v).ne'
  have e : inv v / ms v = inv v * inv v * inv v := by
    rw [div_eq_iff h]
    linear_combination (-inv v) * inv_mul_inv v
  have s : (∑ j, q j * unit v j) = (∑ j, v j * q j) * inv v := by
    rw [Finset.sum_mul]
    exact Finset.sum_congr rfl fun j _ => by unfold unit; ring
  rw [e]
  unfold back
  rw [s]
  unfold unit
  ring

/-- The logistic function. -/
def sig (g : ℝ) : ℝ := (1 + Real.exp (-g))⁻¹

theorem exp_add_pos (g : ℝ) : 0 < 1 + Real.exp (-g) := add_pos one_pos (Real.exp_pos _)

/-- The arguments as reals. -/
structure Args where
  x : Fin 4096 → Fin 1024 → ℝ
  gain : Fin 1024 → ℝ
  wg : Fin 1024 → Fin 2816 → ℝ
  wu : Fin 1024 → Fin 2816 → ℝ
  wd : Fin 2816 → Fin 1024 → ℝ
  gainF : Fin 1024 → ℝ
  target : Fin 4096 → Fin 1024 → ℝ

variable (A : Args)

/-- The arguments as arrays of extended reals. -/
def Args.aX : Arr 4096 1024 := fun i => ((A.x (i 0) (i 1) : ℝ) : EReal)
def Args.aGain : Arr 1 1024 := fun i => ((A.gain (i 1) : ℝ) : EReal)
def Args.aWg : Arr 1024 2816 := fun i => ((A.wg (i 0) (i 1) : ℝ) : EReal)
def Args.aWu : Arr 1024 2816 := fun i => ((A.wu (i 0) (i 1) : ℝ) : EReal)
def Args.aWd : Arr 2816 1024 := fun i => ((A.wd (i 0) (i 1) : ℝ) : EReal)
def Args.aGainF : Arr 1 1024 := fun i => ((A.gainF (i 1) : ℝ) : EReal)
def Args.aTarget : Arr 4096 1024 := fun i => ((A.target (i 0) (i 1) : ℝ) : EReal)

theorem aX_ix2 (r : Fin 4096) (j : Fin 1024) : A.aX (ix2 r j) = ((A.x r j : ℝ) : EReal) := rfl
theorem aGain_ix2 (r : Fin 1) (j : Fin 1024) : A.aGain (ix2 r j) = ((A.gain j : ℝ) : EReal) := rfl
theorem aWg_ix2 (r : Fin 1024) (j : Fin 2816) : A.aWg (ix2 r j) = ((A.wg r j : ℝ) : EReal) := rfl
theorem aWu_ix2 (r : Fin 1024) (j : Fin 2816) : A.aWu (ix2 r j) = ((A.wu r j : ℝ) : EReal) := rfl
theorem aWd_ix2 (r : Fin 2816) (j : Fin 1024) : A.aWd (ix2 r j) = ((A.wd r j : ℝ) : EReal) := rfl
theorem aGainF_ix2 (r : Fin 1) (j : Fin 1024) : A.aGainF (ix2 r j) = ((A.gainF j : ℝ) : EReal) := rfl
theorem aTarget_ix2 (r : Fin 4096) (j : Fin 1024) : A.aTarget (ix2 r j) = ((A.target r j : ℝ) : EReal) := rfl

/-- The normalised input. -/
def Args.h (r : Fin 4096) (k : Fin 1024) : ℝ := unit (A.x r) k * A.gain k
/-- The gate's and the up projection's values. -/
def Args.g (r : Fin 4096) (f : Fin 2816) : ℝ := ∑ k, A.h r k * A.wg k f
def Args.u (r : Fin 4096) (f : Fin 2816) : ℝ := ∑ k, A.h r k * A.wu k f
/-- The layer's output. -/
def Args.y (r : Fin 4096) (i : Fin 1024) : ℝ :=
  A.x r i + 1 / 2 * ∑ f, A.g r f * sig (A.g r f) * A.u r f * A.wd f i
/-- The error of the normalised output against the target. -/
def Args.err (r : Fin 4096) (i : Fin 1024) : ℝ := unit (A.y r) i * A.gainF i - A.target r i
/-- The gradient of the layer's output. -/
def Args.dy (r : Fin 4096) (i : Fin 1024) : ℝ := back (A.y r) (fun j => A.err r j * (1 / 1024) * A.gainF j) i
/-- The gradient of the down projection's output. -/
def Args.db (r : Fin 4096) (i : Fin 1024) : ℝ := 1 / 2 * A.dy r i
/-- The gradient of the activation. -/
def Args.da (r : Fin 4096) (f : Fin 2816) : ℝ := ∑ i, A.db r i * A.wd f i
/-- The gradients of the gate's and of the up projection's values. -/
def Args.dg (r : Fin 4096) (f : Fin 2816) : ℝ :=
  A.da r f * A.u r f * (sig (A.g r f) * (1 + A.g r f * (1 - sig (A.g r f))))
def Args.du (r : Fin 4096) (f : Fin 2816) : ℝ := A.da r f * (A.g r f * sig (A.g r f))
/-- The gradient of the normalised input. -/
def Args.dh (r : Fin 4096) (k : Fin 1024) : ℝ := ∑ f, A.dg r f * A.wg k f + ∑ f, A.du r f * A.wu k f
/-- The gradient of the input. -/
def Args.dx (r : Fin 4096) (i : Fin 1024) : ℝ := A.dy r i + back (A.x r) (fun j => A.dh r j * A.gain j) i
/-- What row `r` adds to the two gains' gradients and to the loss. -/
def Args.gainTerm (r : Fin 4096) (i : Fin 1024) : ℝ := A.dh r i * unit (A.x r) i
def Args.gainFTerm (r : Fin 4096) (i : Fin 1024) : ℝ := A.err r i * (1 / 1024) * unit (A.y r) i
def Args.lossTerm (r : Fin 4096) (i : Fin 1024) : ℝ := A.err r i * A.err r i * (1 / 2048)

/-- The sum of a row function over the rows `q, 8 + q, 16 + q, …`. -/
def bySlot (f : Fin 4096 → Fin 1024 → ℝ) (q : Fin 8) (i : Fin 1024) : ℝ :=
  ∑ s : Fin 512, f ⟨8 * s.val + q.val, by omega⟩ i

end Cert.HeadGrad

end
-- ==== Proof.HeadTile.lean ====
/- One grid point of the call, on real blocks: `R a` is the row of the whole arrays that row `a` of the point's blocks holds.
   Each value the body computes is the formula of the module `HeadMath` at row `R a`. -/
module

public import proofs.«01_k».proof.Proof.Gen.HeadIdeal.Skeleton
public import proofs.«01_k».proof.Proof.HeadMath
public import Idealize.ShloMosaic.Lib.Pipeline.ReadBack
public import Idealize.ShloMosaic.Lib.Pipeline.ValueKit
public import Idealize.ShloMosaic.Lib.Pointwise
public import Idealize.ShloMosaic.Lib.IdealHost
public import Idealize.ShloMosaic.PureOps.Ideal

@[expose] public section

set_option maxRecDepth 16384

noncomputable section

open Idealize.ShloMosaic Idealize.ShloMosaic.TcCoe

namespace Cert.HeadGrad

open Cert.HeadIdeal Cert.HeadIdeal.Gen
open Cert.Mix (Arr)

/-- The blocks of one point: rows `R a` of the row arrays, and the whole weights (the gate's and the up projection's transposed). -/
structure Blocks (A : Args) (R : Fin 256 → Fin 4096) (y : Arr 256 1024) (gainF : Arr 1 1024) (target x : Arr 256 1024)
    (gain : Arr 1 1024) (g u : Arr 256 2816) (wg wu wd : Arr 2816 1024) : Prop where
  y : ∀ a j, y (ix2 a j) = ((A.y (R a) j : ℝ) : EReal)
  gainF : ∀ a j, gainF (ix2 a j) = ((A.gainF j : ℝ) : EReal)
  target : ∀ a j, target (ix2 a j) = ((A.target (R a) j : ℝ) : EReal)
  x : ∀ a j, x (ix2 a j) = ((A.x (R a) j : ℝ) : EReal)
  gain : ∀ a j, gain (ix2 a j) = ((A.gain j : ℝ) : EReal)
  g : ∀ a f, g (ix2 a f) = ((A.g (R a) f : ℝ) : EReal)
  u : ∀ a f, u (ix2 a f) = ((A.u (R a) f : ℝ) : EReal)
  wg : ∀ f k, wg (ix2 f k) = ((A.wg k f : ℝ) : EReal)
  wu : ∀ f k, wu (ix2 f k) = ((A.wu k f : ℝ) : EReal)
  wd : ∀ f j, wd (ix2 f j) = ((A.wd f j : ℝ) : EReal)

variable {A : Args} {R : Fin 256 → Fin 4096} {y : Arr 256 1024} {gainF : Arr 1 1024} {target x : Arr 256 1024}
  {gain : Arr 1 1024} {g u : Arr 256 2816} {wg wu wd : Arr 2816 1024}

/-! ### The final norm and its gradient -/

theorem inv_y (B : Blocks A R y gainF target x gain g u wg wu wd) (a : Fin 256) (z : Fin 1) :
    k0_pay9 (F := Ideal) y (ix2 a z) = ((inv (A.y (R a)) : ℝ) : EReal) := by
  have e := B.y
  pointwise [k0_pay9, k0_pay8]
  simp only [e, ← EReal.coe_mul, coe_sum, ofBits_1024, ofBits_eps, div_real _ _ (by norm_num : (0:ℝ) < 1024), ← EReal.coe_add]
  exact rsqrt_real _ (ms_pos (A.y (R a)))

theorem unit_y (B : Blocks A R y gainF target x gain g u wg wu wd) (a : Fin 256) (j : Fin 1024) :
    k0_pay10 (F := Ideal) y (ix2 a j) = ((unit (A.y (R a)) j : ℝ) : EReal) := by
  have e := B.y
  have e1 := inv_y B
  unfold k0_pay10
  generalize k0_pay9 (F := Ideal) y = v at *
  pointwise [k0_pay8]
  simp only [e, e1, ← EReal.coe_mul]
  rfl

theorem err_tile (B : Blocks A R y gainF target x gain g u wg wu wd) (a : Fin 256) (j : Fin 1024) :
    k0_pay11 (F := Ideal) y gainF target (ix2 a j) = ((A.err (R a) j : ℝ) : EReal) := by
  have e := unit_y B
  unfold k0_pay11
  generalize k0_pay10 (F := Ideal) y = v at *
  pointwise
  simp only [e, B.gainF, B.target, ← EReal.coe_mul, ← EReal.coe_sub]
  rfl

theorem mean_err (B : Blocks A R y gainF target x gain g u wg wu wd) (a : Fin 256) (j : Fin 1024) :
    k0_pay12 (F := Ideal) y gainF target (ix2 a j) = ((A.err (R a) j * (1 / 1024) : ℝ) : EReal) := by
  have e := err_tile B
  unfold k0_pay12
  generalize k0_pay11 (F := Ideal) y gainF target = v at *
  pointwise
  simp only [e, ofBits_inv1024, ← EReal.coe_mul]

theorem dy_tile (B : Blocks A R y gainF target x gain g u wg wu wd) (a : Fin 256) (j : Fin 1024) :
    k0_pay13 (F := Ideal) y gainF target (ix2 a j) = ((A.dy (R a) j : ℝ) : EReal) := by
  have e1 := inv_y B
  have e2 := unit_y B
  have e3 := mean_err B
  unfold k0_pay13
  generalize k0_pay9 (F := Ideal) y = v1 at *
  generalize k0_pay10 (F := Ideal) y = v2 at *
  generalize k0_pay12 (F := Ideal) y gainF target = v3 at *
  pointwise
  simp only [e1, e2, e3, B.gainF, ← EReal.coe_mul, ← EReal.coe_sub, coe_sum, ofBits_1024, div_real _ _ (by norm_num : (0:ℝ) < 1024)]
  rfl

theorem db_tile (B : Blocks A R y gainF target x gain g u wg wu wd) (a : Fin 256) (j : Fin 1024) :
    k0_pay15 (F := Ideal) y gainF target (ix2 a j) = ((A.db (R a) j : ℝ) : EReal) := by
  have e := dy_tile B
  unfold k0_pay15
  generalize k0_pay13 (F := Ideal) y gainF target = v at *
  pointwise
  simp only [e, ofBits_half, ← EReal.coe_mul]
  rfl

/-- The sum of a row function over the rows of a point whose number is `q` modulo 8. -/
def part (R : Fin 256 → Fin 4096) (f : Fin 4096 → Fin 1024 → ℝ) (q : Fin 8) (i : Fin 1024) : ℝ :=
  ∑ s : Fin 32, f (R ⟨8 * s.val + q.val, by omega⟩) i

theorem part_of (f : Fin 4096 → Fin 1024 → ℝ) (v : Arr 256 1024) (e : ∀ a j, v (ix2 a j) = ((f (R a) j : ℝ) : EReal)) (q : Fin 8)
    (i : Fin 1024) (h : ∀ s : Fin 32, s.val * 8 + q.val < 256) :
    ∑ s : Fin 32, v (ix2 ⟨s.val * 8 + q.val, h s⟩ i) = ((part R f q i : ℝ) : EReal) := by
  unfold part
  rw [← coe_sum]
  refine Finset.sum_congr rfl fun s _ => (e _ _).trans ?_
  exact congrArg (fun z => ((f (R z) i : ℝ) : EReal)) (Fin.ext (by show s.val * 8 + q.val = 8 * s.val + q.val; omega))

theorem gainF_tile (B : Blocks A R y gainF target x gain g u wg wu wd) (q : Fin 8) (i : Fin 1024) :
    k0_pay14 (F := Ideal) y gainF target (ix2 q i) = ((part R A.gainFTerm q i : ℝ) : EReal) := by
  have e2 := unit_y B
  have e3 := mean_err B
  have e : ∀ a j, mulf (F := Ideal) (k0_pay12 (F := Ideal) y gainF target) (k0_pay10 (F := Ideal) y) (ix2 a j) = ((A.gainFTerm (R a) j : ℝ) : EReal) := by
    intro a j
    generalize k0_pay10 (F := Ideal) y = v2 at *
    generalize k0_pay12 (F := Ideal) y gainF target = v3 at *
    pointwise
    simp only [e2, e3, ← EReal.coe_mul]
    rfl
  unfold k0_pay14
  generalize mulf (F := Ideal) (k0_pay12 (F := Ideal) y gainF target) (k0_pay10 (F := Ideal) y) = v at *
  pointwise
  exact part_of _ v e q i _

theorem add_gainF (v : Arr 8 1024) (w : Arr 8 1024) (q : Fin 8) (i : Fin 1024) :
    k0_pay6 (F := Ideal) v w (ix2 q i) = w (ix2 q i) + v (ix2 q i) := by
  pointwise [k0_pay6]

theorem add_loss (B : Blocks A R y gainF target x gain g u wg wu wd) (w : Arr 8 1024) (q : Fin 8) (i : Fin 1024) :
    k0_pay7 (F := Ideal) (k0_pay11 y gainF target) w (ix2 q i) = w (ix2 q i) + ((part R A.lossTerm q i : ℝ) : EReal) := by
  have e := err_tile B
  generalize k0_pay11 (F := Ideal) y gainF target = v at *
  pointwise [k0_pay7]
  refine congrArg (w (ix2 q i) + ·) ?_
  simp only [e, ← EReal.coe_mul, ofBits_inv2048, coe_sum]
  refine congrArg _ ?_
  unfold part
  rw [Finset.sum_mul]
  refine Finset.sum_congr rfl fun s _ => ?_
  unfold Args.lossTerm
  simp only [Nat.mul_comm]

/-! ### The two gradients of the hidden layer, chunk by chunk -/

theorem chunk_lt (o : ℕ) (hh : ∀ a, (![0, o] : Fin 2 → Nat) a + S256x256.size a ≤ S256x2816.size a) (k : Fin 256) : o + k.val < 2816 := by
  have : o + 256 ≤ 2816 := hh 1
  omega

section Chunk
variable (o : ℕ) (hw : ∀ a, (![o, 0] : Fin 2 → Nat) a + S256x1024.size a ≤ S2816x1024.size a)
  (hh : ∀ a, (![0, o] : Fin 2 → Nat) a + S256x256.size a ≤ S256x2816.size a)

/-- Columns `o … o + 255` of a hidden block; rows `o … o + 255` of the down projection's weight. -/
abbrev cols (v : Arr 256 2816) : FVec Ideal S256x256 .bf16 :=
  View.ld (Val := Elt Ideal) (S := S256x2816) (e' := .bf16) v (Rect.unit (s := S256x2816) ![0, o] S256x256.size hh)
abbrev wrows (v : Arr 2816 1024) : FVec Ideal S256x1024 .bf16 :=
  View.ld (Val := Elt Ideal) (S := S2816x1024) (e' := .bf16) v (Rect.unit (s := S2816x1024) ![o, 0] S256x1024.size hw)

theorem emb_chunk (a k : Fin 256) :
    (Rect.unit (s := S256x2816) ![0, o] S256x256.size hh).emb (ix2 a k) = ix2 a ⟨o + k.val, chunk_lt o hh k⟩ := by
  funext z
  refine Fin.ext ?_
  rw [Rect.emb_apply]
  match z with
  | ⟨0, _⟩ => show 0 + 1 * a.val = a.val; omega
  | ⟨1, _⟩ => show o + 1 * k.val = o + k.val; omega

theorem emb_wrows (k : Fin 256) (j : Fin 1024) :
    (Rect.unit (s := S2816x1024) ![o, 0] S256x1024.size hw).emb (ix2 k j) = ix2 ⟨o + k.val, chunk_lt o hh k⟩ j := by
  funext z
  refine Fin.ext ?_
  rw [Rect.emb_apply]
  match z with
  | ⟨0, _⟩ => show o + 1 * k.val = o + k.val; omega
  | ⟨1, _⟩ => show 0 + 1 * j.val = j.val; omega

theorem cols_apply (v : Arr 256 2816) (a k : Fin 256) : cols o hh v (ix2 a k) = v (ix2 a ⟨o + k.val, chunk_lt o hh k⟩) :=
  congrArg v (emb_chunk o hh a k)

theorem rows_apply (v : Arr 2816 1024) (k : Fin 256) (j : Fin 1024) : wrows o hw v (ix2 k j) = v (ix2 ⟨o + k.val, chunk_lt o hh k⟩ j) :=
  congrArg v (emb_wrows o hw hh k j)

theorem da_chunk (B : Blocks A R y gainF target x gain g u wg wu wd) (a k : Fin 256) :
    k0_pay17 (F := Ideal) (k0_pay15 y gainF target) (k0_pay16 (wrows o hw wd)) (ix2 a k) =
      ((A.da (R a) ⟨o + k.val, chunk_lt o hh k⟩ : ℝ) : EReal) := by
  have e1 := db_tile B
  have e2 := rows_apply o hw hh wd
  generalize k0_pay15 (F := Ideal) y gainF target = v1 at *
  generalize wrows o hw wd = v2 at *
  pointwise [k0_pay17, k0_pay16]
  simp only [e1, e2, B.wd, ← EReal.coe_mul, coe_sum]
  rfl

theorem sig_chunk (B : Blocks A R y gainF target x gain g u wg wu wd) (a k : Fin 256) :
    k0_pay19 (F := Ideal) (cols o hh g) (ix2 a k) =
      ((sig (A.g (R a) ⟨o + k.val, chunk_lt o hh k⟩) : ℝ) : EReal) := by
  have e2 := cols_apply o hh g
  generalize cols o hh g = v2 at *
  pointwise [k0_pay19, k0_pay18]
  simp only [e2, B.g]
  exact Ideal.logistic_coe _

/-- A chunk of the gate's gradient. -/
theorem dg_chunk (B : Blocks A R y gainF target x gain g u wg wu wd) (a k : Fin 256) :
    k0_pay20 (F := Ideal) (k0_pay15 y gainF target) (k0_pay16 (wrows o hw wd))
      (cols o hh g) (cols o hh u) (ix2 a k) =
      ((A.dg (R a) ⟨o + k.val, chunk_lt o hh k⟩ : ℝ) : EReal) := by
  have e1 := da_chunk o hw hh B
  have e2 := sig_chunk o hh B
  have e3 := cols_apply o hh g
  have e4 := cols_apply o hh u
  unfold k0_pay20
  generalize k0_pay17 (F := Ideal) (k0_pay15 y gainF target) (k0_pay16 (wrows o hw wd)) = v1 at *
  generalize k0_pay19 (F := Ideal) (cols o hh g) = v2 at *
  generalize cols o hh g = v3 at *
  generalize cols o hh u = v4 at *
  pointwise [k0_pay18]
  simp only [e1, e2, e3, e4, B.g, B.u, show (1 : EReal) = ((1 : ℝ) : EReal) from rfl, ← EReal.coe_mul, ← EReal.coe_add, ← EReal.coe_sub]
  rfl

/-- A chunk of the up projection's gradient. -/
theorem du_chunk (B : Blocks A R y gainF target x gain g u wg wu wd) (a k : Fin 256) :
    k0_pay21 (F := Ideal) (k0_pay15 y gainF target) (k0_pay16 (wrows o hw wd))
      (cols o hh g) (ix2 a k) =
      ((A.du (R a) ⟨o + k.val, chunk_lt o hh k⟩ : ℝ) : EReal) := by
  have e1 := da_chunk o hw hh B
  have e2 := sig_chunk o hh B
  have e3 := cols_apply o hh g
  unfold k0_pay21
  generalize k0_pay17 (F := Ideal) (k0_pay15 y gainF target) (k0_pay16 (wrows o hw wd)) = v1 at *
  generalize k0_pay19 (F := Ideal) (cols o hh g) = v2 at *
  generalize cols o hh g = v3 at *
  pointwise [k0_pay18]
  simp only [e1, e2, e3, B.g, ← EReal.coe_mul]
  rfl

end Chunk

/-! ### The first norm and its gradient -/

/-- The hidden layer's gradients of a point, as real blocks. -/
def dgBlock (A : Args) (R : Fin 256 → Fin 4096) : Arr 256 2816 := fun i => ((A.dg (R (i 0)) (i 1) : ℝ) : EReal)
def duBlock (A : Args) (R : Fin 256 → Fin 4096) : Arr 256 2816 := fun i => ((A.du (R (i 0)) (i 1) : ℝ) : EReal)
theorem dgBlock_ix2 (a : Fin 256) (f : Fin 2816) : dgBlock A R (ix2 a f) = ((A.dg (R a) f : ℝ) : EReal) := rfl
theorem duBlock_ix2 (a : Fin 256) (f : Fin 2816) : duBlock A R (ix2 a f) = ((A.du (R a) f : ℝ) : EReal) := rfl

theorem dh_tile (B : Blocks A R y gainF target x gain g u wg wu wd) (a : Fin 256) (j : Fin 1024) :
    k0_pay76 (F := Ideal) (dgBlock A R) wg (duBlock A R) wu (ix2 a j) = ((A.dh (R a) j : ℝ) : EReal) := by
  pointwise [k0_pay76]
  simp only [dgBlock_ix2, duBlock_ix2, B.wg, B.wu, ← EReal.coe_mul, coe_sum, ← EReal.coe_add]
  rfl

theorem inv_x (B : Blocks A R y gainF target x gain g u wg wu wd) (a : Fin 256) (z : Fin 1) :
    k0_pay77 (F := Ideal) x (ix2 a z) = ((inv (A.x (R a)) : ℝ) : EReal) := by
  have e := B.x
  pointwise [k0_pay77]
  simp only [e, ← EReal.coe_mul, coe_sum, ofBits_1024, ofBits_eps, div_real _ _ (by norm_num : (0:ℝ) < 1024), ← EReal.coe_add]
  exact rsqrt_real _ (ms_pos (A.x (R a)))

theorem unit_x (B : Blocks A R y gainF target x gain g u wg wu wd) (a : Fin 256) (j : Fin 1024) :
    k0_pay78 (F := Ideal) x (ix2 a j) = ((unit (A.x (R a)) j : ℝ) : EReal) := by
  have e := B.x
  have e1 := inv_x B
  unfold k0_pay78
  generalize k0_pay77 (F := Ideal) x = v at *
  pointwise
  simp only [e, e1, ← EReal.coe_mul]
  rfl

theorem dxn_tile (B : Blocks A R y gainF target x gain g u wg wu wd) (a : Fin 256) (j : Fin 1024) :
    k0_pay79 (F := Ideal) (dgBlock A R) wg (duBlock A R) wu x gain (ix2 a j) =
      ((back (A.x (R a)) (fun j => A.dh (R a) j * A.gain j) j : ℝ) : EReal) := by
  have e1 := inv_x B
  have e2 := unit_x B
  have e3 := dh_tile B
  unfold k0_pay79
  generalize k0_pay77 (F := Ideal) x = v1 at *
  generalize k0_pay78 (F := Ideal) x = v2 at *
  generalize k0_pay76 (F := Ideal) (dgBlock A R) wg (duBlock A R) wu = v3 at *
  pointwise
  simp only [e1, e2, e3, B.gain, ← EReal.coe_mul, ← EReal.coe_sub, coe_sum, ofBits_1024, div_real _ _ (by norm_num : (0:ℝ) < 1024)]
  rfl

theorem dx_tile (B : Blocks A R y gainF target x gain g u wg wu wd) (a : Fin 256) (j : Fin 1024) :
    k0_pay1 (F := Ideal) (k0_pay13 y gainF target) (k0_pay79 (dgBlock A R) wg (duBlock A R) wu x gain) (ix2 a j) = ((A.dx (R a) j : ℝ) : EReal) := by
  have e1 := dy_tile B
  have e2 := dxn_tile B
  generalize k0_pay13 (F := Ideal) y gainF target = v1 at *
  generalize k0_pay79 (F := Ideal) (dgBlock A R) wg (duBlock A R) wu x gain = v2 at *
  pointwise [k0_pay1]
  simp only [e1, e2, ← EReal.coe_add]
  rfl

theorem add_gain (B : Blocks A R y gainF target x gain g u wg wu wd) (w : Arr 8 1024) (q : Fin 8) (i : Fin 1024) :
    k0_pay5 (F := Ideal) (k0_pay80 (dgBlock A R) wg (duBlock A R) wu x) w (ix2 q i) = w (ix2 q i) + ((part R A.gainTerm q i : ℝ) : EReal) := by
  have e2 := unit_x B
  have e3 := dh_tile B
  have e : ∀ a j, k0_pay80 (F := Ideal) (dgBlock A R) wg (duBlock A R) wu x (ix2 a j) = ((A.gainTerm (R a) j : ℝ) : EReal) := by
    intro a j
    unfold k0_pay80
    generalize k0_pay78 (F := Ideal) x = v2 at *
    generalize k0_pay76 (F := Ideal) (dgBlock A R) wg (duBlock A R) wu = v3 at *
    pointwise
    simp only [e2, e3, ← EReal.coe_mul]
    rfl
  generalize k0_pay80 (F := Ideal) (dgBlock A R) wg (duBlock A R) wu x = v at *
  pointwise [k0_pay5]
  exact congrArg (w (ix2 q i) + ·) (part_of _ v e q i _)

end Cert.HeadGrad

end
-- ==== Proof.HeadReference.lean ====
/- What the reference's seven results are: the formulas of the module `HeadMath`. -/
module

public import proofs.«01_k».proof.Proof.Gen.HeadReferenceIdeal.Read
public import proofs.«01_k».proof.Proof.HeadMath
public import proofs.«01_k».proof.Proof.Gradient
public import Idealize.ShloMosaic.Lib.IdealHost

@[expose] public section

set_option maxRecDepth 16384

noncomputable section

open Idealize.ShloMosaic Idealize.ShloMosaic.TcCoe Idealize.SL.Sem

namespace Cert.HeadGrad.Ref

open Cert.HeadReferenceIdeal Cert.HeadReferenceIdeal.Read
open Cert.Mix (Arr)

variable (A : Args)

theorem v5_apply (r : Fin 4096) : val_main_v5 (F := Ideal) A.aX (ix1 r) = ((∑ j, A.x r j * A.x r j : ℝ) : EReal) := by
  unfold val_main_v5 val_main_v4
  pointwise [val_main_cst_1]
  simp only [aX_ix2, aGain_ix2, aWg_ix2, aWu_ix2, aWd_ix2, aGainF_ix2, aTarget_ix2, ← EReal.coe_mul, ← EReal.coe_add, ← EReal.coe_sub, coe_sum]

theorem v10_apply (r : Fin 4096) (z : Fin 1) : val_main_v10 (F := Ideal) A.aX (ix2 r z) = ((ms (A.x r) : ℝ) : EReal) := by
  have e0 := v5_apply A
  unfold val_main_v10 val_main_v8 val_main_v6
  generalize val_main_v5 (F := Ideal) A.aX = y0 at *
  pointwise [val_main_v9, val_main_v7, val_main_cst_2, val_main_cst_3]
  simp only [e0, ofBits_1024, ofBits_eps, div_real _ _ (by norm_num : (0:ℝ) < 1024), aX_ix2, aGain_ix2, aWg_ix2, aWu_ix2, aWd_ix2, aGainF_ix2, aTarget_ix2, ← EReal.coe_mul, ← EReal.coe_add, ← EReal.coe_sub, coe_sum]
  rfl

theorem v11_apply (r : Fin 4096) (z : Fin 1) : val_main_v11 (F := Ideal) A.aX (ix2 r z) = ((inv (A.x r) : ℝ) : EReal) := by
  have e0 := v10_apply A
  unfold val_main_v11
  generalize val_main_v10 (F := Ideal) A.aX = y0 at *
  pointwise
  simp only [e0, rsqrt_real _ (ms_pos _), aX_ix2, aGain_ix2, aWg_ix2, aWu_ix2, aWd_ix2, aGainF_ix2, aTarget_ix2, ← EReal.coe_mul, ← EReal.coe_add, ← EReal.coe_sub, coe_sum]
  rfl

theorem v14_apply (r : Fin 4096) (z : Fin 1) : val_main_v14 (F := Ideal) A.aX (ix2 r z) = ((-(1 / 2) * (inv (A.x r) / ms (A.x r)) : ℝ) : EReal) := by
  have e0 := v11_apply A
  have e1 := v10_apply A
  unfold val_main_v14 val_main_v12
  generalize val_main_v11 (F := Ideal) A.aX = y0 at *
  generalize val_main_v10 (F := Ideal) A.aX = y1 at *
  pointwise [val_main_v13, val_main_cst_4]
  simp only [e0, e1, ofBits_neg_half, div_real _ _ (ms_pos _), aX_ix2, aGain_ix2, aWg_ix2, aWu_ix2, aWd_ix2, aGainF_ix2, aTarget_ix2, ← EReal.coe_mul, ← EReal.coe_add, ← EReal.coe_sub, coe_sum]

theorem v16_apply (r : Fin 4096) (i : Fin 1024) : val_main_v16 (F := Ideal) A.aX (ix2 r i) = ((unit (A.x r) i : ℝ) : EReal) := by
  have e0 := v11_apply A
  unfold val_main_v16 val_main_v15
  generalize val_main_v11 (F := Ideal) A.aX = y0 at *
  pointwise
  simp only [e0, aX_ix2, aGain_ix2, aWg_ix2, aWu_ix2, aWd_ix2, aGainF_ix2, aTarget_ix2, ← EReal.coe_mul, ← EReal.coe_add, ← EReal.coe_sub, coe_sum]
  rfl

theorem v17_apply (r : Fin 4096) (i : Fin 1024) : val_main_v17 (F := Ideal) A.aX A.aGain (ix2 r i) = ((A.h r i : ℝ) : EReal) := by
  have e0 := v16_apply A
  unfold val_main_v17
  generalize val_main_v16 (F := Ideal) A.aX = y0 at *
  pointwise [val_main_v1]
  simp only [e0, aX_ix2, aGain_ix2, aWg_ix2, aWu_ix2, aWd_ix2, aGainF_ix2, aTarget_ix2, ← EReal.coe_mul, ← EReal.coe_add, ← EReal.coe_sub, coe_sum]
  rfl

theorem v19_apply (r : Fin 4096) (f : Fin 2816) : val_main_v19 (F := Ideal) A.aX A.aGain A.aWg (ix2 r f) = ((A.g r f : ℝ) : EReal) := by
  have e0 := v17_apply A
  unfold val_main_v19 val_main_v18
  generalize val_main_v17 (F := Ideal) A.aX A.aGain = y0 at *
  pointwise [val_main_v0, val_main_cst]
  simp only [e0, aX_ix2, aGain_ix2, aWg_ix2, aWu_ix2, aWd_ix2, aGainF_ix2, aTarget_ix2, ← EReal.coe_mul, ← EReal.coe_add, ← EReal.coe_sub, coe_sum]
  rfl

theorem v22_apply (r : Fin 4096) (f : Fin 2816) : val_main_v22 (F := Ideal) A.aX A.aGain A.aWu (ix2 r f) = ((A.u r f : ℝ) : EReal) := by
  have e0 := v17_apply A
  unfold val_main_v22 val_main_v21
  generalize val_main_v17 (F := Ideal) A.aX A.aGain = y0 at *
  pointwise [val_main_v0, val_main_cst]
  simp only [e0, aX_ix2, aGain_ix2, aWg_ix2, aWu_ix2, aWd_ix2, aGainF_ix2, aTarget_ix2, ← EReal.coe_mul, ← EReal.coe_add, ← EReal.coe_sub, coe_sum]
  rfl

theorem sigmoid_real (g : ℝ) : Ideal.div 1 (1 + Ideal.exp (-(g : EReal))) = ((sig g : ℝ) : EReal) := by
  rw [← EReal.coe_neg, Ideal.exp_coe, show (1 : EReal) = ((1 : ℝ) : EReal) from rfl, ← EReal.coe_add, div_real _ _ (exp_add_pos g)]
  exact congrArg _ (one_div _)

theorem v20_2_apply (r : Fin 4096) (f : Fin 2816) : val_main_v20_2 (F := Ideal) A.aX A.aGain A.aWg (ix2 r f) = ((sig (A.g r f) : ℝ) : EReal) := by
  have e0 := v19_apply A
  unfold val_main_v20_2 val_main_call0_v3 val_main_call0_v1 val_main_call0_v0
  generalize val_main_v19 (F := Ideal) A.aX A.aGain A.aWg = y0 at *
  pointwise [val_main_call0_v4, val_main_call0_v2, val_main_call0_cst_0, val_main_call0_cst]
  simp only [e0, aX_ix2, aGain_ix2, aWg_ix2, aWu_ix2, aWd_ix2, aGainF_ix2, aTarget_ix2, ← EReal.coe_mul, ← EReal.coe_add, ← EReal.coe_sub, coe_sum]
  exact sigmoid_real _

theorem v20_1_apply (r : Fin 4096) (f : Fin 2816) : val_main_v20_1 (F := Ideal) A.aX A.aGain A.aWg (ix2 r f) = ((sig (A.g r f) * (1 - sig (A.g r f)) : ℝ) : EReal) := by
  have e0 := v20_2_apply A
  unfold val_main_v20_1 val_main_call0_v7
  generalize val_main_v20_2 (F := Ideal) A.aX A.aGain A.aWg = y0 at *
  pointwise [val_main_call0_v6, val_main_call0_cst_1]
  simp only [e0, show (1 : EReal) = ((1 : ℝ) : EReal) from rfl, aX_ix2, aGain_ix2, aWg_ix2, aWu_ix2, aWd_ix2, aGainF_ix2, aTarget_ix2, ← EReal.coe_mul, ← EReal.coe_add, ← EReal.coe_sub, coe_sum]

theorem v20_0_apply (r : Fin 4096) (f : Fin 2816) : val_main_v20_0 (F := Ideal) A.aX A.aGain A.aWg (ix2 r f) = ((A.g r f * sig (A.g r f) : ℝ) : EReal) := by
  have e0 := v19_apply A
  have e1 := v20_2_apply A
  unfold val_main_v20_0
  generalize val_main_v19 (F := Ideal) A.aX A.aGain A.aWg = y0 at *
  generalize val_main_v20_2 (F := Ideal) A.aX A.aGain A.aWg = y1 at *
  pointwise
  simp only [e0, e1, aX_ix2, aGain_ix2, aWg_ix2, aWu_ix2, aWd_ix2, aGainF_ix2, aTarget_ix2, ← EReal.coe_mul, ← EReal.coe_add, ← EReal.coe_sub, coe_sum]

theorem v23_apply (r : Fin 4096) (f : Fin 2816) : val_main_v23 (F := Ideal) A.aX A.aGain A.aWg A.aWu (ix2 r f) = ((A.g r f * sig (A.g r f) * A.u r f : ℝ) : EReal) := by
  have e0 := v20_0_apply A
  have e1 := v22_apply A
  unfold val_main_v23
  generalize val_main_v20_0 (F := Ideal) A.aX A.aGain A.aWg = y0 at *
  generalize val_main_v22 (F := Ideal) A.aX A.aGain A.aWu = y1 at *
  pointwise
  simp only [e0, e1, aX_ix2, aGain_ix2, aWg_ix2, aWu_ix2, aWd_ix2, aGainF_ix2, aTarget_ix2, ← EReal.coe_mul, ← EReal.coe_add, ← EReal.coe_sub, coe_sum]

/-- The layer's output. -/
theorem v28_apply (r : Fin 4096) (i : Fin 1024) : val_main_v28 (F := Ideal) A.aX A.aGain A.aWg A.aWu A.aWd (ix2 r i) = ((A.y r i : ℝ) : EReal) := by
  have e0 := v23_apply A
  unfold val_main_v28 val_main_v27 val_main_v25 val_main_v24
  generalize val_main_v23 (F := Ideal) A.aX A.aGain A.aWg A.aWu = y0 at *
  pointwise [val_main_v26, val_main_cst_5, val_main_v3, val_main_cst_0]
  simp only [e0, ofBits_half, aX_ix2, aGain_ix2, aWg_ix2, aWu_ix2, aWd_ix2, aGainF_ix2, aTarget_ix2, ← EReal.coe_mul, ← EReal.coe_add, ← EReal.coe_sub, coe_sum]
  rfl

theorem v30_apply (r : Fin 4096) : val_main_v30 (F := Ideal) A.aX A.aGain A.aWg A.aWu A.aWd (ix1 r) = ((∑ j, A.y r j * A.y r j : ℝ) : EReal) := by
  have e0 := v28_apply A
  unfold val_main_v30 val_main_v29
  generalize val_main_v28 (F := Ideal) A.aX A.aGain A.aWg A.aWu A.aWd = y0 at *
  pointwise [val_main_cst_6]
  simp only [e0, aX_ix2, aGain_ix2, aWg_ix2, aWu_ix2, aWd_ix2, aGainF_ix2, aTarget_ix2, ← EReal.coe_mul, ← EReal.coe_add, ← EReal.coe_sub, coe_sum]

theorem v35_apply (r : Fin 4096) (z : Fin 1) : val_main_v35 (F := Ideal) A.aX A.aGain A.aWg A.aWu A.aWd (ix2 r z) = ((ms (A.y r) : ℝ) : EReal) := by
  have e0 := v30_apply A
  unfold val_main_v35 val_main_v33 val_main_v31
  generalize val_main_v30 (F := Ideal) A.aX A.aGain A.aWg A.aWu A.aWd = y0 at *
  pointwise [val_main_v34, val_main_v32, val_main_cst_7, val_main_cst_8]
  simp only [e0, ofBits_1024, ofBits_eps, div_real _ _ (by norm_num : (0:ℝ) < 1024), aX_ix2, aGain_ix2, aWg_ix2, aWu_ix2, aWd_ix2, aGainF_ix2, aTarget_ix2, ← EReal.coe_mul, ← EReal.coe_add, ← EReal.coe_sub, coe_sum]
  rfl

theorem v36_apply (r : Fin 4096) (z : Fin 1) : val_main_v36 (F := Ideal) A.aX A.aGain A.aWg A.aWu A.aWd (ix2 r z) = ((inv (A.y r) : ℝ) : EReal) := by
  have e0 := v35_apply A
  unfold val_main_v36
  generalize val_main_v35 (F := Ideal) A.aX A.aGain A.aWg A.aWu A.aWd = y0 at *
  pointwise
  simp only [e0, rsqrt_real _ (ms_pos _), aX_ix2, aGain_ix2, aWg_ix2, aWu_ix2, aWd_ix2, aGainF_ix2, aTarget_ix2, ← EReal.coe_mul, ← EReal.coe_add, ← EReal.coe_sub, coe_sum]
  rfl

theorem v39_apply (r : Fin 4096) (z : Fin 1) : val_main_v39 (F := Ideal) A.aX A.aGain A.aWg A.aWu A.aWd (ix2 r z) = ((-(1 / 2) * (inv (A.y r) / ms (A.y r)) : ℝ) : EReal) := by
  have e0 := v36_apply A
  have e1 := v35_apply A
  unfold val_main_v39 val_main_v37
  generalize val_main_v36 (F := Ideal) A.aX A.aGain A.aWg A.aWu A.aWd = y0 at *
  generalize val_main_v35 (F := Ideal) A.aX A.aGain A.aWg A.aWu A.aWd = y1 at *
  pointwise [val_main_v38, val_main_cst_9]
  simp only [e0, e1, ofBits_neg_half, div_real _ _ (ms_pos _), aX_ix2, aGain_ix2, aWg_ix2, aWu_ix2, aWd_ix2, aGainF_ix2, aTarget_ix2, ← EReal.coe_mul, ← EReal.coe_add, ← EReal.coe_sub, coe_sum]

theorem v41_apply (r : Fin 4096) (i : Fin 1024) : val_main_v41 (F := Ideal) A.aX A.aGain A.aWg A.aWu A.aWd (ix2 r i) = ((unit (A.y r) i : ℝ) : EReal) := by
  have e0 := v28_apply A
  have e1 := v36_apply A
  unfold val_main_v41 val_main_v40
  generalize val_main_v28 (F := Ideal) A.aX A.aGain A.aWg A.aWu A.aWd = y0 at *
  generalize val_main_v36 (F := Ideal) A.aX A.aGain A.aWg A.aWu A.aWd = y1 at *
  pointwise
  simp only [e0, e1, aX_ix2, aGain_ix2, aWg_ix2, aWu_ix2, aWd_ix2, aGainF_ix2, aTarget_ix2, ← EReal.coe_mul, ← EReal.coe_add, ← EReal.coe_sub, coe_sum]
  rfl

theorem v43_apply (r : Fin 4096) (i : Fin 1024) : val_main_v43 (F := Ideal) A.aX A.aGain A.aWg A.aWu A.aWd A.aGainF A.aTarget (ix2 r i) = ((A.err r i : ℝ) : EReal) := by
  have e0 := v41_apply A
  unfold val_main_v43 val_main_v42
  generalize val_main_v41 (F := Ideal) A.aX A.aGain A.aWg A.aWu A.aWd = y0 at *
  pointwise [val_main_v2]
  simp only [e0, aX_ix2, aGain_ix2, aWg_ix2, aWu_ix2, aWd_ix2, aGainF_ix2, aTarget_ix2, ← EReal.coe_mul, ← EReal.coe_add, ← EReal.coe_sub, coe_sum]
  rfl

theorem v57_apply (r : Fin 4096) (i : Fin 1024) : val_main_v57 (F := Ideal) A.aX A.aGain A.aWg A.aWu A.aWd A.aGainF A.aTarget (ix2 r i) = ((A.err r i * (1 / 1024) : ℝ) : EReal) := by
  have e0 := v43_apply A
  unfold val_main_v57 val_main_v56 val_main_v55 val_main_v53 val_main_v52 val_main_v46
  generalize val_main_v43 (F := Ideal) A.aX A.aGain A.aWg A.aWu A.aWd A.aGainF A.aTarget = y0 at *
  pointwise [val_main_cst_15, val_main_cst_16, val_main_v54, val_main_cst_17, val_main_v45, val_main_cst_10]
  simp only [e0, ofBits_half, ofBits_two, ofBits_1024, mul_one, div_real _ _ (by norm_num : (0:ℝ) < 1024), aX_ix2, aGain_ix2, aWg_ix2, aWu_ix2, aWd_ix2, aGainF_ix2, aTarget_ix2, ← EReal.coe_mul, ← EReal.coe_add, ← EReal.coe_sub, coe_sum]
  refine congrArg _ ?_
  ring

/-- A row's part of the final gain's gradient. -/
theorem v58_apply (r : Fin 4096) (i : Fin 1024) : val_main_v58 (F := Ideal) A.aX A.aGain A.aWg A.aWu A.aWd A.aGainF A.aTarget (ix2 r i) = ((A.gainFTerm r i : ℝ) : EReal) := by
  have e0 := v41_apply A
  have e1 := v57_apply A
  unfold val_main_v58
  generalize val_main_v41 (F := Ideal) A.aX A.aGain A.aWg A.aWu A.aWd = y0 at *
  generalize val_main_v57 (F := Ideal) A.aX A.aGain A.aWg A.aWu A.aWd A.aGainF A.aTarget = y1 at *
  pointwise
  simp only [e0, e1, aX_ix2, aGain_ix2, aWg_ix2, aWu_ix2, aWd_ix2, aGainF_ix2, aTarget_ix2, ← EReal.coe_mul, ← EReal.coe_add, ← EReal.coe_sub, coe_sum]
  exact congrArg _ (mul_comm _ _)

theorem v59_apply (r : Fin 4096) (i : Fin 1024) : val_main_v59 (F := Ideal) A.aX A.aGain A.aWg A.aWu A.aWd A.aGainF A.aTarget (ix2 r i) = ((A.err r i * (1 / 1024) * A.gainF i : ℝ) : EReal) := by
  have e0 := v57_apply A
  unfold val_main_v59
  generalize val_main_v57 (F := Ideal) A.aX A.aGain A.aWg A.aWu A.aWd A.aGainF A.aTarget = y0 at *
  pointwise [val_main_v2]
  simp only [e0, aX_ix2, aGain_ix2, aWg_ix2, aWu_ix2, aWd_ix2, aGainF_ix2, aTarget_ix2, ← EReal.coe_mul, ← EReal.coe_add, ← EReal.coe_sub, coe_sum]

theorem v61_apply (r : Fin 4096) : val_main_v61 (F := Ideal) A.aX A.aGain A.aWg A.aWu A.aWd A.aGainF A.aTarget (ix1 r) = ((∑ j, A.y r j * (A.err r j * (1 / 1024) * A.gainF j) : ℝ) : EReal) := by
  have e0 := v28_apply A
  have e1 := v59_apply A
  unfold val_main_v61 val_main_v60
  generalize val_main_v28 (F := Ideal) A.aX A.aGain A.aWg A.aWu A.aWd = y0 at *
  generalize val_main_v59 (F := Ideal) A.aX A.aGain A.aWg A.aWu A.aWd A.aGainF A.aTarget = y1 at *
  pointwise [val_main_cst_18]
  simp only [e0, e1, aX_ix2, aGain_ix2, aWg_ix2, aWu_ix2, aWd_ix2, aGainF_ix2, aTarget_ix2, ← EReal.coe_mul, ← EReal.coe_add, ← EReal.coe_sub, coe_sum]

theorem v68_apply (r : Fin 4096) : val_main_v68 (F := Ideal) A.aX A.aGain A.aWg A.aWu A.aWd A.aGainF A.aTarget (ix1 r) = (((∑ j, A.y r j * (A.err r j * (1 / 1024) * A.gainF j)) * (-(1 / 2) * (inv (A.y r) / ms (A.y r))) / 1024 : ℝ) : EReal) := by
  have e0 := v61_apply A
  have e1 := v39_apply A
  unfold val_main_v68 val_main_v67 val_main_v65 val_main_v62
  generalize val_main_v61 (F := Ideal) A.aX A.aGain A.aWg A.aWu A.aWd A.aGainF A.aTarget = y0 at *
  generalize val_main_v39 (F := Ideal) A.aX A.aGain A.aWg A.aWu A.aWd = y1 at *
  pointwise [val_main_v66, val_main_cst_19, val_main_cst_20]
  simp only [e0, e1, ofBits_1024, div_real _ _ (by norm_num : (0:ℝ) < 1024), Finset.univ_unique, Finset.sum_singleton, aX_ix2, aGain_ix2, aWg_ix2, aWu_ix2, aWd_ix2, aGainF_ix2, aTarget_ix2, ← EReal.coe_mul, ← EReal.coe_add, ← EReal.coe_sub, coe_sum]

/-- The gradient of the layer's output. -/
theorem v73_apply (r : Fin 4096) (i : Fin 1024) : val_main_v73 (F := Ideal) A.aX A.aGain A.aWg A.aWu A.aWd A.aGainF A.aTarget (ix2 r i) = ((A.dy r i : ℝ) : EReal) := by
  have e0 := v28_apply A
  have e1 := v36_apply A
  have e2 := v59_apply A
  have e3 := v68_apply A
  unfold val_main_v73 val_main_v72 val_main_v71 val_main_v70 val_main_v69 val_main_v64 val_main_v63
  generalize val_main_v28 (F := Ideal) A.aX A.aGain A.aWg A.aWu A.aWd = y0 at *
  generalize val_main_v36 (F := Ideal) A.aX A.aGain A.aWg A.aWu A.aWd = y1 at *
  generalize val_main_v59 (F := Ideal) A.aX A.aGain A.aWg A.aWu A.aWd A.aGainF A.aTarget = y2 at *
  generalize val_main_v68 (F := Ideal) A.aX A.aGain A.aWg A.aWu A.aWd A.aGainF A.aTarget = y3 at *
  pointwise
  simp only [e0, e1, e2, e3, aX_ix2, aGain_ix2, aWg_ix2, aWu_ix2, aWd_ix2, aGainF_ix2, aTarget_ix2, ← EReal.coe_mul, ← EReal.coe_add, ← EReal.coe_sub, coe_sum]
  exact congrArg _ (back_eq (A.y r) (fun j => A.err r j * (1 / 1024) * A.gainF j) i)

theorem v75_apply (r : Fin 4096) (i : Fin 1024) : val_main_v75 (F := Ideal) A.aX A.aGain A.aWg A.aWu A.aWd A.aGainF A.aTarget (ix2 r i) = ((A.db r i : ℝ) : EReal) := by
  have e0 := v73_apply A
  unfold val_main_v75
  generalize val_main_v73 (F := Ideal) A.aX A.aGain A.aWg A.aWu A.aWd A.aGainF A.aTarget = y0 at *
  pointwise [val_main_v74, val_main_cst_21]
  simp only [e0, ofBits_half, aX_ix2, aGain_ix2, aWg_ix2, aWu_ix2, aWd_ix2, aGainF_ix2, aTarget_ix2, ← EReal.coe_mul, ← EReal.coe_add, ← EReal.coe_sub, coe_sum]
  rfl

theorem v76_apply (r : Fin 4096) (f : Fin 2816) : val_main_v76 (F := Ideal) A.aX A.aGain A.aWg A.aWu A.aWd A.aGainF A.aTarget (ix2 r f) = ((A.da r f : ℝ) : EReal) := by
  have e0 := v75_apply A
  unfold val_main_v76
  generalize val_main_v75 (F := Ideal) A.aX A.aGain A.aWg A.aWu A.aWd A.aGainF A.aTarget = y0 at *
  pointwise
  simp only [e0, aX_ix2, aGain_ix2, aWg_ix2, aWu_ix2, aWd_ix2, aGainF_ix2, aTarget_ix2, ← EReal.coe_mul, ← EReal.coe_add, ← EReal.coe_sub, coe_sum]
  rfl

theorem v77_apply (r : Fin 4096) (f : Fin 2816) : val_main_v77 (F := Ideal) A.aX A.aGain A.aWg A.aWu A.aWd A.aGainF A.aTarget (ix2 r f) = ((A.du r f : ℝ) : EReal) := by
  have e0 := v20_0_apply A
  have e1 := v76_apply A
  unfold val_main_v77
  generalize val_main_v20_0 (F := Ideal) A.aX A.aGain A.aWg = y0 at *
  generalize val_main_v76 (F := Ideal) A.aX A.aGain A.aWg A.aWu A.aWd A.aGainF A.aTarget = y1 at *
  pointwise
  simp only [e0, e1, aX_ix2, aGain_ix2, aWg_ix2, aWu_ix2, aWd_ix2, aGainF_ix2, aTarget_ix2, ← EReal.coe_mul, ← EReal.coe_add, ← EReal.coe_sub, coe_sum]
  exact congrArg _ (mul_comm _ _)

theorem v80_apply (r : Fin 4096) (f : Fin 2816) : val_main_v80 (F := Ideal) A.aX A.aGain A.aWg A.aWu A.aWd A.aGainF A.aTarget (ix2 r f) = ((A.dg r f : ℝ) : EReal) := by
  have e0 := v19_apply A
  have e1 := v20_1_apply A
  have e2 := v20_2_apply A
  have e3 := v22_apply A
  have e4 := v76_apply A
  unfold val_main_v80 val_main_call1_v2 val_main_call1_v1 val_main_call1_v0 val_main_v78
  generalize val_main_v19 (F := Ideal) A.aX A.aGain A.aWg = y0 at *
  generalize val_main_v20_1 (F := Ideal) A.aX A.aGain A.aWg = y1 at *
  generalize val_main_v20_2 (F := Ideal) A.aX A.aGain A.aWg = y2 at *
  generalize val_main_v22 (F := Ideal) A.aX A.aGain A.aWu = y3 at *
  generalize val_main_v76 (F := Ideal) A.aX A.aGain A.aWg A.aWu A.aWd A.aGainF A.aTarget = y4 at *
  pointwise
  simp only [e0, e1, e2, e3, e4, aX_ix2, aGain_ix2, aWg_ix2, aWu_ix2, aWd_ix2, aGainF_ix2, aTarget_ix2, ← EReal.coe_mul, ← EReal.coe_add, ← EReal.coe_sub, coe_sum]
  refine congrArg _ ?_
  unfold Args.dg
  ring

theorem v82_apply (r : Fin 4096) (i : Fin 1024) : val_main_v82 (F := Ideal) A.aX A.aGain A.aWg A.aWu A.aWd A.aGainF A.aTarget (ix2 r i) = ((A.dh r i : ℝ) : EReal) := by
  have e0 := v77_apply A
  have e1 := v80_apply A
  unfold val_main_v82 val_main_v81 val_main_v79
  generalize val_main_v77 (F := Ideal) A.aX A.aGain A.aWg A.aWu A.aWd A.aGainF A.aTarget = y0 at *
  generalize val_main_v80 (F := Ideal) A.aX A.aGain A.aWg A.aWu A.aWd A.aGainF A.aTarget = y1 at *
  pointwise
  simp only [e0, e1, aX_ix2, aGain_ix2, aWg_ix2, aWu_ix2, aWd_ix2, aGainF_ix2, aTarget_ix2, ← EReal.coe_mul, ← EReal.coe_add, ← EReal.coe_sub, coe_sum]
  exact congrArg _ (add_comm _ _)

/-- A row's part of the layer's gain's gradient. -/
theorem v83_apply (r : Fin 4096) (i : Fin 1024) : val_main_v83 (F := Ideal) A.aX A.aGain A.aWg A.aWu A.aWd A.aGainF A.aTarget (ix2 r i) = ((A.gainTerm r i : ℝ) : EReal) := by
  have e0 := v16_apply A
  have e1 := v82_apply A
  unfold val_main_v83
  generalize val_main_v16 (F := Ideal) A.aX = y0 at *
  generalize val_main_v82 (F := Ideal) A.aX A.aGain A.aWg A.aWu A.aWd A.aGainF A.aTarget = y1 at *
  pointwise
  simp only [e0, e1, aX_ix2, aGain_ix2, aWg_ix2, aWu_ix2, aWd_ix2, aGainF_ix2, aTarget_ix2, ← EReal.coe_mul, ← EReal.coe_add, ← EReal.coe_sub, coe_sum]
  exact congrArg _ (mul_comm _ _)

theorem v84_apply (r : Fin 4096) (i : Fin 1024) : val_main_v84 (F := Ideal) A.aX A.aGain A.aWg A.aWu A.aWd A.aGainF A.aTarget (ix2 r i) = ((A.dh r i * A.gain i : ℝ) : EReal) := by
  have e0 := v82_apply A
  unfold val_main_v84
  generalize val_main_v82 (F := Ideal) A.aX A.aGain A.aWg A.aWu A.aWd A.aGainF A.aTarget = y0 at *
  pointwise [val_main_v1]
  simp only [e0, aX_ix2, aGain_ix2, aWg_ix2, aWu_ix2, aWd_ix2, aGainF_ix2, aTarget_ix2, ← EReal.coe_mul, ← EReal.coe_add, ← EReal.coe_sub, coe_sum]

theorem v86_apply (r : Fin 4096) : val_main_v86 (F := Ideal) A.aX A.aGain A.aWg A.aWu A.aWd A.aGainF A.aTarget (ix1 r) = ((∑ j, A.x r j * (A.dh r j * A.gain j) : ℝ) : EReal) := by
  have e0 := v84_apply A
  unfold val_main_v86 val_main_v85
  generalize val_main_v84 (F := Ideal) A.aX A.aGain A.aWg A.aWu A.aWd A.aGainF A.aTarget = y0 at *
  pointwise [val_main_cst_22]
  simp only [e0, aX_ix2, aGain_ix2, aWg_ix2, aWu_ix2, aWd_ix2, aGainF_ix2, aTarget_ix2, ← EReal.coe_mul, ← EReal.coe_add, ← EReal.coe_sub, coe_sum]

theorem v94_apply (r : Fin 4096) : val_main_v94 (F := Ideal) A.aX A.aGain A.aWg A.aWu A.aWd A.aGainF A.aTarget (ix1 r) = (((∑ j, A.x r j * (A.dh r j * A.gain j)) * (-(1 / 2) * (inv (A.x r) / ms (A.x r))) / 1024 : ℝ) : EReal) := by
  have e0 := v86_apply A
  have e1 := v14_apply A
  unfold val_main_v94 val_main_v93 val_main_v91 val_main_v87
  generalize val_main_v86 (F := Ideal) A.aX A.aGain A.aWg A.aWu A.aWd A.aGainF A.aTarget = y0 at *
  generalize val_main_v14 (F := Ideal) A.aX = y1 at *
  pointwise [val_main_v92, val_main_cst_23, val_main_cst_24]
  simp only [e0, e1, ofBits_1024, div_real _ _ (by norm_num : (0:ℝ) < 1024), Finset.univ_unique, Finset.sum_singleton, aX_ix2, aGain_ix2, aWg_ix2, aWu_ix2, aWd_ix2, aGainF_ix2, aTarget_ix2, ← EReal.coe_mul, ← EReal.coe_add, ← EReal.coe_sub, coe_sum]

/-- The gradient of the layer's input. -/
theorem v99_apply (r : Fin 4096) (i : Fin 1024) : val_main_v99 (F := Ideal) A.aX A.aGain A.aWg A.aWu A.aWd A.aGainF A.aTarget (ix2 r i) = ((A.dx r i : ℝ) : EReal) := by
  have e0 := v73_apply A
  have e1 := v11_apply A
  have e2 := v84_apply A
  have e3 := v94_apply A
  unfold val_main_v99 val_main_v98 val_main_v97 val_main_v96 val_main_v95 val_main_v90 val_main_v89 val_main_v88
  generalize val_main_v73 (F := Ideal) A.aX A.aGain A.aWg A.aWu A.aWd A.aGainF A.aTarget = y0 at *
  generalize val_main_v11 (F := Ideal) A.aX = y1 at *
  generalize val_main_v84 (F := Ideal) A.aX A.aGain A.aWg A.aWu A.aWd A.aGainF A.aTarget = y2 at *
  generalize val_main_v94 (F := Ideal) A.aX A.aGain A.aWg A.aWu A.aWd A.aGainF A.aTarget = y3 at *
  pointwise
  simp only [e0, e1, e2, e3, aX_ix2, aGain_ix2, aWg_ix2, aWu_ix2, aWd_ix2, aGainF_ix2, aTarget_ix2, ← EReal.coe_mul, ← EReal.coe_add, ← EReal.coe_sub, coe_sum]
  refine congrArg _ ?_
  unfold Args.dx
  rw [← back_eq]
  ring

theorem v110_apply (r : Fin 4096) (i : Fin 1024) : val_main_v110 (F := Ideal) A.aX A.aGain A.aWg A.aWu A.aWd A.aGainF A.aTarget (ix2 r i) = ((A.lossTerm r i : ℝ) : EReal) := by
  have e0 := v43_apply A
  unfold val_main_v110 val_main_v108 val_main_v44
  generalize val_main_v43 (F := Ideal) A.aX A.aGain A.aWg A.aWu A.aWd A.aGainF A.aTarget = y0 at *
  pointwise [val_main_v107, val_main_cst_27, val_main_v109, val_main_cst_28]
  simp only [e0, ofBits_half, ofBits_1024, div_real _ _ (by norm_num : (0:ℝ) < 1024), aX_ix2, aGain_ix2, aWg_ix2, aWu_ix2, aWd_ix2, aGainF_ix2, aTarget_ix2, ← EReal.coe_mul, ← EReal.coe_add, ← EReal.coe_sub, coe_sum]
  refine congrArg _ ?_
  unfold Args.lossTerm
  ring

theorem v104_apply (q : Fin 8) (i : Fin 1024) : val_main_v104 (F := Ideal) A.aX A.aGain A.aWg A.aWu A.aWd A.aGainF A.aTarget (ix2 q i) = ((bySlot A.gainTerm q i : ℝ) : EReal) := by
  have e := v83_apply A
  unfold val_main_v104 val_main_v103
  generalize val_main_v83 (F := Ideal) A.aX A.aGain A.aWg A.aWu A.aWd A.aGainF A.aTarget = y at *
  pointwise [val_main_cst_25]
  unfold bySlot
  rw [← coe_sum]
  exact Finset.sum_congr rfl fun s _ =>
    (congrArg (fun z => y (ix2 z i)) (Fin.ext (by show s.val * 8 + q.val = 8 * s.val + q.val; omega))).trans (e ⟨8 * s.val + q.val, by omega⟩ i)

theorem v106_apply (q : Fin 8) (i : Fin 1024) : val_main_v106 (F := Ideal) A.aX A.aGain A.aWg A.aWu A.aWd A.aGainF A.aTarget (ix2 q i) = ((bySlot A.gainFTerm q i : ℝ) : EReal) := by
  have e := v58_apply A
  unfold val_main_v106 val_main_v105
  generalize val_main_v58 (F := Ideal) A.aX A.aGain A.aWg A.aWu A.aWd A.aGainF A.aTarget = y at *
  pointwise [val_main_cst_26]
  unfold bySlot
  rw [← coe_sum]
  exact Finset.sum_congr rfl fun s _ =>
    (congrArg (fun z => y (ix2 z i)) (Fin.ext (by show s.val * 8 + q.val = 8 * s.val + q.val; omega))).trans (e ⟨8 * s.val + q.val, by omega⟩ i)

theorem v112_apply (q : Fin 8) (i : Fin 1024) : val_main_v112 (F := Ideal) A.aX A.aGain A.aWg A.aWu A.aWd A.aGainF A.aTarget (ix2 q i) = ((bySlot A.lossTerm q i : ℝ) : EReal) := by
  have e := v110_apply A
  unfold val_main_v112 val_main_v111
  generalize val_main_v110 (F := Ideal) A.aX A.aGain A.aWg A.aWu A.aWd A.aGainF A.aTarget = y at *
  pointwise [val_main_cst_29]
  unfold bySlot
  rw [← coe_sum]
  exact Finset.sum_congr rfl fun s _ =>
    (congrArg (fun z => y (ix2 z i)) (Fin.ext (by show s.val * 8 + q.val = 8 * s.val + q.val; omega))).trans (e ⟨8 * s.val + q.val, by omega⟩ i)

end Cert.HeadGrad.Ref

end
-- ==== Proof.HeadBlocks.lean ====
/- What the host hands the call, and the blocks of it that each grid point reads, when the arguments are real: the blocks of the module
   `HeadTile` at the rows of the point. -/
module

public import proofs.«01_k».proof.Proof.Gen.HeadIdeal.Value
public import proofs.«01_k».proof.Proof.HeadTile
public import proofs.«01_k».proof.Proof.HeadReference
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.HeadGrad

open Cert.HeadIdeal Cert.HeadIdeal.Gen Cert.HeadIdeal.Value
open Cert.Mix (Arr)

variable (m : (ℓ : Loc nD τ Cert.HeadIdeal.sig) → Buf (Elt Ideal) ℓ) (c : Dev nD)

/-- The program's arguments on device `c` are the real arrays of `A`. -/
structure Holds (A : Args) : Prop where
  x : (m (c, Proc.tc.devRef main_arg0) : Arr 4096 1024) = A.aX
  gain : (m (c, Proc.tc.devRef main_arg1) : Arr 1 1024) = A.aGain
  wg : (m (c, Proc.tc.devRef main_arg2) : Arr 1024 2816) = A.aWg
  wu : (m (c, Proc.tc.devRef main_arg3) : Arr 1024 2816) = A.aWu
  wd : (m (c, Proc.tc.devRef main_arg4) : Arr 2816 1024) = A.aWd
  gainF : (m (c, Proc.tc.devRef main_arg5) : Arr 1 1024) = A.aGainF
  target : (m (c, Proc.tc.devRef main_arg6) : Arr 4096 1024) = A.aTarget

variable {m c} {A : Args}

theorem V_arg0 (H : Holds m c A) : (V m c main_arg0 : Arr 4096 1024) = A.aX := by
  refine Eq.trans ?_ H.x
  unfold V
  after_reads_simp

theorem V_arg1 (H : Holds m c A) : (V m c main_arg1 : Arr 1 1024) = A.aGain := by
  refine Eq.trans ?_ H.gain
  unfold V
  after_reads_simp

theorem V_arg2 (H : Holds m c A) : (V m c main_arg2 : Arr 1024 2816) = A.aWg := by
  refine Eq.trans ?_ H.wg
  unfold V
  after_reads_simp

theorem V_arg3 (H : Holds m c A) : (V m c main_arg3 : Arr 1024 2816) = A.aWu := by
  refine Eq.trans ?_ H.wu
  unfold V
  after_reads_simp

theorem V_arg4 (H : Holds m c A) : (V m c main_arg4 : Arr 2816 1024) = A.aWd := by
  refine Eq.trans ?_ H.wd
  unfold V
  after_reads_simp

theorem V_arg5 (H : Holds m c A) : (V m c main_arg5 : Arr 1 1024) = A.aGainF := by
  refine Eq.trans ?_ H.gainF
  unfold V
  after_reads_simp

theorem V_arg6 (H : Holds m c A) : (V m c main_arg6 : Arr 4096 1024) = A.aTarget := by
  refine Eq.trans ?_ H.target
  unfold V
  after_reads_simp

set_option maxHeartbeats 1000000 in
/-- The normed rows are the reference's. -/
theorem V_11 (H : Holds m c A) : (V m c main_v11 : Arr 4096 1024) = Cert.HeadReferenceIdeal.Read.val_main_v17 (F := Ideal) A.aX A.aGain := by
  rw [← H.x, ← H.gain]
  unfold V
  after_reads_simp
  rfl

set_option maxHeartbeats 1000000 in
theorem V_12_eq : @Eq (Arr 4096 2816) (V m c main_v12)
    (Host.dotGeneral (F := Ideal) (φ₁ := .f32) (φ₂ := .f32) dot_S4096x1024_S1024x2816_S4096x2816_1_0_0_1_n_n none
      (V m c main_v11 : Arr 4096 1024) (V m c main_arg2 : Arr 1024 2816)) := by
  unfold V
  after_reads_simp

set_option maxHeartbeats 1000000 in
theorem V_13_eq : @Eq (Arr 4096 2816) (V m c main_v13)
    (Host.dotGeneral (F := Ideal) (φ₁ := .f32) (φ₂ := .f32) dot_S4096x1024_S1024x2816_S4096x2816_1_0_0_1_n_n none
      (V m c main_v11 : Arr 4096 1024) (V m c main_arg3 : Arr 1024 2816)) := by
  unfold V
  after_reads_simp

/-- The logistic function of an array. -/
def logistic (v : Arr 4096 2816) : Arr 4096 2816 :=
  Host.divf (F := Ideal) (φ := .f32) (broadcastInDim S4096x2816 ![] bcast_S_S4096x2816 (constant S_ .f32 0x3F800000#32))
    (addf (F := Ideal) (φ := .f32) (broadcastInDim S4096x2816 ![] bcast_S_S4096x2816 (constant S_ .f32 0x3F800000#32))
      (Host.exp (F := Ideal) (φ := .f32) (Host.negf (F := Ideal) (φ := .f32) v)))

set_option maxHeartbeats 1000000 in
theorem V_14_eq : @Eq (Arr 4096 2816) (V m c main_v14)
    (mulf (F := Ideal) (φ := .f32) (V m c main_v12 : Arr 4096 2816) (logistic (V m c main_v12 : Arr 4096 2816))) := by
  unfold V logistic
  after_reads_simp
  rfl

set_option maxHeartbeats 1000000 in
theorem V_15_eq : @Eq (Arr 4096 2816) (V m c main_v15)
    (mulf (F := Ideal) (φ := .f32) (V m c main_v14 : Arr 4096 2816) (V m c main_v13 : Arr 4096 2816)) := by
  unfold V
  after_reads_simp

set_option maxHeartbeats 1000000 in
theorem V_16_eq : @Eq (Arr 4096 1024) (V m c main_v16)
    (Host.dotGeneral (F := Ideal) (φ₁ := .f32) (φ₂ := .f32) dot_S4096x2816_S2816x1024_S4096x1024_1_0_0_1_n_n none
      (V m c main_v15 : Arr 4096 2816) (V m c main_arg4 : Arr 2816 1024)) := by
  unfold V
  after_reads_simp

set_option maxHeartbeats 1000000 in
theorem V_19_eq : @Eq (Arr 4096 1024) (V m c main_v19)
    (addf (F := Ideal) (φ := .f32) (V m c main_arg0 : Arr 4096 1024)
      (mulf (F := Ideal) (φ := .f32) (broadcastInDim S4096x1024 ![] bcast_S_S4096x1024 (constant S_ .f32 0x3F000000#32)) (V m c main_v16 : Arr 4096 1024))) := by
  unfold V
  after_reads_simp

set_option maxHeartbeats 1000000 in
theorem V_20_eq : @Eq (Arr 4096 2816) (V m c main_v20) (V m c main_v12 : Arr 4096 2816) := by
  unfold V
  after_reads_simp
  rfl

set_option maxHeartbeats 1000000 in
theorem V_21_eq : @Eq (Arr 4096 2816) (V m c main_v21) (V m c main_v13 : Arr 4096 2816) := by
  unfold V
  after_reads_simp
  rfl

theorem V_12 (H : Holds m c A) (r : Fin 4096) (f : Fin 2816) : (V m c main_v12 : Arr 4096 2816) (ix2 r f) = ((A.g r f : ℝ) : EReal) := by
  have e0 := Ref.v17_apply A
  rw [V_12_eq, V_11 H, V_arg2 H]
  generalize Cert.HeadReferenceIdeal.Read.val_main_v17 (F := Ideal) A.aX A.aGain = y0 at *
  pointwise
  simp only [e0, aWg_ix2, ← EReal.coe_mul, coe_sum]
  rfl

theorem V_13 (H : Holds m c A) (r : Fin 4096) (f : Fin 2816) : (V m c main_v13 : Arr 4096 2816) (ix2 r f) = ((A.u r f : ℝ) : EReal) := by
  have e0 := Ref.v17_apply A
  rw [V_13_eq, V_11 H, V_arg3 H]
  generalize Cert.HeadReferenceIdeal.Read.val_main_v17 (F := Ideal) A.aX A.aGain = y0 at *
  pointwise
  simp only [e0, aWu_ix2, ← EReal.coe_mul, coe_sum]
  rfl

theorem logistic_apply (v : Arr 4096 2816) (r : Fin 4096) (f : Fin 2816) (z : ℝ) (e : v (ix2 r f) = (z : EReal)) :
    logistic v (ix2 r f) = ((Cert.HeadGrad.sig z : ℝ) : EReal) := by
  unfold logistic
  pointwise
  rw [e]
  exact Ref.sigmoid_real _

theorem V_15 (H : Holds m c A) (r : Fin 4096) (f : Fin 2816) :
    (V m c main_v15 : Arr 4096 2816) (ix2 r f) = ((A.g r f * Cert.HeadGrad.sig (A.g r f) * A.u r f : ℝ) : EReal) := by
  have e0 := V_12 H r f
  have e1 := V_13 H r f
  have e2 := logistic_apply _ r f _ e0
  rw [V_15_eq, V_14_eq]
  generalize (V m c main_v12 : Arr 4096 2816) = y0 at *
  generalize (V m c main_v13 : Arr 4096 2816) = y1 at *
  generalize logistic y0 = y2 at *
  pointwise
  rw [e0, e1, e2]
  simp only [← EReal.coe_mul]

theorem V_19 (H : Holds m c A) (r : Fin 4096) (j : Fin 1024) : (V m c main_v19 : Arr 4096 1024) (ix2 r j) = ((A.y r j : ℝ) : EReal) := by
  have e0 := V_15 H
  rw [V_19_eq, V_16_eq, V_arg0 H, V_arg4 H]
  generalize (V m c main_v15 : Arr 4096 2816) = y0 at *
  pointwise
  simp only [e0, ofBits_half, aX_ix2, aWd_ix2, ← EReal.coe_mul, ← EReal.coe_add, coe_sum]
  rfl

set_option maxHeartbeats 1000000 in
theorem V_23 (H : Holds m c A) (f : Fin 2816) (k : Fin 1024) : (V m c main_v23 : Arr 2816 1024) (ix2 f k) = ((A.wg k f : ℝ) : EReal) := by
  refine Eq.trans ?_ (congrFun H.wg (ix2 k f))
  unfold V
  after_reads_at

set_option maxHeartbeats 1000000 in
theorem V_25 (H : Holds m c A) (f : Fin 2816) (k : Fin 1024) : (V m c main_v25 : Arr 2816 1024) (ix2 f k) = ((A.wu k f : ℝ) : EReal) := by
  refine Eq.trans ?_ (congrFun H.wu (ix2 k f))
  unfold V
  after_reads_at

set_option maxHeartbeats 1000000 in
theorem V_26 (H : Holds m c A) (f : Fin 2816) (k : Fin 1024) : (V m c main_v26 : Arr 2816 1024) (ix2 f k) = ((A.wd f k : ℝ) : EReal) := by
  refine Eq.trans ?_ (congrFun H.wd (ix2 f k))
  unfold V
  after_reads_at

/-- Row `a` of the blocks of point `t`. -/
abbrev row (t : Fin cfg0.N) (a : Fin 256) : Fin 4096 := ⟨256 * t.val + a.val, by have := lt_of_lt_of_eq t.isLt N_0; omega⟩

/-- Which block of its array each window holds at a point: the row arrays' blocks follow the point, the others are whole. -/
theorem index_facts : ∀ t : Fin cfg0.N,
    ((cfg0.win 0).index t 0 = t.val ∧ (cfg0.win 0).index t 1 = 0)
    ∧ ((cfg0.win 1).index t 0 = 0 ∧ (cfg0.win 1).index t 1 = 0)
    ∧ ((cfg0.win 2).index t 0 = t.val ∧ (cfg0.win 2).index t 1 = 0)
    ∧ ((cfg0.win 3).index t 0 = t.val ∧ (cfg0.win 3).index t 1 = 0)
    ∧ ((cfg0.win 4).index t 0 = 0 ∧ (cfg0.win 4).index t 1 = 0)
    ∧ ((cfg0.win 5).index t 0 = t.val ∧ (cfg0.win 5).index t 1 = 0)
    ∧ ((cfg0.win 6).index t 0 = t.val ∧ (cfg0.win 6).index t 1 = 0)
    ∧ ((cfg0.win 7).index t 0 = 0 ∧ (cfg0.win 7).index t 1 = 0)
    ∧ ((cfg0.win 8).index t 0 = 0 ∧ (cfg0.win 8).index t 1 = 0)
    ∧ ((cfg0.win 9).index t 0 = 0 ∧ (cfg0.win 9).index t 1 = 0) := by
  decide +kernel

theorem iblk_y (t : Fin cfg0.N) (a : Fin 256) (j : Fin 1024) :
    (iblk m c 0 t : Arr 256 1024) (ix2 a j) = (V m c main_v19 : Arr 4096 1024) (ix2 (row t a) j) := by
  obtain ⟨h0, h1⟩ := (index_facts t).1
  blk_simp [iblk]
  refine congrArg (V m c main_v19) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

theorem iblk_gainF (t : Fin cfg0.N) (a : Fin 1) (j : Fin 1024) :
    (iblk m c 1 t : Arr 1 1024) (ix2 a j) = (V m c main_arg5 : Arr 1 1024) (ix2 a j) := by
  obtain ⟨h0, h1⟩ := (index_facts t).2.1
  blk_simp [iblk]
  refine congrArg (V m c main_arg5) (funext fun x => Fin.ext ?_)
  match x with
  | ⟨0, _⟩ => exact (Pipeline.Window.rect_emb_val _ t _ 0).trans (by rw [h0]; show 0 * 1 + a.val = a.val; omega)
  | ⟨1, _⟩ => exact (Pipeline.Window.rect_emb_val _ t _ 1).trans (by rw [h1]; show 0 * 1024 + j.val = j.val; omega)

theorem iblk_target (t : Fin cfg0.N) (a : Fin 256) (j : Fin 1024) :
    (iblk m c 2 t : Arr 256 1024) (ix2 a j) = (V m c main_arg6 : Arr 4096 1024) (ix2 (row t a) j) := by
  obtain ⟨h0, h1⟩ := (index_facts t).2.2.1
  blk_simp [iblk]
  refine congrArg (V m c main_arg6) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

theorem iblk_x (t : Fin cfg0.N) (a : Fin 256) (j : Fin 1024) :
    (iblk m c 3 t : Arr 256 1024) (ix2 a j) = (V m c main_arg0 : Arr 4096 1024) (ix2 (row t a) j) := by
  obtain ⟨h0, h1⟩ := (index_facts t).2.2.2.1
  blk_simp [iblk]
  refine congrArg (V m c main_arg0) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

theorem iblk_gain (t : Fin cfg0.N) (a : Fin 1) (j : Fin 1024) :
    (iblk m c 4 t : Arr 1 1024) (ix2 a j) = (V m c main_arg1 : Arr 1 1024) (ix2 a j) := by
  obtain ⟨h0, h1⟩ := (index_facts t).2.2.2.2.1
  blk_simp [iblk]
  refine congrArg (V m c main_arg1) (funext fun x => Fin.ext ?_)
  match x with
  | ⟨0, _⟩ => exact (Pipeline.Window.rect_emb_val _ t _ 0).trans (by rw [h0]; show 0 * 1 + a.val = a.val; omega)
  | ⟨1, _⟩ => exact (Pipeline.Window.rect_emb_val _ t _ 1).trans (by rw [h1]; show 0 * 1024 + j.val = j.val; omega)

theorem iblk_g (t : Fin cfg0.N) (a : Fin 256) (j : Fin 2816) :
    (iblk m c 5 t : Arr 256 2816) (ix2 a j) = (V m c main_v20 : Arr 4096 2816) (ix2 (row t a) j) := by
  obtain ⟨h0, h1⟩ := (index_facts t).2.2.2.2.2.1
  blk_simp [iblk]
  refine congrArg (V m c main_v20) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 2816 + j.val = j.val; omega)

theorem iblk_u (t : Fin cfg0.N) (a : Fin 256) (j : Fin 2816) :
    (iblk m c 6 t : Arr 256 2816) (ix2 a j) = (V m c main_v21 : Arr 4096 2816) (ix2 (row t a) j) := by
  obtain ⟨h0, h1⟩ := (index_facts t).2.2.2.2.2.2.1
  blk_simp [iblk]
  refine congrArg (V m c main_v21) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 2816 + j.val = j.val; omega)

theorem iblk_wg (t : Fin cfg0.N) (a : Fin 2816) (j : Fin 1024) :
    (iblk m c 7 t : Arr 2816 1024) (ix2 a j) = (V m c main_v23 : Arr 2816 1024) (ix2 a j) := by
  obtain ⟨h0, h1⟩ := (index_facts t).2.2.2.2.2.2.2.1
  blk_simp [iblk]
  refine congrArg (V m c main_v23) (funext fun x => Fin.ext ?_)
  match x with
  | ⟨0, _⟩ => exact (Pipeline.Window.rect_emb_val _ t _ 0).trans (by rw [h0]; show 0 * 2816 + a.val = a.val; omega)
  | ⟨1, _⟩ => exact (Pipeline.Window.rect_emb_val _ t _ 1).trans (by rw [h1]; show 0 * 1024 + j.val = j.val; omega)

theorem iblk_wu (t : Fin cfg0.N) (a : Fin 2816) (j : Fin 1024) :
    (iblk m c 8 t : Arr 2816 1024) (ix2 a j) = (V m c main_v25 : Arr 2816 1024) (ix2 a j) := by
  obtain ⟨h0, h1⟩ := (index_facts t).2.2.2.2.2.2.2.2.1
  blk_simp [iblk]
  refine congrArg (V m c main_v25) (funext fun x => Fin.ext ?_)
  match x with
  | ⟨0, _⟩ => exact (Pipeline.Window.rect_emb_val _ t _ 0).trans (by rw [h0]; show 0 * 2816 + a.val = a.val; omega)
  | ⟨1, _⟩ => exact (Pipeline.Window.rect_emb_val _ t _ 1).trans (by rw [h1]; show 0 * 1024 + j.val = j.val; omega)

theorem iblk_wd (t : Fin cfg0.N) (a : Fin 2816) (j : Fin 1024) :
    (iblk m c 9 t : Arr 2816 1024) (ix2 a j) = (V m c main_v26 : Arr 2816 1024) (ix2 a j) := by
  obtain ⟨h0, h1⟩ := (index_facts t).2.2.2.2.2.2.2.2.2
  blk_simp [iblk]
  refine congrArg (V m c main_v26) (funext fun x => Fin.ext ?_)
  match x with
  | ⟨0, _⟩ => exact (Pipeline.Window.rect_emb_val _ t _ 0).trans (by rw [h0]; show 0 * 2816 + a.val = a.val; omega)
  | ⟨1, _⟩ => exact (Pipeline.Window.rect_emb_val _ t _ 1).trans (by rw [h1]; show 0 * 1024 + j.val = j.val; omega)

/-- The blocks of point `t` hold the rows of the point. -/
theorem blocks (H : Holds m c A) (t : Fin cfg0.N) :
    Blocks A (row t) (iblk m c 0 t) (iblk m c 1 t) (iblk m c 2 t) (iblk m c 3 t) (iblk m c 4 t) (iblk m c 5 t) (iblk m c 6 t) (iblk m c 7 t)
      (iblk m c 8 t) (iblk m c 9 t) where
  y a j := (iblk_y t a j).trans (V_19 H _ _)
  gainF a j := (iblk_gainF t a j).trans (congrFun (V_arg5 H) _)
  target a j := (iblk_target t a j).trans (congrFun (V_arg6 H) _)
  x a j := (iblk_x t a j).trans (congrFun (V_arg0 H) _)
  gain a j := (iblk_gain t a j).trans (congrFun (V_arg1 H) _)
  g a f := (iblk_g t a f).trans ((congrFun V_20_eq _).trans (V_12 H _ _))
  u a f := (iblk_u t a f).trans ((congrFun V_21_eq _).trans (V_13 H _ _))
  wg f k := (iblk_wg t f k).trans (V_23 H _ _)
  wu f k := (iblk_wu t f k).trans (V_25 H _ _)
  wd f k := (iblk_wd t f k).trans (V_26 H _ _)

end Cert.HeadGrad

end
-- ==== Proof.HeadFinite.lean ====
/- The precondition read: where `finite` holds of the arguments, each of their entries is a real number. -/
module

public import proofs.«01_k».proof.Defs
public import proofs.«01_k».proof.Proof.Gen.Pre_finite
public import proofs.«01_k».proof.Proof.HeadBlocks
public import Idealize.ShloMosaic.Lib.ReduceAll
public import Idealize.ShloMosaic.PureOps.Ideal

@[expose] public section

set_option maxRecDepth 16384

noncomputable section

open Idealize.ShloMosaic Idealize.ShloMosaic.TcCoe Idealize.SL.Sem

namespace Cert.HeadGrad

open Cert.Mix (Arr)

/-- An extended real whose absolute value is below `⊤` is a real number. -/
theorem real_of_abs_lt (x : EReal) (h : max x (-x) < ⊤) : ((x.toReal : ℝ) : EReal) = x := by
  refine EReal.coe_toReal ?_ ?_
  · rintro rfl; exact absurd h (by simp)
  · rintro rfl; exact absurd h (by simp)

theorem positive_infinity : Ideal.ofBits .f32 0x7F800000#32 = ⊤ := by simp [Ideal.ofBits, Ideal.ieee]

instance one_index : Subsingleton (Cert.Pre_finite.S_).Idx := ⟨fun a b => funext fun k => k.elim0⟩

/-- One argument's share of the precondition: every entry's absolute value is less than infinity. -/
theorem real_of_all {s : Shape} {axes : List (Fin s.rank)} (a : FVec Ideal s .f32) (b : Cert.Pre_finite.S_.BroadcastsInDim s (![] : Fin 0 → Fin s.rank))
    (h : s.ReducesTo axes Cert.Pre_finite.S_) (hu : 0 < Cert.Pre_finite.S_.numel) (j : Cert.Pre_finite.S_.Idx)
    (e : Host.reduce IntOp.andi (cmpf .olt (Host.absf a) (broadcastInDim s ![] b (constant Cert.Pre_finite.S_ .f32 0x7F800000#32)))
      (constantI Cert.Pre_finite.S_ 1 1#1) h hu j = 1#1) (i : s.Idx) :
    (((a i : EReal).toReal : ℝ) : EReal) = a i := by
  have e1 := Host.reduce_andi_all _ _ h hu j e i
  have e2 : Ideal.cmp .olt (max (a i : EReal) (-(a i : EReal))) (Ideal.ofBits .f32 0x7F800000#32) = 1#1 := e1
  rw [positive_infinity] at e2
  refine real_of_abs_lt _ ?_
  by_contra hn
  simp [Ideal.cmp, hn] at e2

theorem both {s : Shape} {x y : IVec s 1} {j : s.Idx} (h : andi x y j = 1#1) : x j = 1#1 ∧ y j = 1#1 := IntOp.andi_eq_one.1 h

variable (m : (ℓ : Loc Cert.HeadIdeal.nD Cert.HeadIdeal.τ Cert.HeadIdeal.sig) → Buf (Elt Ideal) ℓ) (c : Dev Cert.HeadIdeal.nD)

/-- The real arrays behind the arguments on device `c`. -/
def argsOf : Args where
  x r j := ((m (c, Proc.tc.devRef Cert.HeadIdeal.main_arg0) : Arr 4096 1024) (ix2 r j)).toReal
  gain j := ((m (c, Proc.tc.devRef Cert.HeadIdeal.main_arg1) : Arr 1 1024) (ix2 0 j)).toReal
  wg r j := ((m (c, Proc.tc.devRef Cert.HeadIdeal.main_arg2) : Arr 1024 2816) (ix2 r j)).toReal
  wu r j := ((m (c, Proc.tc.devRef Cert.HeadIdeal.main_arg3) : Arr 1024 2816) (ix2 r j)).toReal
  wd r j := ((m (c, Proc.tc.devRef Cert.HeadIdeal.main_arg4) : Arr 2816 1024) (ix2 r j)).toReal
  gainF j := ((m (c, Proc.tc.devRef Cert.HeadIdeal.main_arg5) : Arr 1 1024) (ix2 0 j)).toReal
  target r j := ((m (c, Proc.tc.devRef Cert.HeadIdeal.main_arg6) : Arr 4096 1024) (ix2 r j)).toReal

theorem whole {a b : ℕ} (y : Arr a b) (h : ∀ i, (((y i).toReal : ℝ) : EReal) = y i) :
    y = fun i => (((y (ix2 (i 0) (i 1))).toReal : ℝ) : EReal) := by
  funext i
  have e : ix2 (i 0) (i 1) = i := by
    funext k
    match k with
    | ⟨0, _⟩ => rfl
    | ⟨1, _⟩ => rfl
  exact (h i).symm.trans (congrArg (fun k => (((y k).toReal : ℝ) : EReal)) e.symm)

theorem whole_row {b : ℕ} (y : Arr 1 b) (h : ∀ i, (((y i).toReal : ℝ) : EReal) = y i) :
    y = fun i => (((y (ix2 0 (i 1))).toReal : ℝ) : EReal) := by
  funext i
  have e : ix2 0 (i 1) = i := by
    funext k
    match k with
    | ⟨0, _⟩ => exact Subsingleton.elim (α := Fin 1) _ _
    | ⟨1, _⟩ => rfl
  exact (h i).symm.trans (congrArg (fun k => (((y k).toReal : ℝ) : EReal)) e.symm)

/-- Under the precondition the arguments are real arrays. -/
theorem holds_of_finite (h : Cert.Pre_HeadIdeal_finite (hPre_finite := Cert.Pre_finite.Gen.facts) m) : Holds m c (argsOf m c) := by
  have h0 := congrFun (h c) (Shape.Idx.first Cert.Pre_finite.Gen.h_S_)
  unfold Cert.Pre_finite.fn Cert.Pre_finite.fn_part1 at h0
  obtain ⟨h0, h6⟩ := both h0
  obtain ⟨h0, h5⟩ := both h0
  obtain ⟨h0, h4⟩ := both h0
  obtain ⟨h0, h3⟩ := both h0
  obtain ⟨h0, h2⟩ := both h0
  obtain ⟨h0, h1⟩ := both h0
  exact ⟨whole _ (real_of_all _ _ _ _ _ h0), whole_row _ (real_of_all _ _ _ _ _ h1), whole _ (real_of_all _ _ _ _ _ h2),
    whole _ (real_of_all _ _ _ _ _ h3), whole _ (real_of_all _ _ _ _ _ h4), whole_row _ (real_of_all _ _ _ _ _ h5),
    whole _ (real_of_all _ _ _ _ _ h6)⟩

end Cert.HeadGrad

end
-- ==== Proof.HeadPoint.lean ====
/- What each grid point leaves in the call's output blocks. The two gradients of the hidden layer are stored chunk by chunk, eleven pieces of 256
   columns; each piece is that chunk of one block of real numbers, so the pieces together are that block. -/
module

public import proofs.«01_k».proof.Proof.Gen.HeadIdeal.Value
public import proofs.«01_k».proof.Proof.HeadBlocks
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.HeadGrad

open Cert.HeadIdeal Cert.HeadIdeal.Gen Cert.HeadIdeal.Value
open Cert.Mix (Arr)

/-! ### Eleven chunks make a block -/

section Pieces
variable {A : Args} {R : Fin 256 → Fin 4096} (y : Arr 256 1024) (gainF : Arr 1 1024) (target : Arr 256 1024)
  (g u : Arr 256 2816) (wd : Arr 2816 1024)

/-- The piece at columns `o … o + 255` of the gate's gradient, and of the up projection's. -/
abbrev dgPiece (o : ℕ) (hw : ∀ a, (![o, 0] : Fin 2 → Nat) a + S256x1024.size a ≤ S2816x1024.size a)
    (hh : ∀ a, (![0, o] : Fin 2 → Nat) a + S256x256.size a ≤ S256x2816.size a) : View.Piece (Elt Ideal) S256x2816 .bf16 :=
  ⟨Rect.unit (s := S256x2816) ![0, o] S256x256.size hh,
    k0_pay20 (F := Ideal) (k0_pay15 y gainF target) (k0_pay16 (wrows o hw wd)) (cols o hh g) (cols o hh u)⟩

abbrev duPiece (o : ℕ) (hw : ∀ a, (![o, 0] : Fin 2 → Nat) a + S256x1024.size a ≤ S2816x1024.size a)
    (hh : ∀ a, (![0, o] : Fin 2 → Nat) a + S256x256.size a ≤ S256x2816.size a) : View.Piece (Elt Ideal) S256x2816 .bf16 :=
  ⟨Rect.unit (s := S256x2816) ![0, o] S256x256.size hh,
    k0_pay21 (F := Ideal) (k0_pay15 y gainF target) (k0_pay16 (wrows o hw wd)) (cols o hh g)⟩

abbrev dgPieces : List (View.Piece (Elt Ideal) S256x2816 .bf16) :=
  [dgPiece y gainF target g u wd 2560 inb_S2816x1024_S256x1024_2560_0 inb_S256x2816_S256x256_0_2560,
   dgPiece y gainF target g u wd 2304 inb_S2816x1024_S256x1024_2304_0 inb_S256x2816_S256x256_0_2304,
   dgPiece y gainF target g u wd 2048 inb_S2816x1024_S256x1024_2048_0 inb_S256x2816_S256x256_0_2048,
   dgPiece y gainF target g u wd 1792 inb_S2816x1024_S256x1024_1792_0 inb_S256x2816_S256x256_0_1792,
   dgPiece y gainF target g u wd 1536 inb_S2816x1024_S256x1024_1536_0 inb_S256x2816_S256x256_0_1536,
   dgPiece y gainF target g u wd 1280 inb_S2816x1024_S256x1024_1280_0 inb_S256x2816_S256x256_0_1280,
   dgPiece y gainF target g u wd 1024 inb_S2816x1024_S256x1024_1024_0 inb_S256x2816_S256x256_0_1024,
   dgPiece y gainF target g u wd 768 inb_S2816x1024_S256x1024_768_0 inb_S256x2816_S256x256_0_768,
   dgPiece y gainF target g u wd 512 inb_S2816x1024_S256x1024_512_0 inb_S256x2816_S256x256_0_512,
   dgPiece y gainF target g u wd 256 inb_S2816x1024_S256x1024_256_0 inb_S256x2816_S256x256_0_256,
   dgPiece y gainF target g u wd 0 inb_S2816x1024_S256x1024_0_0 inb_S256x2816_S256x256_0_0]

abbrev duPieces : List (View.Piece (Elt Ideal) S256x2816 .bf16) :=
  [duPiece y gainF target g wd 2560 inb_S2816x1024_S256x1024_2560_0 inb_S256x2816_S256x256_0_2560,
   duPiece y gainF target g wd 2304 inb_S2816x1024_S256x1024_2304_0 inb_S256x2816_S256x256_0_2304,
   duPiece y gainF target g wd 2048 inb_S2816x1024_S256x1024_2048_0 inb_S256x2816_S256x256_0_2048,
   duPiece y gainF target g wd 1792 inb_S2816x1024_S256x1024_1792_0 inb_S256x2816_S256x256_0_1792,
   duPiece y gainF target g wd 1536 inb_S2816x1024_S256x1024_1536_0 inb_S256x2816_S256x256_0_1536,
   duPiece y gainF target g wd 1280 inb_S2816x1024_S256x1024_1280_0 inb_S256x2816_S256x256_0_1280,
   duPiece y gainF target g wd 1024 inb_S2816x1024_S256x1024_1024_0 inb_S256x2816_S256x256_0_1024,
   duPiece y gainF target g wd 768 inb_S2816x1024_S256x1024_768_0 inb_S256x2816_S256x256_0_768,
   duPiece y gainF target g wd 512 inb_S2816x1024_S256x1024_512_0 inb_S256x2816_S256x256_0_512,
   duPiece y gainF target g wd 256 inb_S2816x1024_S256x1024_256_0 inb_S256x2816_S256x256_0_256,
   duPiece y gainF target g wd 0 inb_S2816x1024_S256x1024_0_0 inb_S256x2816_S256x256_0_0]

variable {y gainF target g u wd} {x : Arr 256 1024} {gain : Arr 1 1024} {wg wu : Arr 2816 1024}

theorem idx_eq {a b : ℕ} (i : (⟨2, ![a, b]⟩ : Shape).Idx) : i = ix2 (i 0) (i 1) := by
  funext z
  match z with
  | ⟨0, _⟩ => rfl
  | ⟨1, _⟩ => rfl

theorem dgPiece_apply (B : Blocks A R y gainF target x gain g u wg wu wd) (o : ℕ)
    (hw : ∀ a, (![o, 0] : Fin 2 → Nat) a + S256x1024.size a ≤ S2816x1024.size a)
    (hh : ∀ a, (![0, o] : Fin 2 → Nat) a + S256x256.size a ≤ S256x2816.size a) :
    ∀ z : S256x256.Idx, (dgPiece y gainF target g u wd o hw hh).2 z = dgBlock A R ((dgPiece y gainF target g u wd o hw hh).1.emb z) := by
  intro z
  rw [idx_eq z]
  exact (dg_chunk o hw hh B _ _).trans (congrArg (dgBlock A R) (emb_chunk o hh _ _)).symm

theorem duPiece_apply (B : Blocks A R y gainF target x gain g u wg wu wd) (o : ℕ)
    (hw : ∀ a, (![o, 0] : Fin 2 → Nat) a + S256x1024.size a ≤ S2816x1024.size a)
    (hh : ∀ a, (![0, o] : Fin 2 → Nat) a + S256x256.size a ≤ S256x2816.size a) :
    ∀ z : S256x256.Idx, (duPiece y gainF target g wd o hw hh).2 z = duBlock A R ((duPiece y gainF target g wd o hw hh).1.emb z) := by
  intro z
  rw [idx_eq z]
  exact (du_chunk o hw hh B _ _).trans (congrArg (duBlock A R) (emb_chunk o hh _ _)).symm

/-- Column `f` lies in the piece at `o` if it is one of the columns `o … o + 255`. -/
theorem mem_chunk (o : ℕ) (hh : ∀ a, (![0, o] : Fin 2 → Nat) a + S256x256.size a ≤ S256x2816.size a) (z : S256x2816.Idx)
    (h1 : o ≤ (z 1).val) (h2 : (z 1).val < o + 256) : z ∈ (Rect.unit (s := S256x2816) ![0, o] S256x256.size hh).set := by
  rw [Rect.mem_set_unit]
  intro a
  match a with
  | ⟨0, _⟩ => exact ⟨Nat.zero_le _, by have := (z 0).isLt; show (z 0).val < 0 + 256; have e : (z 0).val < 256 := this; omega⟩
  | ⟨1, _⟩ => exact ⟨h1, h2⟩

theorem dg_canon (B : Blocks A R y gainF target x gain g u wg wu wd) : View.canon (dgPieces y gainF target g u wd) = dgBlock A R := by
  funext z
  refine View.canon_apply_of_pieces (Val := Elt Ideal) (S := S256x2816) (e := .bf16) (dgBlock A R) _ ?_ z ?_
  · intro p hp
    simp only [List.mem_cons, List.not_mem_nil, or_false] at hp
    rcases hp with rfl | rfl | rfl | rfl | rfl | rfl | rfl | rfl | rfl | rfl | rfl <;> exact dgPiece_apply B _ _ _
  · have hz : (z 1).val < 2816 := (z 1).isLt
    by_cases c2560 : 2560 ≤ (z 1).val
    · exact ⟨_, List.mem_cons_self, mem_chunk 2560 inb_S256x2816_S256x256_0_2560 z c2560 (by omega)⟩
    by_cases c2304 : 2304 ≤ (z 1).val
    · exact ⟨_, (List.mem_cons_of_mem _ List.mem_cons_self), mem_chunk 2304 inb_S256x2816_S256x256_0_2304 z c2304 (by omega)⟩
    by_cases c2048 : 2048 ≤ (z 1).val
    · exact ⟨_, (List.mem_cons_of_mem _ (List.mem_cons_of_mem _ List.mem_cons_self)), mem_chunk 2048 inb_S256x2816_S256x256_0_2048 z c2048 (by omega)⟩
    by_cases c1792 : 1792 ≤ (z 1).val
    · exact ⟨_, (List.mem_cons_of_mem _ (List.mem_cons_of_mem _ (List.mem_cons_of_mem _ List.mem_cons_self))), mem_chunk 1792 inb_S256x2816_S256x256_0_1792 z c1792 (by omega)⟩
    by_cases c1536 : 1536 ≤ (z 1).val
    · exact ⟨_, (List.mem_cons_of_mem _ (List.mem_cons_of_mem _ (List.mem_cons_of_mem _ (List.mem_cons_of_mem _ List.mem_cons_self)))), mem_chunk 1536 inb_S256x2816_S256x256_0_1536 z c1536 (by omega)⟩
    by_cases c1280 : 1280 ≤ (z 1).val
    · exact ⟨_, (List.mem_cons_of_mem _ (List.mem_cons_of_mem _ (List.mem_cons_of_mem _ (List.mem_cons_of_mem _ (List.mem_cons_of_mem _ List.mem_cons_self))))), mem_chunk 1280 inb_S256x2816_S256x256_0_1280 z c1280 (by omega)⟩
    by_cases c1024 : 1024 ≤ (z 1).val
    · exact ⟨_, (List.mem_cons_of_mem _ (List.mem_cons_of_mem _ (List.mem_cons_of_mem _ (List.mem_cons_of_mem _ (List.mem_cons_of_mem _ (List.mem_cons_of_mem _ List.mem_cons_self)))))), mem_chunk 1024 inb_S256x2816_S256x256_0_1024 z c1024 (by omega)⟩
    by_cases c768 : 768 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_chunk 768 inb_S256x2816_S256x256_0_768 z c768 (by omega)⟩
    by_cases c512 : 512 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_chunk 512 inb_S256x2816_S256x256_0_512 z c512 (by omega)⟩
    by_cases c256 : 256 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_chunk 256 inb_S256x2816_S256x256_0_256 z c256 (by omega)⟩
    exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_chunk 0 inb_S256x2816_S256x256_0_0 z (Nat.zero_le _) (by omega)⟩

theorem du_canon (B : Blocks A R y gainF target x gain g u wg wu wd) : View.canon (duPieces y gainF target g wd) = duBlock A R := by
  funext z
  refine View.canon_apply_of_pieces (Val := Elt Ideal) (S := S256x2816) (e := .bf16) (duBlock A R) _ ?_ z ?_
  · intro p hp
    simp only [List.mem_cons, List.not_mem_nil, or_false] at hp
    rcases hp with rfl | rfl | rfl | rfl | rfl | rfl | rfl | rfl | rfl | rfl | rfl <;> exact duPiece_apply B _ _ _
  · have hz : (z 1).val < 2816 := (z 1).isLt
    by_cases c2560 : 2560 ≤ (z 1).val
    · exact ⟨_, List.mem_cons_self, mem_chunk 2560 inb_S256x2816_S256x256_0_2560 z c2560 (by omega)⟩
    by_cases c2304 : 2304 ≤ (z 1).val
    · exact ⟨_, (List.mem_cons_of_mem _ List.mem_cons_self), mem_chunk 2304 inb_S256x2816_S256x256_0_2304 z c2304 (by omega)⟩
    by_cases c2048 : 2048 ≤ (z 1).val
    · exact ⟨_, (List.mem_cons_of_mem _ (List.mem_cons_of_mem _ List.mem_cons_self)), mem_chunk 2048 inb_S256x2816_S256x256_0_2048 z c2048 (by omega)⟩
    by_cases c1792 : 1792 ≤ (z 1).val
    · exact ⟨_, (List.mem_cons_of_mem _ (List.mem_cons_of_mem _ (List.mem_cons_of_mem _ List.mem_cons_self))), mem_chunk 1792 inb_S256x2816_S256x256_0_1792 z c1792 (by omega)⟩
    by_cases c1536 : 1536 ≤ (z 1).val
    · exact ⟨_, (List.mem_cons_of_mem _ (List.mem_cons_of_mem _ (List.mem_cons_of_mem _ (List.mem_cons_of_mem _ List.mem_cons_self)))), mem_chunk 1536 inb_S256x2816_S256x256_0_1536 z c1536 (by omega)⟩
    by_cases c1280 : 1280 ≤ (z 1).val
    · exact ⟨_, (List.mem_cons_of_mem _ (List.mem_cons_of_mem _ (List.mem_cons_of_mem _ (List.mem_cons_of_mem _ (List.mem_cons_of_mem _ List.mem_cons_self))))), mem_chunk 1280 inb_S256x2816_S256x256_0_1280 z c1280 (by omega)⟩
    by_cases c1024 : 1024 ≤ (z 1).val
    · exact ⟨_, (List.mem_cons_of_mem _ (List.mem_cons_of_mem _ (List.mem_cons_of_mem _ (List.mem_cons_of_mem _ (List.mem_cons_of_mem _ (List.mem_cons_of_mem _ List.mem_cons_self)))))), mem_chunk 1024 inb_S256x2816_S256x256_0_1024 z c1024 (by omega)⟩
    by_cases c768 : 768 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_chunk 768 inb_S256x2816_S256x256_0_768 z c768 (by omega)⟩
    by_cases c512 : 512 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_chunk 512 inb_S256x2816_S256x256_0_512 z c512 (by omega)⟩
    by_cases c256 : 256 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_chunk 256 inb_S256x2816_S256x256_0_256 z c256 (by omega)⟩
    exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_chunk 0 inb_S256x2816_S256x256_0_0 z (Nat.zero_le _) (by omega)⟩

/-- Reading the whole block back gives the block. -/
theorem idx_whole (z : S256x2816.Idx) : (Rect.unit (s := S256x2816) ![0, 0] S256x2816.size inb_S256x2816_S256x2816_0_0).toLoadRect.idx z = z := by
  funext a
  refine Fin.ext ?_
  refine (Rect.emb_apply (Rect.unit (s := S256x2816) ![0, 0] S256x2816.size inb_S256x2816_S256x2816_0_0) z a).trans ?_
  match a with
  | ⟨0, _⟩ => show 0 + 1 * (z 0).val = (z 0).val; omega
  | ⟨1, _⟩ => show 0 + 1 * (z 1).val = (z 1).val; omega

theorem dg_read {κ : Kind} {sp : Space} (B : Blocks A R y gainF target x gain g u wg wu wd) (v : View Cert.HeadIdeal.sig κ sp S256x2816 .bf16) :
    v.readCov (dgPieces y gainF target g u wd) (Rect.unit (s := S256x2816) ![0, 0] S256x2816.size inb_S256x2816_S256x2816_0_0).toLoadRect = dgBlock A R := by
  rw [View.readCov_eq_canon', dg_canon B]
  exact funext fun z => congrArg (dgBlock A R) (idx_whole z)

theorem du_read {κ : Kind} {sp : Space} (B : Blocks A R y gainF target x gain g u wg wu wd) (v : View Cert.HeadIdeal.sig κ sp S256x2816 .bf16) :
    v.readCov (duPieces y gainF target g wd) (Rect.unit (s := S256x2816) ![0, 0] S256x2816.size inb_S256x2816_S256x2816_0_0).toLoadRect = duBlock A R := by
  rw [View.readCov_eq_canon', du_canon B]
  exact funext fun z => congrArg (duBlock A R) (idx_whole z)

end Pieces

/-! ### The blocks a point leaves -/

variable (m : (ℓ : Loc nD τ Cert.HeadIdeal.sig) → Buf (Elt Ideal) ℓ) (c : Dev nD)

variable {m c} {A : Args}

theorem outA_dx (H : Holds m c A) (t : Fin cfg0.N) (h : t.val % 16 = 0) : (outsAt0 m c t.val t.isLt).1
    = k0_pay1 (F := Ideal) (k0_pay13 (iblk m c 0 t) (iblk m c 1 t) (iblk m c 2 t))
        (k0_pay79 (dgBlock A (row t)) (iblk m c 7 t) (duBlock A (row t)) (iblk m c 8 t) (iblk m c 3 t) (iblk m c 4 t)) := by
  have e1 := dg_read (blocks H t) (ms0_11 t).view
  have e2 := du_read (blocks H t) (ms0_12 t).view
  rw [outsAt0_A m c t h]
  dsimp only
  frame_out
  exact congrArg₂ (fun a b => k0_pay1 (F := Ideal) (k0_pay13 (iblk m c 0 t) (iblk m c 1 t) (iblk m c 2 t)) (k0_pay79 a (iblk m c 7 t) b (iblk m c 8 t) (iblk m c 3 t) (iblk m c 4 t))) e1 e2

theorem outA_dg (H : Holds m c A) (t : Fin cfg0.N) (h : t.val % 16 = 0) : (outsAt0 m c t.val t.isLt).2.1 = dgBlock A (row t) := by
  rw [outsAt0_A m c t h]
  dsimp only
  frame_out
  exact dg_canon (blocks H t)

theorem outA_du (H : Holds m c A) (t : Fin cfg0.N) (h : t.val % 16 = 0) : (outsAt0 m c t.val t.isLt).2.2.1 = duBlock A (row t) := by
  rw [outsAt0_A m c t h]
  dsimp only
  frame_out
  exact du_canon (blocks H t)

theorem outA_db (t : Fin cfg0.N) (h : t.val % 16 = 0) : (outsAt0 m c t.val t.isLt).2.2.2.1
    = k0_pay15 (F := Ideal) (iblk m c 0 t) (iblk m c 1 t) (iblk m c 2 t) := by
  rw [outsAt0_A m c t h]
  dsimp only
  frame_out

theorem outA_gain (H : Holds m c A) (t : Fin cfg0.N) (h : t.val % 16 = 0) (q : Fin 8) (i : Fin 1024) : ((outsAt0 m c t.val t.isLt).2.2.2.2.1 : Arr 8 1024) (ix2 q i)
    = (k0_pay2 (F := Ideal) : Arr 8 1024) (ix2 q i) + ((part (row t) A.gainTerm q i : ℝ) : EReal) := by
  have e1 := dg_read (blocks H t) (ms0_11 t).view
  have e2 := du_read (blocks H t) (ms0_12 t).view
  rw [outsAt0_A m c t h]
  dsimp only
  frame_out
  refine Eq.trans ?_ (add_gain (blocks H t) _ q i)
  exact congrFun (congrArg₂ (fun a b => k0_pay5 (F := Ideal) (k0_pay80 a (iblk m c 7 t) b (iblk m c 8 t) (iblk m c 3 t)) _) e1 e2) _

theorem outA_gainF (H : Holds m c A) (t : Fin cfg0.N) (h : t.val % 16 = 0) (q : Fin 8) (i : Fin 1024) : ((outsAt0 m c t.val t.isLt).2.2.2.2.2.1 : Arr 8 1024) (ix2 q i)
    = (k0_pay3 (F := Ideal) : Arr 8 1024) (ix2 q i) + ((part (row t) A.gainFTerm q i : ℝ) : EReal) := by
  rw [outsAt0_A m c t h]
  dsimp only
  frame_out
  refine (add_gainF _ _ _ _).trans ?_
  exact congrArg (_ + ·) (gainF_tile (blocks H t) q i)

theorem outA_loss (H : Holds m c A) (t : Fin cfg0.N) (h : t.val % 16 = 0) (q : Fin 8) (i : Fin 1024) : ((outsAt0 m c t.val t.isLt).2.2.2.2.2.2 : Arr 8 1024) (ix2 q i)
    = (k0_pay4 (F := Ideal) : Arr 8 1024) (ix2 q i) + ((part (row t) A.lossTerm q i : ℝ) : EReal) := by
  rw [outsAt0_A m c t h]
  dsimp only
  frame_out
  exact add_loss (blocks H t) _ q i

theorem outB_dx (H : Holds m c A) (t : Fin cfg0.N) (h : ¬ t.val % 16 = 0) : (outsAt0 m c t.val t.isLt).1
    = k0_pay1 (F := Ideal) (k0_pay13 (iblk m c 0 t) (iblk m c 1 t) (iblk m c 2 t))
        (k0_pay79 (dgBlock A (row t)) (iblk m c 7 t) (duBlock A (row t)) (iblk m c 8 t) (iblk m c 3 t) (iblk m c 4 t)) := by
  have e1 := dg_read (blocks H t) (ms0_11 t).view
  have e2 := du_read (blocks H t) (ms0_12 t).view
  rw [outsAt0_B m c t h]
  dsimp only
  frame_out
  exact congrArg₂ (fun a b => k0_pay1 (F := Ideal) (k0_pay13 (iblk m c 0 t) (iblk m c 1 t) (iblk m c 2 t)) (k0_pay79 a (iblk m c 7 t) b (iblk m c 8 t) (iblk m c 3 t) (iblk m c 4 t))) e1 e2

theorem outB_dg (H : Holds m c A) (t : Fin cfg0.N) (h : ¬ t.val % 16 = 0) : (outsAt0 m c t.val t.isLt).2.1 = dgBlock A (row t) := by
  rw [outsAt0_B m c t h]
  dsimp only
  frame_out
  exact dg_canon (blocks H t)

theorem outB_du (H : Holds m c A) (t : Fin cfg0.N) (h : ¬ t.val % 16 = 0) : (outsAt0 m c t.val t.isLt).2.2.1 = duBlock A (row t) := by
  rw [outsAt0_B m c t h]
  dsimp only
  frame_out
  exact du_canon (blocks H t)

theorem outB_db (t : Fin cfg0.N) (h : ¬ t.val % 16 = 0) : (outsAt0 m c t.val t.isLt).2.2.2.1
    = k0_pay15 (F := Ideal) (iblk m c 0 t) (iblk m c 1 t) (iblk m c 2 t) := by
  rw [outsAt0_B m c t h]
  dsimp only
  frame_out

theorem outB_gain (H : Holds m c A) (t : Fin cfg0.N) (h : ¬ t.val % 16 = 0) (q : Fin 8) (i : Fin 1024) : ((outsAt0 m c t.val t.isLt).2.2.2.2.1 : Arr 8 1024) (ix2 q i)
    = ((outsAt0 m c (t.val - 1) (Nat.lt_of_le_of_lt (Nat.sub_le _ _) t.isLt)).2.2.2.2.1 : Arr 8 1024) (ix2 q i) + ((part (row t) A.gainTerm q i : ℝ) : EReal) := by
  have e1 := dg_read (blocks H t) (ms0_11 t).view
  have e2 := du_read (blocks H t) (ms0_12 t).view
  rw [outsAt0_B m c t h]
  dsimp only
  frame_out
  refine Eq.trans ?_ (add_gain (blocks H t) _ q i)
  exact congrFun (congrArg₂ (fun a b => k0_pay5 (F := Ideal) (k0_pay80 a (iblk m c 7 t) b (iblk m c 8 t) (iblk m c 3 t)) _) e1 e2) _

theorem outB_gainF (H : Holds m c A) (t : Fin cfg0.N) (h : ¬ t.val % 16 = 0) (q : Fin 8) (i : Fin 1024) : ((outsAt0 m c t.val t.isLt).2.2.2.2.2.1 : Arr 8 1024) (ix2 q i)
    = ((outsAt0 m c (t.val - 1) (Nat.lt_of_le_of_lt (Nat.sub_le _ _) t.isLt)).2.2.2.2.2.1 : Arr 8 1024) (ix2 q i) + ((part (row t) A.gainFTerm q i : ℝ) : EReal) := by
  rw [outsAt0_B m c t h]
  dsimp only
  frame_out
  refine (add_gainF _ _ _ _).trans ?_
  exact congrArg (_ + ·) (gainF_tile (blocks H t) q i)

theorem outB_loss (H : Holds m c A) (t : Fin cfg0.N) (h : ¬ t.val % 16 = 0) (q : Fin 8) (i : Fin 1024) : ((outsAt0 m c t.val t.isLt).2.2.2.2.2.2 : Arr 8 1024) (ix2 q i)
    = ((outsAt0 m c (t.val - 1) (Nat.lt_of_le_of_lt (Nat.sub_le _ _) t.isLt)).2.2.2.2.2.2 : Arr 8 1024) (ix2 q i) + ((part (row t) A.lossTerm q i : ℝ) : EReal) := by
  rw [outsAt0_B m c t h]
  dsimp only
  frame_out
  exact add_loss (blocks H t) _ q i

end Cert.HeadGrad

end
-- ==== Proof.HeadOutputs.lean ====
/- The arrays the call leaves: each row of the four large results comes from the one point that holds the row; the three sums over the rows
   grow from point to point and are written back after the last. -/
module

public import proofs.«01_k».proof.Proof.Gen.HeadIdeal.Value
public import proofs.«01_k».proof.Proof.HeadPoint
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.HeadGrad

open Cert.HeadIdeal Cert.HeadIdeal.Gen Cert.HeadIdeal.Value
open Cert.Mix (Arr)

variable (m : (ℓ : Loc nD τ Cert.HeadIdeal.sig) → Buf (Elt Ideal) ℓ) (c : Dev nD)

variable {m c} {A : Args}

theorem out_index : ∀ t : Fin cfg0.N,
    ((cfg0.win 10).index t 0 = t.val ∧ (cfg0.win 10).index t 1 = 0)
    ∧ ((cfg0.win 11).index t 0 = t.val ∧ (cfg0.win 11).index t 1 = 0)
    ∧ ((cfg0.win 12).index t 0 = t.val ∧ (cfg0.win 12).index t 1 = 0)
    ∧ ((cfg0.win 13).index t 0 = t.val ∧ (cfg0.win 13).index t 1 = 0)
    ∧ ((cfg0.win 14).index t 0 = 0 ∧ (cfg0.win 14).index t 1 = 0)
    ∧ ((cfg0.win 15).index t 0 = 0 ∧ (cfg0.win 15).index t 1 = 0)
    ∧ ((cfg0.win 16).index t 0 = 0 ∧ (cfg0.win 16).index t 1 = 0) := by
  decide +kernel

/-- The point that holds row `r`, and the row's place in its block. -/
abbrev tileOf (r : Fin 4096) : Fin cfg0.N := ⟨r.val / 256, lt_of_lt_of_eq (by omega) N_0.symm⟩
abbrev inTile (r : Fin 4096) : Fin 256 := ⟨r.val % 256, Nat.mod_lt _ (by decide)⟩

theorem row_tileOf (r : Fin 4096) : row (tileOf r) (inTile r) = r :=
  Fin.ext (by show 256 * (r.val / 256) + r.val % 256 = r.val; omega)

theorem out_dx (H : Holds m c A) (t : Fin cfg0.N) (a : Fin 256) (j : Fin 1024) :
    ((outsAt0 m c t.val t.isLt).1 : Arr 256 1024) (ix2 a j) = ((A.dx (row t a) j : ℝ) : EReal) := by
  by_cases h : t.val % 16 = 0
  · exact (congrFun (outA_dx H t h) _).trans (dx_tile (blocks H t) a j)
  · exact (congrFun (outB_dx H t h) _).trans (dx_tile (blocks H t) a j)

theorem out_dg (H : Holds m c A) (t : Fin cfg0.N) (a : Fin 256) (j : Fin 2816) :
    ((outsAt0 m c t.val t.isLt).2.1 : Arr 256 2816) (ix2 a j) = ((A.dg (row t a) j : ℝ) : EReal) := by
  by_cases h : t.val % 16 = 0
  · exact (congrFun (outA_dg H t h) _).trans (dgBlock_ix2 a j)
  · exact (congrFun (outB_dg H t h) _).trans (dgBlock_ix2 a j)

theorem out_du (H : Holds m c A) (t : Fin cfg0.N) (a : Fin 256) (j : Fin 2816) :
    ((outsAt0 m c t.val t.isLt).2.2.1 : Arr 256 2816) (ix2 a j) = ((A.du (row t a) j : ℝ) : EReal) := by
  by_cases h : t.val % 16 = 0
  · exact (congrFun (outA_du H t h) _).trans (duBlock_ix2 a j)
  · exact (congrFun (outB_du H t h) _).trans (duBlock_ix2 a j)

theorem out_db (H : Holds m c A) (t : Fin cfg0.N) (a : Fin 256) (j : Fin 1024) :
    ((outsAt0 m c t.val t.isLt).2.2.2.1 : Arr 256 1024) (ix2 a j) = ((A.db (row t a) j : ℝ) : EReal) := by
  by_cases h : t.val % 16 = 0
  · exact (congrFun (outA_db t h) _).trans (db_tile (blocks H t) a j)
  · exact (congrFun (outB_db t h) _).trans (db_tile (blocks H t) a j)

theorem arr_dx (H : Holds m c A) (r : Fin 4096) (j : Fin 1024) :
    ((dats m 0 c).arrAt 10 cfg0.N : Arr 4096 1024) (ix2 r j) = ((A.dx r j : ℝ) : EReal) := by
  obtain ⟨h0, h1⟩ := (out_index (tileOf r)).1
  have hf : (cfg0.win 10).flush (tileOf r) = true := (by decide +kernel : ∀ t : Fin cfg0.N, (cfg0.win 10).flush t = true) _
  have e := congrFun (blocks10 m c (tileOf r) hf) (ix2 (inTile r) j)
  rw [flushed10] at e
  refine Eq.trans ?_ (e.trans ?_)
  · refine congrArg ((dats m 0 c).arrAt 10 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_dx H (tileOf r) (inTile r) j).trans (by rw [row_tileOf])

theorem arr_dg (H : Holds m c A) (r : Fin 4096) (j : Fin 2816) :
    ((dats m 0 c).arrAt 11 cfg0.N : Arr 4096 2816) (ix2 r j) = ((A.dg r j : ℝ) : EReal) := by
  obtain ⟨h0, h1⟩ := (out_index (tileOf r)).2.1
  have hf : (cfg0.win 11).flush (tileOf r) = true := (by decide +kernel : ∀ t : Fin cfg0.N, (cfg0.win 11).flush t = true) _
  have e := congrFun (blocks11 m c (tileOf r) hf) (ix2 (inTile r) j)
  rw [flushed11] at e
  refine Eq.trans ?_ (e.trans ?_)
  · refine congrArg ((dats m 0 c).arrAt 11 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 2816 + j.val = j.val; omega)).symm
  · exact (out_dg H (tileOf r) (inTile r) j).trans (by rw [row_tileOf])

theorem arr_du (H : Holds m c A) (r : Fin 4096) (j : Fin 2816) :
    ((dats m 0 c).arrAt 12 cfg0.N : Arr 4096 2816) (ix2 r j) = ((A.du r j : ℝ) : EReal) := by
  obtain ⟨h0, h1⟩ := (out_index (tileOf r)).2.2.1
  have hf : (cfg0.win 12).flush (tileOf r) = true := (by decide +kernel : ∀ t : Fin cfg0.N, (cfg0.win 12).flush t = true) _
  have e := congrFun (blocks12 m c (tileOf r) hf) (ix2 (inTile r) j)
  rw [flushed12] at e
  refine Eq.trans ?_ (e.trans ?_)
  · refine congrArg ((dats m 0 c).arrAt 12 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 2816 + j.val = j.val; omega)).symm
  · exact (out_du H (tileOf r) (inTile r) j).trans (by rw [row_tileOf])

theorem arr_db (H : Holds m c A) (r : Fin 4096) (j : Fin 1024) :
    ((dats m 0 c).arrAt 13 cfg0.N : Arr 4096 1024) (ix2 r j) = ((A.db r j : ℝ) : EReal) := by
  obtain ⟨h0, h1⟩ := (out_index (tileOf r)).2.2.2.1
  have hf : (cfg0.win 13).flush (tileOf r) = true := (by decide +kernel : ∀ t : Fin cfg0.N, (cfg0.win 13).flush t = true) _
  have e := congrFun (blocks13 m c (tileOf r) hf) (ix2 (inTile r) j)
  rw [flushed13] at e
  refine Eq.trans ?_ (e.trans ?_)
  · refine congrArg ((dats m 0 c).arrAt 13 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_db H (tileOf r) (inTile r) j).trans (by rw [row_tileOf])

/-! ### The sums over the rows -/

/-- Row `k` of `f`, and zero past the last row. -/
def atRow (f : Fin 4096 → Fin 1024 → ℝ) (i : Fin 1024) (k : ℕ) : ℝ := if h : k < 4096 then f ⟨k, h⟩ i else 0

theorem part_eq (t : Fin cfg0.N) (f : Fin 4096 → Fin 1024 → ℝ) (q : Fin 8) (i : Fin 1024) :
    part (row t) f q i = ∑ s ∈ Finset.range 32, atRow f i (8 * (32 * t.val + s) + q.val) := by
  have ht := lt_of_lt_of_eq t.isLt N_0
  unfold part
  rw [Finset.sum_range]
  refine Finset.sum_congr rfl fun s _ => ?_
  unfold atRow
  rw [dif_pos (by omega)]
  exact congrArg (fun z => f z i) (Fin.ext (by show 256 * t.val + (8 * s.val + q.val) = 8 * (32 * t.val + s.val) + q.val; omega))

theorem bySlot_eq (f : Fin 4096 → Fin 1024 → ℝ) (q : Fin 8) (i : Fin 1024) :
    bySlot f q i = ∑ s ∈ Finset.range 512, atRow f i (8 * s + q.val) := by
  unfold bySlot
  rw [Finset.sum_range]
  refine Finset.sum_congr rfl fun s _ => ?_
  unfold atRow
  rw [dif_pos (by omega)]

/-- The sum after one more point. -/
theorem sum_step (f : Fin 4096 → Fin 1024 → ℝ) (n : ℕ) (h : n < cfg0.N) (q : Fin 8) (i : Fin 1024) :
    (∑ s ∈ Finset.range (32 * n), atRow f i (8 * s + q.val)) + part (row ⟨n, h⟩) f q i = ∑ s ∈ Finset.range (32 * (n + 1)), atRow f i (8 * s + q.val) := by
  rw [part_eq, show 32 * (n + 1) = 32 * n + 32 by ring, Finset.sum_range_add]

theorem zero_gain (q : Fin 8) (i : Fin 1024) : (k0_pay2 (F := Ideal) : Arr 8 1024) (ix2 q i) = ((0 : ℝ) : EReal) := by
  pointwise [k0_pay2]
  rfl
theorem zero_gainF (q : Fin 8) (i : Fin 1024) : (k0_pay3 (F := Ideal) : Arr 8 1024) (ix2 q i) = ((0 : ℝ) : EReal) := by
  pointwise [k0_pay3]
  rfl
theorem zero_loss (q : Fin 8) (i : Fin 1024) : (k0_pay4 (F := Ideal) : Arr 8 1024) (ix2 q i) = ((0 : ℝ) : EReal) := by
  pointwise [k0_pay4]
  rfl

theorem sum_gain (H : Holds m c A) (q : Fin 8) (i : Fin 1024) : ∀ (n : ℕ) (h : n < cfg0.N),
    ((outsAt0 m c n h).2.2.2.2.1 : Arr 8 1024) (ix2 q i) = ((∑ s ∈ Finset.range (32 * (n + 1)), atRow A.gainTerm i (8 * s + q.val) : ℝ) : EReal)
  | 0, h => by
    refine (outA_gain H ⟨0, h⟩ rfl q i).trans ?_
    rw [zero_gain, ← EReal.coe_add, ← sum_step _ 0 h]
    rfl
  | n + 1, h => by
    refine (outB_gain H ⟨n + 1, h⟩ (by have := lt_of_lt_of_eq h N_0; show ¬ (n + 1) % 16 = 0; omega) q i).trans ?_
    refine (congrArg (· + _) (sum_gain H q i n (Nat.lt_of_succ_lt h))).trans ?_
    rw [← EReal.coe_add, ← sum_step _ (n + 1) h]

theorem arr_gain (H : Holds m c A) (q : Fin 8) (i : Fin 1024) :
    ((dats m 0 c).arrAt 14 cfg0.N : Arr 8 1024) (ix2 q i) = ((bySlot A.gainTerm q i : ℝ) : EReal) := by
  have only : ∀ t : Fin cfg0.N, (cfg0.win 14).flush t = true → t.val = 15 := by decide +kernel
  have last : ∃ t : Fin cfg0.N, t.val = 15 := ⟨⟨15, lt_of_lt_of_eq (by decide) N_0.symm⟩, rfl⟩
  have flushes : ∀ t : Fin cfg0.N, t.val = 15 → (cfg0.win 14).flush t = true := by decide +kernel
  obtain ⟨t, ht⟩ := last
  have hf := flushes t ht
  obtain ⟨h0, h1⟩ := (out_index t).2.2.2.2.1
  have e := congrFun ((dats m 0 c).read_blk_arrAt_eq_flushed 14 (fun _ _ a b ne => absurd (Fin.ext ((only _ a).trans (only _ b).symm)) ne)
    cfg0.N t t.isLt hf) (ix2 q i)
  rw [flushed14] at e
  refine Eq.trans ?_ (e.trans ?_)
  · refine congrArg ((dats m 0 c).arrAt 14 cfg0.N) (funext fun x => Fin.ext ?_)
    match x with
    | ⟨0, _⟩ => exact ((Pipeline.Window.rect_emb_val _ t _ 0).trans (by rw [h0]; show 0 * 8 + q.val = q.val; omega)).symm
    | ⟨1, _⟩ => exact ((Pipeline.Window.rect_emb_val _ t _ 1).trans (by rw [h1]; show 0 * 1024 + i.val = i.val; omega)).symm
  · refine (sum_gain H q i t.val t.isLt).trans ?_
    rw [bySlot_eq, ht]

theorem sum_gainF (H : Holds m c A) (q : Fin 8) (i : Fin 1024) : ∀ (n : ℕ) (h : n < cfg0.N),
    ((outsAt0 m c n h).2.2.2.2.2.1 : Arr 8 1024) (ix2 q i) = ((∑ s ∈ Finset.range (32 * (n + 1)), atRow A.gainFTerm i (8 * s + q.val) : ℝ) : EReal)
  | 0, h => by
    refine (outA_gainF H ⟨0, h⟩ rfl q i).trans ?_
    rw [zero_gainF, ← EReal.coe_add, ← sum_step _ 0 h]
    rfl
  | n + 1, h => by
    refine (outB_gainF H ⟨n + 1, h⟩ (by have := lt_of_lt_of_eq h N_0; show ¬ (n + 1) % 16 = 0; omega) q i).trans ?_
    refine (congrArg (· + _) (sum_gainF H q i n (Nat.lt_of_succ_lt h))).trans ?_
    rw [← EReal.coe_add, ← sum_step _ (n + 1) h]

theorem arr_gainF (H : Holds m c A) (q : Fin 8) (i : Fin 1024) :
    ((dats m 0 c).arrAt 15 cfg0.N : Arr 8 1024) (ix2 q i) = ((bySlot A.gainFTerm q i : ℝ) : EReal) := by
  have only : ∀ t : Fin cfg0.N, (cfg0.win 15).flush t = true → t.val = 15 := by decide +kernel
  have last : ∃ t : Fin cfg0.N, t.val = 15 := ⟨⟨15, lt_of_lt_of_eq (by decide) N_0.symm⟩, rfl⟩
  have flushes : ∀ t : Fin cfg0.N, t.val = 15 → (cfg0.win 15).flush t = true := by decide +kernel
  obtain ⟨t, ht⟩ := last
  have hf := flushes t ht
  obtain ⟨h0, h1⟩ := (out_index t).2.2.2.2.2.1
  have e := congrFun ((dats m 0 c).read_blk_arrAt_eq_flushed 15 (fun _ _ a b ne => absurd (Fin.ext ((only _ a).trans (only _ b).symm)) ne)
    cfg0.N t t.isLt hf) (ix2 q i)
  rw [flushed15] at e
  refine Eq.trans ?_ (e.trans ?_)
  · refine congrArg ((dats m 0 c).arrAt 15 cfg0.N) (funext fun x => Fin.ext ?_)
    match x with
    | ⟨0, _⟩ => exact ((Pipeline.Window.rect_emb_val _ t _ 0).trans (by rw [h0]; show 0 * 8 + q.val = q.val; omega)).symm
    | ⟨1, _⟩ => exact ((Pipeline.Window.rect_emb_val _ t _ 1).trans (by rw [h1]; show 0 * 1024 + i.val = i.val; omega)).symm
  · refine (sum_gainF H q i t.val t.isLt).trans ?_
    rw [bySlot_eq, ht]

theorem sum_loss (H : Holds m c A) (q : Fin 8) (i : Fin 1024) : ∀ (n : ℕ) (h : n < cfg0.N),
    ((outsAt0 m c n h).2.2.2.2.2.2 : Arr 8 1024) (ix2 q i) = ((∑ s ∈ Finset.range (32 * (n + 1)), atRow A.lossTerm i (8 * s + q.val) : ℝ) : EReal)
  | 0, h => by
    refine (outA_loss H ⟨0, h⟩ rfl q i).trans ?_
    rw [zero_loss, ← EReal.coe_add, ← sum_step _ 0 h]
    rfl
  | n + 1, h => by
    refine (outB_loss H ⟨n + 1, h⟩ (by have := lt_of_lt_of_eq h N_0; show ¬ (n + 1) % 16 = 0; omega) q i).trans ?_
    refine (congrArg (· + _) (sum_loss H q i n (Nat.lt_of_succ_lt h))).trans ?_
    rw [← EReal.coe_add, ← sum_step _ (n + 1) h]

theorem arr_loss (H : Holds m c A) (q : Fin 8) (i : Fin 1024) :
    ((dats m 0 c).arrAt 16 cfg0.N : Arr 8 1024) (ix2 q i) = ((bySlot A.lossTerm q i : ℝ) : EReal) := by
  have only : ∀ t : Fin cfg0.N, (cfg0.win 16).flush t = true → t.val = 15 := by decide +kernel
  have last : ∃ t : Fin cfg0.N, t.val = 15 := ⟨⟨15, lt_of_lt_of_eq (by decide) N_0.symm⟩, rfl⟩
  have flushes : ∀ t : Fin cfg0.N, t.val = 15 → (cfg0.win 16).flush t = true := by decide +kernel
  obtain ⟨t, ht⟩ := last
  have hf := flushes t ht
  obtain ⟨h0, h1⟩ := (out_index t).2.2.2.2.2.2
  have e := congrFun ((dats m 0 c).read_blk_arrAt_eq_flushed 16 (fun _ _ a b ne => absurd (Fin.ext ((only _ a).trans (only _ b).symm)) ne)
    cfg0.N t t.isLt hf) (ix2 q i)
  rw [flushed16] at e
  refine Eq.trans ?_ (e.trans ?_)
  · refine congrArg ((dats m 0 c).arrAt 16 cfg0.N) (funext fun x => Fin.ext ?_)
    match x with
    | ⟨0, _⟩ => exact ((Pipeline.Window.rect_emb_val _ t _ 0).trans (by rw [h0]; show 0 * 8 + q.val = q.val; omega)).symm
    | ⟨1, _⟩ => exact ((Pipeline.Window.rect_emb_val _ t _ 1).trans (by rw [h1]; show 0 * 1024 + i.val = i.val; omega)).symm
  · refine (sum_loss H q i t.val t.isLt).trans ?_
    rw [bySlot_eq, ht]

end Cert.HeadGrad

end
-- ==== Proof.HeadResults.lean ====
/- The seven results: on real arguments the launch's arrays are the reference's. -/
module

public import proofs.«01_k».proof.Proof.HeadOutputs
public import proofs.«01_k».proof.Proof.HeadReference

@[expose] public section

set_option maxRecDepth 16384

noncomputable section

open Idealize.ShloMosaic Idealize.ShloMosaic.TcCoe Idealize.SL.Sem

namespace Cert.HeadGrad

open Cert.Mix (Arr)

variable {m : (ℓ : Loc Cert.HeadIdeal.nD Cert.HeadIdeal.τ Cert.HeadIdeal.sig) → Buf (Elt Ideal) ℓ} {c : Dev Cert.HeadIdeal.nD} {A : Args}

theorem ext2 {a b : ℕ} {x y : Arr a b} (h : ∀ r j, x (ix2 r j) = y (ix2 r j)) : x = y := by
  funext i
  have e : i = ix2 (i 0) (i 1) := by
    funext k
    match k with
    | ⟨0, _⟩ => rfl
    | ⟨1, _⟩ => rfl
  rw [e]
  exact h _ _

theorem dx_eq (H : Holds m c A) : ((Cert.HeadIdeal.Gen.dats m 0 c).arrAt 10 Cert.HeadIdeal.cfg0.N : Arr 4096 1024)
    = Cert.HeadReferenceIdeal.Read.val_main_v99 (F := Ideal) A.aX A.aGain A.aWg A.aWu A.aWd A.aGainF A.aTarget :=
  ext2 fun r j => (arr_dx H r j).trans (Ref.v99_apply A r j).symm

theorem dg_eq (H : Holds m c A) : ((Cert.HeadIdeal.Gen.dats m 0 c).arrAt 11 Cert.HeadIdeal.cfg0.N : Arr 4096 2816)
    = Cert.HeadReferenceIdeal.Read.val_main_v100 (F := Ideal) A.aX A.aGain A.aWg A.aWu A.aWd A.aGainF A.aTarget :=
  ext2 fun r j => (arr_dg H r j).trans (Ref.v80_apply A r j).symm

theorem du_eq (H : Holds m c A) : ((Cert.HeadIdeal.Gen.dats m 0 c).arrAt 12 Cert.HeadIdeal.cfg0.N : Arr 4096 2816)
    = Cert.HeadReferenceIdeal.Read.val_main_v101 (F := Ideal) A.aX A.aGain A.aWg A.aWu A.aWd A.aGainF A.aTarget :=
  ext2 fun r j => (arr_du H r j).trans (Ref.v77_apply A r j).symm

theorem db_eq (H : Holds m c A) : ((Cert.HeadIdeal.Gen.dats m 0 c).arrAt 13 Cert.HeadIdeal.cfg0.N : Arr 4096 1024)
    = Cert.HeadReferenceIdeal.Read.val_main_v102 (F := Ideal) A.aX A.aGain A.aWg A.aWu A.aWd A.aGainF A.aTarget :=
  ext2 fun r j => (arr_db H r j).trans (Ref.v75_apply A r j).symm

theorem gain_eq (H : Holds m c A) : ((Cert.HeadIdeal.Gen.dats m 0 c).arrAt 14 Cert.HeadIdeal.cfg0.N : Arr 8 1024)
    = Cert.HeadReferenceIdeal.Read.val_main_v104 (F := Ideal) A.aX A.aGain A.aWg A.aWu A.aWd A.aGainF A.aTarget :=
  ext2 fun r j => (arr_gain H r j).trans (Ref.v104_apply A r j).symm

theorem gainF_eq (H : Holds m c A) : ((Cert.HeadIdeal.Gen.dats m 0 c).arrAt 15 Cert.HeadIdeal.cfg0.N : Arr 8 1024)
    = Cert.HeadReferenceIdeal.Read.val_main_v106 (F := Ideal) A.aX A.aGain A.aWg A.aWu A.aWd A.aGainF A.aTarget :=
  ext2 fun r j => (arr_gainF H r j).trans (Ref.v106_apply A r j).symm

theorem loss_eq (H : Holds m c A) : ((Cert.HeadIdeal.Gen.dats m 0 c).arrAt 16 Cert.HeadIdeal.cfg0.N : Arr 8 1024)
    = Cert.HeadReferenceIdeal.Read.val_main_v112 (F := Ideal) A.aX A.aGain A.aWg A.aWu A.aWd A.aGainF A.aTarget :=
  ext2 fun r j => (arr_loss H r j).trans (Ref.v112_apply A r j).symm

end Cert.HeadGrad

end
-- ==== Proof.RowSums.lean ====
/- Sums over 4096 rows that a launch collects in eight slots, 256 rows at a time: slot `q` holds the sum over the rows whose number is
   `q` modulo 8. No program is mentioned here. -/
module

public import proofs.«01_k».proof.Proof.Gradient
public import Idealize.ShloMosaic.Lib.Pointwise
public import Idealize.ShloMosaic.PureOps.Ideal

@[expose] public section

set_option maxRecDepth 16384

noncomputable section

open Idealize.ShloMosaic

namespace Cert.RowSums

open Cert.Mix (Arr)

/-- Two arrays are equal if they are at every pair of coordinates. -/
theorem ext2 {a b : ℕ} {x y : Arr a b} (h : ∀ r j, x (ix2 r j) = y (ix2 r j)) : x = y := by
  funext i
  have e : i = ix2 (i 0) (i 1) := by
    funext k
    match k with
    | ⟨0, _⟩ => rfl
    | ⟨1, _⟩ => rfl
  rw [e]
  exact h _ _

/-- The sum of `f` over the rows whose number is `q` modulo 8. -/
def slot (f : Fin 4096 → Fin 1024 → EReal) (q : Fin 8) (i : Fin 1024) : EReal := ∑ s : Fin 512, f ⟨8 * s.val + q.val, by omega⟩ i

/-- What the 256 rows `R a` add to slot `q`. -/
def part (R : Fin 256 → Fin 4096) (f : Fin 4096 → Fin 1024 → EReal) (q : Fin 8) (i : Fin 1024) : EReal :=
  ∑ s : Fin 32, f (R ⟨8 * s.val + q.val, by omega⟩) i

theorem part_of {R : Fin 256 → Fin 4096} (f : Fin 4096 → Fin 1024 → EReal) (v : Arr 256 1024) (e : ∀ a j, v (ix2 a j) = f (R a) j)
    (q : Fin 8) (i : Fin 1024) (h : ∀ s : Fin 32, s.val * 8 + q.val < 256) :
    ∑ s : Fin 32, v (ix2 ⟨s.val * 8 + q.val, h s⟩ i) = part R f q i :=
  Finset.sum_congr rfl fun s _ => (e _ _).trans
    (congrArg (fun z => f (R z) i) (Fin.ext (by show s.val * 8 + q.val = 8 * s.val + q.val; omega)))

/-- Row `k` of `f`, and zero past the last row. -/
def atRow (f : Fin 4096 → Fin 1024 → EReal) (i : Fin 1024) (k : ℕ) : EReal := if h : k < 4096 then f ⟨k, h⟩ i else 0

theorem slot_eq (f : Fin 4096 → Fin 1024 → EReal) (q : Fin 8) (i : Fin 1024) :
    slot f q i = ∑ s ∈ Finset.range 512, atRow f i (8 * s + q.val) := by
  unfold slot
  rw [Finset.sum_range]
  refine Finset.sum_congr rfl fun s _ => ?_
  unfold atRow
  rw [dif_pos (by omega)]

/-- Slot `q` after the rows `256 n … 256 n + 255` have been added to it. -/
theorem sum_step (f : Fin 4096 → Fin 1024 → EReal) (n : ℕ) (hn : n < 16) (R : Fin 256 → Fin 4096) (hR : ∀ a, (R a).val = 256 * n + a.val)
    (q : Fin 8) (i : Fin 1024) :
    (∑ s ∈ Finset.range (32 * n), atRow f i (8 * s + q.val)) + part R f q i = ∑ s ∈ Finset.range (32 * (n + 1)), atRow f i (8 * s + q.val) := by
  have e : part R f q i = ∑ s ∈ Finset.range 32, atRow f i (8 * (32 * n + s) + q.val) := by
    unfold part
    rw [Finset.sum_range]
    refine Finset.sum_congr rfl fun s _ => ?_
    unfold atRow
    rw [dif_pos (by omega)]
    exact congrArg (fun z => f z i) (Fin.ext ((hR _).trans (by show 256 * n + (8 * s.val + q.val) = 8 * (32 * n + s.val) + q.val; omega)))
  rw [e, show 32 * (n + 1) = 32 * n + 32 by ring, Finset.sum_range_add]

/-- The reference's way of the same slots: the rows as 512 groups of eight. -/
theorem slots (f : Fin 4096 → Fin 1024 → EReal) (v : Arr 4096 1024) (e : ∀ r j, v (ix2 r j) = f r j) (q : Fin 8) (i : Fin 1024)
    (h : ∀ s : Fin 512, s.val * 8 + q.val < 4096) :
    ∑ s : Fin 512, v (ix2 ⟨s.val * 8 + q.val, h s⟩ i) = slot f q i :=
  Finset.sum_congr rfl fun s _ => (e _ _).trans
    (congrArg (fun z => f z i) (Fin.ext (by show s.val * 8 + q.val = 8 * s.val + q.val; omega)))

end Cert.RowSums

end
-- ==== Proof.ActMath.lean ====
/- The gradients of a feed-forward block's hidden layer, written as plain sums over the reals: half the gradient `d` of the block's
   output goes back through the down projection, and from there to the gate's and the up projection's values. No program is
   mentioned here. -/
module

public import proofs.«01_k».proof.Proof.RowSums
public import proofs.«01_k».proof.Proof.HeadMath

@[expose] public section

set_option maxRecDepth 16384

noncomputable section

open Idealize.ShloMosaic

namespace Cert.ActGrad

open Cert.Mix (Arr)
open Cert.HeadGrad (sig)

/-- The arguments as reals. -/
structure Args where
  d : Fin 4096 → Fin 1024 → ℝ
  g : Fin 4096 → Fin 2816 → ℝ
  u : Fin 4096 → Fin 2816 → ℝ
  wd : Fin 2816 → Fin 1024 → ℝ

variable (A : Args)

/-- The arguments as arrays of extended reals. -/
def Args.aD : Arr 4096 1024 := fun i => ((A.d (i 0) (i 1) : ℝ) : EReal)
def Args.aG : Arr 4096 2816 := fun i => ((A.g (i 0) (i 1) : ℝ) : EReal)
def Args.aU : Arr 4096 2816 := fun i => ((A.u (i 0) (i 1) : ℝ) : EReal)
def Args.aWd : Arr 2816 1024 := fun i => ((A.wd (i 0) (i 1) : ℝ) : EReal)

theorem aD_ix2 (r : Fin 4096) (j : Fin 1024) : A.aD (ix2 r j) = ((A.d r j : ℝ) : EReal) := rfl
theorem aG_ix2 (r : Fin 4096) (j : Fin 2816) : A.aG (ix2 r j) = ((A.g r j : ℝ) : EReal) := rfl
theorem aU_ix2 (r : Fin 4096) (j : Fin 2816) : A.aU (ix2 r j) = ((A.u r j : ℝ) : EReal) := rfl
theorem aWd_ix2 (r : Fin 2816) (j : Fin 1024) : A.aWd (ix2 r j) = ((A.wd r j : ℝ) : EReal) := rfl

/-- The gradient of the activation. -/
def Args.da (r : Fin 4096) (f : Fin 2816) : ℝ := ∑ k, 1 / 2 * A.d r k * A.wd f k
/-- The gradient of the gate's value. -/
def Args.dg (r : Fin 4096) (f : Fin 2816) : ℝ := A.da r f * A.u r f * (sig (A.g r f) * (1 + A.g r f * (1 - sig (A.g r f))))
/-- The gradient of the up projection's value. -/
def Args.du (r : Fin 4096) (f : Fin 2816) : ℝ := A.da r f * (A.g r f * sig (A.g r f))

end Cert.ActGrad

end
-- ==== Proof.ActTile.lean ====
/- One grid point of the call, on real blocks: `R a` is the row of the whole arrays that row `a` of the point's blocks holds. The two
   gradients are stored chunk by chunk, eleven pieces of 256 columns; each piece is that chunk of one block of real numbers, so the
   pieces together are that block. -/
module

public import proofs.«01_k».proof.Proof.Gen.ActIdeal.Skeleton
public import proofs.«01_k».proof.Proof.ActMath
public import Idealize.ShloMosaic.Lib.Pipeline.ReadBack
public import Idealize.ShloMosaic.Lib.Pipeline.ValueKit
public import Idealize.ShloMosaic.Lib.Pipeline.FrameBody
public import Idealize.ShloMosaic.Lib.IdealHost

@[expose] public section

set_option maxRecDepth 16384

noncomputable section

open Idealize.ShloMosaic Idealize.ShloMosaic.TcCoe

namespace Cert.ActGrad

open Cert.ActIdeal Cert.ActIdeal.Gen
open Cert.Mix (Arr)
open Cert.HeadGrad (sig coe_sum ofBits_half)

/-- The blocks of one point: rows `R a` of the row arrays and the whole weight. -/
structure Blocks (A : Args) (R : Fin 256 → Fin 4096) (d : Arr 256 1024) (g u : Arr 256 2816) (wd : Arr 2816 1024) : Prop where
  d : ∀ a j, d (ix2 a j) = ((A.d (R a) j : ℝ) : EReal)
  g : ∀ a f, g (ix2 a f) = ((A.g (R a) f : ℝ) : EReal)
  u : ∀ a f, u (ix2 a f) = ((A.u (R a) f : ℝ) : EReal)
  wd : ∀ f k, wd (ix2 f k) = ((A.wd f k : ℝ) : EReal)

/-- The two gradients' rows of a point, as blocks. -/
def dgBlock (A : Args) (R : Fin 256 → Fin 4096) : Arr 256 2816 := fun z => ((A.dg (R (z 0)) (z 1) : ℝ) : EReal)
def duBlock (A : Args) (R : Fin 256 → Fin 4096) : Arr 256 2816 := fun z => ((A.du (R (z 0)) (z 1) : ℝ) : EReal)

/-! ### A chunk -/

theorem chunk_lt (o : ℕ) (hh : ∀ a, (![0, o] : Fin 2 → Nat) a + S256x256.size a ≤ S256x2816.size a) (k : Fin 256) : o + k.val < 2816 := by
  have : o + 256 ≤ 2816 := hh 1
  omega

section Chunk
variable {A : Args} {R : Fin 256 → Fin 4096} {d : Arr 256 1024} {g u : Arr 256 2816} {wd : Arr 2816 1024} (o : ℕ) (hw : ∀ a, (![o, 0] : Fin 2 → Nat) a + S256x1024.size a ≤ S2816x1024.size a)
  (hh : ∀ a, (![0, o] : Fin 2 → Nat) a + S256x256.size a ≤ S256x2816.size a)

/-- Columns `o … o + 255` of a hidden block; rows `o … o + 255` of the down projection's weight. -/
abbrev cols (v : Arr 256 2816) : FVec Ideal S256x256 .bf16 :=
  View.ld (Val := Elt Ideal) (S := S256x2816) (e' := .bf16) v (Rect.unit (s := S256x2816) ![0, o] S256x256.size hh)
abbrev wrows (v : Arr 2816 1024) : FVec Ideal S256x1024 .bf16 :=
  View.ld (Val := Elt Ideal) (S := S2816x1024) (e' := .bf16) v (Rect.unit (s := S2816x1024) ![o, 0] S256x1024.size hw)

theorem emb_chunk (a k : Fin 256) :
    (Rect.unit (s := S256x2816) ![0, o] S256x256.size hh).emb (ix2 a k) = ix2 a ⟨o + k.val, chunk_lt o hh k⟩ := by
  funext z
  refine Fin.ext ?_
  rw [Rect.emb_apply]
  match z with
  | ⟨0, _⟩ => show 0 + 1 * a.val = a.val; omega
  | ⟨1, _⟩ => show o + 1 * k.val = o + k.val; omega

theorem emb_wrows (k : Fin 256) (j : Fin 1024) :
    (Rect.unit (s := S2816x1024) ![o, 0] S256x1024.size hw).emb (ix2 k j) = ix2 ⟨o + k.val, chunk_lt o hh k⟩ j := by
  funext z
  refine Fin.ext ?_
  rw [Rect.emb_apply]
  match z with
  | ⟨0, _⟩ => show o + 1 * k.val = o + k.val; omega
  | ⟨1, _⟩ => show 0 + 1 * j.val = j.val; omega

theorem cols_apply (v : Arr 256 2816) (a k : Fin 256) : cols o hh v (ix2 a k) = v (ix2 a ⟨o + k.val, chunk_lt o hh k⟩) :=
  congrArg v (emb_chunk o hh a k)

theorem rows_apply (v : Arr 2816 1024) (k : Fin 256) (j : Fin 1024) : wrows o hw v (ix2 k j) = v (ix2 ⟨o + k.val, chunk_lt o hh k⟩ j) :=
  congrArg v (emb_wrows o hw hh k j)

theorem da_chunk (B : Blocks A R d g u wd) (a k : Fin 256) :
    k0_pay4 (F := Ideal) d (wrows o hw wd) (ix2 a k) = ((A.da (R a) ⟨o + k.val, chunk_lt o hh k⟩ : ℝ) : EReal) := by
  have e2 := rows_apply o hw hh wd
  generalize wrows o hw wd = v2 at *
  pointwise [k0_pay4, k0_pay3]
  simp only [e2, B.d, B.wd, ofBits_half, ← EReal.coe_mul, coe_sum]
  rfl

theorem sig_chunk (B : Blocks A R d g u wd) (a k : Fin 256) :
    k0_pay6 (F := Ideal) (cols o hh g) (ix2 a k) = ((sig (A.g (R a) ⟨o + k.val, chunk_lt o hh k⟩) : ℝ) : EReal) := by
  have e2 := cols_apply o hh g
  generalize cols o hh g = v2 at *
  pointwise [k0_pay6, k0_pay5]
  simp only [e2, B.g]
  exact Ideal.logistic_coe _

/-- A chunk of the gate's gradient. -/
theorem dg_chunk (B : Blocks A R d g u wd) (a k : Fin 256) :
    k0_pay7 (F := Ideal) d (wrows o hw wd) (cols o hh g) (cols o hh u) (ix2 a k) = ((A.dg (R a) ⟨o + k.val, chunk_lt o hh k⟩ : ℝ) : EReal) := by
  have e1 := da_chunk o hw hh B
  have e2 := sig_chunk o hh B
  have e3 := cols_apply o hh g
  have e4 := cols_apply o hh u
  unfold k0_pay7
  generalize k0_pay4 (F := Ideal) d (wrows o hw wd) = v1 at *
  generalize k0_pay6 (F := Ideal) (cols o hh g) = v2 at *
  generalize cols o hh g = v3 at *
  generalize cols o hh u = v4 at *
  pointwise [k0_pay5]
  simp only [e1, e2, e3, e4, B.g, B.u, show (1 : EReal) = ((1 : ℝ) : EReal) from rfl, ← EReal.coe_mul, ← EReal.coe_add, ← EReal.coe_sub]
  rfl

/-- A chunk of the up projection's gradient. -/
theorem du_chunk (B : Blocks A R d g u wd) (a k : Fin 256) :
    k0_pay8 (F := Ideal) d (wrows o hw wd) (cols o hh g) (ix2 a k) = ((A.du (R a) ⟨o + k.val, chunk_lt o hh k⟩ : ℝ) : EReal) := by
  have e1 := da_chunk o hw hh B
  have e2 := sig_chunk o hh B
  have e3 := cols_apply o hh g
  unfold k0_pay8
  generalize k0_pay4 (F := Ideal) d (wrows o hw wd) = v1 at *
  generalize k0_pay6 (F := Ideal) (cols o hh g) = v2 at *
  generalize cols o hh g = v3 at *
  pointwise [k0_pay5]
  simp only [e1, e2, e3, B.g, ← EReal.coe_mul]
  rfl

end Chunk

/-! ### Eleven chunks make a block -/

section Pieces
variable {A : Args} {R : Fin 256 → Fin 4096} (d : Arr 256 1024) (g u : Arr 256 2816) (wd : Arr 2816 1024)

/-- The piece at columns `o … o + 255` of the gate's gradient, and of the up projection's. -/
abbrev dgPiece (o : ℕ) (hw : ∀ a, (![o, 0] : Fin 2 → Nat) a + S256x1024.size a ≤ S2816x1024.size a)
    (hh : ∀ a, (![0, o] : Fin 2 → Nat) a + S256x256.size a ≤ S256x2816.size a) : View.Piece (Elt Ideal) S256x2816 .bf16 :=
  ⟨Rect.unit (s := S256x2816) ![0, o] S256x256.size hh, k0_pay7 (F := Ideal) d (wrows o hw wd) (cols o hh g) (cols o hh u)⟩

abbrev duPiece (o : ℕ) (hw : ∀ a, (![o, 0] : Fin 2 → Nat) a + S256x1024.size a ≤ S2816x1024.size a)
    (hh : ∀ a, (![0, o] : Fin 2 → Nat) a + S256x256.size a ≤ S256x2816.size a) : View.Piece (Elt Ideal) S256x2816 .bf16 :=
  ⟨Rect.unit (s := S256x2816) ![0, o] S256x256.size hh, k0_pay8 (F := Ideal) d (wrows o hw wd) (cols o hh g)⟩

abbrev dgPieces : List (View.Piece (Elt Ideal) S256x2816 .bf16) :=
  [dgPiece d g u wd 2560 inb_S2816x1024_S256x1024_2560_0 inb_S256x2816_S256x256_0_2560,
   dgPiece d g u wd 2304 inb_S2816x1024_S256x1024_2304_0 inb_S256x2816_S256x256_0_2304,
   dgPiece d g u wd 2048 inb_S2816x1024_S256x1024_2048_0 inb_S256x2816_S256x256_0_2048,
   dgPiece d g u wd 1792 inb_S2816x1024_S256x1024_1792_0 inb_S256x2816_S256x256_0_1792,
   dgPiece d g u wd 1536 inb_S2816x1024_S256x1024_1536_0 inb_S256x2816_S256x256_0_1536,
   dgPiece d g u wd 1280 inb_S2816x1024_S256x1024_1280_0 inb_S256x2816_S256x256_0_1280,
   dgPiece d g u wd 1024 inb_S2816x1024_S256x1024_1024_0 inb_S256x2816_S256x256_0_1024,
   dgPiece d g u wd 768 inb_S2816x1024_S256x1024_768_0 inb_S256x2816_S256x256_0_768,
   dgPiece d g u wd 512 inb_S2816x1024_S256x1024_512_0 inb_S256x2816_S256x256_0_512,
   dgPiece d g u wd 256 inb_S2816x1024_S256x1024_256_0 inb_S256x2816_S256x256_0_256,
   dgPiece d g u wd 0 inb_S2816x1024_S256x1024_0_0 inb_S256x2816_S256x256_0_0]

abbrev duPieces : List (View.Piece (Elt Ideal) S256x2816 .bf16) :=
  [duPiece d g wd 2560 inb_S2816x1024_S256x1024_2560_0 inb_S256x2816_S256x256_0_2560,
   duPiece d g wd 2304 inb_S2816x1024_S256x1024_2304_0 inb_S256x2816_S256x256_0_2304,
   duPiece d g wd 2048 inb_S2816x1024_S256x1024_2048_0 inb_S256x2816_S256x256_0_2048,
   duPiece d g wd 1792 inb_S2816x1024_S256x1024_1792_0 inb_S256x2816_S256x256_0_1792,
   duPiece d g wd 1536 inb_S2816x1024_S256x1024_1536_0 inb_S256x2816_S256x256_0_1536,
   duPiece d g wd 1280 inb_S2816x1024_S256x1024_1280_0 inb_S256x2816_S256x256_0_1280,
   duPiece d g wd 1024 inb_S2816x1024_S256x1024_1024_0 inb_S256x2816_S256x256_0_1024,
   duPiece d g wd 768 inb_S2816x1024_S256x1024_768_0 inb_S256x2816_S256x256_0_768,
   duPiece d g wd 512 inb_S2816x1024_S256x1024_512_0 inb_S256x2816_S256x256_0_512,
   duPiece d g wd 256 inb_S2816x1024_S256x1024_256_0 inb_S256x2816_S256x256_0_256,
   duPiece d g wd 0 inb_S2816x1024_S256x1024_0_0 inb_S256x2816_S256x256_0_0]

variable {d g u wd}

theorem idx_eq {a b : ℕ} (i : (⟨2, ![a, b]⟩ : Shape).Idx) : i = ix2 (i 0) (i 1) := by
  funext z
  match z with
  | ⟨0, _⟩ => rfl
  | ⟨1, _⟩ => rfl

theorem dgPiece_apply (B : Blocks A R d g u wd) (o : ℕ) (hw : ∀ a, (![o, 0] : Fin 2 → Nat) a + S256x1024.size a ≤ S2816x1024.size a)
    (hh : ∀ a, (![0, o] : Fin 2 → Nat) a + S256x256.size a ≤ S256x2816.size a) :
    ∀ z : S256x256.Idx, (dgPiece d g u wd o hw hh).2 z = dgBlock A R ((dgPiece d g u wd o hw hh).1.emb z) := by
  intro z
  rw [idx_eq z]
  exact (dg_chunk o hw hh B _ _).trans (congrArg (dgBlock A R) (emb_chunk o hh _ _)).symm

theorem duPiece_apply (B : Blocks A R d g u wd) (o : ℕ) (hw : ∀ a, (![o, 0] : Fin 2 → Nat) a + S256x1024.size a ≤ S2816x1024.size a)
    (hh : ∀ a, (![0, o] : Fin 2 → Nat) a + S256x256.size a ≤ S256x2816.size a) :
    ∀ z : S256x256.Idx, (duPiece d g wd o hw hh).2 z = duBlock A R ((duPiece d g wd o hw hh).1.emb z) := by
  intro z
  rw [idx_eq z]
  exact (du_chunk o hw hh B _ _).trans (congrArg (duBlock A R) (emb_chunk o hh _ _)).symm

/-- Column `f` lies in the piece at `o` if it is one of the columns `o … o + 255`. -/
theorem mem_chunk (o : ℕ) (hh : ∀ a, (![0, o] : Fin 2 → Nat) a + S256x256.size a ≤ S256x2816.size a) (z : S256x2816.Idx)
    (h1 : o ≤ (z 1).val) (h2 : (z 1).val < o + 256) : z ∈ (Rect.unit (s := S256x2816) ![0, o] S256x256.size hh).set := by
  rw [Rect.mem_set_unit]
  intro a
  match a with
  | ⟨0, _⟩ => exact ⟨Nat.zero_le _, by have := (z 0).isLt; show (z 0).val < 0 + 256; have e : (z 0).val < 256 := this; omega⟩
  | ⟨1, _⟩ => exact ⟨h1, h2⟩

theorem dg_canon (B : Blocks A R d g u wd) : View.canon (dgPieces d g u wd) = dgBlock A R := by
  funext z
  refine View.canon_apply_of_pieces (Val := Elt Ideal) (S := S256x2816) (e := .bf16) (dgBlock A R) _ ?_ z ?_
  · intro p hp
    simp only [List.mem_cons, List.not_mem_nil, or_false] at hp
    rcases hp with rfl | rfl | rfl | rfl | rfl | rfl | rfl | rfl | rfl | rfl | rfl <;> exact dgPiece_apply B _ _ _
  · have hz : (z 1).val < 2816 := (z 1).isLt
    by_cases c2560 : 2560 ≤ (z 1).val
    · exact ⟨_, List.mem_cons_self, mem_chunk 2560 inb_S256x2816_S256x256_0_2560 z c2560 (by omega)⟩
    by_cases c2304 : 2304 ≤ (z 1).val
    · exact ⟨_, (List.mem_cons_of_mem _ List.mem_cons_self), mem_chunk 2304 inb_S256x2816_S256x256_0_2304 z c2304 (by omega)⟩
    by_cases c2048 : 2048 ≤ (z 1).val
    · exact ⟨_, (List.mem_cons_of_mem _ (List.mem_cons_of_mem _ List.mem_cons_self)), mem_chunk 2048 inb_S256x2816_S256x256_0_2048 z c2048 (by omega)⟩
    by_cases c1792 : 1792 ≤ (z 1).val
    · exact ⟨_, (List.mem_cons_of_mem _ (List.mem_cons_of_mem _ (List.mem_cons_of_mem _ List.mem_cons_self))), mem_chunk 1792 inb_S256x2816_S256x256_0_1792 z c1792 (by omega)⟩
    by_cases c1536 : 1536 ≤ (z 1).val
    · exact ⟨_, (List.mem_cons_of_mem _ (List.mem_cons_of_mem _ (List.mem_cons_of_mem _ (List.mem_cons_of_mem _ List.mem_cons_self)))), mem_chunk 1536 inb_S256x2816_S256x256_0_1536 z c1536 (by omega)⟩
    by_cases c1280 : 1280 ≤ (z 1).val
    · exact ⟨_, (List.mem_cons_of_mem _ (List.mem_cons_of_mem _ (List.mem_cons_of_mem _ (List.mem_cons_of_mem _ (List.mem_cons_of_mem _ List.mem_cons_self))))), mem_chunk 1280 inb_S256x2816_S256x256_0_1280 z c1280 (by omega)⟩
    by_cases c1024 : 1024 ≤ (z 1).val
    · exact ⟨_, (List.mem_cons_of_mem _ (List.mem_cons_of_mem _ (List.mem_cons_of_mem _ (List.mem_cons_of_mem _ (List.mem_cons_of_mem _ (List.mem_cons_of_mem _ List.mem_cons_self)))))), mem_chunk 1024 inb_S256x2816_S256x256_0_1024 z c1024 (by omega)⟩
    by_cases c768 : 768 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_chunk 768 inb_S256x2816_S256x256_0_768 z c768 (by omega)⟩
    by_cases c512 : 512 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_chunk 512 inb_S256x2816_S256x256_0_512 z c512 (by omega)⟩
    by_cases c256 : 256 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_chunk 256 inb_S256x2816_S256x256_0_256 z c256 (by omega)⟩
    exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_chunk 0 inb_S256x2816_S256x256_0_0 z (Nat.zero_le _) (by omega)⟩

theorem du_canon (B : Blocks A R d g u wd) : View.canon (duPieces d g wd) = duBlock A R := by
  funext z
  refine View.canon_apply_of_pieces (Val := Elt Ideal) (S := S256x2816) (e := .bf16) (duBlock A R) _ ?_ z ?_
  · intro p hp
    simp only [List.mem_cons, List.not_mem_nil, or_false] at hp
    rcases hp with rfl | rfl | rfl | rfl | rfl | rfl | rfl | rfl | rfl | rfl | rfl <;> exact duPiece_apply B _ _ _
  · have hz : (z 1).val < 2816 := (z 1).isLt
    by_cases c2560 : 2560 ≤ (z 1).val
    · exact ⟨_, List.mem_cons_self, mem_chunk 2560 inb_S256x2816_S256x256_0_2560 z c2560 (by omega)⟩
    by_cases c2304 : 2304 ≤ (z 1).val
    · exact ⟨_, (List.mem_cons_of_mem _ List.mem_cons_self), mem_chunk 2304 inb_S256x2816_S256x256_0_2304 z c2304 (by omega)⟩
    by_cases c2048 : 2048 ≤ (z 1).val
    · exact ⟨_, (List.mem_cons_of_mem _ (List.mem_cons_of_mem _ List.mem_cons_self)), mem_chunk 2048 inb_S256x2816_S256x256_0_2048 z c2048 (by omega)⟩
    by_cases c1792 : 1792 ≤ (z 1).val
    · exact ⟨_, (List.mem_cons_of_mem _ (List.mem_cons_of_mem _ (List.mem_cons_of_mem _ List.mem_cons_self))), mem_chunk 1792 inb_S256x2816_S256x256_0_1792 z c1792 (by omega)⟩
    by_cases c1536 : 1536 ≤ (z 1).val
    · exact ⟨_, (List.mem_cons_of_mem _ (List.mem_cons_of_mem _ (List.mem_cons_of_mem _ (List.mem_cons_of_mem _ List.mem_cons_self)))), mem_chunk 1536 inb_S256x2816_S256x256_0_1536 z c1536 (by omega)⟩
    by_cases c1280 : 1280 ≤ (z 1).val
    · exact ⟨_, (List.mem_cons_of_mem _ (List.mem_cons_of_mem _ (List.mem_cons_of_mem _ (List.mem_cons_of_mem _ (List.mem_cons_of_mem _ List.mem_cons_self))))), mem_chunk 1280 inb_S256x2816_S256x256_0_1280 z c1280 (by omega)⟩
    by_cases c1024 : 1024 ≤ (z 1).val
    · exact ⟨_, (List.mem_cons_of_mem _ (List.mem_cons_of_mem _ (List.mem_cons_of_mem _ (List.mem_cons_of_mem _ (List.mem_cons_of_mem _ (List.mem_cons_of_mem _ List.mem_cons_self)))))), mem_chunk 1024 inb_S256x2816_S256x256_0_1024 z c1024 (by omega)⟩
    by_cases c768 : 768 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_chunk 768 inb_S256x2816_S256x256_0_768 z c768 (by omega)⟩
    by_cases c512 : 512 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_chunk 512 inb_S256x2816_S256x256_0_512 z c512 (by omega)⟩
    by_cases c256 : 256 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_chunk 256 inb_S256x2816_S256x256_0_256 z c256 (by omega)⟩
    exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_chunk 0 inb_S256x2816_S256x256_0_0 z (Nat.zero_le _) (by omega)⟩

end Pieces

end Cert.ActGrad

end
-- ==== Proof.ActOutputs.lean ====
/- The arrays the call leaves when the arguments are real: what the host hands the call, the blocks each grid point reads and leaves, and
   each row of the two gradients from the one point that holds the row. -/
module

public import proofs.«01_k».proof.Proof.Gen.ActIdeal.Value
public import proofs.«01_k».proof.Proof.ActTile
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.ActGrad

open Cert.ActIdeal Cert.ActIdeal.Gen Cert.ActIdeal.Value
open Cert.Mix (Arr)

variable (m : (ℓ : Loc nD τ Cert.ActIdeal.sig) → Buf (Elt Ideal) ℓ) (c : Dev nD)

/-- The program's arguments on device `c` are the real arrays of `A`. -/
structure Holds (A : Args) : Prop where
  d : (m (c, Proc.tc.devRef main_arg0) : Arr 4096 1024) = A.aD
  g : (m (c, Proc.tc.devRef main_arg1) : Arr 4096 2816) = A.aG
  u : (m (c, Proc.tc.devRef main_arg2) : Arr 4096 2816) = A.aU
  wd : (m (c, Proc.tc.devRef main_arg3) : Arr 2816 1024) = A.aWd

variable {m c} {A : Args}

theorem V_arg0 (H : Holds m c A) : (V m c main_arg0 : Arr 4096 1024) = A.aD := by
  refine Eq.trans ?_ H.d
  unfold V
  after_reads_simp

set_option maxHeartbeats 1000000 in
theorem V_v0 (H : Holds m c A) (r : Fin 4096) (f : Fin 2816) : (V m c main_v0 : Arr 4096 2816) (ix2 r f) = ((A.g r f : ℝ) : EReal) := by
  refine Eq.trans ?_ (congrFun H.g (ix2 r f))
  unfold V
  after_reads_at

set_option maxHeartbeats 1000000 in
theorem V_v1 (H : Holds m c A) (r : Fin 4096) (f : Fin 2816) : (V m c main_v1 : Arr 4096 2816) (ix2 r f) = ((A.u r f : ℝ) : EReal) := by
  refine Eq.trans ?_ (congrFun H.u (ix2 r f))
  unfold V
  after_reads_at

set_option maxHeartbeats 1000000 in
theorem V_v2 (H : Holds m c A) (r : Fin 2816) (f : Fin 1024) : (V m c main_v2 : Arr 2816 1024) (ix2 r f) = ((A.wd r f : ℝ) : EReal) := by
  refine Eq.trans ?_ (congrFun H.wd (ix2 r f))
  unfold V
  after_reads_at

/-- Row `a` of the blocks of point `t`. -/
abbrev row (t : Fin cfg0.N) (a : Fin 256) : Fin 4096 := ⟨256 * t.val + a.val, by have := lt_of_lt_of_eq t.isLt N_0; omega⟩

/-- Which block of its array each window holds at a point: the row arrays' blocks follow the point, the weight is whole. -/
theorem index_facts : ∀ t : Fin cfg0.N,
    ((cfg0.win 0).index t 0 = t.val ∧ (cfg0.win 0).index t 1 = 0)
    ∧ ((cfg0.win 1).index t 0 = t.val ∧ (cfg0.win 1).index t 1 = 0)
    ∧ ((cfg0.win 2).index t 0 = t.val ∧ (cfg0.win 2).index t 1 = 0)
    ∧ ((cfg0.win 3).index t 0 = 0 ∧ (cfg0.win 3).index t 1 = 0)
    ∧ ((cfg0.win 4).index t 0 = t.val ∧ (cfg0.win 4).index t 1 = 0)
    ∧ ((cfg0.win 5).index t 0 = t.val ∧ (cfg0.win 5).index t 1 = 0) := by
  decide +kernel

theorem iblk_d (t : Fin cfg0.N) (a : Fin 256) (j : Fin 1024) :
    (iblk m c 0 t : Arr 256 1024) (ix2 a j) = (V m c main_arg0 : Arr 4096 1024) (ix2 (row t a) j) := by
  obtain ⟨h0, h1⟩ := (index_facts t).1
  blk_simp [iblk]
  refine congrArg (V m c main_arg0) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

theorem iblk_g (t : Fin cfg0.N) (a : Fin 256) (j : Fin 2816) :
    (iblk m c 1 t : Arr 256 2816) (ix2 a j) = (V m c main_v0 : Arr 4096 2816) (ix2 (row t a) j) := by
  obtain ⟨h0, h1⟩ := (index_facts t).2.1
  blk_simp [iblk]
  refine congrArg (V m c main_v0) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 2816 + j.val = j.val; omega)

theorem iblk_u (t : Fin cfg0.N) (a : Fin 256) (j : Fin 2816) :
    (iblk m c 2 t : Arr 256 2816) (ix2 a j) = (V m c main_v1 : Arr 4096 2816) (ix2 (row t a) j) := by
  obtain ⟨h0, h1⟩ := (index_facts t).2.2.1
  blk_simp [iblk]
  refine congrArg (V m c main_v1) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 2816 + j.val = j.val; omega)

theorem iblk_wd (t : Fin cfg0.N) (a : Fin 2816) (j : Fin 1024) :
    (iblk m c 3 t : Arr 2816 1024) (ix2 a j) = (V m c main_v2 : Arr 2816 1024) (ix2 a j) := by
  obtain ⟨h0, h1⟩ := (index_facts t).2.2.2.1
  blk_simp [iblk]
  refine congrArg (V m c main_v2) (funext fun x => Fin.ext ?_)
  match x with
  | ⟨0, _⟩ => exact (Pipeline.Window.rect_emb_val _ t _ 0).trans (by rw [h0]; show 0 * 2816 + a.val = a.val; omega)
  | ⟨1, _⟩ => exact (Pipeline.Window.rect_emb_val _ t _ 1).trans (by rw [h1]; show 0 * 1024 + j.val = j.val; omega)

/-- The blocks of point `t` hold the rows of the point. -/
theorem blocks (H : Holds m c A) (t : Fin cfg0.N) : Blocks A (row t) (iblk m c 0 t) (iblk m c 1 t) (iblk m c 2 t) (iblk m c 3 t) where
  d a j := (iblk_d t a j).trans (congrFun (V_arg0 H) _)
  g a f := (iblk_g t a f).trans (V_v0 H _ _)
  u a f := (iblk_u t a f).trans (V_v1 H _ _)
  wd f k := (iblk_wd t f k).trans (V_v2 H _ _)

/-! ### The blocks a point leaves -/

/-- The body reads its block of `d` whole. -/
theorem whole_block (x : Arr 256 1024) : View.ld (Val := Elt Ideal) (S := S256x1024) (e' := .f32) x r0_0 = x :=
  View.ld_unit_lit (Val := Elt Ideal) (e := .f32) (S := S256x1024) (off := ![0, 0]) inb_S256x1024_S256x1024_0_0 x (Fin.forall_fin_two.mpr ⟨rfl, rfl⟩)

theorem blocks_read (H : Holds m c A) (t : Fin cfg0.N) : Blocks A (row t) (View.ld (Val := Elt Ideal) (S := S256x1024) (e' := .f32) (iblk m c 0 t) r0_0)
    (iblk m c 1 t) (iblk m c 2 t) (iblk m c 3 t) :=
  (congrArg (fun x => Blocks A (row t) x (iblk m c 1 t) (iblk m c 2 t) (iblk m c 3 t)) (whole_block (iblk m c 0 t))).mpr (blocks H t)

theorem out_dg (H : Holds m c A) (t : Fin cfg0.N) : out0_4 (F := Ideal) (iblk m c 0 t) (iblk m c 1 t) (iblk m c 2 t) (iblk m c 3 t) = dgBlock A (row t) :=
  dg_canon (blocks_read H t)

theorem out_du (H : Holds m c A) (t : Fin cfg0.N) : out0_5 (F := Ideal) (iblk m c 0 t) (iblk m c 1 t) (iblk m c 2 t) (iblk m c 3 t) = duBlock A (row t) :=
  du_canon (u := iblk m c 2 t) (blocks_read H t)

/-! ### The arrays -/

/-- The point that holds row `r`, and the row's place in its block. -/
abbrev tileOf (r : Fin 4096) : Fin cfg0.N := ⟨r.val / 256, lt_of_lt_of_eq (by omega) N_0.symm⟩
abbrev inTile (r : Fin 4096) : Fin 256 := ⟨r.val % 256, Nat.mod_lt _ (by decide)⟩

theorem row_tileOf (r : Fin 4096) : row (tileOf r) (inTile r) = r :=
  Fin.ext (by show 256 * (r.val / 256) + r.val % 256 = r.val; omega)

theorem arr_dg (H : Holds m c A) (r : Fin 4096) (j : Fin 2816) :
    ((dats m 0 c).arrAt 4 cfg0.N : Arr 4096 2816) (ix2 r j) = ((A.dg r j : ℝ) : EReal) := by
  obtain ⟨h0, h1⟩ := (index_facts (tileOf r)).2.2.2.2.1
  have hf : (cfg0.win 4).flush (tileOf r) = true := (by decide +kernel : ∀ t : Fin cfg0.N, (cfg0.win 4).flush t = true) _
  have e := congrFun (blocks4 m c (tileOf r) hf) (ix2 (inTile r) j)
  rw [flushed4, out_dg H] at e
  refine Eq.trans ?_ (e.trans ?_)
  · refine congrArg ((dats m 0 c).arrAt 4 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 2816 + j.val = j.val; omega)).symm
  · exact congrArg (fun z => ((A.dg z j : ℝ) : EReal)) (row_tileOf r)

theorem arr_du (H : Holds m c A) (r : Fin 4096) (j : Fin 2816) :
    ((dats m 0 c).arrAt 5 cfg0.N : Arr 4096 2816) (ix2 r j) = ((A.du r j : ℝ) : EReal) := by
  obtain ⟨h0, h1⟩ := (index_facts (tileOf r)).2.2.2.2.2
  have hf : (cfg0.win 5).flush (tileOf r) = true := (by decide +kernel : ∀ t : Fin cfg0.N, (cfg0.win 5).flush t = true) _
  have e := congrFun (blocks5 m c (tileOf r) hf) (ix2 (inTile r) j)
  rw [flushed5, out_du H] at e
  refine Eq.trans ?_ (e.trans ?_)
  · refine congrArg ((dats m 0 c).arrAt 5 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 2816 + j.val = j.val; omega)).symm
  · exact congrArg (fun z => ((A.du z j : ℝ) : EReal)) (row_tileOf r)

end Cert.ActGrad

end
-- ==== Proof.ActFinite.lean ====
/- The precondition of the hidden layer's gradients read: where `finite_act` holds of the arguments, each of their entries is a real
   number. -/
module

public import proofs.«01_k».proof.Defs
public import proofs.«01_k».proof.Proof.Gen.Pre_finite_act
public import proofs.«01_k».proof.Proof.HeadFinite
public import proofs.«01_k».proof.Proof.ActOutputs

@[expose] public section

set_option maxRecDepth 16384

noncomputable section

open Idealize.ShloMosaic Idealize.ShloMosaic.TcCoe Idealize.SL.Sem

namespace Cert.ActGrad

open Cert.Mix (Arr)
open Cert.HeadGrad (real_of_all both whole)

variable (m : (ℓ : Loc Cert.ActIdeal.nD Cert.ActIdeal.τ Cert.ActIdeal.sig) → Buf (Elt Ideal) ℓ) (c : Dev Cert.ActIdeal.nD)

/-- The real arrays behind the arguments on device `c`. -/
def argsOf : Args where
  d r j := ((m (c, Proc.tc.devRef Cert.ActIdeal.main_arg0) : Arr 4096 1024) (ix2 r j)).toReal
  g r j := ((m (c, Proc.tc.devRef Cert.ActIdeal.main_arg1) : Arr 4096 2816) (ix2 r j)).toReal
  u r j := ((m (c, Proc.tc.devRef Cert.ActIdeal.main_arg2) : Arr 4096 2816) (ix2 r j)).toReal
  wd r j := ((m (c, Proc.tc.devRef Cert.ActIdeal.main_arg3) : Arr 2816 1024) (ix2 r j)).toReal

/-- Under the precondition the arguments are real arrays. -/
theorem holds_of_finite (h : Cert.Pre_ActIdeal_finite_act (hPre_finite_act := Cert.Pre_finite_act.Gen.facts) m) : Holds m c (argsOf m c) := by
  have h0 := congrFun (h c) (Shape.Idx.first Cert.Pre_finite_act.Gen.h_S_)
  unfold Cert.Pre_finite_act.fn Cert.Pre_finite_act.fn_part1 at h0
  obtain ⟨h0, h3⟩ := both h0
  obtain ⟨h0, h2⟩ := both h0
  obtain ⟨h0, h1⟩ := both h0
  exact ⟨whole _ (real_of_all _ _ _ _ _ h0), whole _ (real_of_all _ _ _ _ _ h1), whole _ (real_of_all _ _ _ _ _ h2),
    whole _ (real_of_all _ _ _ _ _ h3)⟩

end Cert.ActGrad

end
-- ==== Proof.ActReference.lean ====
/- What the reference's two results are: the formulas of the module `ActMath`. -/
module

public import proofs.«01_k».proof.Proof.Gen.ActReferenceIdeal.Read
public import proofs.«01_k».proof.Proof.ActMath
public import Idealize.ShloMosaic.Lib.IdealHost

@[expose] public section

set_option maxRecDepth 16384

noncomputable section

open Idealize.ShloMosaic Idealize.ShloMosaic.TcCoe Idealize.SL.Sem

namespace Cert.ActGrad.Ref

open Cert.ActReferenceIdeal Cert.ActReferenceIdeal.Read
open Cert.Mix (Arr)
open Cert.HeadGrad (sig exp_add_pos coe_sum div_real ofBits_half)

variable (A : Args)

/-- The logistic function, written out, on a real number. -/
theorem logistic_real (g : ℝ) : Ideal.div 1 (1 + Ideal.exp (-(g : EReal))) = ((sig g : ℝ) : EReal) := by
  rw [← EReal.coe_neg, Ideal.exp_coe, show (1 : EReal) = ((1 : ℝ) : EReal) from rfl, ← EReal.coe_add, div_real _ _ (exp_add_pos g)]
  exact congrArg _ (one_div _)

theorem v0_2_apply (r : Fin 4096) (f : Fin 2816) : val_main_v0_2 (F := Ideal) A.aG (ix2 r f) = ((sig (A.g r f) : ℝ) : EReal) := by
  unfold val_main_v0_2 val_main_call0_v3 val_main_call0_v1 val_main_call0_v0
  pointwise [val_main_call0_v4, val_main_call0_v2, val_main_call0_cst_0, val_main_call0_cst]
  simp only [aD_ix2, aG_ix2, aU_ix2, aWd_ix2, ← EReal.coe_mul, ← EReal.coe_add, ← EReal.coe_sub, coe_sum]
  exact logistic_real _

theorem v0_1_apply (r : Fin 4096) (f : Fin 2816) : val_main_v0_1 (F := Ideal) A.aG (ix2 r f) = ((sig (A.g r f) * (1 - sig (A.g r f)) : ℝ) : EReal) := by
  have e0 := v0_2_apply A
  unfold val_main_v0_1 val_main_call0_v7
  generalize val_main_v0_2 (F := Ideal) A.aG = y0 at *
  pointwise [val_main_call0_v6, val_main_call0_cst_1]
  simp only [e0, show (1 : EReal) = ((1 : ℝ) : EReal) from rfl, aD_ix2, aG_ix2, aU_ix2, aWd_ix2, ← EReal.coe_mul, ← EReal.coe_add, ← EReal.coe_sub, coe_sum]

theorem v0_0_apply (r : Fin 4096) (f : Fin 2816) : val_main_v0_0 (F := Ideal) A.aG (ix2 r f) = ((A.g r f * sig (A.g r f) : ℝ) : EReal) := by
  have e0 := v0_2_apply A
  unfold val_main_v0_0
  generalize val_main_v0_2 (F := Ideal) A.aG = y0 at *
  pointwise
  simp only [e0, aD_ix2, aG_ix2, aU_ix2, aWd_ix2, ← EReal.coe_mul, ← EReal.coe_add, ← EReal.coe_sub, coe_sum]

theorem v7_apply (r : Fin 4096) (f : Fin 2816) : val_main_v7 (F := Ideal) A.aD A.aWd (ix2 r f) = ((A.da r f : ℝ) : EReal) := by
  unfold val_main_v7 val_main_v6
  pointwise [val_main_v5, val_main_cst_0]
  simp only [ofBits_half, aD_ix2, aG_ix2, aU_ix2, aWd_ix2, ← EReal.coe_mul, ← EReal.coe_add, ← EReal.coe_sub, coe_sum]
  rfl

/-- The gradient of the up projection's value. -/
theorem v12_apply (r : Fin 4096) (f : Fin 2816) : val_main_v12 (F := Ideal) A.aD A.aG A.aWd (ix2 r f) = ((A.du r f : ℝ) : EReal) := by
  have e0 := v0_0_apply A
  have e1 := v7_apply A
  unfold val_main_v12 val_main_v8
  generalize val_main_v0_0 (F := Ideal) A.aG = y0 at *
  generalize val_main_v7 (F := Ideal) A.aD A.aWd = y1 at *
  pointwise
  simp only [e0, e1, aD_ix2, aG_ix2, aU_ix2, aWd_ix2, ← EReal.coe_mul, ← EReal.coe_add, ← EReal.coe_sub, coe_sum]
  exact congrArg _ (mul_comm _ _)

/-- The gradient of the gate's value: two summands by the product rule. -/
theorem v11_apply (r : Fin 4096) (f : Fin 2816) : val_main_v11 (F := Ideal) A.aD A.aG A.aU A.aWd (ix2 r f) = ((A.dg r f : ℝ) : EReal) := by
  have e0 := v0_2_apply A
  have e1 := v0_1_apply A
  have e2 := v7_apply A
  unfold val_main_v11 val_main_v10 val_main_call1_v2 val_main_call1_v1 val_main_call1_v0 val_main_v9
  generalize val_main_v0_2 (F := Ideal) A.aG = y0 at *
  generalize val_main_v0_1 (F := Ideal) A.aG = y1 at *
  generalize val_main_v7 (F := Ideal) A.aD A.aWd = y2 at *
  pointwise
  simp only [e0, e1, e2, aD_ix2, aG_ix2, aU_ix2, aWd_ix2, ← EReal.coe_mul, ← EReal.coe_add, ← EReal.coe_sub, coe_sum]
  refine congrArg _ ?_
  unfold Args.dg
  ring

end Cert.ActGrad.Ref

end
-- ==== Proof.ActResults.lean ====
/- The two results: on real arguments the launch's arrays are the reference's. -/
module

public import proofs.«01_k».proof.Proof.ActOutputs
public import proofs.«01_k».proof.Proof.ActReference

@[expose] public section

set_option maxRecDepth 16384

noncomputable section

open Idealize.ShloMosaic Idealize.ShloMosaic.TcCoe Idealize.SL.Sem

namespace Cert.ActGrad

open Cert.Mix (Arr)
open Cert.RowSums (ext2)

variable {m : (ℓ : Loc Cert.ActIdeal.nD Cert.ActIdeal.τ Cert.ActIdeal.sig) → Buf (Elt Ideal) ℓ} {c : Dev Cert.ActIdeal.nD} {A : Args}

theorem dg_eq (H : Holds m c A) : ((Cert.ActIdeal.Gen.dats m 0 c).arrAt 4 Cert.ActIdeal.cfg0.N : Arr 4096 2816)
    = Cert.ActReferenceIdeal.Read.val_main_v11 (F := Ideal) A.aD A.aG A.aU A.aWd :=
  ext2 fun r j => (arr_dg H r j).trans (Ref.v11_apply A r j).symm

theorem du_eq (H : Holds m c A) : ((Cert.ActIdeal.Gen.dats m 0 c).arrAt 5 Cert.ActIdeal.cfg0.N : Arr 4096 2816)
    = Cert.ActReferenceIdeal.Read.val_main_v12 (F := Ideal) A.aD A.aG A.aWd :=
  ext2 fun r j => (arr_du H r j).trans (Ref.v12_apply A r j).symm

end Cert.ActGrad

end
-- ==== Proof.RmsGradient.lean ====
/- The gradient of `x ↦ x/rms(x)` over the extended reals, in the two ways it is computed: by the formula for the whole, and by the
   product rule with the gradient of the inverse root added in twice. They agree on every row, finite or not: on a real row both are
   real multiples of the same sum, and on a row with an infinite entry the inverse root mean square is zero. No program is mentioned. -/
module

public import proofs.«01_k».proof.Proof.HeadMath

@[expose] public section

set_option maxRecDepth 16384

noncomputable section

open Idealize.ShloMosaic

namespace Cert.RmsGradient

open Cert.HeadGrad (eps ms ms_pos inv inv_mul_inv coe_sum div_real rsqrt_real)

/-- The mean square of a row, with the constant added. -/
def msE (x : Fin 1024 → EReal) : EReal := Ideal.div (∑ j, x j * x j) ((1024 : ℝ) : EReal) + ((eps : ℝ) : EReal)
/-- The inverse root mean square of a row. -/
def invE (x : Fin 1024 → EReal) : EReal := Ideal.rsqrt (msE x)
/-- The gradient by the formula for the whole; `a` is the gradient of `x/rms(x)`. -/
def backE (x a : Fin 1024 → EReal) (i : Fin 1024) : EReal :=
  invE x * (a i - x i * invE x * Ideal.div (∑ j, a j * (x j * invE x)) ((1024 : ℝ) : EReal))
/-- Half of what the inverse root's gradient gives, over `x i`. -/
def rootE (x a : Fin 1024 → EReal) : EReal :=
  Ideal.div ((∑ j, x j * a j) * (((-(1 / 2) : ℝ) : EReal) * Ideal.div (invE x) (msE x))) ((1024 : ℝ) : EReal)

theorem msE_real (v : Fin 1024 → ℝ) : msE (fun j => ((v j : ℝ) : EReal)) = ((ms v : ℝ) : EReal) := by
  unfold msE
  simp only [← EReal.coe_mul, coe_sum]
  rw [div_real _ _ (by norm_num : (0:ℝ) < 1024), ← EReal.coe_add]
  rfl

theorem invE_real (v : Fin 1024 → ℝ) : invE (fun j => ((v j : ℝ) : EReal)) = ((inv v : ℝ) : EReal) := by
  unfold invE
  rw [msE_real, rsqrt_real _ (ms_pos v)]
  rfl

theorem square_nonneg (x : EReal) : 0 ≤ x * x := by
  induction x with
  | bot => simp
  | coe r => exact_mod_cast mul_self_nonneg r
  | top => simp

/-- A row with an infinite entry has an infinite mean square. -/
theorem msE_infinite (x : Fin 1024 → EReal) (j : Fin 1024) (h : x j = ⊤ ∨ x j = ⊥) : msE x = ⊤ := by
  have e : x j * x j = ⊤ := by rcases h with h | h <;> rw [h] <;> simp
  have t : ∑ j, x j * x j = ⊤ :=
    top_le_iff.mp (e ▸ Finset.single_le_sum (f := fun j => x j * x j) (fun k _ => square_nonneg (x k)) (Finset.mem_univ j))
  unfold msE
  rw [t, Ideal.div_coe (by norm_num), EReal.top_mul_coe_of_pos (by norm_num)]
  exact EReal.top_add_coe _

theorem double (z : EReal) : z + z = ((2 : ℝ) : EReal) * z := by
  induction z with
  | bot => rw [EReal.coe_mul_bot_of_pos (by norm_num)]; rfl
  | coe r => rw [← EReal.coe_add, ← EReal.coe_mul, two_mul]
  | top => rw [EReal.coe_mul_top_of_pos (by norm_num)]; rfl

/-- A nonnegative real factor goes into a sum. -/
theorem mul_sum_real {ι : Type} (r : ℝ) (hr : 0 ≤ r) (s : Finset ι) (f : ι → EReal) : ∑ i ∈ s, (r : EReal) * f i = (r : EReal) * ∑ i ∈ s, f i := by
  classical
  induction s using Finset.induction with
  | empty => simp
  | insert a s h ih =>
    rw [Finset.sum_insert h, Finset.sum_insert h, ih,
      EReal.left_distrib_of_nonneg_of_ne_top (EReal.coe_nonneg.mpr hr) (EReal.coe_ne_top r)]

theorem inv_nonneg' (v : Fin 1024 → ℝ) : 0 ≤ inv v := inv_nonneg.mpr (Real.sqrt_nonneg _)

theorem inv_div_ms (v : Fin 1024 → ℝ) : inv v / ms v = inv v * inv v * inv v := by
  rw [div_eq_iff (ms_pos v).ne']
  linear_combination (-inv v) * inv_mul_inv v

/-- The product rule's form is the whole's on a real row. -/
theorem back_real (v : Fin 1024 → ℝ) (a : Fin 1024 → EReal) (i : Fin 1024) :
    a i * invE (fun j => ((v j : ℝ) : EReal)) + ((v i : EReal) * rootE (fun j => ((v j : ℝ) : EReal)) a + rootE (fun j => ((v j : ℝ) : EReal)) a * (v i : EReal))
      = backE (fun j => ((v j : ℝ) : EReal)) a i := by
  unfold backE rootE
  rw [invE_real, msE_real, div_real _ _ (ms_pos v), inv_div_ms]
  have e : ∑ j, a j * ((v j : EReal) * ((inv v : ℝ) : EReal)) = ((inv v : ℝ) : EReal) * ∑ j, (v j : EReal) * a j := by
    rw [← mul_sum_real _ (inv_nonneg' v)]
    exact Finset.sum_congr rfl fun j _ => by rw [← mul_assoc, mul_comm]; rw [mul_comm (a j)]
  rw [e]
  generalize (∑ j, (v j : EReal) * a j) = S
  generalize inv_nonneg' v = hr
  generalize inv v = r at *
  rw [Ideal.div_coe (by norm_num), Ideal.div_coe (by norm_num), sub_eq_add_neg,
    EReal.left_distrib_of_nonneg_of_ne_top (EReal.coe_nonneg.mpr hr) (EReal.coe_ne_top r), mul_comm (a i)]
  congr 1
  have e1 : (v i : EReal) * (S * (((-(1 / 2) : ℝ) : EReal) * ((r * r * r : ℝ) : EReal)) * ((1 / 1024 : ℝ) : EReal))
      = ((v i * (-(1 / 2) * (r * r * r)) * (1 / 1024) : ℝ) : EReal) * S := by
    simp only [EReal.coe_mul]; ac_rfl
  have e2 : (r : EReal) * -((v i : EReal) * (r : EReal) * ((r : EReal) * S * ((1 / 1024 : ℝ) : EReal)))
      = ((-(r * v i * r * r * (1 / 1024)) : ℝ) : EReal) * S := by
    rw [mul_neg, EReal.coe_neg, neg_mul]
    congr 1
    simp only [EReal.coe_mul]; ac_rfl
  rw [mul_comm _ (v i : EReal), e1, e2, double, ← mul_assoc, ← EReal.coe_mul]
  congr 2
  ring

/-- The product rule's form is the whole's on every row. -/
theorem back_eq (x a : Fin 1024 → EReal) (i : Fin 1024) : a i * invE x + (x i * rootE x a + rootE x a * x i) = backE x a i := by
  by_cases h : ∃ j, x j = ⊤ ∨ x j = ⊥
  · obtain ⟨j, h⟩ := h
    have z : invE x = 0 := by unfold invE; rw [msE_infinite x j h]; rfl
    unfold backE rootE
    rw [z, msE_infinite x j h]
    simp [Ideal.div]
  · have e : x = fun j => (((x j).toReal : ℝ) : EReal) := by
      funext j
      exact (EReal.coe_toReal (fun t => h ⟨j, Or.inl t⟩) (fun t => h ⟨j, Or.inr t⟩)).symm
    have r := back_real (fun j => (x j).toReal) a i
    rw [← e] at r
    rw [← congrFun e i] at r
    exact r

end Cert.RmsGradient

end
-- ==== Proof.NormMath.lean ====
/- The gradient of a feed-forward block's input, written as plain sums: from the gradients `dg`, `du` of the gate's and the up
   projection's values back through the two products to the normalised row, then through `x/rms(x)·gain`, to which the gradient `d`
   of the block's output is added. No program is mentioned here. -/
module

public import proofs.«01_k».proof.Proof.RowSums
public import proofs.«01_k».proof.Proof.RmsGradient

@[expose] public section

set_option maxRecDepth 16384

noncomputable section

open Idealize.ShloMosaic

namespace Cert.NormGrad

open Cert.Mix (Arr)
open Cert.RmsGradient (invE backE)

/-- The arguments. -/
structure Args where
  d : Arr 4096 1024
  x : Arr 4096 1024
  gain : Arr 1 1024
  dg : Arr 4096 2816
  du : Arr 4096 2816
  wg : Arr 1024 2816
  wu : Arr 1024 2816

variable (A : Args)

/-- Row `r` of the input. -/
def Args.row (r : Fin 4096) (j : Fin 1024) : EReal := A.x (ix2 r j)
/-- The gradient of the normalised input. -/
def Args.dh (r : Fin 4096) (k : Fin 1024) : EReal := ∑ f, A.dg (ix2 r f) * A.wg (ix2 k f) + ∑ f, A.du (ix2 r f) * A.wu (ix2 k f)
/-- The gradient of the input's row over its root mean square. -/
def Args.dxh (r : Fin 4096) (k : Fin 1024) : EReal := A.dh r k * A.gain (ix2 0 k)
/-- The gradient of the input. -/
def Args.dx (r : Fin 4096) (i : Fin 1024) : EReal := A.d (ix2 r i) + backE (A.row r) (A.dxh r) i
/-- What row `r` adds to the gain's gradient. -/
def Args.gainTerm (r : Fin 4096) (i : Fin 1024) : EReal := A.dh r i * (A.row r i * invE (A.row r))

/-- A row array of one row has the one row. -/
theorem gain_row (y : Arr 1 1024) (z : Fin 1) (j : Fin 1024) : y (ix2 z j) = y (ix2 0 j) := by rw [Subsingleton.elim z 0]

end Cert.NormGrad

end
-- ==== Proof.NormTile.lean ====
/- One grid point of the call, on its blocks: `R a` is the row of the whole arrays that row `a` of the point's blocks holds.
   Each value the body computes is the formula of the module `NormMath` at row `R a`. -/
module

public import proofs.«01_k».proof.Proof.Gen.NormIdeal.Skeleton
public import proofs.«01_k».proof.Proof.NormMath
public import Idealize.ShloMosaic.Lib.Pipeline.ReadBack
public import Idealize.ShloMosaic.Lib.Pipeline.ValueKit
public import Idealize.ShloMosaic.Lib.IdealHost

@[expose] public section

set_option maxRecDepth 16384

noncomputable section

open Idealize.ShloMosaic Idealize.ShloMosaic.TcCoe

namespace Cert.NormGrad

open Cert.NormIdeal Cert.NormIdeal.Gen
open Cert.Mix (Arr)
open Cert.RowSums (part part_of)
open Cert.HeadGrad (ofBits_1024 ofBits_eps)
open Cert.RmsGradient (msE invE backE)

/-- The blocks of one point: rows `R a` of the row arrays, the gain and the whole weights, transposed. -/
structure Blocks (A : Args) (R : Fin 256 → Fin 4096) (d x : Arr 256 1024) (gain : Arr 1 1024) (dg du : Arr 256 2816) (wg wu : Arr 2816 1024) : Prop where
  d : ∀ a j, d (ix2 a j) = A.d (ix2 (R a) j)
  x : ∀ a j, x (ix2 a j) = A.x (ix2 (R a) j)
  gain : ∀ a j, gain (ix2 a j) = A.gain (ix2 0 j)
  dg : ∀ a f, dg (ix2 a f) = A.dg (ix2 (R a) f)
  du : ∀ a f, du (ix2 a f) = A.du (ix2 (R a) f)
  wg : ∀ f k, wg (ix2 f k) = A.wg (ix2 k f)
  wu : ∀ f k, wu (ix2 f k) = A.wu (ix2 k f)

variable {A : Args} {R : Fin 256 → Fin 4096} {d x : Arr 256 1024} {gain : Arr 1 1024} {dg du : Arr 256 2816} {wg wu : Arr 2816 1024}

theorem dh_tile (B : Blocks A R d x gain dg du wg wu) (a : Fin 256) (j : Fin 1024) :
    k0_pay4 (F := Ideal) dg wg du wu (ix2 a j) = A.dh (R a) j := by
  pointwise [k0_pay4]
  simp only [B.dg, B.du, B.wg, B.wu]
  rfl

theorem inv_x (B : Blocks A R d x gain dg du wg wu) (a : Fin 256) (z : Fin 1) :
    k0_pay5 (F := Ideal) x (ix2 a z) = invE (A.row (R a)) := by
  have e := B.x
  pointwise [k0_pay5]
  simp only [e, ofBits_1024, ofBits_eps]
  rfl

theorem unit_x (B : Blocks A R d x gain dg du wg wu) (a : Fin 256) (j : Fin 1024) :
    k0_pay6 (F := Ideal) x (ix2 a j) = A.row (R a) j * invE (A.row (R a)) := by
  have e := B.x
  have e1 := inv_x B
  unfold k0_pay6
  generalize k0_pay5 (F := Ideal) x = v at *
  pointwise
  simp only [e, e1]
  rfl

theorem dxn_tile (B : Blocks A R d x gain dg du wg wu) (a : Fin 256) (j : Fin 1024) :
    k0_pay7 (F := Ideal) dg wg du wu x gain (ix2 a j) = backE (A.row (R a)) (A.dxh (R a)) j := by
  have e1 := inv_x B
  have e2 := unit_x B
  have e3 := dh_tile B
  unfold k0_pay7
  generalize k0_pay5 (F := Ideal) x = v1 at *
  generalize k0_pay6 (F := Ideal) x = v2 at *
  generalize k0_pay4 (F := Ideal) dg wg du wu = v3 at *
  pointwise
  simp only [e1, e2, e3, B.gain, ofBits_1024]
  rfl

theorem dx_tile (B : Blocks A R d x gain dg du wg wu) (a : Fin 256) (j : Fin 1024) :
    k0_pay1 (F := Ideal) (k0_pay7 dg wg du wu x gain) d (ix2 a j) = A.dx (R a) j := by
  have e2 := dxn_tile B
  generalize k0_pay7 (F := Ideal) dg wg du wu x gain = v2 at *
  pointwise [k0_pay1]
  simp only [B.d, e2]
  rfl

theorem gain_tile (B : Blocks A R d x gain dg du wg wu) (q : Fin 8) (i : Fin 1024) :
    k0_pay8 (F := Ideal) dg wg du wu x (ix2 q i) = part R A.gainTerm q i := by
  have e2 := unit_x B
  have e3 := dh_tile B
  have e : ∀ a j, mulf (F := Ideal) (k0_pay4 (F := Ideal) dg wg du wu) (k0_pay6 (F := Ideal) x) (ix2 a j) = A.gainTerm (R a) j := by
    intro a j
    generalize k0_pay6 (F := Ideal) x = v2 at *
    generalize k0_pay4 (F := Ideal) dg wg du wu = v3 at *
    pointwise
    simp only [e2, e3]
    rfl
  unfold k0_pay8
  generalize mulf (F := Ideal) (k0_pay4 (F := Ideal) dg wg du wu) (k0_pay6 (F := Ideal) x) = v at *
  pointwise
  exact part_of _ v e q i _

theorem add_gain (v w : Arr 8 1024) (q : Fin 8) (i : Fin 1024) :
    k0_pay3 (F := Ideal) v w (ix2 q i) = w (ix2 q i) + v (ix2 q i) := by
  pointwise [k0_pay3]

theorem zero_gain (q : Fin 8) (i : Fin 1024) : (k0_pay2 (F := Ideal) : Arr 8 1024) (ix2 q i) = (0 : EReal) := by
  pointwise [k0_pay2]

end Cert.NormGrad

end
-- ==== Proof.NormBlocks.lean ====
/- What the host hands the call, and the blocks of it that each grid point reads, the blocks of the module
   `NormTile` at the rows of the point. -/
module

public import proofs.«01_k».proof.Proof.Gen.NormIdeal.Value
public import proofs.«01_k».proof.Proof.NormTile
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.NormGrad

open Cert.NormIdeal Cert.NormIdeal.Gen Cert.NormIdeal.Value
open Cert.Mix (Arr)

variable (m : (ℓ : Loc nD τ Cert.NormIdeal.sig) → Buf (Elt Ideal) ℓ) (c : Dev nD)

/-- The program's arguments on device `c`. -/
def argsOf : Args where
  d := m (c, Proc.tc.devRef main_arg0)
  x := m (c, Proc.tc.devRef main_arg1)
  gain := m (c, Proc.tc.devRef main_arg2)
  dg := m (c, Proc.tc.devRef main_arg3)
  du := m (c, Proc.tc.devRef main_arg4)
  wg := m (c, Proc.tc.devRef main_arg5)
  wu := m (c, Proc.tc.devRef main_arg6)

variable {m c}

theorem V_arg0 : (V m c main_arg0 : Arr 4096 1024) = (argsOf m c).d := by
  show _ = m (c, Proc.tc.devRef main_arg0)
  unfold V
  after_reads_simp

theorem V_arg1 : (V m c main_arg1 : Arr 4096 1024) = (argsOf m c).x := by
  show _ = m (c, Proc.tc.devRef main_arg1)
  unfold V
  after_reads_simp

theorem V_arg2 : (V m c main_arg2 : Arr 1 1024) = (argsOf m c).gain := by
  show _ = m (c, Proc.tc.devRef main_arg2)
  unfold V
  after_reads_simp

set_option maxHeartbeats 1000000 in
theorem V_v0 (r : Fin 4096) (f : Fin 2816) : (V m c main_v0 : Arr 4096 2816) (ix2 r f) = (argsOf m c).dg (ix2 r f) := by
  show _ = (m (c, Proc.tc.devRef main_arg3) : Arr 4096 2816) (ix2 r f)
  unfold V
  after_reads_at

set_option maxHeartbeats 1000000 in
theorem V_v1 (r : Fin 4096) (f : Fin 2816) : (V m c main_v1 : Arr 4096 2816) (ix2 r f) = (argsOf m c).du (ix2 r f) := by
  show _ = (m (c, Proc.tc.devRef main_arg4) : Arr 4096 2816) (ix2 r f)
  unfold V
  after_reads_at

set_option maxHeartbeats 1000000 in
theorem V_v3 (f : Fin 2816) (k : Fin 1024) : (V m c main_v3 : Arr 2816 1024) (ix2 f k) = (argsOf m c).wg (ix2 k f) := by
  show _ = (m (c, Proc.tc.devRef main_arg5) : Arr 1024 2816) (ix2 k f)
  unfold V
  after_reads_at

set_option maxHeartbeats 1000000 in
theorem V_v5 (f : Fin 2816) (k : Fin 1024) : (V m c main_v5 : Arr 2816 1024) (ix2 f k) = (argsOf m c).wu (ix2 k f) := by
  show _ = (m (c, Proc.tc.devRef main_arg6) : Arr 1024 2816) (ix2 k f)
  unfold V
  after_reads_at

/-- Row `a` of the blocks of point `t`. -/
abbrev row (t : Fin cfg0.N) (a : Fin 256) : Fin 4096 := ⟨256 * t.val + a.val, by have := lt_of_lt_of_eq t.isLt N_0; omega⟩

/-- Which block of its array each window holds at a point: the row arrays' blocks follow the point, the others are whole. -/
theorem index_facts : ∀ t : Fin cfg0.N,
    ((cfg0.win 0).index t 0 = t.val ∧ (cfg0.win 0).index t 1 = 0)
    ∧ ((cfg0.win 1).index t 0 = t.val ∧ (cfg0.win 1).index t 1 = 0)
    ∧ ((cfg0.win 2).index t 0 = 0 ∧ (cfg0.win 2).index t 1 = 0)
    ∧ ((cfg0.win 3).index t 0 = t.val ∧ (cfg0.win 3).index t 1 = 0)
    ∧ ((cfg0.win 4).index t 0 = t.val ∧ (cfg0.win 4).index t 1 = 0)
    ∧ ((cfg0.win 5).index t 0 = 0 ∧ (cfg0.win 5).index t 1 = 0)
    ∧ ((cfg0.win 6).index t 0 = 0 ∧ (cfg0.win 6).index t 1 = 0) := by
  decide +kernel

theorem iblk_d (t : Fin cfg0.N) (a : Fin 256) (j : Fin 1024) :
    (iblk m c 0 t : Arr 256 1024) (ix2 a j) = (V m c main_arg0 : Arr 4096 1024) (ix2 (row t a) j) := by
  obtain ⟨h0, h1⟩ := (index_facts t).1
  blk_simp [iblk]
  refine congrArg (V m c main_arg0) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

theorem iblk_x (t : Fin cfg0.N) (a : Fin 256) (j : Fin 1024) :
    (iblk m c 1 t : Arr 256 1024) (ix2 a j) = (V m c main_arg1 : Arr 4096 1024) (ix2 (row t a) j) := by
  obtain ⟨h0, h1⟩ := (index_facts t).2.1
  blk_simp [iblk]
  refine congrArg (V m c main_arg1) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

theorem iblk_gain (t : Fin cfg0.N) (a : Fin 1) (j : Fin 1024) :
    (iblk m c 2 t : Arr 1 1024) (ix2 a j) = (V m c main_arg2 : Arr 1 1024) (ix2 a j) := by
  obtain ⟨h0, h1⟩ := (index_facts t).2.2.1
  blk_simp [iblk]
  refine congrArg (V m c main_arg2) (funext fun x => Fin.ext ?_)
  match x with
  | ⟨0, _⟩ => exact (Pipeline.Window.rect_emb_val _ t _ 0).trans (by rw [h0]; show 0 * 1 + a.val = a.val; omega)
  | ⟨1, _⟩ => exact (Pipeline.Window.rect_emb_val _ t _ 1).trans (by rw [h1]; show 0 * 1024 + j.val = j.val; omega)

theorem iblk_dg (t : Fin cfg0.N) (a : Fin 256) (j : Fin 2816) :
    (iblk m c 3 t : Arr 256 2816) (ix2 a j) = (V m c main_v0 : Arr 4096 2816) (ix2 (row t a) j) := by
  obtain ⟨h0, h1⟩ := (index_facts t).2.2.2.1
  blk_simp [iblk]
  refine congrArg (V m c main_v0) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 2816 + j.val = j.val; omega)

theorem iblk_du (t : Fin cfg0.N) (a : Fin 256) (j : Fin 2816) :
    (iblk m c 4 t : Arr 256 2816) (ix2 a j) = (V m c main_v1 : Arr 4096 2816) (ix2 (row t a) j) := by
  obtain ⟨h0, h1⟩ := (index_facts t).2.2.2.2.1
  blk_simp [iblk]
  refine congrArg (V m c main_v1) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 2816 + j.val = j.val; omega)

theorem iblk_wg (t : Fin cfg0.N) (a : Fin 2816) (j : Fin 1024) :
    (iblk m c 5 t : Arr 2816 1024) (ix2 a j) = (V m c main_v3 : Arr 2816 1024) (ix2 a j) := by
  obtain ⟨h0, h1⟩ := (index_facts t).2.2.2.2.2.1
  blk_simp [iblk]
  refine congrArg (V m c main_v3) (funext fun x => Fin.ext ?_)
  match x with
  | ⟨0, _⟩ => exact (Pipeline.Window.rect_emb_val _ t _ 0).trans (by rw [h0]; show 0 * 2816 + a.val = a.val; omega)
  | ⟨1, _⟩ => exact (Pipeline.Window.rect_emb_val _ t _ 1).trans (by rw [h1]; show 0 * 1024 + j.val = j.val; omega)

theorem iblk_wu (t : Fin cfg0.N) (a : Fin 2816) (j : Fin 1024) :
    (iblk m c 6 t : Arr 2816 1024) (ix2 a j) = (V m c main_v5 : Arr 2816 1024) (ix2 a j) := by
  obtain ⟨h0, h1⟩ := (index_facts t).2.2.2.2.2.2
  blk_simp [iblk]
  refine congrArg (V m c main_v5) (funext fun x => Fin.ext ?_)
  match x with
  | ⟨0, _⟩ => exact (Pipeline.Window.rect_emb_val _ t _ 0).trans (by rw [h0]; show 0 * 2816 + a.val = a.val; omega)
  | ⟨1, _⟩ => exact (Pipeline.Window.rect_emb_val _ t _ 1).trans (by rw [h1]; show 0 * 1024 + j.val = j.val; omega)

/-- The blocks of point `t` hold the rows of the point. -/
theorem blocks (t : Fin cfg0.N) :
    Blocks (argsOf m c) (row t) (iblk m c 0 t) (iblk m c 1 t) (iblk m c 2 t) (iblk m c 3 t) (iblk m c 4 t) (iblk m c 5 t) (iblk m c 6 t) where
  d a j := (iblk_d t a j).trans (congrFun V_arg0 _)
  x a j := (iblk_x t a j).trans (congrFun V_arg1 _)
  gain a j := ((iblk_gain t a j).trans (congrFun V_arg2 _)).trans (gain_row _ a j)
  dg a f := (iblk_dg t a f).trans (V_v0 _ _)
  du a f := (iblk_du t a f).trans (V_v1 _ _)
  wg f k := (iblk_wg t f k).trans (V_v3 _ _)
  wu f k := (iblk_wu t f k).trans (V_v5 _ _)

end Cert.NormGrad

end
-- ==== Proof.NormOutputs.lean ====
/- The arrays the call leaves: each row of the input's gradient comes from the one point that holds the row; the sums over the rows
   grow from point to point and are written back after the last. -/
module

public import proofs.«01_k».proof.Proof.NormBlocks
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.NormGrad

open Cert.NormIdeal Cert.NormIdeal.Gen Cert.NormIdeal.Value
open Cert.Mix (Arr)
open Cert.RowSums (part slot atRow sum_step slot_eq)

variable (m : (ℓ : Loc nD τ Cert.NormIdeal.sig) → Buf (Elt Ideal) ℓ) (c : Dev nD)

variable {m c}

/-! ### The blocks a point leaves -/

theorem outA_dx (t : Fin cfg0.N) (h : t.val % 16 = 0) : (outsAt0 m c t.val t.isLt).1
    = k0_pay1 (F := Ideal) (k0_pay7 (iblk m c 3 t) (iblk m c 5 t) (iblk m c 4 t) (iblk m c 6 t) (iblk m c 1 t) (iblk m c 2 t)) (iblk m c 0 t) := by
  rw [outsAt0_A m c t h]
  dsimp only
  frame_out

theorem outA_gain (t : Fin cfg0.N) (h : t.val % 16 = 0) (q : Fin 8) (i : Fin 1024) : ((outsAt0 m c t.val t.isLt).2 : Arr 8 1024) (ix2 q i)
    = (k0_pay2 (F := Ideal) : Arr 8 1024) (ix2 q i) + part (row t) (argsOf m c).gainTerm q i := by
  rw [outsAt0_A m c t h]
  dsimp only
  frame_out
  refine (add_gain _ _ _ _).trans ?_
  exact congrArg (_ + ·) (gain_tile (blocks t) q i)

theorem outB_dx (t : Fin cfg0.N) (h : ¬ t.val % 16 = 0) : (outsAt0 m c t.val t.isLt).1
    = k0_pay1 (F := Ideal) (k0_pay7 (iblk m c 3 t) (iblk m c 5 t) (iblk m c 4 t) (iblk m c 6 t) (iblk m c 1 t) (iblk m c 2 t)) (iblk m c 0 t) := by
  rw [outsAt0_B m c t h]
  dsimp only
  frame_out

theorem outB_gain (t : Fin cfg0.N) (h : ¬ t.val % 16 = 0) (q : Fin 8) (i : Fin 1024) : ((outsAt0 m c t.val t.isLt).2 : Arr 8 1024) (ix2 q i)
    = ((outsAt0 m c (t.val - 1) (Nat.lt_of_le_of_lt (Nat.sub_le _ _) t.isLt)).2 : Arr 8 1024) (ix2 q i) + part (row t) (argsOf m c).gainTerm q i := by
  rw [outsAt0_B m c t h]
  dsimp only
  frame_out
  refine (add_gain _ _ _ _).trans ?_
  exact congrArg (_ + ·) (gain_tile (blocks t) q i)

/-! ### The arrays -/

theorem out_index : ∀ t : Fin cfg0.N,
    ((cfg0.win 7).index t 0 = t.val ∧ (cfg0.win 7).index t 1 = 0)
    ∧ ((cfg0.win 8).index t 0 = 0 ∧ (cfg0.win 8).index t 1 = 0) := by
  decide +kernel

/-- The point that holds row `r`, and the row's place in its block. -/
abbrev tileOf (r : Fin 4096) : Fin cfg0.N := ⟨r.val / 256, lt_of_lt_of_eq (by omega) N_0.symm⟩
abbrev inTile (r : Fin 4096) : Fin 256 := ⟨r.val % 256, Nat.mod_lt _ (by decide)⟩

theorem row_tileOf (r : Fin 4096) : row (tileOf r) (inTile r) = r :=
  Fin.ext (by show 256 * (r.val / 256) + r.val % 256 = r.val; omega)

theorem out_dx (t : Fin cfg0.N) (a : Fin 256) (j : Fin 1024) :
    ((outsAt0 m c t.val t.isLt).1 : Arr 256 1024) (ix2 a j) = (argsOf m c).dx (row t a) j := by
  by_cases h : t.val % 16 = 0
  · exact (congrFun (outA_dx t h) _).trans (dx_tile (blocks t) a j)
  · exact (congrFun (outB_dx t h) _).trans (dx_tile (blocks t) a j)

theorem arr_dx (r : Fin 4096) (j : Fin 1024) :
    ((dats m 0 c).arrAt 7 cfg0.N : Arr 4096 1024) (ix2 r j) = (argsOf m c).dx r j := by
  obtain ⟨h0, h1⟩ := (out_index (tileOf r)).1
  have hf : (cfg0.win 7).flush (tileOf r) = true := (by decide +kernel : ∀ t : Fin cfg0.N, (cfg0.win 7).flush t = true) _
  have e := congrFun (blocks7 m c (tileOf r) hf) (ix2 (inTile r) j)
  rw [flushed7] at e
  refine Eq.trans ?_ (e.trans ?_)
  · refine congrArg ((dats m 0 c).arrAt 7 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_dx (tileOf r) (inTile r) j).trans (by rw [row_tileOf])

theorem sum_gain (q : Fin 8) (i : Fin 1024) : ∀ (n : ℕ) (h : n < cfg0.N),
    ((outsAt0 m c n h).2 : Arr 8 1024) (ix2 q i) = ∑ s ∈ Finset.range (32 * (n + 1)), atRow (argsOf m c).gainTerm i (8 * s + q.val)
  | 0, h => by
    refine (outA_gain ⟨0, h⟩ rfl q i).trans ?_
    rw [zero_gain, ← sum_step _ 0 (by decide) (row ⟨0, h⟩) (fun _ => rfl)]
    rfl
  | n + 1, h => by
    have hn := lt_of_lt_of_eq h N_0
    refine (outB_gain ⟨n + 1, h⟩ (by show ¬ (n + 1) % 16 = 0; omega) q i).trans ?_
    refine (congrArg (· + _) (sum_gain q i n (Nat.lt_of_succ_lt h))).trans ?_
    rw [← sum_step _ (n + 1) hn (row ⟨n + 1, h⟩) (fun _ => rfl)]

theorem arr_gain (q : Fin 8) (i : Fin 1024) :
    ((dats m 0 c).arrAt 8 cfg0.N : Arr 8 1024) (ix2 q i) = slot (argsOf m c).gainTerm q i := by
  have only : ∀ t : Fin cfg0.N, (cfg0.win 8).flush t = true → t.val = 15 := by decide +kernel
  have last : ∃ t : Fin cfg0.N, t.val = 15 := ⟨⟨15, lt_of_lt_of_eq (by decide) N_0.symm⟩, rfl⟩
  have flushes : ∀ t : Fin cfg0.N, t.val = 15 → (cfg0.win 8).flush t = true := by decide +kernel
  obtain ⟨t, ht⟩ := last
  have hf := flushes t ht
  obtain ⟨h0, h1⟩ := (out_index t).2
  have e := congrFun ((dats m 0 c).read_blk_arrAt_eq_flushed 8 (fun _ _ a b ne => absurd (Fin.ext ((only _ a).trans (only _ b).symm)) ne)
    cfg0.N t t.isLt hf) (ix2 q i)
  rw [flushed8] at e
  refine Eq.trans ?_ (e.trans ?_)
  · refine congrArg ((dats m 0 c).arrAt 8 cfg0.N) (funext fun x => Fin.ext ?_)
    match x with
    | ⟨0, _⟩ => exact ((Pipeline.Window.rect_emb_val _ t _ 0).trans (by rw [h0]; show 0 * 8 + q.val = q.val; omega)).symm
    | ⟨1, _⟩ => exact ((Pipeline.Window.rect_emb_val _ t _ 1).trans (by rw [h1]; show 0 * 1024 + i.val = i.val; omega)).symm
  · refine (sum_gain q i t.val t.isLt).trans ?_
    rw [slot_eq, ht]

end Cert.NormGrad

end
-- ==== Proof.NormReference.lean ====
/- What the reference's two results are: the formulas of the module `NormMath`. -/
module

public import proofs.«01_k».proof.Proof.Gen.NormReferenceIdeal.Read
public import proofs.«01_k».proof.Proof.NormMath
public import Idealize.ShloMosaic.Lib.IdealHost

@[expose] public section

set_option maxRecDepth 16384

noncomputable section

open Idealize.ShloMosaic Idealize.ShloMosaic.TcCoe Idealize.SL.Sem

namespace Cert.NormGrad.Ref

open Cert.NormReferenceIdeal Cert.NormReferenceIdeal.Read
open Cert.Mix (Arr)
open Cert.HeadGrad (ofBits_1024 ofBits_eps ofBits_neg_half)
open Cert.RmsGradient (msE invE backE rootE back_eq)

variable (A : Args)

theorem v7_apply (r : Fin 4096) (z : Fin 1) : val_main_v7 (F := Ideal) A.x (ix2 r z) = msE (A.row r) := by
  unfold val_main_v7 val_main_v5 val_main_v3 val_main_v2 val_main_v1
  pointwise [val_main_v4, val_main_cst_0, val_main_v6, val_main_cst_1, val_main_cst]
  simp only [ofBits_1024, ofBits_eps]
  rfl

theorem v8_apply (r : Fin 4096) (z : Fin 1) : val_main_v8 (F := Ideal) A.x (ix2 r z) = invE (A.row r) := by
  have e0 := v7_apply A
  unfold val_main_v8
  generalize val_main_v7 (F := Ideal) A.x = y0 at *
  pointwise
  simp only [e0]
  rfl

theorem v11_apply (r : Fin 4096) (z : Fin 1) : val_main_v11 (F := Ideal) A.x (ix2 r z) = ((-(1 / 2) : ℝ) : EReal) * Ideal.div (invE (A.row r)) (msE (A.row r)) := by
  have e0 := v8_apply A
  have e1 := v7_apply A
  unfold val_main_v11 val_main_v9
  generalize val_main_v8 (F := Ideal) A.x = y0 at *
  generalize val_main_v7 (F := Ideal) A.x = y1 at *
  pointwise [val_main_v10, val_main_cst_2]
  simp only [e0, e1, ofBits_neg_half]

theorem v13_apply (r : Fin 4096) (i : Fin 1024) : val_main_v13 (F := Ideal) A.x (ix2 r i) = A.row r i * invE (A.row r) := by
  have e0 := v8_apply A
  unfold val_main_v13 val_main_v12
  generalize val_main_v8 (F := Ideal) A.x = y0 at *
  pointwise
  simp only [e0]
  rfl

theorem v19_apply (r : Fin 4096) (i : Fin 1024) : val_main_v19 (F := Ideal) A.dg A.du A.wg A.wu (ix2 r i) = A.dh r i := by
  unfold val_main_v19 val_main_v18 val_main_v17
  pointwise
  exact add_comm _ _

/-- A row's part of the gain's gradient. -/
theorem v20_apply (r : Fin 4096) (i : Fin 1024) : val_main_v20 (F := Ideal) A.x A.dg A.du A.wg A.wu (ix2 r i) = A.gainTerm r i := by
  have e0 := v13_apply A
  have e1 := v19_apply A
  unfold val_main_v20
  generalize val_main_v13 (F := Ideal) A.x = y0 at *
  generalize val_main_v19 (F := Ideal) A.dg A.du A.wg A.wu = y1 at *
  pointwise
  simp only [e0, e1]
  exact mul_comm _ _

theorem v21_apply (r : Fin 4096) (i : Fin 1024) : val_main_v21 (F := Ideal) A.gain A.dg A.du A.wg A.wu (ix2 r i) = A.dxh r i := by
  have e0 := v19_apply A
  unfold val_main_v21
  generalize val_main_v19 (F := Ideal) A.dg A.du A.wg A.wu = y0 at *
  pointwise [val_main_v0]
  simp only [e0]
  rfl

theorem v23_apply (r : Fin 4096) : val_main_v23 (F := Ideal) A.x A.gain A.dg A.du A.wg A.wu (ix1 r) = ∑ j, A.row r j * A.dxh r j := by
  have e0 := v21_apply A
  unfold val_main_v23 val_main_v22
  generalize val_main_v21 (F := Ideal) A.gain A.dg A.du A.wg A.wu = y0 at *
  pointwise [val_main_cst_3]
  simp only [e0]
  rfl

theorem v31_apply (r : Fin 4096) : val_main_v31 (F := Ideal) A.x A.gain A.dg A.du A.wg A.wu (ix1 r) = rootE (A.row r) (A.dxh r) := by
  have e0 := v23_apply A
  have e1 := v11_apply A
  unfold val_main_v31 val_main_v30 val_main_v28 val_main_v24
  generalize val_main_v23 (F := Ideal) A.x A.gain A.dg A.du A.wg A.wu = y0 at *
  generalize val_main_v11 (F := Ideal) A.x = y1 at *
  pointwise [val_main_v29, val_main_cst_4, val_main_cst_5]
  simp only [e0, e1, ofBits_1024, Finset.univ_unique, Finset.sum_singleton]
  rfl

/-- The gradient of the block's input. -/
theorem v36_apply (r : Fin 4096) (i : Fin 1024) : val_main_v36 (F := Ideal) A.d A.x A.gain A.dg A.du A.wg A.wu (ix2 r i) = A.dx r i := by
  have e1 := v8_apply A
  have e2 := v21_apply A
  have e3 := v31_apply A
  unfold val_main_v36 val_main_v35 val_main_v34 val_main_v33 val_main_v32 val_main_v27 val_main_v26 val_main_v25
  generalize val_main_v8 (F := Ideal) A.x = y1 at *
  generalize val_main_v21 (F := Ideal) A.gain A.dg A.du A.wg A.wu = y2 at *
  generalize val_main_v31 (F := Ideal) A.x A.gain A.dg A.du A.wg A.wu = y3 at *
  pointwise
  simp only [e1, e2, e3]
  unfold Args.dx
  rw [← back_eq, add_assoc, add_assoc]
  rfl

theorem v38_apply (q : Fin 8) (i : Fin 1024) : val_main_v38 (F := Ideal) A.x A.dg A.du A.wg A.wu (ix2 q i) = Cert.RowSums.slot A.gainTerm q i := by
  have e := v20_apply A
  unfold val_main_v38 val_main_v37
  generalize val_main_v20 (F := Ideal) A.x A.dg A.du A.wg A.wu = y at *
  pointwise [val_main_cst_6]
  exact Cert.RowSums.slots _ y e q i _

end Cert.NormGrad.Ref

end
-- ==== Proof.NormResults.lean ====
/- The two results: the launch's arrays are the reference's. -/
module

public import proofs.«01_k».proof.Proof.NormOutputs
public import proofs.«01_k».proof.Proof.NormReference

@[expose] public section

set_option maxRecDepth 16384

noncomputable section

open Idealize.ShloMosaic Idealize.ShloMosaic.TcCoe Idealize.SL.Sem

namespace Cert.NormGrad

open Cert.Mix (Arr)
open Cert.RowSums (ext2)

variable {m : (ℓ : Loc Cert.NormIdeal.nD Cert.NormIdeal.τ Cert.NormIdeal.sig) → Buf (Elt Ideal) ℓ} {c : Dev Cert.NormIdeal.nD}

theorem dx_eq : ((Cert.NormIdeal.Gen.dats m 0 c).arrAt 7 Cert.NormIdeal.cfg0.N : Arr 4096 1024)
    = Cert.NormReferenceIdeal.Read.val_main_v36 (F := Ideal) (m (c, Proc.tc.devRef Cert.NormIdeal.main_arg0)) (m (c, Proc.tc.devRef Cert.NormIdeal.main_arg1)) (m (c, Proc.tc.devRef Cert.NormIdeal.main_arg2)) (m (c, Proc.tc.devRef Cert.NormIdeal.main_arg3)) (m (c, Proc.tc.devRef Cert.NormIdeal.main_arg4)) (m (c, Proc.tc.devRef Cert.NormIdeal.main_arg5)) (m (c, Proc.tc.devRef Cert.NormIdeal.main_arg6)) :=
  ext2 fun r j => (arr_dx r j).trans (Ref.v36_apply (argsOf m c) r j).symm

theorem gain_eq : ((Cert.NormIdeal.Gen.dats m 0 c).arrAt 8 Cert.NormIdeal.cfg0.N : Arr 8 1024)
    = Cert.NormReferenceIdeal.Read.val_main_v38 (F := Ideal) (m (c, Proc.tc.devRef Cert.NormIdeal.main_arg1)) (m (c, Proc.tc.devRef Cert.NormIdeal.main_arg3)) (m (c, Proc.tc.devRef Cert.NormIdeal.main_arg4)) (m (c, Proc.tc.devRef Cert.NormIdeal.main_arg5)) (m (c, Proc.tc.devRef Cert.NormIdeal.main_arg6)) :=
  ext2 fun q i => (arr_gain q i).trans (Ref.v38_apply (argsOf m c) q i).symm

end Cert.NormGrad

end
-- ==== Proof.FfnMath.lean ====
/- The forward pass of a feed-forward block over the extended reals, row by row: the row divided by its root mean square and scaled
   by the gain, its products with the gate's and the up projection's weights, the gated value, and the block's output. No program is
   mentioned here. -/
module

public import proofs.«01_k».proof.Proof.RmsGradient
public import proofs.«01_k».proof.Proof.RowSums
public import Idealize.ShloMosaic.Lib.Pointwise
public import Idealize.ShloMosaic.PureOps.Ideal

@[expose] public section

set_option maxRecDepth 16384

noncomputable section

open Idealize.ShloMosaic

namespace Cert.FfnForward

open Cert.Mix (Arr)
open Cert.RmsGradient (invE)

/-- The input's rows, the gain, the weights of the gate and of the up projection. -/
structure Args where
  x : Arr 4096 1024
  gain : Arr 1 1024
  wg : Arr 1024 2816
  wu : Arr 1024 2816

namespace Args
variable (A : Args)
/-- A row of the input. -/
def row (r : Fin 4096) (j : Fin 1024) : EReal := A.x (ix2 r j)
/-- The row over its root mean square, times the gain. -/
def h (r : Fin 4096) (j : Fin 1024) : EReal := A.row r j * invE (A.row r) * A.gain (ix2 0 j)
/-- The gate's value and the up projection's. -/
def g (r : Fin 4096) (f : Fin 2816) : EReal := ∑ k, A.h r k * A.wg (ix2 k f)
def u (r : Fin 4096) (f : Fin 2816) : EReal := ∑ k, A.h r k * A.wu (ix2 k f)
/-- The gated value. -/
def a (r : Fin 4096) (f : Fin 2816) : EReal := A.g r f * Ideal.logistic (A.g r f) * A.u r f
end Args

/-- The output of a block: the input plus half the product of the gated values `a` with the down projection's weight. -/
def down (x : Fin 1024 → EReal) (a : Fin 2816 → EReal) (wd : Arr 2816 1024) (j : Fin 1024) : EReal :=
  x j + ((1 / 2 : ℝ) : EReal) * ∑ f, a f * wd (ix2 f j)

theorem down_congr {x x' : Fin 1024 → EReal} {a a' : Fin 2816 → EReal} {wd wd' : Arr 2816 1024} (hx : ∀ k, x k = x' k) (ha : ∀ f, a f = a' f)
    (hw : ∀ f k, wd (ix2 f k) = wd' (ix2 f k)) (j : Fin 1024) : down x a wd j = down x' a' wd' j := by
  unfold down
  rw [hx]
  simp only [ha, hw]

end Cert.FfnForward

end
-- ==== Proof.UpTile.lean ====
/- One grid point of the hidden layer, on its blocks: `R a` is the row of the whole arrays that row `a` of the point's blocks holds. The
   gate's value, the up projection's and the gated value are stored chunk by chunk, eleven pieces of 256 columns; each piece is that chunk of
   one block, so the pieces together are that block. -/
module

public import proofs.«01_k».proof.Proof.Gen.UpIdeal.Skeleton
public import proofs.«01_k».proof.Proof.FfnMath
public import Idealize.ShloMosaic.Lib.Pipeline.ReadBack
public import Idealize.ShloMosaic.Lib.Pipeline.ValueKit
public import Idealize.ShloMosaic.Lib.Pipeline.FrameBody
public import Idealize.ShloMosaic.Lib.IdealHost

@[expose] public section

set_option maxRecDepth 16384

noncomputable section

open Idealize.ShloMosaic Idealize.ShloMosaic.TcCoe

namespace Cert.UpForward

open Cert.UpIdeal Cert.UpIdeal.Gen
open Cert.Mix (Arr)
open Cert.HeadGrad (ofBits_1024 ofBits_eps)
open Cert.RmsGradient (invE)
open Cert.FfnForward (Args)

/-- The blocks of one point: rows `R a` of the input, the gain and the whole weights, transposed. -/
structure Blocks (A : Args) (R : Fin 256 → Fin 4096) (x : Arr 256 1024) (gain : Arr 1 1024) (wg wu : Arr 2816 1024) : Prop where
  x : ∀ a j, x (ix2 a j) = A.x (ix2 (R a) j)
  gain : ∀ a j, gain (ix2 a j) = A.gain (ix2 0 j)
  wg : ∀ f k, wg (ix2 f k) = A.wg (ix2 k f)
  wu : ∀ f k, wu (ix2 f k) = A.wu (ix2 k f)

/-- The rows of a point, as blocks. -/
def gBlock (A : Args) (R : Fin 256 → Fin 4096) : Arr 256 2816 := fun z => A.g (R (z 0)) (z 1)
def uBlock (A : Args) (R : Fin 256 → Fin 4096) : Arr 256 2816 := fun z => A.u (R (z 0)) (z 1)
def aBlock (A : Args) (R : Fin 256 → Fin 4096) : Arr 256 2816 := fun z => A.a (R (z 0)) (z 1)

variable {A : Args} {R : Fin 256 → Fin 4096} {x : Arr 256 1024} {gain : Arr 1 1024} {wg wu : Arr 2816 1024}

theorem h_tile (B : Blocks A R x gain wg wu) (a : Fin 256) (j : Fin 1024) : k0_pay1 (F := Ideal) x gain (ix2 a j) = A.h (R a) j := by
  have e := B.x
  pointwise [k0_pay1]
  simp only [e, B.gain, ofBits_1024, ofBits_eps]
  rfl

/-! ### A chunk -/

theorem chunk_lt (o : ℕ) (hh : ∀ a, (![0, o] : Fin 2 → Nat) a + S256x256.size a ≤ S256x2816.size a) (k : Fin 256) : o + k.val < 2816 := by
  have : o + 256 ≤ 2816 := hh 1
  omega

section Chunk
variable (o : ℕ) (hw : ∀ a, (![o, 0] : Fin 2 → Nat) a + S256x1024.size a ≤ S2816x1024.size a) (hh : ∀ a, (![0, o] : Fin 2 → Nat) a + S256x256.size a ≤ S256x2816.size a)

/-- Rows `o … o + 255` of a weight. -/
abbrev wrows (v : Arr 2816 1024) : FVec Ideal S256x1024 .bf16 :=
  View.ld (Val := Elt Ideal) (S := S2816x1024) (e' := .bf16) v (Rect.unit (s := S2816x1024) ![o, 0] S256x1024.size hw)

theorem emb_chunk (a k : Fin 256) :
    (Rect.unit (s := S256x2816) ![0, o] S256x256.size hh).emb (ix2 a k) = ix2 a ⟨o + k.val, chunk_lt o hh k⟩ := by
  funext z
  refine Fin.ext ?_
  rw [Rect.emb_apply]
  match z with
  | ⟨0, _⟩ => show 0 + 1 * a.val = a.val; omega
  | ⟨1, _⟩ => show o + 1 * k.val = o + k.val; omega

theorem emb_wrows (k : Fin 256) (j : Fin 1024) :
    (Rect.unit (s := S2816x1024) ![o, 0] S256x1024.size hw).emb (ix2 k j) = ix2 ⟨o + k.val, chunk_lt o hh k⟩ j := by
  funext z
  refine Fin.ext ?_
  rw [Rect.emb_apply]
  match z with
  | ⟨0, _⟩ => show o + 1 * k.val = o + k.val; omega
  | ⟨1, _⟩ => show 0 + 1 * j.val = j.val; omega

theorem rows_apply (v : Arr 2816 1024) (k : Fin 256) (j : Fin 1024) : wrows o hw v (ix2 k j) = v (ix2 ⟨o + k.val, chunk_lt o hh k⟩ j) :=
  congrArg v (emb_wrows o hw hh k j)

theorem g_chunk (B : Blocks A R x gain wg wu) (a k : Fin 256) :
    k0_pay7 (F := Ideal) (k0_pay1 x gain) (wrows o hw wg) (ix2 a k) = A.g (R a) ⟨o + k.val, chunk_lt o hh k⟩ := by
  have e1 := h_tile B
  have e2 := rows_apply o hw hh wg
  generalize k0_pay1 (F := Ideal) x gain = v1 at *
  generalize wrows o hw wg = v2 at *
  pointwise [k0_pay7]
  simp only [e1, e2, B.wg]
  rfl

theorem u_chunk (B : Blocks A R x gain wg wu) (a k : Fin 256) :
    k0_pay8 (F := Ideal) (k0_pay1 x gain) (wrows o hw wu) (ix2 a k) = A.u (R a) ⟨o + k.val, chunk_lt o hh k⟩ := by
  have e1 := h_tile B
  have e2 := rows_apply o hw hh wu
  generalize k0_pay1 (F := Ideal) x gain = v1 at *
  generalize wrows o hw wu = v2 at *
  pointwise [k0_pay8]
  simp only [e1, e2, B.wu]
  rfl

theorem g_stored (B : Blocks A R x gain wg wu) (a k : Fin 256) :
    k0_pay9 (F := Ideal) (k0_pay1 x gain) (wrows o hw wg) (ix2 a k) = A.g (R a) ⟨o + k.val, chunk_lt o hh k⟩ := by
  have e := g_chunk o hw hh B
  unfold k0_pay9
  generalize k0_pay7 (F := Ideal) (k0_pay1 x gain) (wrows o hw wg) = v at *
  pointwise
  exact e a k

theorem u_stored (B : Blocks A R x gain wg wu) (a k : Fin 256) :
    k0_pay10 (F := Ideal) (k0_pay1 x gain) (wrows o hw wu) (ix2 a k) = A.u (R a) ⟨o + k.val, chunk_lt o hh k⟩ := by
  have e := u_chunk o hw hh B
  unfold k0_pay10
  generalize k0_pay8 (F := Ideal) (k0_pay1 x gain) (wrows o hw wu) = v at *
  pointwise
  exact e a k

theorem a_stored (B : Blocks A R x gain wg wu) (a k : Fin 256) :
    k0_pay11 (F := Ideal) (k0_pay1 x gain) (wrows o hw wg) (wrows o hw wu) (ix2 a k) = A.a (R a) ⟨o + k.val, chunk_lt o hh k⟩ := by
  have e := g_chunk o hw hh B
  have e' := u_chunk o hw hh B
  unfold k0_pay11
  generalize k0_pay7 (F := Ideal) (k0_pay1 x gain) (wrows o hw wg) = v at *
  generalize k0_pay8 (F := Ideal) (k0_pay1 x gain) (wrows o hw wu) = v' at *
  pointwise
  simp only [e, e']
  rfl

end Chunk

/-! ### Eleven chunks make a block -/

theorem idx_eq {a b : ℕ} (i : (⟨2, ![a, b]⟩ : Shape).Idx) : i = ix2 (i 0) (i 1) := by
  funext z
  match z with
  | ⟨0, _⟩ => rfl
  | ⟨1, _⟩ => rfl

/-- Column `f` lies in the piece at `o` if it is one of the columns `o … o + 255`. -/
theorem mem_chunk (o : ℕ) (hh : ∀ a, (![0, o] : Fin 2 → Nat) a + S256x256.size a ≤ S256x2816.size a) (z : S256x2816.Idx)
    (h1 : o ≤ (z 1).val) (h2 : (z 1).val < o + 256) : z ∈ (Rect.unit (s := S256x2816) ![0, o] S256x256.size hh).set := by
  rw [Rect.mem_set_unit]
  intro a
  match a with
  | ⟨0, _⟩ => exact ⟨Nat.zero_le _, by have := (z 0).isLt; show (z 0).val < 0 + 256; have e : (z 0).val < 256 := this; omega⟩
  | ⟨1, _⟩ => exact ⟨h1, h2⟩

/-- What is stored at the columns from `o` on, for each `o`. -/
abbrev Stored := (o : ℕ) → (∀ a, (![o, 0] : Fin 2 → Nat) a + S256x1024.size a ≤ S2816x1024.size a) →
  (∀ a, (![0, o] : Fin 2 → Nat) a + S256x256.size a ≤ S256x2816.size a) → FVec Ideal S256x256 .bf16

/-- The eleven pieces, the last stored first. -/
abbrev pieces (p : Stored) : List (View.Piece (Elt Ideal) S256x2816 .bf16) :=
  [⟨Rect.unit (s := S256x2816) ![0, 2560] S256x256.size inb_S256x2816_S256x256_0_2560, p 2560 inb_S2816x1024_S256x1024_2560_0 inb_S256x2816_S256x256_0_2560⟩,
   ⟨Rect.unit (s := S256x2816) ![0, 2304] S256x256.size inb_S256x2816_S256x256_0_2304, p 2304 inb_S2816x1024_S256x1024_2304_0 inb_S256x2816_S256x256_0_2304⟩,
   ⟨Rect.unit (s := S256x2816) ![0, 2048] S256x256.size inb_S256x2816_S256x256_0_2048, p 2048 inb_S2816x1024_S256x1024_2048_0 inb_S256x2816_S256x256_0_2048⟩,
   ⟨Rect.unit (s := S256x2816) ![0, 1792] S256x256.size inb_S256x2816_S256x256_0_1792, p 1792 inb_S2816x1024_S256x1024_1792_0 inb_S256x2816_S256x256_0_1792⟩,
   ⟨Rect.unit (s := S256x2816) ![0, 1536] S256x256.size inb_S256x2816_S256x256_0_1536, p 1536 inb_S2816x1024_S256x1024_1536_0 inb_S256x2816_S256x256_0_1536⟩,
   ⟨Rect.unit (s := S256x2816) ![0, 1280] S256x256.size inb_S256x2816_S256x256_0_1280, p 1280 inb_S2816x1024_S256x1024_1280_0 inb_S256x2816_S256x256_0_1280⟩,
   ⟨Rect.unit (s := S256x2816) ![0, 1024] S256x256.size inb_S256x2816_S256x256_0_1024, p 1024 inb_S2816x1024_S256x1024_1024_0 inb_S256x2816_S256x256_0_1024⟩,
   ⟨Rect.unit (s := S256x2816) ![0, 768] S256x256.size inb_S256x2816_S256x256_0_768, p 768 inb_S2816x1024_S256x1024_768_0 inb_S256x2816_S256x256_0_768⟩,
   ⟨Rect.unit (s := S256x2816) ![0, 512] S256x256.size inb_S256x2816_S256x256_0_512, p 512 inb_S2816x1024_S256x1024_512_0 inb_S256x2816_S256x256_0_512⟩,
   ⟨Rect.unit (s := S256x2816) ![0, 256] S256x256.size inb_S256x2816_S256x256_0_256, p 256 inb_S2816x1024_S256x1024_256_0 inb_S256x2816_S256x256_0_256⟩,
   ⟨Rect.unit (s := S256x2816) ![0, 0] S256x256.size inb_S256x2816_S256x256_0_0, p 0 inb_S2816x1024_S256x1024_0_0 inb_S256x2816_S256x256_0_0⟩]

/-- If each piece is the block `b` at its columns, together they are `b`. -/
theorem canon_eq (b : Arr 256 2816) (p : Stored) (hp : ∀ o hw hh a k, p o hw hh (ix2 a k) = b (ix2 a ⟨o + k.val, chunk_lt o hh k⟩)) :
    View.canon (pieces p) = b := by
  have each : ∀ o hw hh, ∀ z : S256x256.Idx, p o hw hh z = b ((Rect.unit (s := S256x2816) ![0, o] S256x256.size hh).emb z) := by
    intro o hw hh z
    rw [idx_eq z]
    exact (hp o hw hh _ _).trans (congrArg b (emb_chunk o hh _ _)).symm
  funext z
  refine View.canon_apply_of_pieces (Val := Elt Ideal) (S := S256x2816) (e := .bf16) b _ ?_ z ?_
  · intro q hq
    simp only [List.mem_cons, List.not_mem_nil, or_false] at hq
    rcases hq with rfl | rfl | rfl | rfl | rfl | rfl | rfl | rfl | rfl | rfl | rfl <;> exact each _ _ _
  · have hz : (z 1).val < 2816 := (z 1).isLt
    by_cases c2560 : 2560 ≤ (z 1).val
    · exact ⟨_, List.mem_cons_self, mem_chunk 2560 inb_S256x2816_S256x256_0_2560 z c2560 (by omega)⟩
    by_cases c2304 : 2304 ≤ (z 1).val
    · exact ⟨_, (List.mem_cons_of_mem _ List.mem_cons_self), mem_chunk 2304 inb_S256x2816_S256x256_0_2304 z c2304 (by omega)⟩
    by_cases c2048 : 2048 ≤ (z 1).val
    · exact ⟨_, (List.mem_cons_of_mem _ (List.mem_cons_of_mem _ List.mem_cons_self)), mem_chunk 2048 inb_S256x2816_S256x256_0_2048 z c2048 (by omega)⟩
    by_cases c1792 : 1792 ≤ (z 1).val
    · exact ⟨_, (List.mem_cons_of_mem _ (List.mem_cons_of_mem _ (List.mem_cons_of_mem _ List.mem_cons_self))), mem_chunk 1792 inb_S256x2816_S256x256_0_1792 z c1792 (by omega)⟩
    by_cases c1536 : 1536 ≤ (z 1).val
    · exact ⟨_, (List.mem_cons_of_mem _ (List.mem_cons_of_mem _ (List.mem_cons_of_mem _ (List.mem_cons_of_mem _ List.mem_cons_self)))), mem_chunk 1536 inb_S256x2816_S256x256_0_1536 z c1536 (by omega)⟩
    by_cases c1280 : 1280 ≤ (z 1).val
    · exact ⟨_, (List.mem_cons_of_mem _ (List.mem_cons_of_mem _ (List.mem_cons_of_mem _ (List.mem_cons_of_mem _ (List.mem_cons_of_mem _ List.mem_cons_self))))), mem_chunk 1280 inb_S256x2816_S256x256_0_1280 z c1280 (by omega)⟩
    by_cases c1024 : 1024 ≤ (z 1).val
    · exact ⟨_, (List.mem_cons_of_mem _ (List.mem_cons_of_mem _ (List.mem_cons_of_mem _ (List.mem_cons_of_mem _ (List.mem_cons_of_mem _ (List.mem_cons_of_mem _ List.mem_cons_self)))))), mem_chunk 1024 inb_S256x2816_S256x256_0_1024 z c1024 (by omega)⟩
    by_cases c768 : 768 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_chunk 768 inb_S256x2816_S256x256_0_768 z c768 (by omega)⟩
    by_cases c512 : 512 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_chunk 512 inb_S256x2816_S256x256_0_512 z c512 (by omega)⟩
    by_cases c256 : 256 ≤ (z 1).val
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_chunk 256 inb_S256x2816_S256x256_0_256 z c256 (by omega)⟩
    exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_chunk 0 inb_S256x2816_S256x256_0_0 z (Nat.zero_le _) (by omega)⟩

/-- The chunks of the three values, from the blocks. -/
abbrev gStored (x : Arr 256 1024) (gain : Arr 1 1024) (wg : Arr 2816 1024) : Stored := fun o hw _ => k0_pay9 (F := Ideal) (k0_pay1 x gain) (wrows o hw wg)
abbrev uStored (x : Arr 256 1024) (gain : Arr 1 1024) (wu : Arr 2816 1024) : Stored := fun o hw _ => k0_pay10 (F := Ideal) (k0_pay1 x gain) (wrows o hw wu)
abbrev aStored (x : Arr 256 1024) (gain : Arr 1 1024) (wg wu : Arr 2816 1024) : Stored :=
  fun o hw _ => k0_pay11 (F := Ideal) (k0_pay1 x gain) (wrows o hw wg) (wrows o hw wu)

theorem g_canon (B : Blocks A R x gain wg wu) : View.canon (pieces (gStored x gain wg)) = gBlock A R :=
  canon_eq _ _ fun o hw hh a k => g_stored o hw hh B a k
theorem u_canon (B : Blocks A R x gain wg wu) : View.canon (pieces (uStored x gain wu)) = uBlock A R :=
  canon_eq _ _ fun o hw hh a k => u_stored o hw hh B a k
theorem a_canon (B : Blocks A R x gain wg wu) : View.canon (pieces (aStored x gain wg wu)) = aBlock A R :=
  canon_eq _ _ fun o hw hh a k => a_stored o hw hh B a k

end Cert.UpForward

end
-- ==== Proof.FfnOutputs.lean ====
/- The arrays the last feed-forward block's call leaves: what the host hands the call, the blocks each grid point reads and leaves, and
   each row of the five results from the one point that holds the row. The hidden layer's chunks are those of the module `UpTile`. -/
module

public import proofs.«01_k».proof.Proof.Gen.FfnIdeal.Value
public import proofs.«01_k».proof.Proof.UpTile
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal
public import Idealize.ShloMosaic.Lib.IdealHost

@[expose] public section

set_option maxRecDepth 16384

noncomputable section

open Idealize.ShloMosaic Idealize.ShloMosaic.TcCoe Idealize.SL.Sem

namespace Cert.FfnForward

open Cert.FfnIdeal Cert.FfnIdeal.Gen Cert.FfnIdeal.Value
open Cert.Mix (Arr)
open Cert.HeadGrad (ofBits_half)
open Cert.UpForward (Blocks h_tile pieces gStored uStored aStored gBlock uBlock aBlock g_canon u_canon a_canon)

variable (m : (ℓ : Loc nD τ Cert.FfnIdeal.sig) → Buf (Elt Ideal) ℓ) (c : Dev nD)

/-- The program's arguments on device `c`. -/
abbrev argsOf : Args where
  x := m (c, Proc.tc.devRef main_arg0)
  gain := m (c, Proc.tc.devRef main_arg1)
  wg := m (c, Proc.tc.devRef main_arg2)
  wu := m (c, Proc.tc.devRef main_arg3)

/-- The down projection's weight. -/
abbrev wdOf : Arr 2816 1024 := m (c, Proc.tc.devRef main_arg4)

variable {m c}

theorem V_arg0 : (V m c main_arg0 : Arr 4096 1024) = (argsOf m c).x := by
  show _ = m (c, Proc.tc.devRef main_arg0)
  unfold V
  after_reads_simp

theorem V_arg1 : (V m c main_arg1 : Arr 1 1024) = (argsOf m c).gain := by
  show _ = m (c, Proc.tc.devRef main_arg1)
  unfold V
  after_reads_simp

set_option maxHeartbeats 1000000 in
theorem V_v1 (f : Fin 2816) (k : Fin 1024) : (V m c main_v1 : Arr 2816 1024) (ix2 f k) = (argsOf m c).wg (ix2 k f) := by
  unfold V
  after_reads_at

set_option maxHeartbeats 1000000 in
theorem V_v3 (f : Fin 2816) (k : Fin 1024) : (V m c main_v3 : Arr 2816 1024) (ix2 f k) = (argsOf m c).wu (ix2 k f) := by
  unfold V
  after_reads_at

set_option maxHeartbeats 1000000 in
theorem V_v4 (f : Fin 2816) (j : Fin 1024) : (V m c main_v4 : Arr 2816 1024) (ix2 f j) = wdOf m c (ix2 f j) := by
  unfold V
  after_reads_at

/-- Row `a` of the blocks of point `t`. -/
abbrev row (t : Fin cfg0.N) (a : Fin 256) : Fin 4096 := ⟨256 * t.val + a.val, by have := lt_of_lt_of_eq t.isLt N_0; omega⟩

/-- Which block of its array each window holds at a point: the row arrays' blocks follow the point, the others are whole. -/
theorem index_facts : ∀ t : Fin cfg0.N,
    ((cfg0.win 0).index t 0 = t.val ∧ (cfg0.win 0).index t 1 = 0)
    ∧ ((cfg0.win 1).index t 0 = 0 ∧ (cfg0.win 1).index t 1 = 0)
    ∧ ((cfg0.win 2).index t 0 = 0 ∧ (cfg0.win 2).index t 1 = 0)
    ∧ ((cfg0.win 3).index t 0 = 0 ∧ (cfg0.win 3).index t 1 = 0)
    ∧ ((cfg0.win 4).index t 0 = 0 ∧ (cfg0.win 4).index t 1 = 0)
    ∧ ((cfg0.win 5).index t 0 = t.val ∧ (cfg0.win 5).index t 1 = 0)
    ∧ ((cfg0.win 6).index t 0 = t.val ∧ (cfg0.win 6).index t 1 = 0)
    ∧ ((cfg0.win 7).index t 0 = t.val ∧ (cfg0.win 7).index t 1 = 0)
    ∧ ((cfg0.win 8).index t 0 = t.val ∧ (cfg0.win 8).index t 1 = 0)
    ∧ ((cfg0.win 9).index t 0 = t.val ∧ (cfg0.win 9).index t 1 = 0) := by
  decide +kernel

theorem iblk_x (t : Fin cfg0.N) (a : Fin 256) (j : Fin 1024) :
    (iblk m c 0 t : Arr 256 1024) (ix2 a j) = (V m c main_arg0 : Arr 4096 1024) (ix2 (row t a) j) := by
  obtain ⟨h0, h1⟩ := (index_facts t).1
  blk_simp [iblk]
  refine congrArg (V m c main_arg0) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

theorem iblk_gain (t : Fin cfg0.N) (a : Fin 1) (j : Fin 1024) :
    (iblk m c 1 t : Arr 1 1024) (ix2 a j) = (V m c main_arg1 : Arr 1 1024) (ix2 a j) := by
  obtain ⟨h0, h1⟩ := (index_facts t).2.1
  blk_simp [iblk]
  refine congrArg (V m c main_arg1) (funext fun x => Fin.ext ?_)
  match x with
  | ⟨0, _⟩ => exact (Pipeline.Window.rect_emb_val _ t _ 0).trans (by rw [h0]; show 0 * 1 + a.val = a.val; omega)
  | ⟨1, _⟩ => exact (Pipeline.Window.rect_emb_val _ t _ 1).trans (by rw [h1]; show 0 * 1024 + j.val = j.val; omega)

theorem iblk_wg (t : Fin cfg0.N) (a : Fin 2816) (j : Fin 1024) :
    (iblk m c 2 t : Arr 2816 1024) (ix2 a j) = (V m c main_v1 : Arr 2816 1024) (ix2 a j) := by
  obtain ⟨h0, h1⟩ := (index_facts t).2.2.1
  blk_simp [iblk]
  refine congrArg (V m c main_v1) (funext fun x => Fin.ext ?_)
  match x with
  | ⟨0, _⟩ => exact (Pipeline.Window.rect_emb_val _ t _ 0).trans (by rw [h0]; show 0 * 2816 + a.val = a.val; omega)
  | ⟨1, _⟩ => exact (Pipeline.Window.rect_emb_val _ t _ 1).trans (by rw [h1]; show 0 * 1024 + j.val = j.val; omega)

theorem iblk_wu (t : Fin cfg0.N) (a : Fin 2816) (j : Fin 1024) :
    (iblk m c 3 t : Arr 2816 1024) (ix2 a j) = (V m c main_v3 : Arr 2816 1024) (ix2 a j) := by
  obtain ⟨h0, h1⟩ := (index_facts t).2.2.2.1
  blk_simp [iblk]
  refine congrArg (V m c main_v3) (funext fun x => Fin.ext ?_)
  match x with
  | ⟨0, _⟩ => exact (Pipeline.Window.rect_emb_val _ t _ 0).trans (by rw [h0]; show 0 * 2816 + a.val = a.val; omega)
  | ⟨1, _⟩ => exact (Pipeline.Window.rect_emb_val _ t _ 1).trans (by rw [h1]; show 0 * 1024 + j.val = j.val; omega)

theorem iblk_wd (t : Fin cfg0.N) (a : Fin 2816) (j : Fin 1024) :
    (iblk m c 4 t : Arr 2816 1024) (ix2 a j) = (V m c main_v4 : Arr 2816 1024) (ix2 a j) := by
  obtain ⟨h0, h1⟩ := (index_facts t).2.2.2.2.1
  blk_simp [iblk]
  refine congrArg (V m c main_v4) (funext fun x => Fin.ext ?_)
  match x with
  | ⟨0, _⟩ => exact (Pipeline.Window.rect_emb_val _ t _ 0).trans (by rw [h0]; show 0 * 2816 + a.val = a.val; omega)
  | ⟨1, _⟩ => exact (Pipeline.Window.rect_emb_val _ t _ 1).trans (by rw [h1]; show 0 * 1024 + j.val = j.val; omega)

/-- The blocks of point `t` hold the rows of the point. -/
theorem blocks (t : Fin cfg0.N) : Blocks (argsOf m c) (row t) (iblk m c 0 t) (iblk m c 1 t) (iblk m c 2 t) (iblk m c 3 t) where
  x a j := (iblk_x t a j).trans (congrFun V_arg0 _)
  gain a j := (iblk_gain t a j).trans ((congrFun V_arg1 _).trans (congrArg (argsOf m c).gain (congrArg (fun z => ix2 z j) (Subsingleton.elim a 0))))
  wg f k := (iblk_wg t f k).trans (V_v1 f k)
  wu f k := (iblk_wu t f k).trans (V_v3 f k)

/-! ### The blocks a point leaves -/

/-- A whole block is read back entry by entry. -/
theorem idx_whole (z : S256x2816.Idx) : (Rect.unit (s := S256x2816) ![0, 0] S256x2816.size inb_S256x2816_S256x2816_0_0).toLoadRect.idx z = z := by
  funext a
  refine Fin.ext ?_
  refine (Rect.emb_apply (Rect.unit (s := S256x2816) ![0, 0] S256x2816.size inb_S256x2816_S256x2816_0_0) z a).trans ?_
  match a with
  | ⟨0, _⟩ => show 0 + 1 * (z 0).val = (z 0).val; omega
  | ⟨1, _⟩ => show 0 + 1 * (z 1).val = (z 1).val; omega

theorem a_read {κ : Kind} {sp : Space} (t : Fin cfg0.N) (v : View Cert.FfnIdeal.sig κ sp S256x2816 .bf16) :
    v.readCov (pieces (aStored (iblk m c 0 t) (iblk m c 1 t) (iblk m c 2 t) (iblk m c 3 t)))
      (Rect.unit (s := S256x2816) ![0, 0] S256x2816.size inb_S256x2816_S256x2816_0_0).toLoadRect = aBlock (argsOf m c) (row t) := by
  rw [View.readCov_eq_canon', a_canon (blocks t)]
  exact funext fun z => congrArg (aBlock (argsOf m c) (row t)) (idx_whole z)

theorem y_tile (x : Arr 256 1024) (a : Arr 256 2816) (wd : Arr 2816 1024) (i : Fin 256) (j : Fin 1024) :
    k0_pay1 (F := Ideal) x a wd (ix2 i j) = down (fun k => x (ix2 i k)) (fun f => a (ix2 i f)) wd j := by
  pointwise [k0_pay1]
  simp only [ofBits_half]
  rfl

theorem out_h (t : Fin cfg0.N) (a : Fin 256) (j : Fin 1024) : ((outsAt0 m c t).1 : Arr 256 1024) (ix2 a j) = (argsOf m c).h (row t a) j := by
  have e : (outsAt0 m c t).1 = k0_pay2 (F := Ideal) (iblk m c 0 t) (iblk m c 1 t) := by
    unfold outsAt0
    dsimp only
    frame_out
  exact (congrFun e _).trans (h_tile (blocks t) a j)

theorem out_g (t : Fin cfg0.N) (a : Fin 256) (f : Fin 2816) : ((outsAt0 m c t).2.1 : Arr 256 2816) (ix2 a f) = (argsOf m c).g (row t a) f := by
  have e : (outsAt0 m c t).2.1 = gBlock (argsOf m c) (row t) := by
    unfold outsAt0
    dsimp only
    frame_out
    exact g_canon (wu := iblk m c 3 t) (blocks t)
  exact congrFun e _

theorem out_u (t : Fin cfg0.N) (a : Fin 256) (f : Fin 2816) : ((outsAt0 m c t).2.2.1 : Arr 256 2816) (ix2 a f) = (argsOf m c).u (row t a) f := by
  have e : (outsAt0 m c t).2.2.1 = uBlock (argsOf m c) (row t) := by
    unfold outsAt0
    dsimp only
    frame_out
    exact u_canon (wg := iblk m c 2 t) (blocks t)
  exact congrFun e _

theorem out_a (t : Fin cfg0.N) (a : Fin 256) (f : Fin 2816) : ((outsAt0 m c t).2.2.2.1 : Arr 256 2816) (ix2 a f) = (argsOf m c).a (row t a) f := by
  have e : (outsAt0 m c t).2.2.2.1 = aBlock (argsOf m c) (row t) := by
    unfold outsAt0
    dsimp only
    frame_out
    exact a_canon (blocks t)
  exact congrFun e _

theorem out_y (t : Fin cfg0.N) (a : Fin 256) (j : Fin 1024) : ((outsAt0 m c t).2.2.2.2 : Arr 256 1024) (ix2 a j)
    = down ((argsOf m c).row (row t a)) ((argsOf m c).a (row t a)) (wdOf m c) j := by
  have e1 := a_read (m := m) (c := c) t (ms0_8 t).view
  have e : (outsAt0 m c t).2.2.2.2 = k0_pay1 (F := Ideal) (iblk m c 0 t) (aBlock (argsOf m c) (row t)) (iblk m c 4 t) := by
    unfold outsAt0
    dsimp only
    frame_out
    exact congrArg (fun a => k0_pay1 (F := Ideal) (iblk m c 0 t) a (iblk m c 4 t)) e1
  exact (congrFun e _).trans ((y_tile _ _ _ a j).trans (down_congr (fun k => (blocks t).x a k) (fun f => rfl) (fun f k => (iblk_wd t f k).trans (V_v4 f k)) j))

/-! ### The arrays -/

/-- The point that holds row `r`, and the row's place in its block. -/
abbrev tileOf (r : Fin 4096) : Fin cfg0.N := ⟨r.val / 256, lt_of_lt_of_eq (by omega) N_0.symm⟩
abbrev inTile (r : Fin 4096) : Fin 256 := ⟨r.val % 256, Nat.mod_lt _ (by decide)⟩

theorem row_tileOf (r : Fin 4096) : row (tileOf r) (inTile r) = r :=
  Fin.ext (by show 256 * (r.val / 256) + r.val % 256 = r.val; omega)

theorem arr_h (r : Fin 4096) (j : Fin 1024) :
    ((dats m 0 c).arrAt 5 cfg0.N : Arr 4096 1024) (ix2 r j) = (argsOf m c).h r j := by
  obtain ⟨h0, h1⟩ := (index_facts (tileOf r)).2.2.2.2.2.1
  have hf : (cfg0.win 5).flush (tileOf r) = true := (by decide +kernel : ∀ t : Fin cfg0.N, (cfg0.win 5).flush t = true) _
  have e := congrFun (blocks5 m c (tileOf r) hf) (ix2 (inTile r) j)
  rw [flushed5] at e
  refine Eq.trans ?_ (e.trans ?_)
  · refine congrArg ((dats m 0 c).arrAt 5 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_h (tileOf r) (inTile r) j).trans (by rw [row_tileOf])

theorem arr_g (r : Fin 4096) (j : Fin 2816) :
    ((dats m 0 c).arrAt 6 cfg0.N : Arr 4096 2816) (ix2 r j) = (argsOf m c).g r j := by
  obtain ⟨h0, h1⟩ := (index_facts (tileOf r)).2.2.2.2.2.2.1
  have hf : (cfg0.win 6).flush (tileOf r) = true := (by decide +kernel : ∀ t : Fin cfg0.N, (cfg0.win 6).flush t = true) _
  have e := congrFun (blocks6 m c (tileOf r) hf) (ix2 (inTile r) j)
  rw [flushed6] at e
  refine Eq.trans ?_ (e.trans ?_)
  · refine congrArg ((dats m 0 c).arrAt 6 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 2816 + j.val = j.val; omega)).symm
  · exact (out_g (tileOf r) (inTile r) j).trans (by rw [row_tileOf])

theorem arr_u (r : Fin 4096) (j : Fin 2816) :
    ((dats m 0 c).arrAt 7 cfg0.N : Arr 4096 2816) (ix2 r j) = (argsOf m c).u r j := by
  obtain ⟨h0, h1⟩ := (index_facts (tileOf r)).2.2.2.2.2.2.2.1
  have hf : (cfg0.win 7).flush (tileOf r) = true := (by decide +kernel : ∀ t : Fin cfg0.N, (cfg0.win 7).flush t = true) _
  have e := congrFun (blocks7 m c (tileOf r) hf) (ix2 (inTile r) j)
  rw [flushed7] at e
  refine Eq.trans ?_ (e.trans ?_)
  · refine congrArg ((dats m 0 c).arrAt 7 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 2816 + j.val = j.val; omega)).symm
  · exact (out_u (tileOf r) (inTile r) j).trans (by rw [row_tileOf])

theorem arr_a (r : Fin 4096) (j : Fin 2816) :
    ((dats m 0 c).arrAt 8 cfg0.N : Arr 4096 2816) (ix2 r j) = (argsOf m c).a r j := by
  obtain ⟨h0, h1⟩ := (index_facts (tileOf r)).2.2.2.2.2.2.2.2.1
  have hf : (cfg0.win 8).flush (tileOf r) = true := (by decide +kernel : ∀ t : Fin cfg0.N, (cfg0.win 8).flush t = true) _
  have e := congrFun (blocks8 m c (tileOf r) hf) (ix2 (inTile r) j)
  rw [flushed8] at e
  refine Eq.trans ?_ (e.trans ?_)
  · refine congrArg ((dats m 0 c).arrAt 8 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 2816 + j.val = j.val; omega)).symm
  · exact (out_a (tileOf r) (inTile r) j).trans (by rw [row_tileOf])

theorem arr_y (r : Fin 4096) (j : Fin 1024) :
    ((dats m 0 c).arrAt 9 cfg0.N : Arr 4096 1024) (ix2 r j) = down ((argsOf m c).row (r)) ((argsOf m c).a (r)) (wdOf m c) j := by
  obtain ⟨h0, h1⟩ := (index_facts (tileOf r)).2.2.2.2.2.2.2.2.2
  have hf : (cfg0.win 9).flush (tileOf r) = true := (by decide +kernel : ∀ t : Fin cfg0.N, (cfg0.win 9).flush t = true) _
  have e := congrFun (blocks9 m c (tileOf r) hf) (ix2 (inTile r) j)
  rw [flushed9] at e
  refine Eq.trans ?_ (e.trans ?_)
  · refine congrArg ((dats m 0 c).arrAt 9 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_y (tileOf r) (inTile r) j).trans (by rw [row_tileOf])

end Cert.FfnForward

end
-- ==== Proof.FfnReference.lean ====
/- What the reference's five results are: the formulas of the module `FfnMath`. -/
module

public import proofs.«01_k».proof.Proof.Gen.FfnReferenceIdeal.Read
public import proofs.«01_k».proof.Proof.FfnMath
public import Idealize.ShloMosaic.Lib.IdealHost

@[expose] public section

set_option maxRecDepth 16384

noncomputable section

open Idealize.ShloMosaic Idealize.ShloMosaic.TcCoe Idealize.SL.Sem

namespace Cert.FfnForward.Ref

open Cert.FfnReferenceIdeal Cert.FfnReferenceIdeal.Read
open Cert.Mix (Arr)
open Cert.HeadGrad (ofBits_1024 ofBits_eps ofBits_half)
open Cert.RmsGradient (msE invE)
open Cert.FfnForward (Args down)

variable (A : Args)

theorem v6_apply (r : Fin 4096) (z : Fin 1) : val_main_v6 (F := Ideal) A.x (ix2 r z) = msE (A.row r) := by
  unfold val_main_v6 val_main_v4 val_main_v2 val_main_v1 val_main_v0
  pointwise [val_main_v3, val_main_cst_0, val_main_v5, val_main_cst_1, val_main_cst]
  simp only [ofBits_1024, ofBits_eps]
  rfl

theorem v11_apply (r : Fin 4096) (j : Fin 1024) : val_main_v11 (F := Ideal) A.x A.gain (ix2 r j) = A.h r j := by
  have e0 := v6_apply A
  unfold val_main_v11 val_main_v9 val_main_v8 val_main_v7
  generalize val_main_v6 (F := Ideal) A.x = y0 at *
  pointwise [val_main_v10]
  simp only [e0]
  rfl

theorem v12_apply (r : Fin 4096) (f : Fin 2816) : val_main_v12 (F := Ideal) A.x A.gain A.wg (ix2 r f) = A.g r f := by
  have e0 := v11_apply A
  unfold val_main_v12
  generalize val_main_v11 (F := Ideal) A.x A.gain = y0 at *
  pointwise
  simp only [e0]
  rfl

theorem v13_apply (r : Fin 4096) (f : Fin 2816) : val_main_v13 (F := Ideal) A.x A.gain A.wu (ix2 r f) = A.u r f := by
  have e0 := v11_apply A
  unfold val_main_v13
  generalize val_main_v11 (F := Ideal) A.x A.gain = y0 at *
  pointwise
  simp only [e0]
  rfl

theorem v15_apply (r : Fin 4096) (f : Fin 2816) : val_main_v15 (F := Ideal) A.x A.gain A.wg A.wu (ix2 r f) = A.a r f := by
  have e0 := v12_apply A
  have e1 := v13_apply A
  unfold val_main_v15 val_main_v14 val_main_call0_v5 val_main_call0_v3 val_main_call0_v1 val_main_call0_v0
  generalize val_main_v12 (F := Ideal) A.x A.gain A.wg = y0 at *
  generalize val_main_v13 (F := Ideal) A.x A.gain A.wu = y1 at *
  pointwise [val_main_call0_v4, val_main_call0_v2, val_main_call0_cst, val_main_call0_cst_0]
  simp only [e0, e1]
  rfl

theorem v16_apply (r : Fin 4096) (j : Fin 1024) : val_main_v16 (F := Ideal) A.x A.gain (ix2 r j) = A.h r j := by
  have e := v11_apply A
  unfold val_main_v16
  generalize val_main_v11 (F := Ideal) A.x A.gain = y at *
  pointwise
  exact e r j

theorem v17_apply (r : Fin 4096) (f : Fin 2816) : val_main_v17 (F := Ideal) A.x A.gain A.wg (ix2 r f) = A.g r f := by
  have e := v12_apply A
  unfold val_main_v17
  generalize val_main_v12 (F := Ideal) A.x A.gain A.wg = y at *
  pointwise
  exact e r f

theorem v18_apply (r : Fin 4096) (f : Fin 2816) : val_main_v18 (F := Ideal) A.x A.gain A.wu (ix2 r f) = A.u r f := by
  have e := v13_apply A
  unfold val_main_v18
  generalize val_main_v13 (F := Ideal) A.x A.gain A.wu = y at *
  pointwise
  exact e r f

theorem v19_apply (r : Fin 4096) (f : Fin 2816) : val_main_v19 (F := Ideal) A.x A.gain A.wg A.wu (ix2 r f) = A.a r f := by
  have e := v15_apply A
  unfold val_main_v19
  generalize val_main_v15 (F := Ideal) A.x A.gain A.wg A.wu = y at *
  pointwise
  exact e r f

theorem v23_apply (wd : Arr 2816 1024) (r : Fin 4096) (j : Fin 1024) :
    val_main_v23 (F := Ideal) A.x A.gain A.wg A.wu wd (ix2 r j) = down (A.row r) (A.a r) wd j := by
  have e0 := v15_apply A
  unfold val_main_v23 val_main_v22 val_main_v20
  generalize val_main_v15 (F := Ideal) A.x A.gain A.wg A.wu = y0 at *
  pointwise [val_main_v21, val_main_cst_2]
  simp only [e0, ofBits_half]
  rfl

end Cert.FfnForward.Ref

end
-- ==== Proof.FfnResults.lean ====
/- The five results: the launch's arrays are the reference's. -/
module

public import proofs.«01_k».proof.Proof.FfnOutputs
public import proofs.«01_k».proof.Proof.FfnReference

@[expose] public section

set_option maxRecDepth 16384

noncomputable section

open Idealize.ShloMosaic Idealize.ShloMosaic.TcCoe Idealize.SL.Sem

namespace Cert.FfnForward

open Cert.Mix (Arr)
open Cert.RowSums (ext2)

variable {m : (ℓ : Loc Cert.FfnIdeal.nD Cert.FfnIdeal.τ Cert.FfnIdeal.sig) → Buf (Elt Ideal) ℓ} {c : Dev Cert.FfnIdeal.nD}

theorem h_eq : ((Cert.FfnIdeal.Gen.dats m 0 c).arrAt 5 Cert.FfnIdeal.cfg0.N : Arr 4096 1024)
    = Cert.FfnReferenceIdeal.Read.val_main_v16 (F := Ideal) (m (c, Proc.tc.devRef Cert.FfnIdeal.main_arg0)) (m (c, Proc.tc.devRef Cert.FfnIdeal.main_arg1)) :=
  ext2 fun r j => (arr_h r j).trans (Ref.v16_apply (argsOf m c) r j).symm

theorem g_eq : ((Cert.FfnIdeal.Gen.dats m 0 c).arrAt 6 Cert.FfnIdeal.cfg0.N : Arr 4096 2816)
    = Cert.FfnReferenceIdeal.Read.val_main_v17 (F := Ideal) (m (c, Proc.tc.devRef Cert.FfnIdeal.main_arg0)) (m (c, Proc.tc.devRef Cert.FfnIdeal.main_arg1)) (m (c, Proc.tc.devRef Cert.FfnIdeal.main_arg2)) :=
  ext2 fun r j => (arr_g r j).trans (Ref.v17_apply (argsOf m c) r j).symm

theorem u_eq : ((Cert.FfnIdeal.Gen.dats m 0 c).arrAt 7 Cert.FfnIdeal.cfg0.N : Arr 4096 2816)
    = Cert.FfnReferenceIdeal.Read.val_main_v18 (F := Ideal) (m (c, Proc.tc.devRef Cert.FfnIdeal.main_arg0)) (m (c, Proc.tc.devRef Cert.FfnIdeal.main_arg1)) (m (c, Proc.tc.devRef Cert.FfnIdeal.main_arg3)) :=
  ext2 fun r j => (arr_u r j).trans (Ref.v18_apply (argsOf m c) r j).symm

theorem a_eq : ((Cert.FfnIdeal.Gen.dats m 0 c).arrAt 8 Cert.FfnIdeal.cfg0.N : Arr 4096 2816)
    = Cert.FfnReferenceIdeal.Read.val_main_v19 (F := Ideal) (m (c, Proc.tc.devRef Cert.FfnIdeal.main_arg0)) (m (c, Proc.tc.devRef Cert.FfnIdeal.main_arg1)) (m (c, Proc.tc.devRef Cert.FfnIdeal.main_arg2)) (m (c, Proc.tc.devRef Cert.FfnIdeal.main_arg3)) :=
  ext2 fun r j => (arr_a r j).trans (Ref.v19_apply (argsOf m c) r j).symm

theorem y_eq : ((Cert.FfnIdeal.Gen.dats m 0 c).arrAt 9 Cert.FfnIdeal.cfg0.N : Arr 4096 1024)
    = Cert.FfnReferenceIdeal.Read.val_main_v23 (F := Ideal) (m (c, Proc.tc.devRef Cert.FfnIdeal.main_arg0)) (m (c, Proc.tc.devRef Cert.FfnIdeal.main_arg1)) (m (c, Proc.tc.devRef Cert.FfnIdeal.main_arg2)) (m (c, Proc.tc.devRef Cert.FfnIdeal.main_arg3)) (m (c, Proc.tc.devRef Cert.FfnIdeal.main_arg4)) :=
  ext2 fun r j => (arr_y r j).trans (Ref.v23_apply (argsOf m c) _ r j).symm

end Cert.FfnForward

end
-- ==== Proof.UpOutputs.lean ====
/- The arrays the hidden layer's call leaves: what the host hands the call, the blocks each grid point reads and leaves, and each row of
   the four results from the one point that holds the row. -/
module

public import proofs.«01_k».proof.Proof.Gen.UpIdeal.Value
public import proofs.«01_k».proof.Proof.UpTile
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.UpForward

open Cert.UpIdeal Cert.UpIdeal.Gen Cert.UpIdeal.Value
open Cert.Mix (Arr)
open Cert.FfnForward (Args)

variable (m : (ℓ : Loc nD τ Cert.UpIdeal.sig) → Buf (Elt Ideal) ℓ) (c : Dev nD)

/-- The program's arguments on device `c`. -/
abbrev argsOf : Args where
  x := m (c, Proc.tc.devRef main_arg0)
  gain := m (c, Proc.tc.devRef main_arg1)
  wg := m (c, Proc.tc.devRef main_arg2)
  wu := m (c, Proc.tc.devRef main_arg3)

variable {m c}

theorem V_arg0 : (V m c main_arg0 : Arr 4096 1024) = (argsOf m c).x := by
  show _ = m (c, Proc.tc.devRef main_arg0)
  unfold V
  after_reads_simp

theorem V_arg1 : (V m c main_arg1 : Arr 1 1024) = (argsOf m c).gain := by
  show _ = m (c, Proc.tc.devRef main_arg1)
  unfold V
  after_reads_simp

set_option maxHeartbeats 1000000 in
theorem V_v1 (f : Fin 2816) (k : Fin 1024) : (V m c main_v1 : Arr 2816 1024) (ix2 f k) = (argsOf m c).wg (ix2 k f) := by
  unfold V
  after_reads_at

set_option maxHeartbeats 1000000 in
theorem V_v3 (f : Fin 2816) (k : Fin 1024) : (V m c main_v3 : Arr 2816 1024) (ix2 f k) = (argsOf m c).wu (ix2 k f) := by
  unfold V
  after_reads_at

/-- Row `a` of the blocks of point `t`. -/
abbrev row (t : Fin cfg0.N) (a : Fin 256) : Fin 4096 := ⟨256 * t.val + a.val, by have := lt_of_lt_of_eq t.isLt N_0; omega⟩

/-- Which block of its array each window holds at a point: the row arrays' blocks follow the point, the others are whole. -/
theorem index_facts : ∀ t : Fin cfg0.N,
    ((cfg0.win 0).index t 0 = t.val ∧ (cfg0.win 0).index t 1 = 0)
    ∧ ((cfg0.win 1).index t 0 = 0 ∧ (cfg0.win 1).index t 1 = 0)
    ∧ ((cfg0.win 2).index t 0 = 0 ∧ (cfg0.win 2).index t 1 = 0)
    ∧ ((cfg0.win 3).index t 0 = 0 ∧ (cfg0.win 3).index t 1 = 0)
    ∧ ((cfg0.win 4).index t 0 = t.val ∧ (cfg0.win 4).index t 1 = 0)
    ∧ ((cfg0.win 5).index t 0 = t.val ∧ (cfg0.win 5).index t 1 = 0)
    ∧ ((cfg0.win 6).index t 0 = t.val ∧ (cfg0.win 6).index t 1 = 0)
    ∧ ((cfg0.win 7).index t 0 = t.val ∧ (cfg0.win 7).index t 1 = 0) := by
  decide +kernel

theorem iblk_x (t : Fin cfg0.N) (a : Fin 256) (j : Fin 1024) :
    (iblk m c 0 t : Arr 256 1024) (ix2 a j) = (V m c main_arg0 : Arr 4096 1024) (ix2 (row t a) j) := by
  obtain ⟨h0, h1⟩ := (index_facts t).1
  blk_simp [iblk]
  refine congrArg (V m c main_arg0) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

theorem iblk_gain (t : Fin cfg0.N) (a : Fin 1) (j : Fin 1024) :
    (iblk m c 1 t : Arr 1 1024) (ix2 a j) = (V m c main_arg1 : Arr 1 1024) (ix2 a j) := by
  obtain ⟨h0, h1⟩ := (index_facts t).2.1
  blk_simp [iblk]
  refine congrArg (V m c main_arg1) (funext fun x => Fin.ext ?_)
  match x with
  | ⟨0, _⟩ => exact (Pipeline.Window.rect_emb_val _ t _ 0).trans (by rw [h0]; show 0 * 1 + a.val = a.val; omega)
  | ⟨1, _⟩ => exact (Pipeline.Window.rect_emb_val _ t _ 1).trans (by rw [h1]; show 0 * 1024 + j.val = j.val; omega)

theorem iblk_wg (t : Fin cfg0.N) (a : Fin 2816) (j : Fin 1024) :
    (iblk m c 2 t : Arr 2816 1024) (ix2 a j) = (V m c main_v1 : Arr 2816 1024) (ix2 a j) := by
  obtain ⟨h0, h1⟩ := (index_facts t).2.2.1
  blk_simp [iblk]
  refine congrArg (V m c main_v1) (funext fun x => Fin.ext ?_)
  match x with
  | ⟨0, _⟩ => exact (Pipeline.Window.rect_emb_val _ t _ 0).trans (by rw [h0]; show 0 * 2816 + a.val = a.val; omega)
  | ⟨1, _⟩ => exact (Pipeline.Window.rect_emb_val _ t _ 1).trans (by rw [h1]; show 0 * 1024 + j.val = j.val; omega)

theorem iblk_wu (t : Fin cfg0.N) (a : Fin 2816) (j : Fin 1024) :
    (iblk m c 3 t : Arr 2816 1024) (ix2 a j) = (V m c main_v3 : Arr 2816 1024) (ix2 a j) := by
  obtain ⟨h0, h1⟩ := (index_facts t).2.2.2.1
  blk_simp [iblk]
  refine congrArg (V m c main_v3) (funext fun x => Fin.ext ?_)
  match x with
  | ⟨0, _⟩ => exact (Pipeline.Window.rect_emb_val _ t _ 0).trans (by rw [h0]; show 0 * 2816 + a.val = a.val; omega)
  | ⟨1, _⟩ => exact (Pipeline.Window.rect_emb_val _ t _ 1).trans (by rw [h1]; show 0 * 1024 + j.val = j.val; omega)

/-- The blocks of point `t` hold the rows of the point. -/
theorem blocks (t : Fin cfg0.N) : Blocks (argsOf m c) (row t) (iblk m c 0 t) (iblk m c 1 t) (iblk m c 2 t) (iblk m c 3 t) where
  x a j := (iblk_x t a j).trans (congrFun V_arg0 _)
  gain a j := (iblk_gain t a j).trans ((congrFun V_arg1 _).trans (congrArg (argsOf m c).gain (congrArg (fun z => ix2 z j) (Subsingleton.elim a 0))))
  wg f k := (iblk_wg t f k).trans (V_v1 f k)
  wu f k := (iblk_wu t f k).trans (V_v3 f k)

/-! ### The blocks a point leaves -/

theorem whole_x (x : Arr 256 1024) : View.ld (Val := Elt Ideal) (S := S256x1024) (e' := .f32) x r0_0 = x :=
  View.ld_unit_lit (Val := Elt Ideal) (e := .f32) (S := S256x1024) (off := ![0, 0]) inb_S256x1024_S256x1024_0_0 x (Fin.forall_fin_two.mpr ⟨rfl, rfl⟩)
theorem whole_gain (x : Arr 1 1024) : View.ld (Val := Elt Ideal) (S := S1x1024) (e' := .f32) x r0_1 = x :=
  View.ld_unit_lit (Val := Elt Ideal) (e := .f32) (S := S1x1024) (off := ![0, 0]) inb_S1x1024_S1x1024_0_0 x (Fin.forall_fin_two.mpr ⟨rfl, rfl⟩)

theorem blocks_read (t : Fin cfg0.N) : Blocks (argsOf m c) (row t) (View.ld (Val := Elt Ideal) (S := S256x1024) (e' := .f32) (iblk m c 0 t) r0_0)
    (View.ld (Val := Elt Ideal) (S := S1x1024) (e' := .f32) (iblk m c 1 t) r0_1) (iblk m c 2 t) (iblk m c 3 t) :=
  (congrArg₂ (fun x y => Blocks (argsOf m c) (row t) x y (iblk m c 2 t) (iblk m c 3 t)) (whole_x (iblk m c 0 t)) (whole_gain (iblk m c 1 t))).mpr (blocks t)

theorem out_h (t : Fin cfg0.N) (a : Fin 256) (j : Fin 1024) :
    (out0_4 (F := Ideal) (iblk m c 0 t) (iblk m c 1 t) (iblk m c 2 t) (iblk m c 3 t) : Arr 256 1024) (ix2 a j) = (argsOf m c).h (row t a) j := by
  have e : out0_4 (F := Ideal) (iblk m c 0 t) (iblk m c 1 t) (iblk m c 2 t) (iblk m c 3 t) = k0_pay1 (F := Ideal) (iblk m c 0 t) (iblk m c 1 t) := by
    unfold out0_4
    rw [whole_x, whole_gain]
    exact View.canon_cons_unit_lit (Val := Elt Ideal) (e := .bf16) (S := S256x1024) (off := ![0, 0]) inb_S256x1024_S256x1024_0_0 _ [] (Fin.forall_fin_two.mpr ⟨rfl, rfl⟩)
  exact (congrFun e _).trans (h_tile (blocks t) a j)

theorem out_g (t : Fin cfg0.N) (a : Fin 256) (f : Fin 2816) :
    (out0_5 (F := Ideal) (iblk m c 0 t) (iblk m c 1 t) (iblk m c 2 t) (iblk m c 3 t) : Arr 256 2816) (ix2 a f) = (argsOf m c).g (row t a) f := by
  have e : out0_5 (F := Ideal) (iblk m c 0 t) (iblk m c 1 t) (iblk m c 2 t) (iblk m c 3 t) = gBlock (argsOf m c) (row t) :=
    g_canon (wu := iblk m c 3 t) (blocks_read t)
  exact congrFun e _

theorem out_u (t : Fin cfg0.N) (a : Fin 256) (f : Fin 2816) :
    (out0_6 (F := Ideal) (iblk m c 0 t) (iblk m c 1 t) (iblk m c 2 t) (iblk m c 3 t) : Arr 256 2816) (ix2 a f) = (argsOf m c).u (row t a) f := by
  have e : out0_6 (F := Ideal) (iblk m c 0 t) (iblk m c 1 t) (iblk m c 2 t) (iblk m c 3 t) = uBlock (argsOf m c) (row t) :=
    u_canon (wg := iblk m c 2 t) (blocks_read t)
  exact congrFun e _

theorem out_a (t : Fin cfg0.N) (a : Fin 256) (f : Fin 2816) :
    (out0_7 (F := Ideal) (iblk m c 0 t) (iblk m c 1 t) (iblk m c 2 t) (iblk m c 3 t) : Arr 256 2816) (ix2 a f) = (argsOf m c).a (row t a) f := by
  have e : out0_7 (F := Ideal) (iblk m c 0 t) (iblk m c 1 t) (iblk m c 2 t) (iblk m c 3 t) = aBlock (argsOf m c) (row t) :=
    a_canon (blocks_read t)
  exact congrFun e _

/-! ### The arrays -/

/-- The point that holds row `r`, and the row's place in its block. -/
abbrev tileOf (r : Fin 4096) : Fin cfg0.N := ⟨r.val / 256, lt_of_lt_of_eq (by omega) N_0.symm⟩
abbrev inTile (r : Fin 4096) : Fin 256 := ⟨r.val % 256, Nat.mod_lt _ (by decide)⟩

theorem row_tileOf (r : Fin 4096) : row (tileOf r) (inTile r) = r :=
  Fin.ext (by show 256 * (r.val / 256) + r.val % 256 = r.val; omega)

theorem arr_h (r : Fin 4096) (j : Fin 1024) :
    ((dats m 0 c).arrAt 4 cfg0.N : Arr 4096 1024) (ix2 r j) = (argsOf m c).h r j := by
  obtain ⟨h0, h1⟩ := (index_facts (tileOf r)).2.2.2.2.1
  have hf : (cfg0.win 4).flush (tileOf r) = true := (by decide +kernel : ∀ t : Fin cfg0.N, (cfg0.win 4).flush t = true) _
  have e := congrFun (blocks4 m c (tileOf r) hf) (ix2 (inTile r) j)
  rw [flushed4] at e
  refine Eq.trans ?_ (e.trans ?_)
  · refine congrArg ((dats m 0 c).arrAt 4 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_h (tileOf r) (inTile r) j).trans (by rw [row_tileOf])

theorem arr_g (r : Fin 4096) (j : Fin 2816) :
    ((dats m 0 c).arrAt 5 cfg0.N : Arr 4096 2816) (ix2 r j) = (argsOf m c).g r j := by
  obtain ⟨h0, h1⟩ := (index_facts (tileOf r)).2.2.2.2.2.1
  have hf : (cfg0.win 5).flush (tileOf r) = true := (by decide +kernel : ∀ t : Fin cfg0.N, (cfg0.win 5).flush t = true) _
  have e := congrFun (blocks5 m c (tileOf r) hf) (ix2 (inTile r) j)
  rw [flushed5] at e
  refine Eq.trans ?_ (e.trans ?_)
  · refine congrArg ((dats m 0 c).arrAt 5 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 2816 + j.val = j.val; omega)).symm
  · exact (out_g (tileOf r) (inTile r) j).trans (by rw [row_tileOf])

theorem arr_u (r : Fin 4096) (j : Fin 2816) :
    ((dats m 0 c).arrAt 6 cfg0.N : Arr 4096 2816) (ix2 r j) = (argsOf m c).u r j := by
  obtain ⟨h0, h1⟩ := (index_facts (tileOf r)).2.2.2.2.2.2.1
  have hf : (cfg0.win 6).flush (tileOf r) = true := (by decide +kernel : ∀ t : Fin cfg0.N, (cfg0.win 6).flush t = true) _
  have e := congrFun (blocks6 m c (tileOf r) hf) (ix2 (inTile r) j)
  rw [flushed6] at e
  refine Eq.trans ?_ (e.trans ?_)
  · refine congrArg ((dats m 0 c).arrAt 6 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 2816 + j.val = j.val; omega)).symm
  · exact (out_u (tileOf r) (inTile r) j).trans (by rw [row_tileOf])

theorem arr_a (r : Fin 4096) (j : Fin 2816) :
    ((dats m 0 c).arrAt 7 cfg0.N : Arr 4096 2816) (ix2 r j) = (argsOf m c).a r j := by
  obtain ⟨h0, h1⟩ := (index_facts (tileOf r)).2.2.2.2.2.2.2
  have hf : (cfg0.win 7).flush (tileOf r) = true := (by decide +kernel : ∀ t : Fin cfg0.N, (cfg0.win 7).flush t = true) _
  have e := congrFun (blocks7 m c (tileOf r) hf) (ix2 (inTile r) j)
  rw [flushed7] at e
  refine Eq.trans ?_ (e.trans ?_)
  · refine congrArg ((dats m 0 c).arrAt 7 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 2816 + j.val = j.val; omega)).symm
  · exact (out_a (tileOf r) (inTile r) j).trans (by rw [row_tileOf])

end Cert.UpForward

end
-- ==== Proof.UpReference.lean ====
/- What the reference's four results are: the formulas of the module `FfnMath`. -/
module

public import proofs.«01_k».proof.Proof.Gen.UpReferenceIdeal.Read
public import proofs.«01_k».proof.Proof.FfnMath
public import Idealize.ShloMosaic.Lib.IdealHost

@[expose] public section

set_option maxRecDepth 16384

noncomputable section

open Idealize.ShloMosaic Idealize.ShloMosaic.TcCoe Idealize.SL.Sem

namespace Cert.UpForward.Ref

open Cert.UpReferenceIdeal Cert.UpReferenceIdeal.Read
open Cert.Mix (Arr)
open Cert.HeadGrad (ofBits_1024 ofBits_eps)
open Cert.RmsGradient (msE invE)
open Cert.FfnForward (Args)

variable (A : Args)

theorem v6_apply (r : Fin 4096) (z : Fin 1) : val_main_v6 (F := Ideal) A.x (ix2 r z) = msE (A.row r) := by
  unfold val_main_v6 val_main_v4 val_main_v2 val_main_v1 val_main_v0
  pointwise [val_main_v3, val_main_cst_0, val_main_v5, val_main_cst_1, val_main_cst]
  simp only [ofBits_1024, ofBits_eps]
  rfl

theorem v11_apply (r : Fin 4096) (j : Fin 1024) : val_main_v11 (F := Ideal) A.x A.gain (ix2 r j) = A.h r j := by
  have e0 := v6_apply A
  unfold val_main_v11 val_main_v9 val_main_v8 val_main_v7
  generalize val_main_v6 (F := Ideal) A.x = y0 at *
  pointwise [val_main_v10]
  simp only [e0]
  rfl

theorem v12_apply (r : Fin 4096) (f : Fin 2816) : val_main_v12 (F := Ideal) A.x A.gain A.wg (ix2 r f) = A.g r f := by
  have e0 := v11_apply A
  unfold val_main_v12
  generalize val_main_v11 (F := Ideal) A.x A.gain = y0 at *
  pointwise
  simp only [e0]
  rfl

theorem v13_apply (r : Fin 4096) (f : Fin 2816) : val_main_v13 (F := Ideal) A.x A.gain A.wu (ix2 r f) = A.u r f := by
  have e0 := v11_apply A
  unfold val_main_v13
  generalize val_main_v11 (F := Ideal) A.x A.gain = y0 at *
  pointwise
  simp only [e0]
  rfl

theorem v15_apply (r : Fin 4096) (f : Fin 2816) : val_main_v15 (F := Ideal) A.x A.gain A.wg A.wu (ix2 r f) = A.a r f := by
  have e0 := v12_apply A
  have e1 := v13_apply A
  unfold val_main_v15 val_main_v14 val_main_call0_v5 val_main_call0_v3 val_main_call0_v1 val_main_call0_v0
  generalize val_main_v12 (F := Ideal) A.x A.gain A.wg = y0 at *
  generalize val_main_v13 (F := Ideal) A.x A.gain A.wu = y1 at *
  pointwise [val_main_call0_v4, val_main_call0_v2, val_main_call0_cst, val_main_call0_cst_0]
  simp only [e0, e1]
  rfl

theorem v16_apply (r : Fin 4096) (j : Fin 1024) : val_main_v16 (F := Ideal) A.x A.gain (ix2 r j) = A.h r j := by
  have e := v11_apply A
  unfold val_main_v16
  generalize val_main_v11 (F := Ideal) A.x A.gain = y at *
  pointwise
  exact e r j

theorem v17_apply (r : Fin 4096) (f : Fin 2816) : val_main_v17 (F := Ideal) A.x A.gain A.wg (ix2 r f) = A.g r f := by
  have e := v12_apply A
  unfold val_main_v17
  generalize val_main_v12 (F := Ideal) A.x A.gain A.wg = y at *
  pointwise
  exact e r f

theorem v18_apply (r : Fin 4096) (f : Fin 2816) : val_main_v18 (F := Ideal) A.x A.gain A.wu (ix2 r f) = A.u r f := by
  have e := v13_apply A
  unfold val_main_v18
  generalize val_main_v13 (F := Ideal) A.x A.gain A.wu = y at *
  pointwise
  exact e r f

theorem v19_apply (r : Fin 4096) (f : Fin 2816) : val_main_v19 (F := Ideal) A.x A.gain A.wg A.wu (ix2 r f) = A.a r f := by
  have e := v15_apply A
  unfold val_main_v19
  generalize val_main_v15 (F := Ideal) A.x A.gain A.wg A.wu = y at *
  pointwise
  exact e r f

end Cert.UpForward.Ref

end
-- ==== Proof.UpResults.lean ====
/- The four results: the launch's arrays are the reference's. -/
module

public import proofs.«01_k».proof.Proof.UpOutputs
public import proofs.«01_k».proof.Proof.UpReference

@[expose] public section

set_option maxRecDepth 16384

noncomputable section

open Idealize.ShloMosaic Idealize.ShloMosaic.TcCoe Idealize.SL.Sem

namespace Cert.UpForward

open Cert.Mix (Arr)
open Cert.RowSums (ext2)

variable {m : (ℓ : Loc Cert.UpIdeal.nD Cert.UpIdeal.τ Cert.UpIdeal.sig) → Buf (Elt Ideal) ℓ} {c : Dev Cert.UpIdeal.nD}

theorem h_eq : ((Cert.UpIdeal.Gen.dats m 0 c).arrAt 4 Cert.UpIdeal.cfg0.N : Arr 4096 1024)
    = Cert.UpReferenceIdeal.Read.val_main_v16 (F := Ideal) (m (c, Proc.tc.devRef Cert.UpIdeal.main_arg0)) (m (c, Proc.tc.devRef Cert.UpIdeal.main_arg1)) :=
  ext2 fun r j => (arr_h r j).trans (Ref.v16_apply (argsOf m c) r j).symm

theorem g_eq : ((Cert.UpIdeal.Gen.dats m 0 c).arrAt 5 Cert.UpIdeal.cfg0.N : Arr 4096 2816)
    = Cert.UpReferenceIdeal.Read.val_main_v17 (F := Ideal) (m (c, Proc.tc.devRef Cert.UpIdeal.main_arg0)) (m (c, Proc.tc.devRef Cert.UpIdeal.main_arg1)) (m (c, Proc.tc.devRef Cert.UpIdeal.main_arg2)) :=
  ext2 fun r j => (arr_g r j).trans (Ref.v17_apply (argsOf m c) r j).symm

theorem u_eq : ((Cert.UpIdeal.Gen.dats m 0 c).arrAt 6 Cert.UpIdeal.cfg0.N : Arr 4096 2816)
    = Cert.UpReferenceIdeal.Read.val_main_v18 (F := Ideal) (m (c, Proc.tc.devRef Cert.UpIdeal.main_arg0)) (m (c, Proc.tc.devRef Cert.UpIdeal.main_arg1)) (m (c, Proc.tc.devRef Cert.UpIdeal.main_arg3)) :=
  ext2 fun r j => (arr_u r j).trans (Ref.v18_apply (argsOf m c) r j).symm

theorem a_eq : ((Cert.UpIdeal.Gen.dats m 0 c).arrAt 7 Cert.UpIdeal.cfg0.N : Arr 4096 2816)
    = Cert.UpReferenceIdeal.Read.val_main_v19 (F := Ideal) (m (c, Proc.tc.devRef Cert.UpIdeal.main_arg0)) (m (c, Proc.tc.devRef Cert.UpIdeal.main_arg1)) (m (c, Proc.tc.devRef Cert.UpIdeal.main_arg2)) (m (c, Proc.tc.devRef Cert.UpIdeal.main_arg3)) :=
  ext2 fun r j => (arr_a r j).trans (Ref.v19_apply (argsOf m c) r j).symm

end Cert.UpForward

end
-- ==== Proof.DownOutputs.lean ====
/- The down projection's call: what the host hands it, the blocks each grid point reads and leaves, and each row of the output from
   the one point that holds the row. -/
module

public import proofs.«01_k».proof.Proof.Gen.DownIdeal.Value
public import proofs.«01_k».proof.Proof.FfnMath
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal
public import Idealize.ShloMosaic.Lib.IdealHost

@[expose] public section

set_option maxRecDepth 16384

noncomputable section

open Idealize.ShloMosaic Idealize.ShloMosaic.TcCoe Idealize.SL.Sem

namespace Cert.DownForward

open Cert.DownIdeal Cert.DownIdeal.Gen Cert.DownIdeal.Value
open Cert.Mix (Arr)
open Cert.HeadGrad (ofBits_half)
open Cert.FfnForward (down down_congr)

variable (m : (ℓ : Loc nD τ Cert.DownIdeal.sig) → Buf (Elt Ideal) ℓ) (c : Dev nD)

/-- The program's arguments: the block's input, the gated values, the weight. -/
abbrev xOf : Arr 4096 1024 := m (c, Proc.tc.devRef main_arg0)
abbrev aOf : Arr 4096 2816 := m (c, Proc.tc.devRef main_arg1)
abbrev wdOf : Arr 2816 1024 := m (c, Proc.tc.devRef main_arg2)

variable {m c}

theorem V_arg0 : (V m c main_arg0 : Arr 4096 1024) = xOf m c := by
  show _ = m (c, Proc.tc.devRef main_arg0)
  unfold V
  after_reads_simp

set_option maxHeartbeats 1000000 in
theorem V_v0 (r : Fin 4096) (f : Fin 2816) : (V m c main_v0 : Arr 4096 2816) (ix2 r f) = aOf m c (ix2 r f) := by
  unfold V
  after_reads_at

set_option maxHeartbeats 1000000 in
theorem V_v1 (f : Fin 2816) (j : Fin 1024) : (V m c main_v1 : Arr 2816 1024) (ix2 f j) = wdOf m c (ix2 f j) := by
  unfold V
  after_reads_at

/-- Row `a` of the blocks of point `t`. -/
abbrev row (t : Fin cfg0.N) (a : Fin 256) : Fin 4096 := ⟨256 * t.val + a.val, by have := lt_of_lt_of_eq t.isLt N_0; omega⟩

/-- Which block of its array each window holds at a point: the row arrays' blocks follow the point, the others are whole. -/
theorem index_facts : ∀ t : Fin cfg0.N,
    ((cfg0.win 0).index t 0 = t.val ∧ (cfg0.win 0).index t 1 = 0)
    ∧ ((cfg0.win 1).index t 0 = t.val ∧ (cfg0.win 1).index t 1 = 0)
    ∧ ((cfg0.win 2).index t 0 = 0 ∧ (cfg0.win 2).index t 1 = 0)
    ∧ ((cfg0.win 3).index t 0 = t.val ∧ (cfg0.win 3).index t 1 = 0) := by
  decide +kernel

theorem iblk_x (t : Fin cfg0.N) (a : Fin 256) (j : Fin 1024) :
    (iblk m c 0 t : Arr 256 1024) (ix2 a j) = (V m c main_arg0 : Arr 4096 1024) (ix2 (row t a) j) := by
  obtain ⟨h0, h1⟩ := (index_facts t).1
  blk_simp [iblk]
  refine congrArg (V m c main_arg0) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

theorem iblk_a (t : Fin cfg0.N) (a : Fin 256) (j : Fin 2816) :
    (iblk m c 1 t : Arr 256 2816) (ix2 a j) = (V m c main_v0 : Arr 4096 2816) (ix2 (row t a) j) := by
  obtain ⟨h0, h1⟩ := (index_facts t).2.1
  blk_simp [iblk]
  refine congrArg (V m c main_v0) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 2816 + j.val = j.val; omega)

theorem iblk_wd (t : Fin cfg0.N) (a : Fin 2816) (j : Fin 1024) :
    (iblk m c 2 t : Arr 2816 1024) (ix2 a j) = (V m c main_v1 : Arr 2816 1024) (ix2 a j) := by
  obtain ⟨h0, h1⟩ := (index_facts t).2.2.1
  blk_simp [iblk]
  refine congrArg (V m c main_v1) (funext fun x => Fin.ext ?_)
  match x with
  | ⟨0, _⟩ => exact (Pipeline.Window.rect_emb_val _ t _ 0).trans (by rw [h0]; show 0 * 2816 + a.val = a.val; omega)
  | ⟨1, _⟩ => exact (Pipeline.Window.rect_emb_val _ t _ 1).trans (by rw [h1]; show 0 * 1024 + j.val = j.val; omega)

/-! ### The block a point leaves -/

theorem y_tile (x : Arr 256 1024) (a : Arr 256 2816) (wd : Arr 2816 1024) (i : Fin 256) (j : Fin 1024) :
    k0_pay1 (F := Ideal) x a wd (ix2 i j) = down (fun k => x (ix2 i k)) (fun f => a (ix2 i f)) wd j := by
  pointwise [k0_pay1]
  simp only [ofBits_half]
  rfl

theorem whole_x (x : Arr 256 1024) : View.ld (Val := Elt Ideal) (S := S256x1024) (e' := .f32) x r0_0 = x :=
  View.ld_unit_lit (Val := Elt Ideal) (e := .f32) (S := S256x1024) (off := ![0, 0]) inb_S256x1024_S256x1024_0_0 x (Fin.forall_fin_two.mpr ⟨rfl, rfl⟩)
theorem whole_a (x : Arr 256 2816) : View.ld (Val := Elt Ideal) (S := S256x2816) (e' := .bf16) x r0_1 = x :=
  View.ld_unit_lit (Val := Elt Ideal) (e := .bf16) (S := S256x2816) (off := ![0, 0]) inb_S256x2816_S256x2816_0_0 x (Fin.forall_fin_two.mpr ⟨rfl, rfl⟩)
theorem whole_wd (x : Arr 2816 1024) : View.ld (Val := Elt Ideal) (S := S2816x1024) (e' := .bf16) x r0_2 = x :=
  View.ld_unit_lit (Val := Elt Ideal) (e := .bf16) (S := S2816x1024) (off := ![0, 0]) inb_S2816x1024_S2816x1024_0_0 x (Fin.forall_fin_two.mpr ⟨rfl, rfl⟩)

theorem out_y (t : Fin cfg0.N) (a : Fin 256) (j : Fin 1024) : (out0_3 (F := Ideal) (iblk m c 0 t) (iblk m c 1 t) (iblk m c 2 t) : Arr 256 1024) (ix2 a j)
    = down (fun k => xOf m c (ix2 (row t a) k)) (fun f => aOf m c (ix2 (row t a) f)) (wdOf m c) j := by
  have e : out0_3 (F := Ideal) (iblk m c 0 t) (iblk m c 1 t) (iblk m c 2 t) = k0_pay1 (F := Ideal) (iblk m c 0 t) (iblk m c 1 t) (iblk m c 2 t) := by
    unfold out0_3
    rw [whole_x, whole_a, whole_wd]
    exact View.canon_cons_unit_lit (Val := Elt Ideal) (e := .f32) (S := S256x1024) (off := ![0, 0]) inb_S256x1024_S256x1024_0_0 _ [] (Fin.forall_fin_two.mpr ⟨rfl, rfl⟩)
  exact (congrFun e _).trans ((y_tile _ _ _ a j).trans (down_congr (fun k => (iblk_x t a k).trans (congrFun V_arg0 _))
    (fun f => (iblk_a t a f).trans (V_v0 _ f)) (fun f k => (iblk_wd t f k).trans (V_v1 f k)) j))

/-! ### The array -/

/-- The point that holds row `r`, and the row's place in its block. -/
abbrev tileOf (r : Fin 4096) : Fin cfg0.N := ⟨r.val / 256, lt_of_lt_of_eq (by omega) N_0.symm⟩
abbrev inTile (r : Fin 4096) : Fin 256 := ⟨r.val % 256, Nat.mod_lt _ (by decide)⟩

theorem row_tileOf (r : Fin 4096) : row (tileOf r) (inTile r) = r :=
  Fin.ext (by show 256 * (r.val / 256) + r.val % 256 = r.val; omega)

theorem arr_y (r : Fin 4096) (j : Fin 1024) :
    ((dats m 0 c).arrAt 3 cfg0.N : Arr 4096 1024) (ix2 r j) = down (fun k => xOf m c (ix2 r k)) (fun f => aOf m c (ix2 r f)) (wdOf m c) j := by
  obtain ⟨h0, h1⟩ := (index_facts (tileOf r)).2.2.2
  have hf : (cfg0.win 3).flush (tileOf r) = true := (by decide +kernel : ∀ t : Fin cfg0.N, (cfg0.win 3).flush t = true) _
  have e := congrFun (blocks3 m c (tileOf r) hf) (ix2 (inTile r) j)
  rw [flushed3] at e
  refine Eq.trans ?_ (e.trans ?_)
  · refine congrArg ((dats m 0 c).arrAt 3 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_y (tileOf r) (inTile r) j).trans (by rw [row_tileOf])

end Cert.DownForward

end
-- ==== Proof.DownResults.lean ====
/- The down projection's result: the launch's array is the reference's. -/
module

public import proofs.«01_k».proof.Proof.DownOutputs
public import proofs.«01_k».proof.Proof.Gen.DownReferenceIdeal.Read
public import Idealize.ShloMosaic.Lib.IdealHost

@[expose] public section

set_option maxRecDepth 16384

noncomputable section

open Idealize.ShloMosaic Idealize.ShloMosaic.TcCoe Idealize.SL.Sem

namespace Cert.DownForward

open Cert.Mix (Arr)
open Cert.RowSums (ext2)
open Cert.FfnForward (down)
open Cert.HeadGrad (ofBits_half)

section Reference
open Cert.DownReferenceIdeal Cert.DownReferenceIdeal.Read

theorem v3_apply (x : Arr 4096 1024) (a : Arr 4096 2816) (wd : Arr 2816 1024) (r : Fin 4096) (j : Fin 1024) :
    val_main_v3 (F := Ideal) x a wd (ix2 r j) = down (fun k => x (ix2 r k)) (fun f => a (ix2 r f)) wd j := by
  unfold val_main_v3 val_main_v2 val_main_v0
  pointwise [val_main_v1, val_main_cst]
  simp only [ofBits_half]
  rfl

end Reference

variable {m : (ℓ : Loc Cert.DownIdeal.nD Cert.DownIdeal.τ Cert.DownIdeal.sig) → Buf (Elt Ideal) ℓ} {c : Dev Cert.DownIdeal.nD}

theorem y_eq : ((Cert.DownIdeal.Gen.dats m 0 c).arrAt 3 Cert.DownIdeal.cfg0.N : Arr 4096 1024)
    = Cert.DownReferenceIdeal.Read.val_main_v3 (F := Ideal) (m (c, Proc.tc.devRef Cert.DownIdeal.main_arg0)) (m (c, Proc.tc.devRef Cert.DownIdeal.main_arg1)) (m (c, Proc.tc.devRef Cert.DownIdeal.main_arg2)) :=
  ext2 fun r j => (arr_y r j).trans (v3_apply _ _ _ r j).symm

end Cert.DownForward

end
-- ==== Proof.ProjBackMath.lean ====
/- The gradient of the input projection's input, written as plain sums: from the six pieces of the product's gradient back through the
   weight to the normalised row, then through `x/rms(x)·gain`, to which the gradient `d` that comes in beside the product is added. No
   program is mentioned here. -/
module

public import proofs.«01_k».proof.Proof.RowSums
public import proofs.«01_k».proof.Proof.RmsGradient

@[expose] public section

set_option maxRecDepth 16384

noncomputable section

open Idealize.ShloMosaic

namespace Cert.ProjBackward

open Cert.Mix (Arr)
open Cert.RmsGradient (invE backE)

/-- The arguments: the gradient that comes in beside the product, the input, its gain, the six pieces of the product's gradient, the
    weight. -/
structure Args where
  d : Arr 4096 1024
  x : Arr 4096 1024
  gain : Arr 1 1024
  qa : Arr 4096 512
  ka : Arr 4096 512
  va : Arr 4096 512
  qb : Arr 4096 512
  kvb : Arr 4096 256
  gates : Arr 4096 2048
  w : Arr 1024 4352

variable (A : Args)

/-- Row `r` of the input. -/
def Args.row (r : Fin 4096) (j : Fin 1024) : EReal := A.x (ix2 r j)
/-- The gradient of the normalised input, piece by piece. -/
def Args.dh (r : Fin 4096) (k : Fin 1024) : EReal :=
  (∑ f : Fin 512, A.qa (ix2 r f) * A.w (ix2 k ⟨0 + f.val, by omega⟩))
      + (∑ f : Fin 512, A.ka (ix2 r f) * A.w (ix2 k ⟨512 + f.val, by omega⟩))
      + (∑ f : Fin 512, A.va (ix2 r f) * A.w (ix2 k ⟨1024 + f.val, by omega⟩))
      + (∑ f : Fin 512, A.qb (ix2 r f) * A.w (ix2 k ⟨1536 + f.val, by omega⟩))
      + (∑ f : Fin 256, A.kvb (ix2 r f) * A.w (ix2 k ⟨2048 + f.val, by omega⟩))
      + (∑ f : Fin 2048, A.gates (ix2 r f) * A.w (ix2 k ⟨2304 + f.val, by omega⟩))
/-- The gradient of the input's row over its root mean square. -/
def Args.dxh (r : Fin 4096) (k : Fin 1024) : EReal := A.dh r k * A.gain (ix2 0 k)
/-- The gradient of the input. -/
def Args.dx (r : Fin 4096) (i : Fin 1024) : EReal := A.d (ix2 r i) + backE (A.row r) (A.dxh r) i
/-- Half of it, the gradient of the block before. -/
def Args.dz (r : Fin 4096) (i : Fin 1024) : EReal := ((1 / 2 : ℝ) : EReal) * A.dx r i
/-- What row `r` adds to the gain's gradient. -/
def Args.gainTerm (r : Fin 4096) (i : Fin 1024) : EReal := A.dh r i * (A.row r i * invE (A.row r))

/-- A row array of one row has the one row. -/
theorem gain_row (y : Arr 1 1024) (z : Fin 1) (j : Fin 1024) : y (ix2 z j) = y (ix2 0 j) := by rw [Subsingleton.elim z 0]

/-- A sum over the joined pieces is the sum of the pieces' sums. -/
theorem sum_pieces (G : Fin 4352 → EReal) :
    ∑ f, G f = (∑ f : Fin 512, G ⟨0 + f.val, by omega⟩) + (∑ f : Fin 512, G ⟨512 + f.val, by omega⟩) + (∑ f : Fin 512, G ⟨1024 + f.val, by omega⟩) + (∑ f : Fin 512, G ⟨1536 + f.val, by omega⟩) + (∑ f : Fin 256, G ⟨2048 + f.val, by omega⟩) + (∑ f : Fin 2048, G ⟨2304 + f.val, by omega⟩) := by
  refine (Fin.sum_univ_add (a := 2304) (b := 2048) G).trans (congrArg₂ (· + ·) ?_ rfl)
  refine (Fin.sum_univ_add (a := 2048) (b := 256) _).trans (congrArg₂ (· + ·) ?_ rfl)
  refine (Fin.sum_univ_add (a := 1536) (b := 512) _).trans (congrArg₂ (· + ·) ?_ rfl)
  refine (Fin.sum_univ_add (a := 1024) (b := 512) _).trans (congrArg₂ (· + ·) ?_ rfl)
  refine (Fin.sum_univ_add (a := 512) (b := 512) _).trans (congrArg₂ (· + ·) ?_ rfl)
  exact Finset.sum_congr rfl fun f _ => congrArg G (Fin.ext (Nat.zero_add _).symm)

end Cert.ProjBackward

end
-- ==== Proof.ProjBackTile.lean ====
/- One grid point of the call, on its blocks: `R a` is the row of the whole arrays that row `a` of the point's blocks holds.
   Each value the body computes is the formula of the module `ProjBackMath` at row `R a`. -/
module

public import proofs.«01_k».proof.Proof.Gen.ProjBackIdeal.Skeleton
public import proofs.«01_k».proof.Proof.ProjBackMath
public import Idealize.ShloMosaic.Lib.Pipeline.ReadBack
public import Idealize.ShloMosaic.Lib.Pipeline.ValueKit
public import Idealize.ShloMosaic.Lib.IdealHost

@[expose] public section

set_option maxRecDepth 16384

noncomputable section

open Idealize.ShloMosaic Idealize.ShloMosaic.TcCoe

namespace Cert.ProjBackward

open Cert.ProjBackIdeal Cert.ProjBackIdeal.Gen
open Cert.Mix (Arr)
open Cert.RowSums (part part_of)
open Cert.HeadGrad (ofBits_1024 ofBits_eps ofBits_half)
open Cert.RmsGradient (msE invE backE)

/-- The blocks of one point: rows `R a` of the row arrays, the gain, and for each piece the rows of the transposed weight it meets. -/
structure Blocks (A : Args) (R : Fin 256 → Fin 4096) (d x : Arr 256 1024) (gain : Arr 1 1024) (qa ka va qb : Arr 256 512) (kvb : Arr 256 256) (gates : Arr 256 2048)
    (wqa wka wva wqb : Arr 512 1024) (wkvb : Arr 256 1024) (wgates : Arr 2048 1024) : Prop where
  d : ∀ a j, d (ix2 a j) = A.d (ix2 (R a) j)
  x : ∀ a j, x (ix2 a j) = A.x (ix2 (R a) j)
  gain : ∀ a j, gain (ix2 a j) = A.gain (ix2 0 j)
  qa : ∀ a f, qa (ix2 a f) = A.qa (ix2 (R a) f)
  ka : ∀ a f, ka (ix2 a f) = A.ka (ix2 (R a) f)
  va : ∀ a f, va (ix2 a f) = A.va (ix2 (R a) f)
  qb : ∀ a f, qb (ix2 a f) = A.qb (ix2 (R a) f)
  kvb : ∀ a f, kvb (ix2 a f) = A.kvb (ix2 (R a) f)
  gates : ∀ a f, gates (ix2 a f) = A.gates (ix2 (R a) f)
  wqa : ∀ (f : Fin 512) k, wqa (ix2 f k) = A.w (ix2 k ⟨0 + f.val, by omega⟩)
  wka : ∀ (f : Fin 512) k, wka (ix2 f k) = A.w (ix2 k ⟨512 + f.val, by omega⟩)
  wva : ∀ (f : Fin 512) k, wva (ix2 f k) = A.w (ix2 k ⟨1024 + f.val, by omega⟩)
  wqb : ∀ (f : Fin 512) k, wqb (ix2 f k) = A.w (ix2 k ⟨1536 + f.val, by omega⟩)
  wkvb : ∀ (f : Fin 256) k, wkvb (ix2 f k) = A.w (ix2 k ⟨2048 + f.val, by omega⟩)
  wgates : ∀ (f : Fin 2048) k, wgates (ix2 f k) = A.w (ix2 k ⟨2304 + f.val, by omega⟩)

variable {A : Args} {R : Fin 256 → Fin 4096} {d x : Arr 256 1024} {gain : Arr 1 1024} {qa ka va qb : Arr 256 512} {kvb : Arr 256 256} {gates : Arr 256 2048}
    {wqa wka wva wqb : Arr 512 1024} {wkvb : Arr 256 1024} {wgates : Arr 2048 1024}

set_option maxHeartbeats 1000000 in
theorem sum_tile (B : Blocks A R d x gain qa ka va qb kvb gates wqa wka wva wqb wkvb wgates) (a : Fin 256) (k : Fin 1024) :
    k0_pay3 (F := Ideal) qa wqa ka wka va wva qb wqb kvb wkvb (ix2 a k) + ∑ f : Fin 2048, gates (ix2 a f) * wgates (ix2 f k) = A.dh (R a) k := by
  pointwise [k0_pay3]
  simp only [B.qa, B.wqa, B.ka, B.wka, B.va, B.wva, B.qb, B.wqb, B.kvb, B.wkvb, B.gates, B.wgates]
  rfl

theorem dh_tile (B : Blocks A R d x gain qa ka va qb kvb gates wqa wka wva wqb wkvb wgates) (a : Fin 256) (k : Fin 1024) :
    k0_pay5 (F := Ideal) (k0_pay3 (F := Ideal) qa wqa ka wka va wva qb wqb kvb wkvb) (k0_pay4 (F := Ideal) gates) wgates (ix2 a k) = A.dh (R a) k := by
  have e := sum_tile B
  generalize k0_pay3 (F := Ideal) qa wqa ka wka va wva qb wqb kvb wkvb = v at *
  refine Eq.trans ?_ (e a k)
  pointwise [k0_pay5, k0_pay4]

theorem inv_x (B : Blocks A R d x gain qa ka va qb kvb gates wqa wka wva wqb wkvb wgates) (a : Fin 256) (z : Fin 1) :
    k0_pay6 (F := Ideal) x (ix2 a z) = invE (A.row (R a)) := by
  have e := B.x
  pointwise [k0_pay6]
  simp only [e, ofBits_1024, ofBits_eps]
  rfl

theorem unit_x (B : Blocks A R d x gain qa ka va qb kvb gates wqa wka wva wqb wkvb wgates) (a : Fin 256) (j : Fin 1024) :
    k0_pay7 (F := Ideal) x (ix2 a j) = A.row (R a) j * invE (A.row (R a)) := by
  have e := B.x
  have e1 := inv_x B
  unfold k0_pay7
  generalize k0_pay6 (F := Ideal) x = v at *
  pointwise
  simp only [e, e1]
  rfl

theorem dx_tile (B : Blocks A R d x gain qa ka va qb kvb gates wqa wka wva wqb wkvb wgates) (a : Fin 256) (j : Fin 1024) :
    k0_pay9 (F := Ideal) (k0_pay3 (F := Ideal) qa wqa ka wka va wva qb wqb kvb wkvb) (k0_pay4 (F := Ideal) gates) wgates x gain d (ix2 a j) = A.dx (R a) j := by
  have e1 := inv_x B
  have e2 := unit_x B
  have e3 := dh_tile B
  unfold k0_pay9
  generalize k0_pay6 (F := Ideal) x = v1 at *
  generalize k0_pay7 (F := Ideal) x = v2 at *
  generalize k0_pay5 (F := Ideal) (k0_pay3 (F := Ideal) qa wqa ka wka va wva qb wqb kvb wkvb) (k0_pay4 (F := Ideal) gates) wgates = v3 at *
  pointwise
  simp only [e1, e2, e3, B.gain, B.d, ofBits_1024]
  rfl

theorem dz_tile (B : Blocks A R d x gain qa ka va qb kvb gates wqa wka wva wqb wkvb wgates) (a : Fin 256) (j : Fin 1024) :
    k0_pay10 (F := Ideal) (k0_pay3 (F := Ideal) qa wqa ka wka va wva qb wqb kvb wkvb) (k0_pay4 (F := Ideal) gates) wgates x gain d (ix2 a j) = A.dz (R a) j := by
  have e2 := dx_tile B
  unfold k0_pay10
  generalize k0_pay9 (F := Ideal) (k0_pay3 (F := Ideal) qa wqa ka wka va wva qb wqb kvb wkvb) (k0_pay4 (F := Ideal) gates) wgates x gain d = v2 at *
  pointwise
  simp only [e2, ofBits_half]
  rfl

theorem gain_tile (B : Blocks A R d x gain qa ka va qb kvb gates wqa wka wva wqb wkvb wgates) (q : Fin 8) (i : Fin 1024) :
    k0_pay8 (F := Ideal) (k0_pay3 (F := Ideal) qa wqa ka wka va wva qb wqb kvb wkvb) (k0_pay4 (F := Ideal) gates) wgates x (ix2 q i) = part R A.gainTerm q i := by
  have e2 := unit_x B
  have e3 := dh_tile B
  unfold k0_pay8
  generalize k0_pay7 (F := Ideal) x = v2 at *
  generalize k0_pay5 (F := Ideal) (k0_pay3 (F := Ideal) qa wqa ka wka va wva qb wqb kvb wkvb) (k0_pay4 (F := Ideal) gates) wgates = v3 at *
  have e : ∀ a j, mulf (F := Ideal) v3 v2 (ix2 a j) = A.gainTerm (R a) j := by
    intro a j
    pointwise
    simp only [e2, e3]
    rfl
  generalize mulf (F := Ideal) v3 v2 = v at *
  pointwise
  exact part_of _ v e q i _

theorem add_gain (v w : Arr 8 1024) (q : Fin 8) (i : Fin 1024) :
    k0_pay2 (F := Ideal) v w (ix2 q i) = w (ix2 q i) + v (ix2 q i) := by
  pointwise [k0_pay2]

theorem zero_gain (q : Fin 8) (i : Fin 1024) : (k0_pay1 (F := Ideal) : Arr 8 1024) (ix2 q i) = (0 : EReal) := by
  pointwise [k0_pay1]

/-! ### The rows of the weight that meet one piece -/

section Rows
variable (o n : ℕ) (hw : ∀ a, (![o, 0] : Fin 2 → Nat) a + (⟨2, ![n, 1024]⟩ : Shape).size a ≤ S4352x1024.size a)

theorem row_lt (hw : ∀ a, (![o, 0] : Fin 2 → Nat) a + (⟨2, ![n, 1024]⟩ : Shape).size a ≤ S4352x1024.size a) (k : Fin n) : o + k.val < 4352 := by
  have : o + n ≤ 4352 := hw 0
  omega

/-- Rows `o … o + n - 1` of the weight. -/
abbrev wrows (v : Arr 4352 1024) : FVec Ideal (⟨2, ![n, 1024]⟩ : Shape) .bf16 :=
  View.ld (Val := Elt Ideal) (S := S4352x1024) (e' := .bf16) v (Rect.unit (s := S4352x1024) ![o, 0] (⟨2, ![n, 1024]⟩ : Shape).size hw)

theorem emb_wrows (k : Fin n) (j : Fin 1024) :
    (Rect.unit (s := S4352x1024) ![o, 0] (⟨2, ![n, 1024]⟩ : Shape).size hw).emb (ix2 k j) = ix2 ⟨o + k.val, row_lt o n hw k⟩ j := by
  funext z
  refine Fin.ext ?_
  rw [Rect.emb_apply]
  match z with
  | ⟨0, _⟩ => show o + 1 * k.val = o + k.val; omega
  | ⟨1, _⟩ => show 0 + 1 * j.val = j.val; omega

theorem rows_apply (v : Arr 4352 1024) (k : Fin n) (j : Fin 1024) : wrows o n hw v (ix2 k j) = v (ix2 ⟨o + k.val, row_lt o n hw k⟩ j) :=
  congrArg v (emb_wrows o n hw k j)

end Rows

end Cert.ProjBackward

end
-- ==== Proof.ProjBackBlocks.lean ====
/- What the host hands the call, and the blocks of it that each grid point reads, the blocks of the module
   `ProjBackTile` at the rows of the point. -/
module

public import proofs.«01_k».proof.Proof.Gen.ProjBackIdeal.Value
public import proofs.«01_k».proof.Proof.ProjBackTile
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.ProjBackward

open Cert.ProjBackIdeal Cert.ProjBackIdeal.Gen Cert.ProjBackIdeal.Value
open Cert.Mix (Arr)

variable (m : (ℓ : Loc nD τ Cert.ProjBackIdeal.sig) → Buf (Elt Ideal) ℓ) (c : Dev nD)

/-- The program's arguments on device `c`. -/
def argsOf : Args where
  d := m (c, Proc.tc.devRef main_arg0)
  x := m (c, Proc.tc.devRef main_arg1)
  gain := m (c, Proc.tc.devRef main_arg2)
  qa := m (c, Proc.tc.devRef main_arg3)
  ka := m (c, Proc.tc.devRef main_arg4)
  va := m (c, Proc.tc.devRef main_arg5)
  qb := m (c, Proc.tc.devRef main_arg6)
  kvb := m (c, Proc.tc.devRef main_arg7)
  gates := m (c, Proc.tc.devRef main_arg8)
  w := m (c, Proc.tc.devRef main_arg9)

variable {m c}

theorem V_arg0 : (V m c main_arg0 : Arr 4096 1024) = (argsOf m c).d := by
  show _ = m (c, Proc.tc.devRef main_arg0)
  unfold V
  after_reads_simp

theorem V_arg1 : (V m c main_arg1 : Arr 4096 1024) = (argsOf m c).x := by
  show _ = m (c, Proc.tc.devRef main_arg1)
  unfold V
  after_reads_simp

theorem V_arg2 : (V m c main_arg2 : Arr 1 1024) = (argsOf m c).gain := by
  show _ = m (c, Proc.tc.devRef main_arg2)
  unfold V
  after_reads_simp

set_option maxHeartbeats 1000000 in
theorem V_v0 (r : Fin 4096) (f : Fin 512) : (V m c main_v0 : Arr 4096 512) (ix2 r f) = (argsOf m c).qa (ix2 r f) := by
  show _ = (m (c, Proc.tc.devRef main_arg3) : Arr 4096 512) (ix2 r f)
  unfold V
  after_reads_at

set_option maxHeartbeats 1000000 in
theorem V_v1 (r : Fin 4096) (f : Fin 512) : (V m c main_v1 : Arr 4096 512) (ix2 r f) = (argsOf m c).ka (ix2 r f) := by
  show _ = (m (c, Proc.tc.devRef main_arg4) : Arr 4096 512) (ix2 r f)
  unfold V
  after_reads_at

set_option maxHeartbeats 1000000 in
theorem V_v2 (r : Fin 4096) (f : Fin 512) : (V m c main_v2 : Arr 4096 512) (ix2 r f) = (argsOf m c).va (ix2 r f) := by
  show _ = (m (c, Proc.tc.devRef main_arg5) : Arr 4096 512) (ix2 r f)
  unfold V
  after_reads_at

set_option maxHeartbeats 1000000 in
theorem V_v3 (r : Fin 4096) (f : Fin 512) : (V m c main_v3 : Arr 4096 512) (ix2 r f) = (argsOf m c).qb (ix2 r f) := by
  show _ = (m (c, Proc.tc.devRef main_arg6) : Arr 4096 512) (ix2 r f)
  unfold V
  after_reads_at

set_option maxHeartbeats 1000000 in
theorem V_v4 (r : Fin 4096) (f : Fin 256) : (V m c main_v4 : Arr 4096 256) (ix2 r f) = (argsOf m c).kvb (ix2 r f) := by
  show _ = (m (c, Proc.tc.devRef main_arg7) : Arr 4096 256) (ix2 r f)
  unfold V
  after_reads_at

set_option maxHeartbeats 1000000 in
theorem V_v5 (r : Fin 4096) (f : Fin 2048) : (V m c main_v5 : Arr 4096 2048) (ix2 r f) = (argsOf m c).gates (ix2 r f) := by
  show _ = (m (c, Proc.tc.devRef main_arg8) : Arr 4096 2048) (ix2 r f)
  unfold V
  after_reads_at

set_option maxHeartbeats 1000000 in
theorem V_v7 (f : Fin 4352) (k : Fin 1024) : (V m c main_v7 : Arr 4352 1024) (ix2 f k) = (argsOf m c).w (ix2 k f) := by
  show _ = (m (c, Proc.tc.devRef main_arg9) : Arr 1024 4352) (ix2 k f)
  unfold V
  after_reads_at

/-- Row `a` of the blocks of point `t`. -/
abbrev row (t : Fin cfg0.N) (a : Fin 256) : Fin 4096 := ⟨256 * t.val + a.val, by have := lt_of_lt_of_eq t.isLt N_0; omega⟩

/-- Which block of its array each window holds at a point: the row arrays' blocks follow the point, the others are whole. -/
theorem index_facts : ∀ t : Fin cfg0.N,
    ((cfg0.win 0).index t 0 = t.val ∧ (cfg0.win 0).index t 1 = 0)
    ∧ ((cfg0.win 1).index t 0 = t.val ∧ (cfg0.win 1).index t 1 = 0)
    ∧ ((cfg0.win 2).index t 0 = 0 ∧ (cfg0.win 2).index t 1 = 0)
    ∧ ((cfg0.win 3).index t 0 = t.val ∧ (cfg0.win 3).index t 1 = 0)
    ∧ ((cfg0.win 4).index t 0 = t.val ∧ (cfg0.win 4).index t 1 = 0)
    ∧ ((cfg0.win 5).index t 0 = t.val ∧ (cfg0.win 5).index t 1 = 0)
    ∧ ((cfg0.win 6).index t 0 = t.val ∧ (cfg0.win 6).index t 1 = 0)
    ∧ ((cfg0.win 7).index t 0 = t.val ∧ (cfg0.win 7).index t 1 = 0)
    ∧ ((cfg0.win 8).index t 0 = t.val ∧ (cfg0.win 8).index t 1 = 0)
    ∧ ((cfg0.win 9).index t 0 = 0 ∧ (cfg0.win 9).index t 1 = 0) := by
  decide +kernel

theorem iblk_d (t : Fin cfg0.N) (a : Fin 256) (j : Fin 1024) :
    (iblk m c 0 t : Arr 256 1024) (ix2 a j) = (V m c main_arg0 : Arr 4096 1024) (ix2 (row t a) j) := by
  obtain ⟨h0, h1⟩ := (index_facts t).1
  blk_simp [iblk]
  refine congrArg (V m c main_arg0) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

theorem iblk_x (t : Fin cfg0.N) (a : Fin 256) (j : Fin 1024) :
    (iblk m c 1 t : Arr 256 1024) (ix2 a j) = (V m c main_arg1 : Arr 4096 1024) (ix2 (row t a) j) := by
  obtain ⟨h0, h1⟩ := (index_facts t).2.1
  blk_simp [iblk]
  refine congrArg (V m c main_arg1) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

theorem iblk_gain (t : Fin cfg0.N) (a : Fin 1) (j : Fin 1024) :
    (iblk m c 2 t : Arr 1 1024) (ix2 a j) = (V m c main_arg2 : Arr 1 1024) (ix2 a j) := by
  obtain ⟨h0, h1⟩ := (index_facts t).2.2.1
  blk_simp [iblk]
  refine congrArg (V m c main_arg2) (funext fun x => Fin.ext ?_)
  match x with
  | ⟨0, _⟩ => exact (Pipeline.Window.rect_emb_val _ t _ 0).trans (by rw [h0]; show 0 * 1 + a.val = a.val; omega)
  | ⟨1, _⟩ => exact (Pipeline.Window.rect_emb_val _ t _ 1).trans (by rw [h1]; show 0 * 1024 + j.val = j.val; omega)

theorem iblk_qa (t : Fin cfg0.N) (a : Fin 256) (j : Fin 512) :
    (iblk m c 3 t : Arr 256 512) (ix2 a j) = (V m c main_v0 : Arr 4096 512) (ix2 (row t a) j) := by
  obtain ⟨h0, h1⟩ := (index_facts t).2.2.2.1
  blk_simp [iblk]
  refine congrArg (V m c main_v0) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 512 + j.val = j.val; omega)

theorem iblk_ka (t : Fin cfg0.N) (a : Fin 256) (j : Fin 512) :
    (iblk m c 4 t : Arr 256 512) (ix2 a j) = (V m c main_v1 : Arr 4096 512) (ix2 (row t a) j) := by
  obtain ⟨h0, h1⟩ := (index_facts t).2.2.2.2.1
  blk_simp [iblk]
  refine congrArg (V m c main_v1) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 512 + j.val = j.val; omega)

theorem iblk_va (t : Fin cfg0.N) (a : Fin 256) (j : Fin 512) :
    (iblk m c 5 t : Arr 256 512) (ix2 a j) = (V m c main_v2 : Arr 4096 512) (ix2 (row t a) j) := by
  obtain ⟨h0, h1⟩ := (index_facts t).2.2.2.2.2.1
  blk_simp [iblk]
  refine congrArg (V m c main_v2) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 512 + j.val = j.val; omega)

theorem iblk_qb (t : Fin cfg0.N) (a : Fin 256) (j : Fin 512) :
    (iblk m c 6 t : Arr 256 512) (ix2 a j) = (V m c main_v3 : Arr 4096 512) (ix2 (row t a) j) := by
  obtain ⟨h0, h1⟩ := (index_facts t).2.2.2.2.2.2.1
  blk_simp [iblk]
  refine congrArg (V m c main_v3) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 512 + j.val = j.val; omega)

theorem iblk_kvb (t : Fin cfg0.N) (a : Fin 256) (j : Fin 256) :
    (iblk m c 7 t : Arr 256 256) (ix2 a j) = (V m c main_v4 : Arr 4096 256) (ix2 (row t a) j) := by
  obtain ⟨h0, h1⟩ := (index_facts t).2.2.2.2.2.2.2.1
  blk_simp [iblk]
  refine congrArg (V m c main_v4) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 256 + j.val = j.val; omega)

theorem iblk_gates (t : Fin cfg0.N) (a : Fin 256) (j : Fin 2048) :
    (iblk m c 8 t : Arr 256 2048) (ix2 a j) = (V m c main_v5 : Arr 4096 2048) (ix2 (row t a) j) := by
  obtain ⟨h0, h1⟩ := (index_facts t).2.2.2.2.2.2.2.2.1
  blk_simp [iblk]
  refine congrArg (V m c main_v5) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 2048 + j.val = j.val; omega)

theorem iblk_w (t : Fin cfg0.N) (a : Fin 4352) (j : Fin 1024) :
    (iblk m c 9 t : Arr 4352 1024) (ix2 a j) = (V m c main_v7 : Arr 4352 1024) (ix2 a j) := by
  obtain ⟨h0, h1⟩ := (index_facts t).2.2.2.2.2.2.2.2.2
  blk_simp [iblk]
  refine congrArg (V m c main_v7) (funext fun x => Fin.ext ?_)
  match x with
  | ⟨0, _⟩ => exact (Pipeline.Window.rect_emb_val _ t _ 0).trans (by rw [h0]; show 0 * 4352 + a.val = a.val; omega)
  | ⟨1, _⟩ => exact (Pipeline.Window.rect_emb_val _ t _ 1).trans (by rw [h1]; show 0 * 1024 + j.val = j.val; omega)

/-- The blocks of point `t` hold the rows of the point. -/
theorem blocks (t : Fin cfg0.N) :
    Blocks (argsOf m c) (row t) (iblk m c 0 t) (iblk m c 1 t) (iblk m c 2 t) (iblk m c 3 t) (iblk m c 4 t) (iblk m c 5 t) (iblk m c 6 t) (iblk m c 7 t) (iblk m c 8 t)
      (wrows 0 512 inb_S4352x1024_S512x1024_0_0 (iblk m c 9 t)) (wrows 512 512 inb_S4352x1024_S512x1024_512_0 (iblk m c 9 t)) (wrows 1024 512 inb_S4352x1024_S512x1024_1024_0 (iblk m c 9 t)) (wrows 1536 512 inb_S4352x1024_S512x1024_1536_0 (iblk m c 9 t)) (wrows 2048 256 inb_S4352x1024_S256x1024_2048_0 (iblk m c 9 t)) (wrows 2304 2048 inb_S4352x1024_S2048x1024_2304_0 (iblk m c 9 t)) where
  d a j := (iblk_d t a j).trans (congrFun V_arg0 _)
  x a j := (iblk_x t a j).trans (congrFun V_arg1 _)
  gain a j := ((iblk_gain t a j).trans (congrFun V_arg2 _)).trans (gain_row _ a j)
  qa a f := (iblk_qa t a f).trans (V_v0 _ _)
  ka a f := (iblk_ka t a f).trans (V_v1 _ _)
  va a f := (iblk_va t a f).trans (V_v2 _ _)
  qb a f := (iblk_qb t a f).trans (V_v3 _ _)
  kvb a f := (iblk_kvb t a f).trans (V_v4 _ _)
  gates a f := (iblk_gates t a f).trans (V_v5 _ _)
  wqa f k := (rows_apply 0 512 _ _ f k).trans ((iblk_w t _ k).trans (V_v7 _ _))
  wka f k := (rows_apply 512 512 _ _ f k).trans ((iblk_w t _ k).trans (V_v7 _ _))
  wva f k := (rows_apply 1024 512 _ _ f k).trans ((iblk_w t _ k).trans (V_v7 _ _))
  wqb f k := (rows_apply 1536 512 _ _ f k).trans ((iblk_w t _ k).trans (V_v7 _ _))
  wkvb f k := (rows_apply 2048 256 _ _ f k).trans ((iblk_w t _ k).trans (V_v7 _ _))
  wgates f k := (rows_apply 2304 2048 _ _ f k).trans ((iblk_w t _ k).trans (V_v7 _ _))

end Cert.ProjBackward

end
-- ==== Proof.ProjBackOutputs.lean ====
/- The arrays the call leaves: each row of the input's gradient, and of half of it, comes from the one point that holds the row; the
   sums over the rows grow from point to point and are written back after the last. -/
module

public import proofs.«01_k».proof.Proof.ProjBackBlocks
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.ProjBackward

open Cert.ProjBackIdeal Cert.ProjBackIdeal.Gen Cert.ProjBackIdeal.Value
open Cert.Mix (Arr)
open Cert.RowSums (part slot atRow sum_step slot_eq)

variable {m : (ℓ : Loc nD τ Cert.ProjBackIdeal.sig) → Buf (Elt Ideal) ℓ} {c : Dev nD}

/-! ### The blocks a point leaves -/

theorem outA_dx (t : Fin cfg0.N) (h : t.val % 16 = 0) : (outsAt0 m c t.val t.isLt).1
    = k0_pay9 (F := Ideal) (k0_pay3 (F := Ideal) (iblk m c 3 t) (wrows 0 512 inb_S4352x1024_S512x1024_0_0 (iblk m c 9 t)) (iblk m c 4 t) (wrows 512 512 inb_S4352x1024_S512x1024_512_0 (iblk m c 9 t)) (iblk m c 5 t) (wrows 1024 512 inb_S4352x1024_S512x1024_1024_0 (iblk m c 9 t))
      (iblk m c 6 t) (wrows 1536 512 inb_S4352x1024_S512x1024_1536_0 (iblk m c 9 t)) (iblk m c 7 t) (wrows 2048 256 inb_S4352x1024_S256x1024_2048_0 (iblk m c 9 t))) (k0_pay4 (iblk m c 8 t)) (wrows 2304 2048 inb_S4352x1024_S2048x1024_2304_0 (iblk m c 9 t)) (iblk m c 1 t) (iblk m c 2 t) (iblk m c 0 t) := by
  rw [outsAt0_A m c t h]
  dsimp only
  frame_out

theorem outA_dz (t : Fin cfg0.N) (h : t.val % 16 = 0) : (outsAt0 m c t.val t.isLt).2.1
    = k0_pay10 (F := Ideal) (k0_pay3 (F := Ideal) (iblk m c 3 t) (wrows 0 512 inb_S4352x1024_S512x1024_0_0 (iblk m c 9 t)) (iblk m c 4 t) (wrows 512 512 inb_S4352x1024_S512x1024_512_0 (iblk m c 9 t)) (iblk m c 5 t) (wrows 1024 512 inb_S4352x1024_S512x1024_1024_0 (iblk m c 9 t))
      (iblk m c 6 t) (wrows 1536 512 inb_S4352x1024_S512x1024_1536_0 (iblk m c 9 t)) (iblk m c 7 t) (wrows 2048 256 inb_S4352x1024_S256x1024_2048_0 (iblk m c 9 t))) (k0_pay4 (iblk m c 8 t)) (wrows 2304 2048 inb_S4352x1024_S2048x1024_2304_0 (iblk m c 9 t)) (iblk m c 1 t) (iblk m c 2 t) (iblk m c 0 t) := by
  rw [outsAt0_A m c t h]
  dsimp only
  frame_out

theorem outA_gain (t : Fin cfg0.N) (h : t.val % 16 = 0) (q : Fin 8) (i : Fin 1024) : ((outsAt0 m c t.val t.isLt).2.2 : Arr 8 1024) (ix2 q i)
    = (k0_pay1 (F := Ideal) : Arr 8 1024) (ix2 q i) + part (row t) (argsOf m c).gainTerm q i := by
  rw [outsAt0_A m c t h]
  dsimp only
  frame_out
  refine (add_gain _ _ _ _).trans ?_
  exact congrArg (_ + ·) (gain_tile (blocks t) q i)

theorem outB_dx (t : Fin cfg0.N) (h : ¬ t.val % 16 = 0) : (outsAt0 m c t.val t.isLt).1
    = k0_pay9 (F := Ideal) (k0_pay3 (F := Ideal) (iblk m c 3 t) (wrows 0 512 inb_S4352x1024_S512x1024_0_0 (iblk m c 9 t)) (iblk m c 4 t) (wrows 512 512 inb_S4352x1024_S512x1024_512_0 (iblk m c 9 t)) (iblk m c 5 t) (wrows 1024 512 inb_S4352x1024_S512x1024_1024_0 (iblk m c 9 t))
      (iblk m c 6 t) (wrows 1536 512 inb_S4352x1024_S512x1024_1536_0 (iblk m c 9 t)) (iblk m c 7 t) (wrows 2048 256 inb_S4352x1024_S256x1024_2048_0 (iblk m c 9 t))) (k0_pay4 (iblk m c 8 t)) (wrows 2304 2048 inb_S4352x1024_S2048x1024_2304_0 (iblk m c 9 t)) (iblk m c 1 t) (iblk m c 2 t) (iblk m c 0 t) := by
  rw [outsAt0_B m c t h]
  dsimp only
  frame_out

theorem outB_dz (t : Fin cfg0.N) (h : ¬ t.val % 16 = 0) : (outsAt0 m c t.val t.isLt).2.1
    = k0_pay10 (F := Ideal) (k0_pay3 (F := Ideal) (iblk m c 3 t) (wrows 0 512 inb_S4352x1024_S512x1024_0_0 (iblk m c 9 t)) (iblk m c 4 t) (wrows 512 512 inb_S4352x1024_S512x1024_512_0 (iblk m c 9 t)) (iblk m c 5 t) (wrows 1024 512 inb_S4352x1024_S512x1024_1024_0 (iblk m c 9 t))
      (iblk m c 6 t) (wrows 1536 512 inb_S4352x1024_S512x1024_1536_0 (iblk m c 9 t)) (iblk m c 7 t) (wrows 2048 256 inb_S4352x1024_S256x1024_2048_0 (iblk m c 9 t))) (k0_pay4 (iblk m c 8 t)) (wrows 2304 2048 inb_S4352x1024_S2048x1024_2304_0 (iblk m c 9 t)) (iblk m c 1 t) (iblk m c 2 t) (iblk m c 0 t) := by
  rw [outsAt0_B m c t h]
  dsimp only
  frame_out

theorem outB_gain (t : Fin cfg0.N) (h : ¬ t.val % 16 = 0) (q : Fin 8) (i : Fin 1024) : ((outsAt0 m c t.val t.isLt).2.2 : Arr 8 1024) (ix2 q i)
    = ((outsAt0 m c (t.val - 1) (Nat.lt_of_le_of_lt (Nat.sub_le _ _) t.isLt)).2.2 : Arr 8 1024) (ix2 q i) + part (row t) (argsOf m c).gainTerm q i := by
  rw [outsAt0_B m c t h]
  dsimp only
  frame_out
  refine (add_gain _ _ _ _).trans ?_
  exact congrArg (_ + ·) (gain_tile (blocks t) q i)

/-! ### The arrays -/

theorem out_index : ∀ t : Fin cfg0.N,
    ((cfg0.win 10).index t 0 = t.val ∧ (cfg0.win 10).index t 1 = 0)
    ∧ ((cfg0.win 11).index t 0 = t.val ∧ (cfg0.win 11).index t 1 = 0)
    ∧ ((cfg0.win 12).index t 0 = 0 ∧ (cfg0.win 12).index t 1 = 0) := by
  decide +kernel

/-- The point that holds row `r`, and the row's place in its block. -/
abbrev tileOf (r : Fin 4096) : Fin cfg0.N := ⟨r.val / 256, lt_of_lt_of_eq (by omega) N_0.symm⟩
abbrev inTile (r : Fin 4096) : Fin 256 := ⟨r.val % 256, Nat.mod_lt _ (by decide)⟩

theorem row_tileOf (r : Fin 4096) : row (tileOf r) (inTile r) = r :=
  Fin.ext (by show 256 * (r.val / 256) + r.val % 256 = r.val; omega)

theorem out_dx (t : Fin cfg0.N) (a : Fin 256) (j : Fin 1024) :
    ((outsAt0 m c t.val t.isLt).1 : Arr 256 1024) (ix2 a j) = (argsOf m c).dx (row t a) j := by
  by_cases h : t.val % 16 = 0
  · exact (congrFun (outA_dx t h) _).trans (dx_tile (blocks t) a j)
  · exact (congrFun (outB_dx t h) _).trans (dx_tile (blocks t) a j)

theorem arr_dx (r : Fin 4096) (j : Fin 1024) :
    ((dats m 0 c).arrAt 10 cfg0.N : Arr 4096 1024) (ix2 r j) = (argsOf m c).dx r j := by
  obtain ⟨h0, h1⟩ := (out_index (tileOf r)).1
  have hf : (cfg0.win 10).flush (tileOf r) = true := (by decide +kernel : ∀ t : Fin cfg0.N, (cfg0.win 10).flush t = true) _
  have e := congrFun (blocks10 m c (tileOf r) hf) (ix2 (inTile r) j)
  rw [flushed10] at e
  refine Eq.trans ?_ (e.trans ?_)
  · refine congrArg ((dats m 0 c).arrAt 10 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_dx (tileOf r) (inTile r) j).trans (by rw [row_tileOf])

theorem out_dz (t : Fin cfg0.N) (a : Fin 256) (j : Fin 1024) :
    ((outsAt0 m c t.val t.isLt).2.1 : Arr 256 1024) (ix2 a j) = (argsOf m c).dz (row t a) j := by
  by_cases h : t.val % 16 = 0
  · exact (congrFun (outA_dz t h) _).trans (dz_tile (blocks t) a j)
  · exact (congrFun (outB_dz t h) _).trans (dz_tile (blocks t) a j)

theorem arr_dz (r : Fin 4096) (j : Fin 1024) :
    ((dats m 0 c).arrAt 11 cfg0.N : Arr 4096 1024) (ix2 r j) = (argsOf m c).dz r j := by
  obtain ⟨h0, h1⟩ := (out_index (tileOf r)).2.1
  have hf : (cfg0.win 11).flush (tileOf r) = true := (by decide +kernel : ∀ t : Fin cfg0.N, (cfg0.win 11).flush t = true) _
  have e := congrFun (blocks11 m c (tileOf r) hf) (ix2 (inTile r) j)
  rw [flushed11] at e
  refine Eq.trans ?_ (e.trans ?_)
  · refine congrArg ((dats m 0 c).arrAt 11 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_dz (tileOf r) (inTile r) j).trans (by rw [row_tileOf])

theorem sum_gain (q : Fin 8) (i : Fin 1024) : ∀ (n : ℕ) (h : n < cfg0.N),
    ((outsAt0 m c n h).2.2 : Arr 8 1024) (ix2 q i) = ∑ s ∈ Finset.range (32 * (n + 1)), atRow (argsOf m c).gainTerm i (8 * s + q.val)
  | 0, h => by
    refine (outA_gain ⟨0, h⟩ rfl q i).trans ?_
    rw [zero_gain, ← sum_step _ 0 (by decide) (row ⟨0, h⟩) (fun _ => rfl)]
    rfl
  | n + 1, h => by
    have hn := lt_of_lt_of_eq h N_0
    refine (outB_gain ⟨n + 1, h⟩ (by show ¬ (n + 1) % 16 = 0; omega) q i).trans ?_
    refine (congrArg (· + _) (sum_gain q i n (Nat.lt_of_succ_lt h))).trans ?_
    rw [← sum_step _ (n + 1) hn (row ⟨n + 1, h⟩) (fun _ => rfl)]

theorem arr_gain (q : Fin 8) (i : Fin 1024) :
    ((dats m 0 c).arrAt 12 cfg0.N : Arr 8 1024) (ix2 q i) = slot (argsOf m c).gainTerm q i := by
  have only : ∀ t : Fin cfg0.N, (cfg0.win 12).flush t = true → t.val = 15 := by decide +kernel
  have last : ∃ t : Fin cfg0.N, t.val = 15 := ⟨⟨15, lt_of_lt_of_eq (by decide) N_0.symm⟩, rfl⟩
  have flushes : ∀ t : Fin cfg0.N, t.val = 15 → (cfg0.win 12).flush t = true := by decide +kernel
  obtain ⟨t, ht⟩ := last
  have hf := flushes t ht
  obtain ⟨h0, h1⟩ := (out_index t).2.2
  have e := congrFun ((dats m 0 c).read_blk_arrAt_eq_flushed 12 (fun _ _ a b ne => absurd (Fin.ext ((only _ a).trans (only _ b).symm)) ne)
    cfg0.N t t.isLt hf) (ix2 q i)
  rw [flushed12] at e
  refine Eq.trans ?_ (e.trans ?_)
  · refine congrArg ((dats m 0 c).arrAt 12 cfg0.N) (funext fun x => Fin.ext ?_)
    match x with
    | ⟨0, _⟩ => exact ((Pipeline.Window.rect_emb_val _ t _ 0).trans (by rw [h0]; show 0 * 8 + q.val = q.val; omega)).symm
    | ⟨1, _⟩ => exact ((Pipeline.Window.rect_emb_val _ t _ 1).trans (by rw [h1]; show 0 * 1024 + i.val = i.val; omega)).symm
  · refine (sum_gain q i t.val t.isLt).trans ?_
    rw [slot_eq, ht]

end Cert.ProjBackward

end
-- ==== Proof.ProjBackReference.lean ====
/- What the reference's three results are: the formulas of the module `ProjBackMath`. -/
module

public import proofs.«01_k».proof.Proof.Gen.ProjBackReferenceIdeal.Read
public import proofs.«01_k».proof.Proof.ProjBackMath
public import Idealize.ShloMosaic.Lib.IdealHost

@[expose] public section

set_option maxRecDepth 16384

noncomputable section

open Idealize.ShloMosaic Idealize.ShloMosaic.TcCoe Idealize.SL.Sem

namespace Cert.ProjBackward.Ref

open Cert.ProjBackReferenceIdeal Cert.ProjBackReferenceIdeal.Read
open Cert.Mix (Arr)
open Cert.HeadGrad (ofBits_1024 ofBits_eps ofBits_neg_half ofBits_half)
open Cert.RmsGradient (msE invE backE rootE back_eq)

variable (A : Args)

/-! ### The joined pieces, piece by piece -/

theorem joined_qa (r : Fin 4096) (f : Fin 512) : val_main_v0 (F := Ideal) A.qa A.ka A.va A.qb A.kvb A.gates (ix2 r ⟨0 + f.val, by omega⟩) = A.qa (ix2 r f) := by
  have hf := f.isLt
  unfold val_main_v0
  pointwise

theorem joined_ka (r : Fin 4096) (f : Fin 512) : val_main_v0 (F := Ideal) A.qa A.ka A.va A.qb A.kvb A.gates (ix2 r ⟨512 + f.val, by omega⟩) = A.ka (ix2 r f) := by
  have hf := f.isLt
  unfold val_main_v0
  pointwise

theorem joined_va (r : Fin 4096) (f : Fin 512) : val_main_v0 (F := Ideal) A.qa A.ka A.va A.qb A.kvb A.gates (ix2 r ⟨1024 + f.val, by omega⟩) = A.va (ix2 r f) := by
  have hf := f.isLt
  unfold val_main_v0
  pointwise
  simp (disch := omega) only [dif_pos, dif_neg, if_pos, if_neg]
  exact congrArg (fun z => A.va (ix2 r z)) (Fin.ext (by show 1024 + f.val - 512 - 512 = f.val; omega))

theorem joined_qb (r : Fin 4096) (f : Fin 512) : val_main_v0 (F := Ideal) A.qa A.ka A.va A.qb A.kvb A.gates (ix2 r ⟨1536 + f.val, by omega⟩) = A.qb (ix2 r f) := by
  have hf := f.isLt
  unfold val_main_v0
  pointwise
  simp (disch := omega) only [dif_pos, dif_neg, if_pos, if_neg]
  exact congrArg (fun z => A.qb (ix2 r z)) (Fin.ext (by show 1536 + f.val - 512 - 512 - 512 = f.val; omega))

theorem joined_kvb (r : Fin 4096) (f : Fin 256) : val_main_v0 (F := Ideal) A.qa A.ka A.va A.qb A.kvb A.gates (ix2 r ⟨2048 + f.val, by omega⟩) = A.kvb (ix2 r f) := by
  have hf := f.isLt
  unfold val_main_v0
  pointwise
  simp (disch := omega) only [dif_pos, dif_neg, if_pos, if_neg]
  exact congrArg (fun z => A.kvb (ix2 r z)) (Fin.ext (by show 2048 + f.val - 512 - 512 - 512 - 512 = f.val; omega))

theorem joined_gates (r : Fin 4096) (f : Fin 2048) : val_main_v0 (F := Ideal) A.qa A.ka A.va A.qb A.kvb A.gates (ix2 r ⟨2304 + f.val, by omega⟩) = A.gates (ix2 r f) := by
  have hf := f.isLt
  unfold val_main_v0
  pointwise
  simp (disch := omega) only [dif_pos, dif_neg, if_pos, if_neg]
  exact congrArg (fun z => A.gates (ix2 r z)) (Fin.ext (by show 2304 + f.val - 512 - 512 - 512 - 512 - 256 = f.val; omega))

/-! ### The norm's values -/

theorem v8_apply (r : Fin 4096) (z : Fin 1) : val_main_v8 (F := Ideal) A.x (ix2 r z) = msE (A.row r) := by
  unfold val_main_v8 val_main_v6 val_main_v4 val_main_v3 val_main_v2
  pointwise [val_main_v5, val_main_cst_0, val_main_v7, val_main_cst_1, val_main_cst]
  simp only [ofBits_1024, ofBits_eps]
  rfl

theorem v9_apply (r : Fin 4096) (z : Fin 1) : val_main_v9 (F := Ideal) A.x (ix2 r z) = invE (A.row r) := by
  have e0 := v8_apply A
  unfold val_main_v9
  generalize val_main_v8 (F := Ideal) A.x = y0 at *
  pointwise
  simp only [e0]
  rfl

theorem v12_apply (r : Fin 4096) (z : Fin 1) : val_main_v12 (F := Ideal) A.x (ix2 r z) = ((-(1 / 2) : ℝ) : EReal) * Ideal.div (invE (A.row r)) (msE (A.row r)) := by
  have e0 := v9_apply A
  have e1 := v8_apply A
  unfold val_main_v12 val_main_v10
  generalize val_main_v9 (F := Ideal) A.x = y0 at *
  generalize val_main_v8 (F := Ideal) A.x = y1 at *
  pointwise [val_main_v11, val_main_cst_2]
  simp only [e0, e1, ofBits_neg_half]

theorem v14_apply (r : Fin 4096) (i : Fin 1024) : val_main_v14 (F := Ideal) A.x (ix2 r i) = A.row r i * invE (A.row r) := by
  have e0 := v9_apply A
  unfold val_main_v14 val_main_v13
  generalize val_main_v9 (F := Ideal) A.x = y0 at *
  pointwise
  simp only [e0]
  rfl

/-! ### The gradients -/

theorem v17_apply (r : Fin 4096) (k : Fin 1024) : val_main_v17 (F := Ideal) A.qa A.ka A.va A.qb A.kvb A.gates A.w (ix2 r k) = A.dh r k := by
  have e : val_main_v17 (F := Ideal) A.qa A.ka A.va A.qb A.kvb A.gates A.w (ix2 r k)
      = ∑ f : Fin 4352, val_main_v0 (F := Ideal) A.qa A.ka A.va A.qb A.kvb A.gates (ix2 r f) * A.w (ix2 k f) := by
    unfold val_main_v17
    generalize val_main_v0 (F := Ideal) A.qa A.ka A.va A.qb A.kvb A.gates = y0
    pointwise
  rw [e, sum_pieces]
  simp only [joined_qa A, joined_ka A, joined_va A, joined_qb A, joined_kvb A, joined_gates A]
  rfl

/-- A row's part of the gain's gradient. -/
theorem v18_apply (r : Fin 4096) (i : Fin 1024) : val_main_v18 (F := Ideal) A.x A.qa A.ka A.va A.qb A.kvb A.gates A.w (ix2 r i) = A.gainTerm r i := by
  have e0 := v14_apply A
  have e1 := v17_apply A
  unfold val_main_v18
  generalize val_main_v14 (F := Ideal) A.x = y0 at *
  generalize val_main_v17 (F := Ideal) A.qa A.ka A.va A.qb A.kvb A.gates A.w = y1 at *
  pointwise
  simp only [e0, e1]
  exact mul_comm _ _

theorem v19_apply (r : Fin 4096) (i : Fin 1024) : val_main_v19 (F := Ideal) A.gain A.qa A.ka A.va A.qb A.kvb A.gates A.w (ix2 r i) = A.dxh r i := by
  have e0 := v17_apply A
  unfold val_main_v19
  generalize val_main_v17 (F := Ideal) A.qa A.ka A.va A.qb A.kvb A.gates A.w = y0 at *
  pointwise [val_main_v1]
  simp only [e0]
  rfl

theorem v21_apply (r : Fin 4096) : val_main_v21 (F := Ideal) A.x A.gain A.qa A.ka A.va A.qb A.kvb A.gates A.w (ix1 r) = ∑ j, A.row r j * A.dxh r j := by
  have e0 := v19_apply A
  unfold val_main_v21 val_main_v20
  generalize val_main_v19 (F := Ideal) A.gain A.qa A.ka A.va A.qb A.kvb A.gates A.w = y0 at *
  pointwise [val_main_cst_3]
  simp only [e0]
  rfl

theorem v29_apply (r : Fin 4096) : val_main_v29 (F := Ideal) A.x A.gain A.qa A.ka A.va A.qb A.kvb A.gates A.w (ix1 r) = rootE (A.row r) (A.dxh r) := by
  have e0 := v21_apply A
  have e1 := v12_apply A
  unfold val_main_v29 val_main_v28 val_main_v26 val_main_v22
  generalize val_main_v21 (F := Ideal) A.x A.gain A.qa A.ka A.va A.qb A.kvb A.gates A.w = y0 at *
  generalize val_main_v12 (F := Ideal) A.x = y1 at *
  pointwise [val_main_v27, val_main_cst_4, val_main_cst_5]
  simp only [e0, e1, ofBits_1024, Finset.univ_unique, Finset.sum_singleton]
  rfl

/-- The gradient of the input. -/
theorem v34_apply (r : Fin 4096) (i : Fin 1024) : val_main_v34 (F := Ideal) A.d A.x A.gain A.qa A.ka A.va A.qb A.kvb A.gates A.w (ix2 r i) = A.dx r i := by
  have e1 := v9_apply A
  have e2 := v19_apply A
  have e3 := v29_apply A
  unfold val_main_v34 val_main_v33 val_main_v32 val_main_v31 val_main_v30 val_main_v25 val_main_v24 val_main_v23
  generalize val_main_v9 (F := Ideal) A.x = y1 at *
  generalize val_main_v19 (F := Ideal) A.gain A.qa A.ka A.va A.qb A.kvb A.gates A.w = y2 at *
  generalize val_main_v29 (F := Ideal) A.x A.gain A.qa A.ka A.va A.qb A.kvb A.gates A.w = y3 at *
  pointwise
  simp only [e1, e2, e3]
  unfold Args.dx
  rw [← back_eq, add_assoc, add_assoc]
  rfl

theorem v39_apply (r : Fin 4096) (i : Fin 1024) : val_main_v39 (F := Ideal) A.d A.x A.gain A.qa A.ka A.va A.qb A.kvb A.gates A.w (ix2 r i) = A.dz r i := by
  have e := v34_apply A
  unfold val_main_v39 val_main_v38
  generalize val_main_v34 (F := Ideal) A.d A.x A.gain A.qa A.ka A.va A.qb A.kvb A.gates A.w = y at *
  pointwise [val_main_v37, val_main_cst_7]
  simp only [e, ofBits_half]
  rfl

theorem v41_apply (q : Fin 8) (i : Fin 1024) : val_main_v41 (F := Ideal) A.x A.qa A.ka A.va A.qb A.kvb A.gates A.w (ix2 q i) = Cert.RowSums.slot A.gainTerm q i := by
  have e := v18_apply A
  unfold val_main_v41 val_main_v40
  generalize val_main_v18 (F := Ideal) A.x A.qa A.ka A.va A.qb A.kvb A.gates A.w = y at *
  pointwise [val_main_cst_8]
  exact Cert.RowSums.slots _ y e q i _

end Cert.ProjBackward.Ref

end
-- ==== Proof.ProjBackResults.lean ====
/- The three results: the launch's arrays are the reference's. -/
module

public import proofs.«01_k».proof.Proof.ProjBackOutputs
public import proofs.«01_k».proof.Proof.ProjBackReference

@[expose] public section

set_option maxRecDepth 16384

noncomputable section

open Idealize.ShloMosaic Idealize.ShloMosaic.TcCoe Idealize.SL.Sem

namespace Cert.ProjBackward

open Cert.Mix (Arr)
open Cert.RowSums (ext2)

variable {m : (ℓ : Loc Cert.ProjBackIdeal.nD Cert.ProjBackIdeal.τ Cert.ProjBackIdeal.sig) → Buf (Elt Ideal) ℓ} {c : Dev Cert.ProjBackIdeal.nD}

theorem dx_eq : ((Cert.ProjBackIdeal.Gen.dats m 0 c).arrAt 10 Cert.ProjBackIdeal.cfg0.N : Arr 4096 1024)
    = Cert.ProjBackReferenceIdeal.Read.val_main_v34 (F := Ideal) (m (c, Proc.tc.devRef Cert.ProjBackIdeal.main_arg0)) (m (c, Proc.tc.devRef Cert.ProjBackIdeal.main_arg1)) (m (c, Proc.tc.devRef Cert.ProjBackIdeal.main_arg2)) (m (c, Proc.tc.devRef Cert.ProjBackIdeal.main_arg3)) (m (c, Proc.tc.devRef Cert.ProjBackIdeal.main_arg4)) (m (c, Proc.tc.devRef Cert.ProjBackIdeal.main_arg5)) (m (c, Proc.tc.devRef Cert.ProjBackIdeal.main_arg6)) (m (c, Proc.tc.devRef Cert.ProjBackIdeal.main_arg7)) (m (c, Proc.tc.devRef Cert.ProjBackIdeal.main_arg8)) (m (c, Proc.tc.devRef Cert.ProjBackIdeal.main_arg9)) :=
  ext2 fun r j => (arr_dx r j).trans (Ref.v34_apply (argsOf m c) r j).symm

theorem dz_eq : ((Cert.ProjBackIdeal.Gen.dats m 0 c).arrAt 11 Cert.ProjBackIdeal.cfg0.N : Arr 4096 1024)
    = Cert.ProjBackReferenceIdeal.Read.val_main_v39 (F := Ideal) (m (c, Proc.tc.devRef Cert.ProjBackIdeal.main_arg0)) (m (c, Proc.tc.devRef Cert.ProjBackIdeal.main_arg1)) (m (c, Proc.tc.devRef Cert.ProjBackIdeal.main_arg2)) (m (c, Proc.tc.devRef Cert.ProjBackIdeal.main_arg3)) (m (c, Proc.tc.devRef Cert.ProjBackIdeal.main_arg4)) (m (c, Proc.tc.devRef Cert.ProjBackIdeal.main_arg5)) (m (c, Proc.tc.devRef Cert.ProjBackIdeal.main_arg6)) (m (c, Proc.tc.devRef Cert.ProjBackIdeal.main_arg7)) (m (c, Proc.tc.devRef Cert.ProjBackIdeal.main_arg8)) (m (c, Proc.tc.devRef Cert.ProjBackIdeal.main_arg9)) :=
  ext2 fun r j => (arr_dz r j).trans (Ref.v39_apply (argsOf m c) r j).symm

theorem gain_eq : ((Cert.ProjBackIdeal.Gen.dats m 0 c).arrAt 12 Cert.ProjBackIdeal.cfg0.N : Arr 8 1024)
    = Cert.ProjBackReferenceIdeal.Read.val_main_v41 (F := Ideal) (m (c, Proc.tc.devRef Cert.ProjBackIdeal.main_arg1)) (m (c, Proc.tc.devRef Cert.ProjBackIdeal.main_arg3)) (m (c, Proc.tc.devRef Cert.ProjBackIdeal.main_arg4)) (m (c, Proc.tc.devRef Cert.ProjBackIdeal.main_arg5)) (m (c, Proc.tc.devRef Cert.ProjBackIdeal.main_arg6)) (m (c, Proc.tc.devRef Cert.ProjBackIdeal.main_arg7)) (m (c, Proc.tc.devRef Cert.ProjBackIdeal.main_arg8)) (m (c, Proc.tc.devRef Cert.ProjBackIdeal.main_arg9)) :=
  ext2 fun q i => (arr_gain q i).trans (Ref.v41_apply (argsOf m c) q i).symm

end Cert.ProjBackward

end
-- ==== Proof.ProjMath.lean ====
/- The forward pass of the input projection over the extended reals, row by row: the row divided by its root mean square and scaled by
   the gain, and its product with the projection's weight. No program is mentioned here. -/
module

public import proofs.«01_k».proof.Proof.RmsGradient
public import proofs.«01_k».proof.Proof.RowSums
public import Idealize.ShloMosaic.Lib.Pointwise
public import Idealize.ShloMosaic.PureOps.Ideal

@[expose] public section

set_option maxRecDepth 16384

noncomputable section

open Idealize.ShloMosaic

namespace Cert.ProjForward

open Cert.Mix (Arr)
open Cert.RmsGradient (invE)

/-- The input's rows, the gain, the weight. -/
structure Args where
  x : Arr 4096 1024
  gain : Arr 1 1024
  w : Arr 1024 4352

namespace Args
variable (A : Args)
/-- A row of the input. -/
def row (r : Fin 4096) (j : Fin 1024) : EReal := A.x (ix2 r j)
/-- The row over its root mean square, times the gain. -/
def h (r : Fin 4096) (j : Fin 1024) : EReal := A.row r j * invE (A.row r) * A.gain (ix2 0 j)
/-- The product with the weight. -/
def p (r : Fin 4096) (f : Fin 4352) : EReal := ∑ k, A.h r k * A.w (ix2 k f)
/-- Columns 0 … 1535 of the product. -/
def a (r : Fin 4096) (f : Fin 1536) : EReal := A.p r ⟨0 + f.val, by omega⟩
/-- Columns 1536 … 2303 of the product. -/
def b (r : Fin 4096) (f : Fin 768) : EReal := A.p r ⟨1536 + f.val, by omega⟩
/-- Columns 2304 … 4351 of the product. -/
def gates (r : Fin 4096) (f : Fin 2048) : EReal := A.p r ⟨2304 + f.val, by omega⟩
end Args

end Cert.ProjForward

end
-- ==== Proof.ProjTile.lean ====
/- One grid point of the input projection, on its blocks: `R a` is the row of the whole arrays that row `a` of the point's blocks holds.
   The product is stored chunk by chunk, in pieces of 256 columns, into three arrays; each piece is that chunk of one block, so the pieces of an
   array together are that block. -/
module

public import proofs.«01_k».proof.Proof.Gen.ProjIdeal.Skeleton
public import proofs.«01_k».proof.Proof.ProjMath
public import Idealize.ShloMosaic.Lib.Pipeline.ReadBack
public import Idealize.ShloMosaic.Lib.Pipeline.ValueKit
public import Idealize.ShloMosaic.Lib.Pipeline.FrameBody
public import Idealize.ShloMosaic.Lib.IdealHost

@[expose] public section

set_option maxRecDepth 16384

noncomputable section

open Idealize.ShloMosaic Idealize.ShloMosaic.TcCoe

namespace Cert.ProjForward

open Cert.ProjIdeal Cert.ProjIdeal.Gen
open Cert.Mix (Arr)
open Cert.HeadGrad (ofBits_1024 ofBits_eps)
open Cert.RmsGradient (invE)

/-- The blocks of one point: rows `R a` of the input, the gain and the whole weight, transposed. -/
structure Blocks (A : Args) (R : Fin 256 → Fin 4096) (x : Arr 256 1024) (gain : Arr 1 1024) (w : Arr 4352 1024) : Prop where
  x : ∀ a j, x (ix2 a j) = A.x (ix2 (R a) j)
  gain : ∀ a j, gain (ix2 a j) = A.gain (ix2 0 j)
  w : ∀ f k, w (ix2 f k) = A.w (ix2 k f)

variable {A : Args} {R : Fin 256 → Fin 4096} {x : Arr 256 1024} {gain : Arr 1 1024} {w : Arr 4352 1024}

theorem h_tile (B : Blocks A R x gain w) (a : Fin 256) (j : Fin 1024) : k0_pay4 (F := Ideal) x gain (ix2 a j) = A.h (R a) j := by
  have e := B.x
  pointwise [k0_pay4]
  simp only [e, B.gain, ofBits_1024, ofBits_eps]
  rfl

/-! ### A chunk -/

section Chunk
variable (q : ℕ) (hw : ∀ a, (![q, 0] : Fin 2 → Nat) a + S256x1024.size a ≤ S4352x1024.size a)

include hw in
theorem row_lt (k : Fin 256) : q + k.val < 4352 := by
  have : q + 256 ≤ 4352 := hw 0
  omega

/-- Rows `q … q + 255` of the weight. -/
abbrev wrows (v : Arr 4352 1024) : FVec Ideal S256x1024 .bf16 :=
  View.ld (Val := Elt Ideal) (S := S4352x1024) (e' := .bf16) v (Rect.unit (s := S4352x1024) ![q, 0] S256x1024.size hw)

theorem emb_wrows (k : Fin 256) (j : Fin 1024) :
    (Rect.unit (s := S4352x1024) ![q, 0] S256x1024.size hw).emb (ix2 k j) = ix2 ⟨q + k.val, row_lt q hw k⟩ j := by
  funext z
  refine Fin.ext ?_
  rw [Rect.emb_apply]
  match z with
  | ⟨0, _⟩ => show q + 1 * k.val = q + k.val; omega
  | ⟨1, _⟩ => show 0 + 1 * j.val = j.val; omega

theorem rows_apply (v : Arr 4352 1024) (k : Fin 256) (j : Fin 1024) : wrows q hw v (ix2 k j) = v (ix2 ⟨q + k.val, row_lt q hw k⟩ j) :=
  congrArg v (emb_wrows q hw k j)

theorem chunk_bf16 (B : Blocks A R x gain w) (a k : Fin 256) :
    k0_pay8 (F := Ideal) (k0_pay4 x gain) (wrows q hw w) (ix2 a k) = A.p (R a) ⟨q + k.val, row_lt q hw k⟩ := by
  have e1 := h_tile B
  have e2 := rows_apply q hw w
  generalize k0_pay4 (F := Ideal) x gain = v1 at *
  generalize wrows q hw w = v2 at *
  pointwise [k0_pay8]
  simp only [e1, e2, B.w]
  rfl

theorem chunk_f32 (B : Blocks A R x gain w) (a k : Fin 256) :
    k0_pay15 (F := Ideal) (k0_pay4 x gain) (wrows q hw w) (ix2 a k) = A.p (R a) ⟨q + k.val, row_lt q hw k⟩ := by
  have e1 := h_tile B
  have e2 := rows_apply q hw w
  generalize k0_pay4 (F := Ideal) x gain = v1 at *
  generalize wrows q hw w = v2 at *
  pointwise [k0_pay15]
  simp only [e1, e2, B.w]
  rfl

end Chunk

theorem idx_eq {a b : ℕ} (i : (⟨2, ![a, b]⟩ : Shape).Idx) : i = ix2 (i 0) (i 1) := by
  funext z
  match z with
  | ⟨0, _⟩ => rfl
  | ⟨1, _⟩ => rfl

/-- What is stored from the weight's rows `q … q + 255`, for each `q`. -/
abbrev Stored (t : FTy) := (q : ℕ) → (hw : ∀ a, (![q, 0] : Fin 2 → Nat) a + S256x1024.size a ≤ S4352x1024.size a) → FVec Ideal S256x256 t

/-! ### The 6 pieces of the columns from 0 on -/

theorem lt_a (o : ℕ) (hh : ∀ a, (![0, o] : Fin 2 → Nat) a + S256x256.size a ≤ S256x1536.size a) (k : Fin 256) : o + k.val < 1536 := by
  have : o + 256 ≤ 1536 := hh 1
  omega

theorem emb_a (o : ℕ) (hh : ∀ a, (![0, o] : Fin 2 → Nat) a + S256x256.size a ≤ S256x1536.size a) (a k : Fin 256) :
    (Rect.unit (s := S256x1536) ![0, o] S256x256.size hh).emb (ix2 a k) = ix2 a ⟨o + k.val, lt_a o hh k⟩ := by
  funext z
  refine Fin.ext ?_
  rw [Rect.emb_apply]
  match z with
  | ⟨0, _⟩ => show 0 + 1 * a.val = a.val; omega
  | ⟨1, _⟩ => show o + 1 * k.val = o + k.val; omega

theorem mem_a (o : ℕ) (hh : ∀ a, (![0, o] : Fin 2 → Nat) a + S256x256.size a ≤ S256x1536.size a) (z : S256x1536.Idx)
    (h1 : o ≤ (z 1).val) (h2 : (z 1).val < o + 256) : z ∈ (Rect.unit (s := S256x1536) ![0, o] S256x256.size hh).set := by
  rw [Rect.mem_set_unit]
  intro a
  match a with
  | ⟨0, _⟩ => exact ⟨Nat.zero_le _, by have := (z 0).isLt; show (z 0).val < 0 + 256; have e : (z 0).val < 256 := this; omega⟩
  | ⟨1, _⟩ => exact ⟨h1, h2⟩

/-- The pieces, the last stored first; `p q` is stored from the weight's rows `q … q + 255`. -/
abbrev pieces_a (p : Stored .bf16) : List (View.Piece (Elt Ideal) S256x1536 .bf16) :=
  [⟨Rect.unit (s := S256x1536) ![0, 1280] S256x256.size inb_S256x1536_S256x256_0_1280, p 1280 inb_S4352x1024_S256x1024_1280_0⟩,
   ⟨Rect.unit (s := S256x1536) ![0, 1024] S256x256.size inb_S256x1536_S256x256_0_1024, p 1024 inb_S4352x1024_S256x1024_1024_0⟩,
   ⟨Rect.unit (s := S256x1536) ![0, 768] S256x256.size inb_S256x1536_S256x256_0_768, p 768 inb_S4352x1024_S256x1024_768_0⟩,
   ⟨Rect.unit (s := S256x1536) ![0, 512] S256x256.size inb_S256x1536_S256x256_0_512, p 512 inb_S4352x1024_S256x1024_512_0⟩,
   ⟨Rect.unit (s := S256x1536) ![0, 256] S256x256.size inb_S256x1536_S256x256_0_256, p 256 inb_S4352x1024_S256x1024_256_0⟩,
   ⟨Rect.unit (s := S256x1536) ![0, 0] S256x256.size inb_S256x1536_S256x256_0_0, p 0 inb_S4352x1024_S256x1024_0_0⟩]

theorem canon_a (b : Arr 256 1536) (p : Stored .bf16)
    (hp : ∀ o q, q = 0 + o → ∀ hw (hh : ∀ a, (![0, o] : Fin 2 → Nat) a + S256x256.size a ≤ S256x1536.size a) a k, p q hw (ix2 a k) = b (ix2 a ⟨o + k.val, lt_a o hh k⟩)) :
    View.canon (pieces_a p) = b := by
  have each : ∀ o q, q = 0 + o → ∀ hw (hh : ∀ a, (![0, o] : Fin 2 → Nat) a + S256x256.size a ≤ S256x1536.size a), ∀ z : S256x256.Idx,
      p q hw z = b ((Rect.unit (s := S256x1536) ![0, o] S256x256.size hh).emb z) := by
    intro o q e hw hh z
    rw [idx_eq z]
    exact (hp o q e hw hh _ _).trans (congrArg b (emb_a o hh _ _)).symm
  funext z
  refine View.canon_apply_of_pieces (Val := Elt Ideal) (S := S256x1536) (e := .bf16) b _ ?_ z ?_
  · intro q hq
    simp only [List.mem_cons, List.not_mem_nil, or_false] at hq
    rcases hq with rfl | rfl | rfl | rfl | rfl | rfl
    · exact each 1280 1280 (by decide) inb_S4352x1024_S256x1024_1280_0 inb_S256x1536_S256x256_0_1280
    · exact each 1024 1024 (by decide) inb_S4352x1024_S256x1024_1024_0 inb_S256x1536_S256x256_0_1024
    · exact each 768 768 (by decide) inb_S4352x1024_S256x1024_768_0 inb_S256x1536_S256x256_0_768
    · exact each 512 512 (by decide) inb_S4352x1024_S256x1024_512_0 inb_S256x1536_S256x256_0_512
    · exact each 256 256 (by decide) inb_S4352x1024_S256x1024_256_0 inb_S256x1536_S256x256_0_256
    · exact each 0 0 (by decide) inb_S4352x1024_S256x1024_0_0 inb_S256x1536_S256x256_0_0
  · have hz : (z 1).val < 1536 := (z 1).isLt
    by_cases c1280 : 1280 ≤ (z 1).val
    · exact ⟨_, List.mem_cons_self, mem_a 1280 inb_S256x1536_S256x256_0_1280 z c1280 (by omega)⟩
    by_cases c1024 : 1024 ≤ (z 1).val
    · exact ⟨_, (List.mem_cons_of_mem _ List.mem_cons_self), mem_a 1024 inb_S256x1536_S256x256_0_1024 z c1024 (by omega)⟩
    by_cases c768 : 768 ≤ (z 1).val
    · exact ⟨_, (List.mem_cons_of_mem _ (List.mem_cons_of_mem _ List.mem_cons_self)), mem_a 768 inb_S256x1536_S256x256_0_768 z c768 (by omega)⟩
    by_cases c512 : 512 ≤ (z 1).val
    · exact ⟨_, (List.mem_cons_of_mem _ (List.mem_cons_of_mem _ (List.mem_cons_of_mem _ List.mem_cons_self))), mem_a 512 inb_S256x1536_S256x256_0_512 z c512 (by omega)⟩
    by_cases c256 : 256 ≤ (z 1).val
    · exact ⟨_, (List.mem_cons_of_mem _ (List.mem_cons_of_mem _ (List.mem_cons_of_mem _ (List.mem_cons_of_mem _ List.mem_cons_self)))), mem_a 256 inb_S256x1536_S256x256_0_256 z c256 (by omega)⟩
    exact ⟨_, (List.mem_cons_of_mem _ (List.mem_cons_of_mem _ (List.mem_cons_of_mem _ (List.mem_cons_of_mem _ (List.mem_cons_of_mem _ List.mem_cons_self))))), mem_a 0 inb_S256x1536_S256x256_0_0 z (Nat.zero_le _) (by omega)⟩

/-- What is stored, from the blocks. -/
abbrev stored_a (x : Arr 256 1024) (gain : Arr 1 1024) (w : Arr 4352 1024) : Stored .bf16 :=
  fun q hw => k0_pay8 (F := Ideal) (k0_pay4 x gain) (wrows q hw w)

/-- The rows of a point, as a block. -/
def block_a (A : Args) (R : Fin 256 → Fin 4096) : Arr 256 1536 := fun z => A.a (R (z 0)) (z 1)

theorem canon_block_a (B : Blocks A R x gain w) : View.canon (pieces_a (stored_a x gain w)) = block_a A R :=
  canon_a _ _ fun o q e hw hh a k => (chunk_bf16 q hw B a k).trans
    (congrArg (A.p (R a)) (Fin.ext (by show q + k.val = 0 + (o + k.val); omega)))

/-! ### The 3 pieces of the columns from 1536 on -/

theorem lt_b (o : ℕ) (hh : ∀ a, (![0, o] : Fin 2 → Nat) a + S256x256.size a ≤ S256x768.size a) (k : Fin 256) : o + k.val < 768 := by
  have : o + 256 ≤ 768 := hh 1
  omega

theorem emb_b (o : ℕ) (hh : ∀ a, (![0, o] : Fin 2 → Nat) a + S256x256.size a ≤ S256x768.size a) (a k : Fin 256) :
    (Rect.unit (s := S256x768) ![0, o] S256x256.size hh).emb (ix2 a k) = ix2 a ⟨o + k.val, lt_b o hh k⟩ := by
  funext z
  refine Fin.ext ?_
  rw [Rect.emb_apply]
  match z with
  | ⟨0, _⟩ => show 0 + 1 * a.val = a.val; omega
  | ⟨1, _⟩ => show o + 1 * k.val = o + k.val; omega

theorem mem_b (o : ℕ) (hh : ∀ a, (![0, o] : Fin 2 → Nat) a + S256x256.size a ≤ S256x768.size a) (z : S256x768.Idx)
    (h1 : o ≤ (z 1).val) (h2 : (z 1).val < o + 256) : z ∈ (Rect.unit (s := S256x768) ![0, o] S256x256.size hh).set := by
  rw [Rect.mem_set_unit]
  intro a
  match a with
  | ⟨0, _⟩ => exact ⟨Nat.zero_le _, by have := (z 0).isLt; show (z 0).val < 0 + 256; have e : (z 0).val < 256 := this; omega⟩
  | ⟨1, _⟩ => exact ⟨h1, h2⟩

/-- The pieces, the last stored first; `p q` is stored from the weight's rows `q … q + 255`. -/
abbrev pieces_b (p : Stored .bf16) : List (View.Piece (Elt Ideal) S256x768 .bf16) :=
  [⟨Rect.unit (s := S256x768) ![0, 512] S256x256.size inb_S256x768_S256x256_0_512, p 2048 inb_S4352x1024_S256x1024_2048_0⟩,
   ⟨Rect.unit (s := S256x768) ![0, 256] S256x256.size inb_S256x768_S256x256_0_256, p 1792 inb_S4352x1024_S256x1024_1792_0⟩,
   ⟨Rect.unit (s := S256x768) ![0, 0] S256x256.size inb_S256x768_S256x256_0_0, p 1536 inb_S4352x1024_S256x1024_1536_0⟩]

theorem canon_b (b : Arr 256 768) (p : Stored .bf16)
    (hp : ∀ o q, q = 1536 + o → ∀ hw (hh : ∀ a, (![0, o] : Fin 2 → Nat) a + S256x256.size a ≤ S256x768.size a) a k, p q hw (ix2 a k) = b (ix2 a ⟨o + k.val, lt_b o hh k⟩)) :
    View.canon (pieces_b p) = b := by
  have each : ∀ o q, q = 1536 + o → ∀ hw (hh : ∀ a, (![0, o] : Fin 2 → Nat) a + S256x256.size a ≤ S256x768.size a), ∀ z : S256x256.Idx,
      p q hw z = b ((Rect.unit (s := S256x768) ![0, o] S256x256.size hh).emb z) := by
    intro o q e hw hh z
    rw [idx_eq z]
    exact (hp o q e hw hh _ _).trans (congrArg b (emb_b o hh _ _)).symm
  funext z
  refine View.canon_apply_of_pieces (Val := Elt Ideal) (S := S256x768) (e := .bf16) b _ ?_ z ?_
  · intro q hq
    simp only [List.mem_cons, List.not_mem_nil, or_false] at hq
    rcases hq with rfl | rfl | rfl
    · exact each 512 2048 (by decide) inb_S4352x1024_S256x1024_2048_0 inb_S256x768_S256x256_0_512
    · exact each 256 1792 (by decide) inb_S4352x1024_S256x1024_1792_0 inb_S256x768_S256x256_0_256
    · exact each 0 1536 (by decide) inb_S4352x1024_S256x1024_1536_0 inb_S256x768_S256x256_0_0
  · have hz : (z 1).val < 768 := (z 1).isLt
    by_cases c512 : 512 ≤ (z 1).val
    · exact ⟨_, List.mem_cons_self, mem_b 512 inb_S256x768_S256x256_0_512 z c512 (by omega)⟩
    by_cases c256 : 256 ≤ (z 1).val
    · exact ⟨_, (List.mem_cons_of_mem _ List.mem_cons_self), mem_b 256 inb_S256x768_S256x256_0_256 z c256 (by omega)⟩
    exact ⟨_, (List.mem_cons_of_mem _ (List.mem_cons_of_mem _ List.mem_cons_self)), mem_b 0 inb_S256x768_S256x256_0_0 z (Nat.zero_le _) (by omega)⟩

/-- What is stored, from the blocks. -/
abbrev stored_b (x : Arr 256 1024) (gain : Arr 1 1024) (w : Arr 4352 1024) : Stored .bf16 :=
  fun q hw => k0_pay8 (F := Ideal) (k0_pay4 x gain) (wrows q hw w)

/-- The rows of a point, as a block. -/
def block_b (A : Args) (R : Fin 256 → Fin 4096) : Arr 256 768 := fun z => A.b (R (z 0)) (z 1)

theorem canon_block_b (B : Blocks A R x gain w) : View.canon (pieces_b (stored_b x gain w)) = block_b A R :=
  canon_b _ _ fun o q e hw hh a k => (chunk_bf16 q hw B a k).trans
    (congrArg (A.p (R a)) (Fin.ext (by show q + k.val = 1536 + (o + k.val); omega)))

/-! ### The 8 pieces of the columns from 2304 on -/

theorem lt_gates (o : ℕ) (hh : ∀ a, (![0, o] : Fin 2 → Nat) a + S256x256.size a ≤ S256x2048.size a) (k : Fin 256) : o + k.val < 2048 := by
  have : o + 256 ≤ 2048 := hh 1
  omega

theorem emb_gates (o : ℕ) (hh : ∀ a, (![0, o] : Fin 2 → Nat) a + S256x256.size a ≤ S256x2048.size a) (a k : Fin 256) :
    (Rect.unit (s := S256x2048) ![0, o] S256x256.size hh).emb (ix2 a k) = ix2 a ⟨o + k.val, lt_gates o hh k⟩ := by
  funext z
  refine Fin.ext ?_
  rw [Rect.emb_apply]
  match z with
  | ⟨0, _⟩ => show 0 + 1 * a.val = a.val; omega
  | ⟨1, _⟩ => show o + 1 * k.val = o + k.val; omega

theorem mem_gates (o : ℕ) (hh : ∀ a, (![0, o] : Fin 2 → Nat) a + S256x256.size a ≤ S256x2048.size a) (z : S256x2048.Idx)
    (h1 : o ≤ (z 1).val) (h2 : (z 1).val < o + 256) : z ∈ (Rect.unit (s := S256x2048) ![0, o] S256x256.size hh).set := by
  rw [Rect.mem_set_unit]
  intro a
  match a with
  | ⟨0, _⟩ => exact ⟨Nat.zero_le _, by have := (z 0).isLt; show (z 0).val < 0 + 256; have e : (z 0).val < 256 := this; omega⟩
  | ⟨1, _⟩ => exact ⟨h1, h2⟩

/-- The pieces, the last stored first; `p q` is stored from the weight's rows `q … q + 255`. -/
abbrev pieces_gates (p : Stored .f32) : List (View.Piece (Elt Ideal) S256x2048 .f32) :=
  [⟨Rect.unit (s := S256x2048) ![0, 1792] S256x256.size inb_S256x2048_S256x256_0_1792, p 4096 inb_S4352x1024_S256x1024_4096_0⟩,
   ⟨Rect.unit (s := S256x2048) ![0, 1536] S256x256.size inb_S256x2048_S256x256_0_1536, p 3840 inb_S4352x1024_S256x1024_3840_0⟩,
   ⟨Rect.unit (s := S256x2048) ![0, 1280] S256x256.size inb_S256x2048_S256x256_0_1280, p 3584 inb_S4352x1024_S256x1024_3584_0⟩,
   ⟨Rect.unit (s := S256x2048) ![0, 1024] S256x256.size inb_S256x2048_S256x256_0_1024, p 3328 inb_S4352x1024_S256x1024_3328_0⟩,
   ⟨Rect.unit (s := S256x2048) ![0, 768] S256x256.size inb_S256x2048_S256x256_0_768, p 3072 inb_S4352x1024_S256x1024_3072_0⟩,
   ⟨Rect.unit (s := S256x2048) ![0, 512] S256x256.size inb_S256x2048_S256x256_0_512, p 2816 inb_S4352x1024_S256x1024_2816_0⟩,
   ⟨Rect.unit (s := S256x2048) ![0, 256] S256x256.size inb_S256x2048_S256x256_0_256, p 2560 inb_S4352x1024_S256x1024_2560_0⟩,
   ⟨Rect.unit (s := S256x2048) ![0, 0] S256x256.size inb_S256x2048_S256x256_0_0, p 2304 inb_S4352x1024_S256x1024_2304_0⟩]

theorem canon_gates (b : Arr 256 2048) (p : Stored .f32)
    (hp : ∀ o q, q = 2304 + o → ∀ hw (hh : ∀ a, (![0, o] : Fin 2 → Nat) a + S256x256.size a ≤ S256x2048.size a) a k, p q hw (ix2 a k) = b (ix2 a ⟨o + k.val, lt_gates o hh k⟩)) :
    View.canon (pieces_gates p) = b := by
  have each : ∀ o q, q = 2304 + o → ∀ hw (hh : ∀ a, (![0, o] : Fin 2 → Nat) a + S256x256.size a ≤ S256x2048.size a), ∀ z : S256x256.Idx,
      p q hw z = b ((Rect.unit (s := S256x2048) ![0, o] S256x256.size hh).emb z) := by
    intro o q e hw hh z
    rw [idx_eq z]
    exact (hp o q e hw hh _ _).trans (congrArg b (emb_gates o hh _ _)).symm
  funext z
  refine View.canon_apply_of_pieces (Val := Elt Ideal) (S := S256x2048) (e := .f32) b _ ?_ z ?_
  · intro q hq
    simp only [List.mem_cons, List.not_mem_nil, or_false] at hq
    rcases hq with rfl | rfl | rfl | rfl | rfl | rfl | rfl | rfl
    · exact each 1792 4096 (by decide) inb_S4352x1024_S256x1024_4096_0 inb_S256x2048_S256x256_0_1792
    · exact each 1536 3840 (by decide) inb_S4352x1024_S256x1024_3840_0 inb_S256x2048_S256x256_0_1536
    · exact each 1280 3584 (by decide) inb_S4352x1024_S256x1024_3584_0 inb_S256x2048_S256x256_0_1280
    · exact each 1024 3328 (by decide) inb_S4352x1024_S256x1024_3328_0 inb_S256x2048_S256x256_0_1024
    · exact each 768 3072 (by decide) inb_S4352x1024_S256x1024_3072_0 inb_S256x2048_S256x256_0_768
    · exact each 512 2816 (by decide) inb_S4352x1024_S256x1024_2816_0 inb_S256x2048_S256x256_0_512
    · exact each 256 2560 (by decide) inb_S4352x1024_S256x1024_2560_0 inb_S256x2048_S256x256_0_256
    · exact each 0 2304 (by decide) inb_S4352x1024_S256x1024_2304_0 inb_S256x2048_S256x256_0_0
  · have hz : (z 1).val < 2048 := (z 1).isLt
    by_cases c1792 : 1792 ≤ (z 1).val
    · exact ⟨_, List.mem_cons_self, mem_gates 1792 inb_S256x2048_S256x256_0_1792 z c1792 (by omega)⟩
    by_cases c1536 : 1536 ≤ (z 1).val
    · exact ⟨_, (List.mem_cons_of_mem _ List.mem_cons_self), mem_gates 1536 inb_S256x2048_S256x256_0_1536 z c1536 (by omega)⟩
    by_cases c1280 : 1280 ≤ (z 1).val
    · exact ⟨_, (List.mem_cons_of_mem _ (List.mem_cons_of_mem _ List.mem_cons_self)), mem_gates 1280 inb_S256x2048_S256x256_0_1280 z c1280 (by omega)⟩
    by_cases c1024 : 1024 ≤ (z 1).val
    · exact ⟨_, (List.mem_cons_of_mem _ (List.mem_cons_of_mem _ (List.mem_cons_of_mem _ List.mem_cons_self))), mem_gates 1024 inb_S256x2048_S256x256_0_1024 z c1024 (by omega)⟩
    by_cases c768 : 768 ≤ (z 1).val
    · exact ⟨_, (List.mem_cons_of_mem _ (List.mem_cons_of_mem _ (List.mem_cons_of_mem _ (List.mem_cons_of_mem _ List.mem_cons_self)))), mem_gates 768 inb_S256x2048_S256x256_0_768 z c768 (by omega)⟩
    by_cases c512 : 512 ≤ (z 1).val
    · exact ⟨_, (List.mem_cons_of_mem _ (List.mem_cons_of_mem _ (List.mem_cons_of_mem _ (List.mem_cons_of_mem _ (List.mem_cons_of_mem _ List.mem_cons_self))))), mem_gates 512 inb_S256x2048_S256x256_0_512 z c512 (by omega)⟩
    by_cases c256 : 256 ≤ (z 1).val
    · exact ⟨_, (List.mem_cons_of_mem _ (List.mem_cons_of_mem _ (List.mem_cons_of_mem _ (List.mem_cons_of_mem _ (List.mem_cons_of_mem _ (List.mem_cons_of_mem _ List.mem_cons_self)))))), mem_gates 256 inb_S256x2048_S256x256_0_256 z c256 (by omega)⟩
    exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_gates 0 inb_S256x2048_S256x256_0_0 z (Nat.zero_le _) (by omega)⟩

/-- What is stored, from the blocks. -/
abbrev stored_gates (x : Arr 256 1024) (gain : Arr 1 1024) (w : Arr 4352 1024) : Stored .f32 :=
  fun q hw => k0_pay15 (F := Ideal) (k0_pay4 x gain) (wrows q hw w)

/-- The rows of a point, as a block. -/
def block_gates (A : Args) (R : Fin 256 → Fin 4096) : Arr 256 2048 := fun z => A.gates (R (z 0)) (z 1)

theorem canon_block_gates (B : Blocks A R x gain w) : View.canon (pieces_gates (stored_gates x gain w)) = block_gates A R :=
  canon_gates _ _ fun o q e hw hh a k => (chunk_f32 q hw B a k).trans
    (congrArg (A.p (R a)) (Fin.ext (by show q + k.val = 2304 + (o + k.val); omega)))

end Cert.ProjForward

end
-- ==== Proof.ProjOutputs.lean ====
/- The arrays the input projection's call leaves: what the host hands the call, the blocks each grid point reads and leaves, and each
   row of the four results from the one point that holds the row. -/
module

public import proofs.«01_k».proof.Proof.Gen.ProjIdeal.Value
public import proofs.«01_k».proof.Proof.ProjTile
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.ProjForward

open Cert.ProjIdeal Cert.ProjIdeal.Gen Cert.ProjIdeal.Value
open Cert.Mix (Arr)

variable (m : (ℓ : Loc nD τ sig) → Buf (Elt Ideal) ℓ) (c : Dev nD)

/-- The program's arguments on device `c`. -/
abbrev argsOf : Args where
  x := m (c, Proc.tc.devRef main_arg0)
  gain := m (c, Proc.tc.devRef main_arg1)
  w := m (c, Proc.tc.devRef main_arg2)

variable {m c}

theorem V_arg0 : (V m c main_arg0 : Arr 4096 1024) = (argsOf m c).x := by
  show _ = m (c, Proc.tc.devRef main_arg0)
  unfold V
  after_reads_simp

theorem V_arg1 : (V m c main_arg1 : Arr 1 1024) = (argsOf m c).gain := by
  show _ = m (c, Proc.tc.devRef main_arg1)
  unfold V
  after_reads_simp

set_option maxHeartbeats 1000000 in
theorem V_v1 (f : Fin 4352) (k : Fin 1024) : (V m c main_v1 : Arr 4352 1024) (ix2 f k) = (argsOf m c).w (ix2 k f) := by
  unfold V
  after_reads_at

/-- Row `a` of the blocks of point `t`. -/
abbrev row (t : Fin cfg0.N) (a : Fin 256) : Fin 4096 := ⟨256 * t.val + a.val, by have := lt_of_lt_of_eq t.isLt N_0; omega⟩

/-- Which block of its array each window holds at a point: the row arrays' blocks follow the point, the others are whole. -/
theorem index_facts : ∀ t : Fin cfg0.N,
    ((cfg0.win 0).index t 0 = t.val ∧ (cfg0.win 0).index t 1 = 0)
    ∧ ((cfg0.win 1).index t 0 = 0 ∧ (cfg0.win 1).index t 1 = 0)
    ∧ ((cfg0.win 2).index t 0 = 0 ∧ (cfg0.win 2).index t 1 = 0)
    ∧ ((cfg0.win 3).index t 0 = t.val ∧ (cfg0.win 3).index t 1 = 0)
    ∧ ((cfg0.win 4).index t 0 = t.val ∧ (cfg0.win 4).index t 1 = 0)
    ∧ ((cfg0.win 5).index t 0 = t.val ∧ (cfg0.win 5).index t 1 = 0)
    ∧ ((cfg0.win 6).index t 0 = t.val ∧ (cfg0.win 6).index t 1 = 0) := by
  decide +kernel

theorem iblk_x (t : Fin cfg0.N) (a : Fin 256) (j : Fin 1024) :
    (iblk m c 0 t : Arr 256 1024) (ix2 a j) = (V m c main_arg0 : Arr 4096 1024) (ix2 (row t a) j) := by
  obtain ⟨h0, h1⟩ := (index_facts t).1
  blk_simp [iblk]
  refine congrArg (V m c main_arg0) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

theorem iblk_gain (t : Fin cfg0.N) (a : Fin 1) (j : Fin 1024) :
    (iblk m c 1 t : Arr 1 1024) (ix2 a j) = (V m c main_arg1 : Arr 1 1024) (ix2 a j) := by
  obtain ⟨h0, h1⟩ := (index_facts t).2.1
  blk_simp [iblk]
  refine congrArg (V m c main_arg1) (funext fun x => Fin.ext ?_)
  match x with
  | ⟨0, _⟩ => exact (Pipeline.Window.rect_emb_val _ t _ 0).trans (by rw [h0]; show 0 * 1 + a.val = a.val; omega)
  | ⟨1, _⟩ => exact (Pipeline.Window.rect_emb_val _ t _ 1).trans (by rw [h1]; show 0 * 1024 + j.val = j.val; omega)

theorem iblk_w (t : Fin cfg0.N) (a : Fin 4352) (j : Fin 1024) :
    (iblk m c 2 t : Arr 4352 1024) (ix2 a j) = (V m c main_v1 : Arr 4352 1024) (ix2 a j) := by
  obtain ⟨h0, h1⟩ := (index_facts t).2.2.1
  blk_simp [iblk]
  refine congrArg (V m c main_v1) (funext fun x => Fin.ext ?_)
  match x with
  | ⟨0, _⟩ => exact (Pipeline.Window.rect_emb_val _ t _ 0).trans (by rw [h0]; show 0 * 4352 + a.val = a.val; omega)
  | ⟨1, _⟩ => exact (Pipeline.Window.rect_emb_val _ t _ 1).trans (by rw [h1]; show 0 * 1024 + j.val = j.val; omega)

/-- The blocks of point `t` hold the rows of the point. -/
theorem blocks (t : Fin cfg0.N) : Blocks (argsOf m c) (row t) (iblk m c 0 t) (iblk m c 1 t) (iblk m c 2 t) where
  x a j := (iblk_x t a j).trans (congrFun V_arg0 _)
  gain a j := (iblk_gain t a j).trans ((congrFun V_arg1 _).trans (congrArg (argsOf m c).gain (congrArg (fun z => ix2 z j) (Subsingleton.elim a 0))))
  w f k := (iblk_w t f k).trans (V_v1 f k)

/-! ### The blocks a point leaves -/

theorem whole_x (x : Arr 256 1024) : View.ld (Val := Elt Ideal) (S := S256x1024) (e' := .f32) x r0_0 = x :=
  View.ld_unit_lit (Val := Elt Ideal) (e := .f32) (S := S256x1024) (off := ![0, 0]) inb_S256x1024_S256x1024_0_0 x (Fin.forall_fin_two.mpr ⟨rfl, rfl⟩)
theorem whole_gain (x : Arr 1 1024) : View.ld (Val := Elt Ideal) (S := S1x1024) (e' := .f32) x r0_1 = x :=
  View.ld_unit_lit (Val := Elt Ideal) (e := .f32) (S := S1x1024) (off := ![0, 0]) inb_S1x1024_S1x1024_0_0 x (Fin.forall_fin_two.mpr ⟨rfl, rfl⟩)

theorem blocks_read (t : Fin cfg0.N) : Blocks (argsOf m c) (row t) (View.ld (Val := Elt Ideal) (S := S256x1024) (e' := .f32) (iblk m c 0 t) r0_0)
    (View.ld (Val := Elt Ideal) (S := S1x1024) (e' := .f32) (iblk m c 1 t) r0_1) (iblk m c 2 t) :=
  (congrArg₂ (fun x y => Blocks (argsOf m c) (row t) x y (iblk m c 2 t)) (whole_x (iblk m c 0 t)) (whole_gain (iblk m c 1 t))).mpr (blocks t)

theorem out_h (t : Fin cfg0.N) (a : Fin 256) (j : Fin 1024) :
    (out0_3 (F := Ideal) (iblk m c 0 t) (iblk m c 1 t) (iblk m c 2 t) : Arr 256 1024) (ix2 a j) = (argsOf m c).h (row t a) j := by
  have e : out0_3 (F := Ideal) (iblk m c 0 t) (iblk m c 1 t) (iblk m c 2 t) = k0_pay4 (F := Ideal) (iblk m c 0 t) (iblk m c 1 t) := by
    unfold out0_3
    rw [whole_x, whole_gain]
    exact View.canon_cons_unit_lit (Val := Elt Ideal) (e := .bf16) (S := S256x1024) (off := ![0, 0]) inb_S256x1024_S256x1024_0_0 _ [] (Fin.forall_fin_two.mpr ⟨rfl, rfl⟩)
  exact (congrFun e _).trans (h_tile (blocks t) a j)

theorem out_a (t : Fin cfg0.N) (a : Fin 256) (f : Fin 1536) :
    (out0_4 (F := Ideal) (iblk m c 0 t) (iblk m c 1 t) (iblk m c 2 t) : Arr 256 1536) (ix2 a f) = (argsOf m c).a (row t a) f := by
  have e : out0_4 (F := Ideal) (iblk m c 0 t) (iblk m c 1 t) (iblk m c 2 t) = block_a (argsOf m c) (row t) :=
    canon_block_a (blocks_read t)
  exact congrFun e _

theorem out_b (t : Fin cfg0.N) (a : Fin 256) (f : Fin 768) :
    (out0_5 (F := Ideal) (iblk m c 0 t) (iblk m c 1 t) (iblk m c 2 t) : Arr 256 768) (ix2 a f) = (argsOf m c).b (row t a) f := by
  have e : out0_5 (F := Ideal) (iblk m c 0 t) (iblk m c 1 t) (iblk m c 2 t) = block_b (argsOf m c) (row t) :=
    canon_block_b (blocks_read t)
  exact congrFun e _

theorem out_gates (t : Fin cfg0.N) (a : Fin 256) (f : Fin 2048) :
    (out0_6 (F := Ideal) (iblk m c 0 t) (iblk m c 1 t) (iblk m c 2 t) : Arr 256 2048) (ix2 a f) = (argsOf m c).gates (row t a) f := by
  have e : out0_6 (F := Ideal) (iblk m c 0 t) (iblk m c 1 t) (iblk m c 2 t) = block_gates (argsOf m c) (row t) :=
    canon_block_gates (blocks_read t)
  exact congrFun e _

/-! ### The arrays -/

/-- The point that holds row `r`, and the row's place in its block. -/
abbrev tileOf (r : Fin 4096) : Fin cfg0.N := ⟨r.val / 256, lt_of_lt_of_eq (by omega) N_0.symm⟩
abbrev inTile (r : Fin 4096) : Fin 256 := ⟨r.val % 256, Nat.mod_lt _ (by decide)⟩

theorem row_tileOf (r : Fin 4096) : row (tileOf r) (inTile r) = r :=
  Fin.ext (by show 256 * (r.val / 256) + r.val % 256 = r.val; omega)

theorem arr_h (r : Fin 4096) (j : Fin 1024) :
    ((dats m 0 c).arrAt 3 cfg0.N : Arr 4096 1024) (ix2 r j) = (argsOf m c).h r j := by
  obtain ⟨h0, h1⟩ := (index_facts (tileOf r)).2.2.2.1
  have hf : (cfg0.win 3).flush (tileOf r) = true := (by decide +kernel : ∀ t : Fin cfg0.N, (cfg0.win 3).flush t = true) _
  have e := congrFun (blocks3 m c (tileOf r) hf) (ix2 (inTile r) j)
  rw [flushed3] at e
  refine Eq.trans ?_ (e.trans ?_)
  · refine congrArg ((dats m 0 c).arrAt 3 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_h (tileOf r) (inTile r) j).trans (by rw [row_tileOf])

theorem arr_a (r : Fin 4096) (j : Fin 1536) :
    ((dats m 0 c).arrAt 4 cfg0.N : Arr 4096 1536) (ix2 r j) = (argsOf m c).a r j := by
  obtain ⟨h0, h1⟩ := (index_facts (tileOf r)).2.2.2.2.1
  have hf : (cfg0.win 4).flush (tileOf r) = true := (by decide +kernel : ∀ t : Fin cfg0.N, (cfg0.win 4).flush t = true) _
  have e := congrFun (blocks4 m c (tileOf r) hf) (ix2 (inTile r) j)
  rw [flushed4] at e
  refine Eq.trans ?_ (e.trans ?_)
  · refine congrArg ((dats m 0 c).arrAt 4 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1536 + j.val = j.val; omega)).symm
  · exact (out_a (tileOf r) (inTile r) j).trans (by rw [row_tileOf])

theorem arr_b (r : Fin 4096) (j : Fin 768) :
    ((dats m 0 c).arrAt 5 cfg0.N : Arr 4096 768) (ix2 r j) = (argsOf m c).b r j := by
  obtain ⟨h0, h1⟩ := (index_facts (tileOf r)).2.2.2.2.2.1
  have hf : (cfg0.win 5).flush (tileOf r) = true := (by decide +kernel : ∀ t : Fin cfg0.N, (cfg0.win 5).flush t = true) _
  have e := congrFun (blocks5 m c (tileOf r) hf) (ix2 (inTile r) j)
  rw [flushed5] at e
  refine Eq.trans ?_ (e.trans ?_)
  · refine congrArg ((dats m 0 c).arrAt 5 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 768 + j.val = j.val; omega)).symm
  · exact (out_b (tileOf r) (inTile r) j).trans (by rw [row_tileOf])

theorem arr_gates (r : Fin 4096) (j : Fin 2048) :
    ((dats m 0 c).arrAt 6 cfg0.N : Arr 4096 2048) (ix2 r j) = (argsOf m c).gates r j := by
  obtain ⟨h0, h1⟩ := (index_facts (tileOf r)).2.2.2.2.2.2
  have hf : (cfg0.win 6).flush (tileOf r) = true := (by decide +kernel : ∀ t : Fin cfg0.N, (cfg0.win 6).flush t = true) _
  have e := congrFun (blocks6 m c (tileOf r) hf) (ix2 (inTile r) j)
  rw [flushed6] at e
  refine Eq.trans ?_ (e.trans ?_)
  · refine congrArg ((dats m 0 c).arrAt 6 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 2048 + j.val = j.val; omega)).symm
  · exact (out_gates (tileOf r) (inTile r) j).trans (by rw [row_tileOf])

end Cert.ProjForward

end
-- ==== Proof.ProjReference.lean ====
/- What the reference's four results are: the formulas of the module `ProjMath`. -/
module

public import proofs.«01_k».proof.Proof.Gen.ProjReferenceIdeal.Read
public import proofs.«01_k».proof.Proof.ProjMath
public import Idealize.ShloMosaic.Lib.IdealHost

@[expose] public section

set_option maxRecDepth 16384

noncomputable section

open Idealize.ShloMosaic Idealize.ShloMosaic.TcCoe Idealize.SL.Sem

namespace Cert.ProjForward.Ref

open Cert.ProjReferenceIdeal Cert.ProjReferenceIdeal.Read
open Cert.Mix (Arr)
open Cert.HeadGrad (ofBits_1024 ofBits_eps)
open Cert.RmsGradient (msE invE)

variable (A : Args)

theorem v6_apply (r : Fin 4096) (z : Fin 1) : val_main_v6 (F := Ideal) A.x (ix2 r z) = msE (A.row r) := by
  unfold val_main_v6 val_main_v4 val_main_v2 val_main_v1 val_main_v0
  pointwise [val_main_v3, val_main_cst_0, val_main_v5, val_main_cst_1, val_main_cst]
  simp only [ofBits_1024, ofBits_eps]
  rfl

theorem v11_apply (r : Fin 4096) (j : Fin 1024) : val_main_v11 (F := Ideal) A.x A.gain (ix2 r j) = A.h r j := by
  have e0 := v6_apply A
  unfold val_main_v11 val_main_v9 val_main_v8 val_main_v7
  generalize val_main_v6 (F := Ideal) A.x = y0 at *
  pointwise [val_main_v10]
  simp only [e0]
  rfl

theorem v12_apply (r : Fin 4096) (f : Fin 4352) : val_main_v12 (F := Ideal) A.x A.gain A.w (ix2 r f) = A.p r f := by
  have e0 := v11_apply A
  unfold val_main_v12
  generalize val_main_v11 (F := Ideal) A.x A.gain = y0 at *
  pointwise
  simp only [e0]
  rfl

theorem v16_apply (r : Fin 4096) (j : Fin 1024) : val_main_v16 (F := Ideal) A.x A.gain (ix2 r j) = A.h r j := by
  have e := v11_apply A
  unfold val_main_v16
  generalize val_main_v11 (F := Ideal) A.x A.gain = y at *
  pointwise
  exact e r j

theorem v17_apply (r : Fin 4096) (f : Fin 1536) : val_main_v17 (F := Ideal) A.x A.gain A.w (ix2 r f) = A.a r f := by
  have e := v12_apply A
  unfold val_main_v17 val_main_v13
  generalize val_main_v12 (F := Ideal) A.x A.gain A.w = y at *
  pointwise
  refine (congrArg y (congrArg (fun z => ix2 r z) (Fin.ext ?_))).trans (e r ⟨0 + f.val, by omega⟩)
  first | rfl | (show _ = 0 + f.val; simp; done) | (show _ = 0 + f.val; dsimp; omega)

theorem v18_apply (r : Fin 4096) (f : Fin 768) : val_main_v18 (F := Ideal) A.x A.gain A.w (ix2 r f) = A.b r f := by
  have e := v12_apply A
  unfold val_main_v18 val_main_v14
  generalize val_main_v12 (F := Ideal) A.x A.gain A.w = y at *
  pointwise
  refine (congrArg y (congrArg (fun z => ix2 r z) (Fin.ext ?_))).trans (e r ⟨1536 + f.val, by omega⟩)
  first | rfl | (show _ = 1536 + f.val; simp; done) | (show _ = 1536 + f.val; dsimp; omega)

theorem v15_apply (r : Fin 4096) (f : Fin 2048) : val_main_v15 (F := Ideal) A.x A.gain A.w (ix2 r f) = A.gates r f := by
  have e := v12_apply A
  unfold val_main_v15
  generalize val_main_v12 (F := Ideal) A.x A.gain A.w = y at *
  pointwise
  refine (congrArg y (congrArg (fun z => ix2 r z) (Fin.ext ?_))).trans (e r ⟨2304 + f.val, by omega⟩)
  first | rfl | (show _ = 2304 + f.val; simp; done) | (show _ = 2304 + f.val; dsimp; omega)

end Cert.ProjForward.Ref

end
-- ==== Proof.ProjResults.lean ====
/- The four results: the launch's arrays are the reference's. -/
module

public import proofs.«01_k».proof.Proof.ProjOutputs
public import proofs.«01_k».proof.Proof.ProjReference

@[expose] public section

set_option maxRecDepth 16384

noncomputable section

open Idealize.ShloMosaic Idealize.ShloMosaic.TcCoe Idealize.SL.Sem

namespace Cert.ProjForward

open Cert.Mix (Arr)
open Cert.RowSums (ext2)

variable {m : (ℓ : Loc Cert.ProjIdeal.nD Cert.ProjIdeal.τ Cert.ProjIdeal.sig) → Buf (Elt Ideal) ℓ} {c : Dev Cert.ProjIdeal.nD}

theorem h_eq : ((Cert.ProjIdeal.Gen.dats m 0 c).arrAt 3 Cert.ProjIdeal.cfg0.N : Arr 4096 1024)
    = Cert.ProjReferenceIdeal.Read.val_main_v16 (F := Ideal) (m (c, Proc.tc.devRef Cert.ProjIdeal.main_arg0)) (m (c, Proc.tc.devRef Cert.ProjIdeal.main_arg1)) :=
  ext2 fun r j => (arr_h r j).trans (Ref.v16_apply (argsOf m c) r j).symm

theorem a_eq : ((Cert.ProjIdeal.Gen.dats m 0 c).arrAt 4 Cert.ProjIdeal.cfg0.N : Arr 4096 1536)
    = Cert.ProjReferenceIdeal.Read.val_main_v17 (F := Ideal) (m (c, Proc.tc.devRef Cert.ProjIdeal.main_arg0)) (m (c, Proc.tc.devRef Cert.ProjIdeal.main_arg1)) (m (c, Proc.tc.devRef Cert.ProjIdeal.main_arg2)) :=
  ext2 fun r j => (arr_a r j).trans (Ref.v17_apply (argsOf m c) r j).symm

theorem b_eq : ((Cert.ProjIdeal.Gen.dats m 0 c).arrAt 5 Cert.ProjIdeal.cfg0.N : Arr 4096 768)
    = Cert.ProjReferenceIdeal.Read.val_main_v18 (F := Ideal) (m (c, Proc.tc.devRef Cert.ProjIdeal.main_arg0)) (m (c, Proc.tc.devRef Cert.ProjIdeal.main_arg1)) (m (c, Proc.tc.devRef Cert.ProjIdeal.main_arg2)) :=
  ext2 fun r j => (arr_b r j).trans (Ref.v18_apply (argsOf m c) r j).symm

theorem gates_eq : ((Cert.ProjIdeal.Gen.dats m 0 c).arrAt 6 Cert.ProjIdeal.cfg0.N : Arr 4096 2048)
    = Cert.ProjReferenceIdeal.Read.val_main_v15 (F := Ideal) (m (c, Proc.tc.devRef Cert.ProjIdeal.main_arg0)) (m (c, Proc.tc.devRef Cert.ProjIdeal.main_arg1)) (m (c, Proc.tc.devRef Cert.ProjIdeal.main_arg2)) :=
  ext2 fun r j => (arr_gates r j).trans (Ref.v15_apply (argsOf m c) r j).symm

end Cert.ProjForward

end
-- ==== Proof.MixForwardTile.lean ====
/- The forward pass of the mixing block: its output's formula (the branches and the mixture are those of the module `Gradient`), and one
   grid point on its blocks: `R a` is the row of the whole arrays that row `a` of the point's blocks holds. -/
module

public import proofs.«01_k».proof.Proof.Gen.MixForwardIdeal.Skeleton
public import proofs.«01_k».proof.Proof.Gradient
public import Idealize.ShloMosaic.Lib.Pipeline.ReadBack
public import Idealize.ShloMosaic.Lib.Pipeline.ValueKit
public import Idealize.ShloMosaic.Lib.Pipeline.FrameBody
public import Idealize.ShloMosaic.Lib.Pointwise
public import Idealize.ShloMosaic.Lib.IdealHost

@[expose] public section

set_option maxRecDepth 16384

noncomputable section

open Idealize.ShloMosaic Idealize.ShloMosaic.TcCoe

namespace Cert.MixOut

open Cert.MixForwardIdeal Cert.MixForwardIdeal.Gen
open Cert.Mix (Arr branch merged)

/-- The block's input, the two attention outputs, the gates' logits, the branches' projections and the output's. -/
structure Args where
  x : Arr 4096 1024
  oa : Arr 4096 512
  ob : Arr 4096 512
  ga : Arr 4096 1024
  gb : Arr 4096 1024
  wa : Arr 512 1024
  wb : Arr 512 1024
  wo : Arr 1024 1024

namespace Args
variable (A : Args)
/-- The two branches, the mixture and the block's output. -/
def ya (r : Fin 4096) (j : Fin 1024) : EReal := branch A.oa A.wa r j
def yb (r : Fin 4096) (j : Fin 1024) : EReal := branch A.ob A.wb r j
def mixed (r : Fin 4096) (j : Fin 1024) : EReal := merged A.oa A.ob A.ga A.gb A.wa A.wb r j
def out (r : Fin 4096) (j : Fin 1024) : EReal := A.x (ix2 r j) + ∑ k, A.mixed r k * A.wo (ix2 k j)
end Args

/-- The blocks of one point: rows `R a` of the input, the attention outputs and the gates' logits; the projections, transposed, and the
    output's projection, whole. -/
structure Blocks (A : Args) (R : Fin 256 → Fin 4096) (x : Arr 256 1024) (oa ob : Arr 256 512) (ga gb : Arr 256 1024) (pa pb : Arr 1024 512)
    (wo : Arr 1024 1024) : Prop where
  x : ∀ a j, x (ix2 a j) = A.x (ix2 (R a) j)
  oa : ∀ a j, oa (ix2 a j) = A.oa (ix2 (R a) j)
  ob : ∀ a j, ob (ix2 a j) = A.ob (ix2 (R a) j)
  ga : ∀ a j, ga (ix2 a j) = A.ga (ix2 (R a) j)
  gb : ∀ a j, gb (ix2 a j) = A.gb (ix2 (R a) j)
  pa : ∀ j k, pa (ix2 j k) = A.wa (ix2 k j)
  pb : ∀ j k, pb (ix2 j k) = A.wb (ix2 k j)
  wo : ∀ k j, wo (ix2 k j) = A.wo (ix2 k j)

variable {A : Args} {R : Fin 256 → Fin 4096} {x : Arr 256 1024} {oa ob : Arr 256 512} {ga gb : Arr 256 1024} {pa pb : Arr 1024 512} {wo : Arr 1024 1024}

theorem product_a (B : Blocks A R x oa ob ga gb pa pb wo) (a : Fin 256) (j : Fin 1024) : k0_pay1 (F := Ideal) oa pa (ix2 a j) = A.ya (R a) j := by
  pointwise [k0_pay1]
  simp only [B.oa, B.pa]
  rfl

theorem product_b (B : Blocks A R x oa ob ga gb pa pb wo) (a : Fin 256) (j : Fin 1024) : k0_pay2 (F := Ideal) ob pb (ix2 a j) = A.yb (R a) j := by
  pointwise [k0_pay2]
  simp only [B.ob, B.pb]
  rfl

theorem ya_tile (B : Blocks A R x oa ob ga gb pa pb wo) (a : Fin 256) (j : Fin 1024) : k0_pay3 (F := Ideal) oa pa (ix2 a j) = A.ya (R a) j := by
  have e := product_a B
  unfold k0_pay3
  generalize k0_pay1 (F := Ideal) oa pa = v at *
  pointwise
  exact e a j

theorem yb_tile (B : Blocks A R x oa ob ga gb pa pb wo) (a : Fin 256) (j : Fin 1024) : k0_pay4 (F := Ideal) ob pb (ix2 a j) = A.yb (R a) j := by
  have e := product_b B
  unfold k0_pay4
  generalize k0_pay2 (F := Ideal) ob pb = v at *
  pointwise
  exact e a j

theorem mixed_tile (B : Blocks A R x oa ob ga gb pa pb wo) (a : Fin 256) (j : Fin 1024) :
    k0_pay5 (F := Ideal) oa pa ob pb ga gb (ix2 a j) = A.mixed (R a) j := by
  have e1 := product_a B
  have e2 := product_b B
  unfold k0_pay5
  generalize k0_pay1 (F := Ideal) oa pa = v1 at *
  generalize k0_pay2 (F := Ideal) ob pb = v2 at *
  pointwise
  simp only [e1, e2, B.ga, B.gb]
  rfl

theorem out_tile (B : Blocks A R x oa ob ga gb pa pb wo) (a : Fin 256) (j : Fin 1024) :
    k0_pay6 (F := Ideal) oa pa ob pb ga gb x wo (ix2 a j) = A.out (R a) j := by
  have e := mixed_tile B
  have e0 := B.x
  unfold k0_pay6
  generalize k0_pay5 (F := Ideal) oa pa ob pb ga gb = v at *
  pointwise
  simp only [e, e0, B.wo]
  rfl

end Cert.MixOut

end
-- ==== Proof.MixForwardOutputs.lean ====
/- The arrays the mixing block's call leaves: what the host hands the call (the gates side by side, the projections stacked and
   transposed), the blocks each grid point reads and leaves, and each row of the four results from the one point that holds the row. -/
module

public import proofs.«01_k».proof.Proof.Gen.MixForwardIdeal.Value
public import proofs.«01_k».proof.Proof.MixForwardTile
public import Idealize.ShloMosaic.Lib.Pipeline.ReadBack
public import Idealize.ShloMosaic.Lib.Pipeline.ValueKit
public import Idealize.ShloMosaic.Lib.Pointwise
public import Idealize.ShloMosaic.Lib.StableHlo.ReadAt
public import Idealize.ShloMosaic.PureOps.Ideal

@[expose] public section

set_option maxRecDepth 16384

noncomputable section

open Idealize.ShloMosaic Idealize.ShloMosaic.TcCoe Idealize.SL.Sem

namespace Cert.MixOut

open Cert.MixForwardIdeal Cert.MixForwardIdeal.Gen Cert.MixForwardIdeal.Value
open Cert.Mix (Arr)

variable (m : (ℓ : Loc nD τ sig) → Buf (Elt Ideal) ℓ) (c : Dev nD)

/-- The program's arguments on device `c`. -/
abbrev argsOf : Args where
  x := m (c, Proc.tc.devRef main_arg0)
  oa := m (c, Proc.tc.devRef main_arg1)
  ob := m (c, Proc.tc.devRef main_arg2)
  ga := m (c, Proc.tc.devRef main_arg3)
  gb := m (c, Proc.tc.devRef main_arg4)
  wa := m (c, Proc.tc.devRef main_arg5)
  wb := m (c, Proc.tc.devRef main_arg6)
  wo := m (c, Proc.tc.devRef main_arg7)

variable {m c}

theorem V_x : (V m c main_arg0 : Arr 4096 1024) = (argsOf m c).x := by
  show _ = m (c, Proc.tc.devRef main_arg0)
  unfold V
  after_reads_simp

set_option maxHeartbeats 1000000 in
theorem V_oa (r : Fin 4096) (j : Fin 512) : (V m c main_v3 : Arr 4096 512) (ix2 r j) = (argsOf m c).oa (ix2 r j) := by
  unfold V
  after_reads_at

set_option maxHeartbeats 1000000 in
theorem V_ob (r : Fin 4096) (j : Fin 512) : (V m c main_v4 : Arr 4096 512) (ix2 r j) = (argsOf m c).ob (ix2 r j) := by
  unfold V
  after_reads_at

set_option maxHeartbeats 1000000 in
theorem V_gates (r : Fin 4096) (j : Fin 2048) : (V m c main_v5 : Arr 4096 2048) (ix2 r j) =
    if h : j.val < 1024 then (argsOf m c).ga (ix2 r ⟨j.val, h⟩) else (argsOf m c).gb (ix2 r ⟨j.val - 1024, by omega⟩) := by
  unfold V
  after_reads_at

set_option maxHeartbeats 1000000 in
theorem V_proj (k : Fin 1024) (j : Fin 1024) : (V m c main_v2 : Arr 1024 1024) (ix2 k j) =
    if h : j.val < 512 then (argsOf m c).wa (ix2 ⟨j.val, h⟩ k) else (argsOf m c).wb (ix2 ⟨j.val - 512, by omega⟩ k) := by
  unfold V
  after_reads_at
  split
  · after_reads_at
  · after_reads_at

set_option maxHeartbeats 1000000 in
theorem V_wo (k : Fin 1024) (j : Fin 1024) : (V m c main_v6 : Arr 1024 1024) (ix2 k j) = (argsOf m c).wo (ix2 k j) := by
  unfold V
  after_reads_at

/-- Row `a` of the blocks of point `t`. -/
abbrev row (t : Fin cfg0.N) (a : Fin 256) : Fin 4096 := ⟨256 * t.val + a.val, by have := lt_of_lt_of_eq t.isLt N_0; omega⟩

/-- Which block of its array each window holds at a point: the row arrays' blocks follow the point, the others are whole. -/
theorem index_facts : ∀ t : Fin cfg0.N,
    ((cfg0.win 0).index t 0 = t.val ∧ (cfg0.win 0).index t 1 = 0)
    ∧ ((cfg0.win 1).index t 0 = t.val ∧ (cfg0.win 1).index t 1 = 0)
    ∧ ((cfg0.win 2).index t 0 = t.val ∧ (cfg0.win 2).index t 1 = 0)
    ∧ ((cfg0.win 3).index t 0 = t.val ∧ (cfg0.win 3).index t 1 = 0)
    ∧ ((cfg0.win 4).index t 0 = 0 ∧ (cfg0.win 4).index t 1 = 0)
    ∧ ((cfg0.win 5).index t 0 = 0 ∧ (cfg0.win 5).index t 1 = 0)
    ∧ ((cfg0.win 6).index t 0 = t.val ∧ (cfg0.win 6).index t 1 = 0)
    ∧ ((cfg0.win 7).index t 0 = t.val ∧ (cfg0.win 7).index t 1 = 0)
    ∧ ((cfg0.win 8).index t 0 = t.val ∧ (cfg0.win 8).index t 1 = 0)
    ∧ ((cfg0.win 9).index t 0 = t.val ∧ (cfg0.win 9).index t 1 = 0) := by
  decide +kernel

theorem iblk_x (t : Fin cfg0.N) (a : Fin 256) (j : Fin 1024) :
    (iblk m c 0 t : Arr 256 1024) (ix2 a j) = (V m c main_arg0 : Arr 4096 1024) (ix2 (row t a) j) := by
  obtain ⟨h0, h1⟩ := (index_facts t).1
  blk_simp [iblk]
  refine congrArg (V m c main_arg0) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 1024 + j.val = j.val; omega)

theorem iblk_oa (t : Fin cfg0.N) (a : Fin 256) (j : Fin 512) :
    (iblk m c 1 t : Arr 256 512) (ix2 a j) = (V m c main_v3 : Arr 4096 512) (ix2 (row t a) j) := by
  obtain ⟨h0, h1⟩ := (index_facts t).2.1
  blk_simp [iblk]
  refine congrArg (V m c main_v3) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 512 + j.val = j.val; omega)

theorem iblk_ob (t : Fin cfg0.N) (a : Fin 256) (j : Fin 512) :
    (iblk m c 2 t : Arr 256 512) (ix2 a j) = (V m c main_v4 : Arr 4096 512) (ix2 (row t a) j) := by
  obtain ⟨h0, h1⟩ := (index_facts t).2.2.1
  blk_simp [iblk]
  refine congrArg (V m c main_v4) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 512 + j.val = j.val; omega)

theorem iblk_gates (t : Fin cfg0.N) (a : Fin 256) (j : Fin 2048) :
    (iblk m c 3 t : Arr 256 2048) (ix2 a j) = (V m c main_v5 : Arr 4096 2048) (ix2 (row t a) j) := by
  obtain ⟨h0, h1⟩ := (index_facts t).2.2.2.1
  blk_simp [iblk]
  refine congrArg (V m c main_v5) (funext fun x => Fin.ext ?_)
  match x with
  | ⟨0, _⟩ => exact (Pipeline.Window.rect_emb_val _ t _ 0).trans (by rw [h0]; show t.val * 256 + a.val = 256 * t.val + a.val; omega)
  | ⟨1, _⟩ => exact (Pipeline.Window.rect_emb_val _ t _ 1).trans (by rw [h1]; show 0 * 2048 + j.val = j.val; omega)

theorem iblk_proj (t : Fin cfg0.N) (a : Fin 1024) (j : Fin 1024) :
    (iblk m c 4 t : Arr 1024 1024) (ix2 a j) = (V m c main_v2 : Arr 1024 1024) (ix2 a j) := by
  obtain ⟨h0, h1⟩ := (index_facts t).2.2.2.2.1
  blk_simp [iblk]
  refine congrArg (V m c main_v2) (funext fun x => Fin.ext ?_)
  match x with
  | ⟨0, _⟩ => exact (Pipeline.Window.rect_emb_val _ t _ 0).trans (by rw [h0]; show 0 * 1024 + a.val = a.val; omega)
  | ⟨1, _⟩ => exact (Pipeline.Window.rect_emb_val _ t _ 1).trans (by rw [h1]; show 0 * 1024 + j.val = j.val; omega)

theorem iblk_wo (t : Fin cfg0.N) (a : Fin 1024) (j : Fin 1024) :
    (iblk m c 5 t : Arr 1024 1024) (ix2 a j) = (V m c main_v6 : Arr 1024 1024) (ix2 a j) := by
  obtain ⟨h0, h1⟩ := (index_facts t).2.2.2.2.2.1
  blk_simp [iblk]
  refine congrArg (V m c main_v6) (funext fun x => Fin.ext ?_)
  match x with
  | ⟨0, _⟩ => exact (Pipeline.Window.rect_emb_val _ t _ 0).trans (by rw [h0]; show 0 * 1024 + a.val = a.val; omega)
  | ⟨1, _⟩ => exact (Pipeline.Window.rect_emb_val _ t _ 1).trans (by rw [h1]; show 0 * 1024 + j.val = j.val; omega)

/-! ### The blocks as they are read -/

theorem whole_x (v : Arr 256 1024) : View.ld (Val := Elt Ideal) (S := S256x1024) (e' := .f32) v r0_3 = v :=
  View.ld_unit_lit (Val := Elt Ideal) (e := .f32) (S := S256x1024) (off := ![0, 0]) inb_S256x1024_S256x1024_0_0 v (Fin.forall_fin_two.mpr ⟨rfl, rfl⟩)
theorem whole_o (v : Arr 256 512) : View.ld (Val := Elt Ideal) (S := S256x512) (e' := .bf16) v r0_0 = v :=
  View.ld_unit_lit (Val := Elt Ideal) (e := .bf16) (S := S256x512) (off := ![0, 0]) inb_S256x512_S256x512_0_0 v (Fin.forall_fin_two.mpr ⟨rfl, rfl⟩)
theorem whole_wo (v : Arr 1024 1024) : View.ld (Val := Elt Ideal) (S := S1024x1024) (e' := .bf16) v r0_6 = v :=
  View.ld_unit_lit (Val := Elt Ideal) (e := .bf16) (S := S1024x1024) (off := ![0, 0]) inb_S1024x1024_S1024x1024_0_0 v (Fin.forall_fin_two.mpr ⟨rfl, rfl⟩)

theorem emb_pa (i : Fin 1024) (k : Fin 512) : Rect.emb r0_1 (ix2 i k) = ix2 i ⟨0 + k.val, by omega⟩ := by
  funext z
  refine Fin.ext ?_
  rw [Rect.emb_apply]
  match z with
  | ⟨0, _⟩ => show 0 + 1 * i.val = i.val; omega
  | ⟨1, _⟩ => show 0 + 1 * k.val = 0 + k.val; omega

theorem emb_pb (i : Fin 1024) (k : Fin 512) : Rect.emb r0_2 (ix2 i k) = ix2 i ⟨512 + k.val, by omega⟩ := by
  funext z
  refine Fin.ext ?_
  rw [Rect.emb_apply]
  match z with
  | ⟨0, _⟩ => show 0 + 1 * i.val = i.val; omega
  | ⟨1, _⟩ => show 512 + 1 * k.val = 512 + k.val; omega

theorem emb_ga (i : Fin 256) (k : Fin 1024) : Rect.emb r0_4 (ix2 i k) = ix2 i ⟨0 + k.val, by omega⟩ := by
  funext z
  refine Fin.ext ?_
  rw [Rect.emb_apply]
  match z with
  | ⟨0, _⟩ => show 0 + 1 * i.val = i.val; omega
  | ⟨1, _⟩ => show 0 + 1 * k.val = 0 + k.val; omega

theorem emb_gb (i : Fin 256) (k : Fin 1024) : Rect.emb r0_5 (ix2 i k) = ix2 i ⟨1024 + k.val, by omega⟩ := by
  funext z
  refine Fin.ext ?_
  rw [Rect.emb_apply]
  match z with
  | ⟨0, _⟩ => show 0 + 1 * i.val = i.val; omega
  | ⟨1, _⟩ => show 1024 + 1 * k.val = 1024 + k.val; omega

theorem half_ga (t : Fin cfg0.N) (a : Fin 256) (j : Fin 1024) :
    (View.ld (Val := Elt Ideal) (S := S256x2048) (e' := .f32) (iblk m c 3 t) r0_4) (ix2 a j) = (argsOf m c).ga (ix2 (row t a) j) := by
  refine (congrArg (iblk m c 3 t) (emb_ga a j)).trans ((iblk_gates t a _).trans ((V_gates _ _).trans ((dif_pos (show 0 + j.val < 1024 by omega)).trans ?_)))
  exact congrArg (fun z => (argsOf m c).ga (ix2 (row t a) z)) (Fin.ext (Nat.zero_add _))

theorem half_gb (t : Fin cfg0.N) (a : Fin 256) (j : Fin 1024) :
    (View.ld (Val := Elt Ideal) (S := S256x2048) (e' := .f32) (iblk m c 3 t) r0_5) (ix2 a j) = (argsOf m c).gb (ix2 (row t a) j) := by
  refine (congrArg (iblk m c 3 t) (emb_gb a j)).trans ((iblk_gates t a _).trans ((V_gates _ _).trans ((dif_neg (show ¬ 1024 + j.val < 1024 by omega)).trans ?_)))
  exact congrArg (fun z => (argsOf m c).gb (ix2 (row t a) z)) (Fin.ext (Nat.add_sub_cancel_left _ _))

theorem half_pa (t : Fin cfg0.N) (j : Fin 1024) (k : Fin 512) :
    (View.ld (Val := Elt Ideal) (S := S1024x1024) (e' := .bf16) (iblk m c 4 t) r0_1) (ix2 j k) = (argsOf m c).wa (ix2 k j) := by
  refine (congrArg (iblk m c 4 t) (emb_pa j k)).trans ((iblk_proj t j _).trans ((V_proj _ _).trans ((dif_pos (show 0 + k.val < 512 by omega)).trans ?_)))
  exact congrArg (fun z => (argsOf m c).wa (ix2 z j)) (Fin.ext (Nat.zero_add _))

theorem half_pb (t : Fin cfg0.N) (j : Fin 1024) (k : Fin 512) :
    (View.ld (Val := Elt Ideal) (S := S1024x1024) (e' := .bf16) (iblk m c 4 t) r0_2) (ix2 j k) = (argsOf m c).wb (ix2 k j) := by
  refine (congrArg (iblk m c 4 t) (emb_pb j k)).trans ((iblk_proj t j _).trans ((V_proj _ _).trans ((dif_neg (show ¬ 512 + k.val < 512 by omega)).trans ?_)))
  exact congrArg (fun z => (argsOf m c).wb (ix2 z j)) (Fin.ext (Nat.add_sub_cancel_left _ _))

/-- The blocks of point `t`, as read, hold the rows of the point. -/
theorem blocks (t : Fin cfg0.N) : Blocks (argsOf m c) (row t)
    (View.ld (Val := Elt Ideal) (S := S256x1024) (e' := .f32) (iblk m c 0 t) r0_3)
    (View.ld (Val := Elt Ideal) (S := S256x512) (e' := .bf16) (iblk m c 1 t) r0_0)
    (View.ld (Val := Elt Ideal) (S := S256x512) (e' := .bf16) (iblk m c 2 t) r0_0)
    (View.ld (Val := Elt Ideal) (S := S256x2048) (e' := .f32) (iblk m c 3 t) r0_4)
    (View.ld (Val := Elt Ideal) (S := S256x2048) (e' := .f32) (iblk m c 3 t) r0_5)
    (View.ld (Val := Elt Ideal) (S := S1024x1024) (e' := .bf16) (iblk m c 4 t) r0_1)
    (View.ld (Val := Elt Ideal) (S := S1024x1024) (e' := .bf16) (iblk m c 4 t) r0_2)
    (View.ld (Val := Elt Ideal) (S := S1024x1024) (e' := .bf16) (iblk m c 5 t) r0_6) where
  x a j := (congrFun (whole_x (iblk m c 0 t)) _).trans ((iblk_x t a j).trans (congrFun V_x _))
  oa a j := (congrFun (whole_o (iblk m c 1 t)) _).trans ((iblk_oa t a j).trans (V_oa _ j))
  ob a j := (congrFun (whole_o (iblk m c 2 t)) _).trans ((iblk_ob t a j).trans (V_ob _ j))
  ga a j := half_ga t a j
  gb a j := half_gb t a j
  pa j k := half_pa t j k
  pb j k := half_pb t j k
  wo k j := (congrFun (whole_wo (iblk m c 5 t)) _).trans ((iblk_wo t k j).trans (V_wo k j))

/-! ### The blocks a point leaves -/

theorem out_out (t : Fin cfg0.N) (a : Fin 256) (j : Fin 1024) :
    (out0_6 (F := Ideal) (iblk m c 0 t) (iblk m c 1 t) (iblk m c 2 t) (iblk m c 3 t) (iblk m c 4 t) (iblk m c 5 t) : Arr 256 1024) (ix2 a j) = (argsOf m c).out (row t a) j := by
  have e : out0_6 (F := Ideal) (iblk m c 0 t) (iblk m c 1 t) (iblk m c 2 t) (iblk m c 3 t) (iblk m c 4 t) (iblk m c 5 t) = k0_pay6 (F := Ideal) (View.ld (Val := Elt Ideal) (S := S256x512) (e' := .bf16) (iblk m c 1 t) r0_0) (View.ld (Val := Elt Ideal) (S := S1024x1024) (e' := .bf16) (iblk m c 4 t) r0_1) (View.ld (Val := Elt Ideal) (S := S256x512) (e' := .bf16) (iblk m c 2 t) r0_0) (View.ld (Val := Elt Ideal) (S := S1024x1024) (e' := .bf16) (iblk m c 4 t) r0_2) (View.ld (Val := Elt Ideal) (S := S256x2048) (e' := .f32) (iblk m c 3 t) r0_4) (View.ld (Val := Elt Ideal) (S := S256x2048) (e' := .f32) (iblk m c 3 t) r0_5) (View.ld (Val := Elt Ideal) (S := S256x1024) (e' := .f32) (iblk m c 0 t) r0_3) (View.ld (Val := Elt Ideal) (S := S1024x1024) (e' := .bf16) (iblk m c 5 t) r0_6) :=
    View.canon_cons_unit_lit (Val := Elt Ideal) (e := .f32) (S := S256x1024) (off := ![0, 0]) inb_S256x1024_S256x1024_0_0 _ [] (Fin.forall_fin_two.mpr ⟨rfl, rfl⟩)
  exact (congrFun e _).trans (out_tile (blocks t) a j)

theorem out_ya (t : Fin cfg0.N) (a : Fin 256) (j : Fin 1024) :
    (out0_7 (F := Ideal) (iblk m c 0 t) (iblk m c 1 t) (iblk m c 2 t) (iblk m c 3 t) (iblk m c 4 t) (iblk m c 5 t) : Arr 256 1024) (ix2 a j) = (argsOf m c).ya (row t a) j := by
  have e : out0_7 (F := Ideal) (iblk m c 0 t) (iblk m c 1 t) (iblk m c 2 t) (iblk m c 3 t) (iblk m c 4 t) (iblk m c 5 t) = k0_pay3 (F := Ideal) (View.ld (Val := Elt Ideal) (S := S256x512) (e' := .bf16) (iblk m c 1 t) r0_0) (View.ld (Val := Elt Ideal) (S := S1024x1024) (e' := .bf16) (iblk m c 4 t) r0_1) :=
    View.canon_cons_unit_lit (Val := Elt Ideal) (e := .bf16) (S := S256x1024) (off := ![0, 0]) inb_S256x1024_S256x1024_0_0 _ [] (Fin.forall_fin_two.mpr ⟨rfl, rfl⟩)
  exact (congrFun e _).trans (ya_tile (blocks t) a j)

theorem out_yb (t : Fin cfg0.N) (a : Fin 256) (j : Fin 1024) :
    (out0_8 (F := Ideal) (iblk m c 0 t) (iblk m c 1 t) (iblk m c 2 t) (iblk m c 3 t) (iblk m c 4 t) (iblk m c 5 t) : Arr 256 1024) (ix2 a j) = (argsOf m c).yb (row t a) j := by
  have e : out0_8 (F := Ideal) (iblk m c 0 t) (iblk m c 1 t) (iblk m c 2 t) (iblk m c 3 t) (iblk m c 4 t) (iblk m c 5 t) = k0_pay4 (F := Ideal) (View.ld (Val := Elt Ideal) (S := S256x512) (e' := .bf16) (iblk m c 2 t) r0_0) (View.ld (Val := Elt Ideal) (S := S1024x1024) (e' := .bf16) (iblk m c 4 t) r0_2) :=
    View.canon_cons_unit_lit (Val := Elt Ideal) (e := .bf16) (S := S256x1024) (off := ![0, 0]) inb_S256x1024_S256x1024_0_0 _ [] (Fin.forall_fin_two.mpr ⟨rfl, rfl⟩)
  exact (congrFun e _).trans (yb_tile (blocks t) a j)

theorem out_mixed (t : Fin cfg0.N) (a : Fin 256) (j : Fin 1024) :
    (out0_9 (F := Ideal) (iblk m c 0 t) (iblk m c 1 t) (iblk m c 2 t) (iblk m c 3 t) (iblk m c 4 t) (iblk m c 5 t) : Arr 256 1024) (ix2 a j) = (argsOf m c).mixed (row t a) j := by
  have e : out0_9 (F := Ideal) (iblk m c 0 t) (iblk m c 1 t) (iblk m c 2 t) (iblk m c 3 t) (iblk m c 4 t) (iblk m c 5 t) = k0_pay5 (F := Ideal) (View.ld (Val := Elt Ideal) (S := S256x512) (e' := .bf16) (iblk m c 1 t) r0_0) (View.ld (Val := Elt Ideal) (S := S1024x1024) (e' := .bf16) (iblk m c 4 t) r0_1) (View.ld (Val := Elt Ideal) (S := S256x512) (e' := .bf16) (iblk m c 2 t) r0_0) (View.ld (Val := Elt Ideal) (S := S1024x1024) (e' := .bf16) (iblk m c 4 t) r0_2) (View.ld (Val := Elt Ideal) (S := S256x2048) (e' := .f32) (iblk m c 3 t) r0_4) (View.ld (Val := Elt Ideal) (S := S256x2048) (e' := .f32) (iblk m c 3 t) r0_5) :=
    View.canon_cons_unit_lit (Val := Elt Ideal) (e := .bf16) (S := S256x1024) (off := ![0, 0]) inb_S256x1024_S256x1024_0_0 _ [] (Fin.forall_fin_two.mpr ⟨rfl, rfl⟩)
  exact (congrFun e _).trans (mixed_tile (blocks t) a j)

/-! ### The arrays -/

/-- The point that holds row `r`, and the row's place in its block. -/
abbrev tileOf (r : Fin 4096) : Fin cfg0.N := ⟨r.val / 256, lt_of_lt_of_eq (by omega) N_0.symm⟩
abbrev inTile (r : Fin 4096) : Fin 256 := ⟨r.val % 256, Nat.mod_lt _ (by decide)⟩

theorem row_tileOf (r : Fin 4096) : row (tileOf r) (inTile r) = r :=
  Fin.ext (by show 256 * (r.val / 256) + r.val % 256 = r.val; omega)

theorem arr_out (r : Fin 4096) (j : Fin 1024) :
    ((dats m 0 c).arrAt 6 cfg0.N : Arr 4096 1024) (ix2 r j) = (argsOf m c).out r j := by
  obtain ⟨h0, h1⟩ := (index_facts (tileOf r)).2.2.2.2.2.2.1
  have hf : (cfg0.win 6).flush (tileOf r) = true := (by decide +kernel : ∀ t : Fin cfg0.N, (cfg0.win 6).flush t = true) _
  have e := congrFun (blocks6 m c (tileOf r) hf) (ix2 (inTile r) j)
  rw [flushed6] at e
  refine Eq.trans ?_ (e.trans ?_)
  · refine congrArg ((dats m 0 c).arrAt 6 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_out (tileOf r) (inTile r) j).trans (by rw [row_tileOf])

theorem arr_ya (r : Fin 4096) (j : Fin 1024) :
    ((dats m 0 c).arrAt 7 cfg0.N : Arr 4096 1024) (ix2 r j) = (argsOf m c).ya r j := by
  obtain ⟨h0, h1⟩ := (index_facts (tileOf r)).2.2.2.2.2.2.2.1
  have hf : (cfg0.win 7).flush (tileOf r) = true := (by decide +kernel : ∀ t : Fin cfg0.N, (cfg0.win 7).flush t = true) _
  have e := congrFun (blocks7 m c (tileOf r) hf) (ix2 (inTile r) j)
  rw [flushed7] at e
  refine Eq.trans ?_ (e.trans ?_)
  · refine congrArg ((dats m 0 c).arrAt 7 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_ya (tileOf r) (inTile r) j).trans (by rw [row_tileOf])

theorem arr_yb (r : Fin 4096) (j : Fin 1024) :
    ((dats m 0 c).arrAt 8 cfg0.N : Arr 4096 1024) (ix2 r j) = (argsOf m c).yb r j := by
  obtain ⟨h0, h1⟩ := (index_facts (tileOf r)).2.2.2.2.2.2.2.2.1
  have hf : (cfg0.win 8).flush (tileOf r) = true := (by decide +kernel : ∀ t : Fin cfg0.N, (cfg0.win 8).flush t = true) _
  have e := congrFun (blocks8 m c (tileOf r) hf) (ix2 (inTile r) j)
  rw [flushed8] at e
  refine Eq.trans ?_ (e.trans ?_)
  · refine congrArg ((dats m 0 c).arrAt 8 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_yb (tileOf r) (inTile r) j).trans (by rw [row_tileOf])

theorem arr_mixed (r : Fin 4096) (j : Fin 1024) :
    ((dats m 0 c).arrAt 9 cfg0.N : Arr 4096 1024) (ix2 r j) = (argsOf m c).mixed r j := by
  obtain ⟨h0, h1⟩ := (index_facts (tileOf r)).2.2.2.2.2.2.2.2.2
  have hf : (cfg0.win 9).flush (tileOf r) = true := (by decide +kernel : ∀ t : Fin cfg0.N, (cfg0.win 9).flush t = true) _
  have e := congrFun (blocks9 m c (tileOf r) hf) (ix2 (inTile r) j)
  rw [flushed9] at e
  refine Eq.trans ?_ (e.trans ?_)
  · refine congrArg ((dats m 0 c).arrAt 9 cfg0.N) (funext fun x => Fin.ext ?_)
    match x with
    | ⟨0, _⟩ => exact ((Pipeline.Window.rect_emb_val _ (tileOf r) _ 0).trans (by rw [h0]; show r.val / 256 * 256 + r.val % 256 = r.val; omega)).symm
    | ⟨1, _⟩ => exact ((Pipeline.Window.rect_emb_val _ (tileOf r) _ 1).trans (by rw [h1]; show 0 * 1024 + j.val = j.val; omega)).symm
  · exact (out_mixed (tileOf r) (inTile r) j).trans (by rw [row_tileOf])

end Cert.MixOut

end
-- ==== Proof.MixForwardReference.lean ====
/- What the reference's four results are: the formulas of the modules `Gradient` and `MixForwardTile`. -/
module

public import proofs.«01_k».proof.Proof.Gen.MixForwardReferenceIdeal.Read
public import proofs.«01_k».proof.Proof.MixForwardTile

@[expose] public section

set_option maxRecDepth 16384

noncomputable section

open Idealize.ShloMosaic Idealize.ShloMosaic.TcCoe Idealize.SL.Sem

namespace Cert.MixOut.Ref

open Cert.MixForwardReferenceIdeal Cert.MixForwardReferenceIdeal.Read
open Cert.Mix (Arr branch merged)

variable (A : Args)

/-- The reference's sigmoids of the gates. -/
theorem v7_apply (r : Fin 4096) (j : Fin 1024) : val_main_v7 (F := Ideal) A.ga (ix2 r j) = Ideal.logistic (A.ga (ix2 r j)) := by
  pointwise [val_main_v7, val_main_v6, val_main_cst_0, val_main_v5, val_main_v4, val_main_cst, val_main_v3, val_main_v2]
  rfl

theorem v14_apply (r : Fin 4096) (j : Fin 1024) : val_main_v14 (F := Ideal) A.gb (ix2 r j) = Ideal.logistic (A.gb (ix2 r j)) := by
  pointwise [val_main_v14, val_main_v13, val_main_cst_2, val_main_v12, val_main_v11, val_main_cst_1, val_main_v10, val_main_v9]
  rfl

theorem v0_apply (r : Fin 4096) (j : Fin 1024) : val_main_v0 (F := Ideal) A.oa A.wa (ix2 r j) = A.ya r j := by
  unfold Args.ya branch
  pointwise [val_main_v0]

theorem v1_apply (r : Fin 4096) (j : Fin 1024) : val_main_v1 (F := Ideal) A.ob A.wb (ix2 r j) = A.yb r j := by
  unfold Args.yb branch
  pointwise [val_main_v1]

theorem v16_apply (r : Fin 4096) (j : Fin 1024) : val_main_v16 (F := Ideal) A.oa A.ob A.ga A.gb A.wa A.wb (ix2 r j) = A.mixed r j := by
  unfold Args.mixed merged
  rw [← v7_apply A, ← v14_apply A]
  show _ = _ * A.ya r j + _ * A.yb r j
  rw [← v0_apply A, ← v1_apply A]
  rfl

theorem v18_apply (r : Fin 4096) (j : Fin 1024) :
    val_main_v18 (F := Ideal) A.x A.oa A.ob A.ga A.gb A.wa A.wb A.wo (ix2 r j) = A.out r j := by
  have e := v16_apply A
  unfold val_main_v18 val_main_v17
  generalize val_main_v16 (F := Ideal) A.oa A.ob A.ga A.gb A.wa A.wb = y at *
  pointwise
  simp only [e]
  rfl

theorem v19_apply (r : Fin 4096) (j : Fin 1024) : val_main_v19 (F := Ideal) A.oa A.wa (ix2 r j) = A.ya r j :=
  v0_apply A r j

theorem v20_apply (r : Fin 4096) (j : Fin 1024) : val_main_v20 (F := Ideal) A.ob A.wb (ix2 r j) = A.yb r j :=
  v1_apply A r j

theorem v21_apply (r : Fin 4096) (j : Fin 1024) : val_main_v21 (F := Ideal) A.oa A.ob A.ga A.gb A.wa A.wb (ix2 r j) = A.mixed r j :=
  v16_apply A r j

end Cert.MixOut.Ref

end
-- ==== Proof.MixForwardResults.lean ====
/- The four results: the launch's arrays are the reference's. -/
module

public import proofs.«01_k».proof.Proof.MixForwardOutputs
public import proofs.«01_k».proof.Proof.MixForwardReference
public import proofs.«01_k».proof.Proof.RowSums

@[expose] public section

set_option maxRecDepth 16384

noncomputable section

open Idealize.ShloMosaic Idealize.ShloMosaic.TcCoe Idealize.SL.Sem

namespace Cert.MixOut

open Cert.Mix (Arr)
open Cert.RowSums (ext2)

variable {m : (ℓ : Loc Cert.MixForwardIdeal.nD Cert.MixForwardIdeal.τ Cert.MixForwardIdeal.sig) → Buf (Elt Ideal) ℓ} {c : Dev Cert.MixForwardIdeal.nD}

theorem out_eq : ((Cert.MixForwardIdeal.Gen.dats m 0 c).arrAt 6 Cert.MixForwardIdeal.cfg0.N : Arr 4096 1024)
    = Cert.MixForwardReferenceIdeal.Read.val_main_v18 (F := Ideal) (m (c, Proc.tc.devRef Cert.MixForwardIdeal.main_arg0)) (m (c, Proc.tc.devRef Cert.MixForwardIdeal.main_arg1)) (m (c, Proc.tc.devRef Cert.MixForwardIdeal.main_arg2)) (m (c, Proc.tc.devRef Cert.MixForwardIdeal.main_arg3)) (m (c, Proc.tc.devRef Cert.MixForwardIdeal.main_arg4)) (m (c, Proc.tc.devRef Cert.MixForwardIdeal.main_arg5)) (m (c, Proc.tc.devRef Cert.MixForwardIdeal.main_arg6)) (m (c, Proc.tc.devRef Cert.MixForwardIdeal.main_arg7)) :=
  ext2 fun r j => (arr_out r j).trans (Ref.v18_apply (argsOf m c) r j).symm

theorem ya_eq : ((Cert.MixForwardIdeal.Gen.dats m 0 c).arrAt 7 Cert.MixForwardIdeal.cfg0.N : Arr 4096 1024)
    = Cert.MixForwardReferenceIdeal.Read.val_main_v19 (F := Ideal) (m (c, Proc.tc.devRef Cert.MixForwardIdeal.main_arg1)) (m (c, Proc.tc.devRef Cert.MixForwardIdeal.main_arg5)) :=
  ext2 fun r j => (arr_ya r j).trans (Ref.v19_apply (argsOf m c) r j).symm

theorem yb_eq : ((Cert.MixForwardIdeal.Gen.dats m 0 c).arrAt 8 Cert.MixForwardIdeal.cfg0.N : Arr 4096 1024)
    = Cert.MixForwardReferenceIdeal.Read.val_main_v20 (F := Ideal) (m (c, Proc.tc.devRef Cert.MixForwardIdeal.main_arg2)) (m (c, Proc.tc.devRef Cert.MixForwardIdeal.main_arg6)) :=
  ext2 fun r j => (arr_yb r j).trans (Ref.v20_apply (argsOf m c) r j).symm

theorem mixed_eq : ((Cert.MixForwardIdeal.Gen.dats m 0 c).arrAt 9 Cert.MixForwardIdeal.cfg0.N : Arr 4096 1024)
    = Cert.MixForwardReferenceIdeal.Read.val_main_v21 (F := Ideal) (m (c, Proc.tc.devRef Cert.MixForwardIdeal.main_arg1)) (m (c, Proc.tc.devRef Cert.MixForwardIdeal.main_arg2)) (m (c, Proc.tc.devRef Cert.MixForwardIdeal.main_arg3)) (m (c, Proc.tc.devRef Cert.MixForwardIdeal.main_arg4)) (m (c, Proc.tc.devRef Cert.MixForwardIdeal.main_arg5)) (m (c, Proc.tc.devRef Cert.MixForwardIdeal.main_arg6)) :=
  ext2 fun r j => (arr_mixed r j).trans (Ref.v21_apply (argsOf m c) r j).symm

end Cert.MixOut

end
-- ==== Proof.OptimiserMath.lean ====
/- The corrections of AdamW's two moments over the extended reals: what the reference divides by, the kernel multiplies by the
   reciprocals of. -/
module

public import Idealize.ShloMosaic.PureOps.Ideal

@[expose] public section

set_option maxRecDepth 16384

noncomputable section

open Idealize.ShloMosaic

namespace Cert.Optimiser

/-- The reference's divisor of the first moment, `1 - 0.9 ^ 10` as a float. -/
theorem word_c1 : Ideal.ofBits .f32 0x3F26BD02#32 = ((5463681 / 8388608 : ℝ) : EReal) := by
  simp [Ideal.ofBits, Ideal.ieee, -EReal.coe_mul]; norm_num

/-- The reference's divisor of the second moment, `1 - 0.999 ^ 10` as a float. -/
theorem word_c2 : Ideal.ofBits .f32 0x3C231ACC#32 = ((2672307 / 268435456 : ℝ) : EReal) := by
  simp [Ideal.ofBits, Ideal.ieee, -EReal.coe_mul]; norm_num

/-- Dividing by the first divisor is multiplying by its reciprocal, at the infinities too. -/
theorem div_c1 (x : EReal) : Ideal.div x (Ideal.ofBits .f32 0x3F26BD02#32) = x * ((8388608 / 5463681 : ℝ) : EReal) := by
  rw [word_c1, Ideal.div_coe (by norm_num), one_div_div]

/-- Dividing by the second divisor is multiplying by its reciprocal, at the infinities too. -/
theorem div_c2 (x : EReal) : Ideal.div x (Ideal.ofBits .f32 0x3C231ACC#32) = x * ((268435456 / 2672307 : ℝ) : EReal) := by
  rw [word_c2, Ideal.div_coe (by norm_num), one_div_div]

end Cert.Optimiser

end
-- ==== Proof.OptimiserSmallResults.lean ====
/- The three results of the small weights' optimiser call: the launch's arrays are the reference's. -/
module

public import proofs.«01_k».proof.Proof.Gen.AdamWIdeal.Value
public import proofs.«01_k».proof.Proof.Gen.AdamWReferenceIdeal.Read
public import proofs.«01_k».proof.Proof.OptimiserMath
public import Idealize.ShloMosaic.PureOps.IdealRules

@[expose] public section

set_option maxRecDepth 16384

noncomputable section

open Idealize.ShloMosaic Idealize.ShloMosaic.TcCoe Idealize.SL.Sem

namespace Cert.OptimiserSmall

open Cert.AdamWReferenceIdeal.Read
open Cert.Optimiser

/-- The kernel's two named constants are the reciprocals of the reference's divisors. -/
theorem inv_c1 : Named.named (F := Ideal) Cert.AdamWIdeal.κ "inv_c1" (φ := .f32) 0x3FC48605#32 = ((8388608 / 5463681 : ℝ) : EReal) :=
  IdealRules.named_const.ideal_named_scalar _ _ _ _ rfl

theorem inv_c2 : Named.named (F := Ideal) Cert.AdamWIdeal.κ "inv_c2" (φ := .f32) 0x42C8E6D3#32 = ((268435456 / 2672307 : ℝ) : EReal) :=
  IdealRules.named_const.ideal_named_scalar _ _ _ _ rfl

/-- The step of the weight: entry by entry the reference's array is the one the call leaves. -/
theorem step (w g m v : FVec Ideal Cert.AdamWIdeal.S16x1024 .f32) :
    val_main_v23 (F := Ideal) w g m v = Cert.AdamWIdeal.Value.G4 (F := Ideal) w g m v := by
  funext i
  simp only [Cert.AdamWIdeal.Value.G4,
    val_main_v23_apply, val_main_v22_apply, val_main_cst_7_apply, val_main_v21_apply, val_main_v18_apply, val_main_v12_apply,
    val_main_v4_apply, val_main_v1_apply, val_main_v0_apply, val_main_cst_apply, val_main_v3_apply, val_main_v2_apply, val_main_cst_0_apply,
    val_main_v11_apply, val_main_cst_3_apply, val_main_v17_apply, val_main_v15_apply, val_main_v14_apply, val_main_v10_apply,
    val_main_v6_apply, val_main_v5_apply, val_main_cst_1_apply, val_main_v9_apply, val_main_v8_apply, val_main_cst_2_apply,
    val_main_v7_apply, val_main_v13_apply, val_main_cst_4_apply, val_main_v16_apply, val_main_cst_5_apply, val_main_v20_apply,
    val_main_v19_apply, val_main_cst_6_apply,
    Ideal.hostDivf_def, Ideal.hostUnary_sqrt_def, Ideal.mulf_def, Ideal.addf_def, Ideal.divf_def, Ideal.sqrt_def, Ideal.ofBits_def, div_c1, div_c2, inv_c1, inv_c2]

/-- The first moment: entry by entry the reference's array is the one the call leaves. -/
theorem first (g m : FVec Ideal Cert.AdamWIdeal.S16x1024 .f32) :
    val_main_v4 (F := Ideal) g m = Cert.AdamWIdeal.Value.G5 (F := Ideal) g m := by
  funext i
  simp only [Cert.AdamWIdeal.Value.G5,
    val_main_v4_apply, val_main_v1_apply, val_main_v0_apply, val_main_cst_apply, val_main_v3_apply, val_main_v2_apply, val_main_cst_0_apply,
    Ideal.hostDivf_def, Ideal.hostUnary_sqrt_def, Ideal.mulf_def, Ideal.addf_def, Ideal.divf_def, Ideal.sqrt_def, Ideal.ofBits_def]

/-- The second moment: entry by entry the reference's array is the one the call leaves. -/
theorem second (g v : FVec Ideal Cert.AdamWIdeal.S16x1024 .f32) :
    val_main_v10 (F := Ideal) g v = Cert.AdamWIdeal.Value.G6 (F := Ideal) g v := by
  funext i
  simp only [Cert.AdamWIdeal.Value.G6,
    val_main_v10_apply, val_main_v6_apply, val_main_v5_apply, val_main_cst_1_apply, val_main_v9_apply, val_main_v8_apply,
    val_main_cst_2_apply, val_main_v7_apply,
    Ideal.hostDivf_def, Ideal.hostUnary_sqrt_def, Ideal.mulf_def, Ideal.addf_def, Ideal.divf_def, Ideal.sqrt_def, Ideal.ofBits_def]

end Cert.OptimiserSmall

end
-- ==== Proof.OptimiserProjResults.lean ====
/- The six results of the two projections' optimiser call: the launch's arrays are the reference's. -/
module

public import proofs.«01_k».proof.Proof.Gen.AdamWProjIdeal.Value
public import proofs.«01_k».proof.Proof.Gen.AdamWProjReferenceIdeal.Read
public import proofs.«01_k».proof.Proof.OptimiserMath
public import Idealize.ShloMosaic.PureOps.IdealRules

@[expose] public section

set_option maxRecDepth 16384

noncomputable section

open Idealize.ShloMosaic Idealize.ShloMosaic.TcCoe Idealize.SL.Sem

namespace Cert.OptimiserProj

open Cert.AdamWProjReferenceIdeal.Read
open Cert.Optimiser

/-- The kernel's two named constants are the reciprocals of the reference's divisors. -/
theorem inv_c1 : Named.named (F := Ideal) Cert.AdamWProjIdeal.κ "inv_c1" (φ := .f32) 0x3FC48605#32 = ((8388608 / 5463681 : ℝ) : EReal) :=
  IdealRules.named_const.ideal_named_scalar _ _ _ _ rfl

theorem inv_c2 : Named.named (F := Ideal) Cert.AdamWProjIdeal.κ "inv_c2" (φ := .f32) 0x42C8E6D3#32 = ((268435456 / 2672307 : ℝ) : EReal) :=
  IdealRules.named_const.ideal_named_scalar _ _ _ _ rfl

/-- The step of the weight: entry by entry the reference's array is the one the call leaves. -/
theorem step_a (w g m v : FVec Ideal Cert.AdamWProjIdeal.S512x128 .f32) :
    val_main_v23 (F := Ideal) w g m v = Cert.AdamWProjIdeal.Value.G8 (F := Ideal) w g m v := by
  funext i
  simp only [Cert.AdamWProjIdeal.Value.G8,
    val_main_v23_apply, val_main_v22_apply, val_main_cst_7_apply, val_main_v21_apply, val_main_v18_apply, val_main_v12_apply,
    val_main_v4_apply, val_main_v1_apply, val_main_v0_apply, val_main_cst_apply, val_main_v3_apply, val_main_v2_apply, val_main_cst_0_apply,
    val_main_v11_apply, val_main_cst_3_apply, val_main_v17_apply, val_main_v15_apply, val_main_v14_apply, val_main_v10_apply,
    val_main_v6_apply, val_main_v5_apply, val_main_cst_1_apply, val_main_v9_apply, val_main_v8_apply, val_main_cst_2_apply,
    val_main_v7_apply, val_main_v13_apply, val_main_cst_4_apply, val_main_v16_apply, val_main_cst_5_apply, val_main_v20_apply,
    val_main_v19_apply, val_main_cst_6_apply,
    Ideal.hostDivf_def, Ideal.hostUnary_sqrt_def, Ideal.mulf_def, Ideal.addf_def, Ideal.divf_def, Ideal.sqrt_def, Ideal.ofBits_def, div_c1, div_c2, inv_c1, inv_c2]

/-- The step of the weight: entry by entry the reference's array is the one the call leaves. -/
theorem step_b (w g m v : FVec Ideal Cert.AdamWProjIdeal.S512x128 .f32) :
    val_main_v47 (F := Ideal) w g m v = Cert.AdamWProjIdeal.Value.G9 (F := Ideal) w g m v := by
  funext i
  simp only [Cert.AdamWProjIdeal.Value.G9,
    val_main_v47_apply, val_main_v46_apply, val_main_cst_16_apply, val_main_v45_apply, val_main_v42_apply, val_main_v36_apply,
    val_main_v28_apply, val_main_v25_apply, val_main_v24_apply, val_main_cst_8_apply, val_main_v27_apply, val_main_v26_apply,
    val_main_cst_9_apply, val_main_v35_apply, val_main_cst_12_apply, val_main_v41_apply, val_main_v39_apply, val_main_v38_apply,
    val_main_v34_apply, val_main_v30_apply, val_main_v29_apply, val_main_cst_10_apply, val_main_v33_apply, val_main_v32_apply,
    val_main_cst_11_apply, val_main_v31_apply, val_main_v37_apply, val_main_cst_13_apply, val_main_v40_apply, val_main_cst_14_apply,
    val_main_v44_apply, val_main_v43_apply, val_main_cst_15_apply,
    Ideal.hostDivf_def, Ideal.hostUnary_sqrt_def, Ideal.mulf_def, Ideal.addf_def, Ideal.divf_def, Ideal.sqrt_def, Ideal.ofBits_def, div_c1, div_c2, inv_c1, inv_c2]

/-- The first moment: entry by entry the reference's array is the one the call leaves. -/
theorem first_a (g m : FVec Ideal Cert.AdamWProjIdeal.S512x128 .f32) :
    val_main_v4 (F := Ideal) g m = Cert.AdamWProjIdeal.Value.G10 (F := Ideal) g m := by
  funext i
  simp only [Cert.AdamWProjIdeal.Value.G10,
    val_main_v4_apply, val_main_v1_apply, val_main_v0_apply, val_main_cst_apply, val_main_v3_apply, val_main_v2_apply, val_main_cst_0_apply,
    Ideal.hostDivf_def, Ideal.hostUnary_sqrt_def, Ideal.mulf_def, Ideal.addf_def, Ideal.divf_def, Ideal.sqrt_def, Ideal.ofBits_def]

/-- The first moment: entry by entry the reference's array is the one the call leaves. -/
theorem first_b (g m : FVec Ideal Cert.AdamWProjIdeal.S512x128 .f32) :
    val_main_v28 (F := Ideal) g m = Cert.AdamWProjIdeal.Value.G11 (F := Ideal) g m := by
  funext i
  simp only [Cert.AdamWProjIdeal.Value.G11,
    val_main_v28_apply, val_main_v25_apply, val_main_v24_apply, val_main_cst_8_apply, val_main_v27_apply, val_main_v26_apply,
    val_main_cst_9_apply,
    Ideal.hostDivf_def, Ideal.hostUnary_sqrt_def, Ideal.mulf_def, Ideal.addf_def, Ideal.divf_def, Ideal.sqrt_def, Ideal.ofBits_def]

/-- The second moment: entry by entry the reference's array is the one the call leaves. -/
theorem second_a (g v : FVec Ideal Cert.AdamWProjIdeal.S512x128 .f32) :
    val_main_v10 (F := Ideal) g v = Cert.AdamWProjIdeal.Value.G12 (F := Ideal) g v := by
  funext i
  simp only [Cert.AdamWProjIdeal.Value.G12,
    val_main_v10_apply, val_main_v6_apply, val_main_v5_apply, val_main_cst_1_apply, val_main_v9_apply, val_main_v8_apply,
    val_main_cst_2_apply, val_main_v7_apply,
    Ideal.hostDivf_def, Ideal.hostUnary_sqrt_def, Ideal.mulf_def, Ideal.addf_def, Ideal.divf_def, Ideal.sqrt_def, Ideal.ofBits_def]

/-- The second moment: entry by entry the reference's array is the one the call leaves. -/
theorem second_b (g v : FVec Ideal Cert.AdamWProjIdeal.S512x128 .f32) :
    val_main_v34 (F := Ideal) g v = Cert.AdamWProjIdeal.Value.G13 (F := Ideal) g v := by
  funext i
  simp only [Cert.AdamWProjIdeal.Value.G13,
    val_main_v34_apply, val_main_v30_apply, val_main_v29_apply, val_main_cst_10_apply, val_main_v33_apply, val_main_v32_apply,
    val_main_cst_11_apply, val_main_v31_apply,
    Ideal.hostDivf_def, Ideal.hostUnary_sqrt_def, Ideal.mulf_def, Ideal.addf_def, Ideal.divf_def, Ideal.sqrt_def, Ideal.ofBits_def]

end Cert.OptimiserProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Results
public import proofs.«01_k».proof.Proof.Gen.Weight
public import proofs.«01_k».proof.Proof.Gen.Weight.Skeleton
public import proofs.«01_k».proof.Proof.Gen.Weight.Launch
public import proofs.«01_k».proof.Proof.Gen.Weight.Points
public import proofs.«01_k».proof.Proof.Gen.Weight.Frame
public import proofs.«01_k».proof.Proof.Gen.WeightIdeal
public import proofs.«01_k».proof.Proof.Gen.WeightIdeal.Skeleton
public import proofs.«01_k».proof.Proof.Gen.WeightIdeal.Launch
public import proofs.«01_k».proof.Proof.Gen.WeightIdeal.Points
public import proofs.«01_k».proof.Proof.Gen.WeightIdeal.Frame
public import proofs.«01_k».proof.Proof.Gen.WeightIdeal.Value
public import proofs.«01_k».proof.Proof.Gen.WeightReferenceIdeal
public import proofs.«01_k».proof.Proof.Gen.WeightReferenceIdeal.Run
public import proofs.«01_k».proof.Proof.Gen.WeightReferenceIdeal.Read
public import proofs.«01_k».proof.Proof.Gen.WIn
public import proofs.«01_k».proof.Proof.Gen.WIn.Skeleton
public import proofs.«01_k».proof.Proof.Gen.WIn.Launch
public import proofs.«01_k».proof.Proof.Gen.WIn.Points
public import proofs.«01_k».proof.Proof.Gen.WIn.Frame
public import proofs.«01_k».proof.Proof.Gen.WInIdeal
public import proofs.«01_k».proof.Proof.Gen.WInIdeal.Skeleton
public import proofs.«01_k».proof.Proof.Gen.WInIdeal.Launch
public import proofs.«01_k».proof.Proof.Gen.WInIdeal.Points
public import proofs.«01_k».proof.Proof.Gen.WInIdeal.Frame
public import proofs.«01_k».proof.Proof.Gen.WInIdeal.Value
public import proofs.«01_k».proof.Proof.Gen.WInReferenceIdeal
public import proofs.«01_k».proof.Proof.Gen.WInReferenceIdeal.Run
public import proofs.«01_k».proof.Proof.Gen.WInReferenceIdeal.Read
public import proofs.«01_k».proof.Proof.WeightGradient
public import proofs.«01_k».proof.Proof.WInGradient
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadIdeal.Value
public import proofs.«01_k».proof.Proof.Gen.HeadReferenceIdeal
public import proofs.«01_k».proof.Proof.Gen.HeadReferenceIdeal.Run
public import proofs.«01_k».proof.Proof.Gen.HeadReferenceIdeal.Read
public import proofs.«01_k».proof.Proof.Gen.Pre_finite
public import proofs.«01_k».proof.Proof.HeadFinite
public import proofs.«01_k».proof.Proof.HeadResults
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.ActReferenceIdeal
public import proofs.«01_k».proof.Proof.Gen.ActReferenceIdeal.Run
public import proofs.«01_k».proof.Proof.Gen.ActReferenceIdeal.Read
public import proofs.«01_k».proof.Proof.Gen.Pre_finite_act
public import proofs.«01_k».proof.Proof.ActFinite
public import proofs.«01_k».proof.Proof.ActResults
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.NormResults
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.FfnResults
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.UpResults
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.DownResults
public import proofs.«01_k».proof.Proof.Gen.ProjBack
public import proofs.«01_k».proof.Proof.Gen.ProjBack.Skeleton
public import proofs.«01_k».proof.Proof.Gen.ProjBack.Launch
public import proofs.«01_k».proof.Proof.Gen.ProjBack.Points
public import proofs.«01_k».proof.Proof.Gen.ProjBack.Frame
public import proofs.«01_k».proof.Proof.Gen.ProjBackIdeal
public import proofs.«01_k».proof.Proof.Gen.ProjBackIdeal.Skeleton
public import proofs.«01_k».proof.Proof.Gen.ProjBackIdeal.Launch
public import proofs.«01_k».proof.Proof.Gen.ProjBackIdeal.Points
public import proofs.«01_k».proof.Proof.Gen.ProjBackIdeal.Frame
public import proofs.«01_k».proof.Proof.Gen.ProjBackIdeal.Value
public import proofs.«01_k».proof.Proof.Gen.ProjBackReferenceIdeal
public import proofs.«01_k».proof.Proof.Gen.ProjBackReferenceIdeal.Run
public import proofs.«01_k».proof.Proof.Gen.ProjBackReferenceIdeal.Read
public import proofs.«01_k».proof.Proof.ProjBackResults
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.ProjResults
public import proofs.«01_k».proof.Proof.Gen.MixForward
public import proofs.«01_k».proof.Proof.Gen.MixForward.Skeleton
public import proofs.«01_k».proof.Proof.Gen.MixForward.Launch
public import proofs.«01_k».proof.Proof.Gen.MixForward.Points
public import proofs.«01_k».proof.Proof.Gen.MixForward.Frame
public import proofs.«01_k».proof.Proof.Gen.MixForwardIdeal
public import proofs.«01_k».proof.Proof.Gen.MixForwardIdeal.Skeleton
public import proofs.«01_k».proof.Proof.Gen.MixForwardIdeal.Launch
public import proofs.«01_k».proof.Proof.Gen.MixForwardIdeal.Points
public import proofs.«01_k».proof.Proof.Gen.MixForwardIdeal.Frame
public import proofs.«01_k».proof.Proof.Gen.MixForwardIdeal.Value
public import proofs.«01_k».proof.Proof.Gen.MixForwardReferenceIdeal
public import proofs.«01_k».proof.Proof.Gen.MixForwardReferenceIdeal.Run
public import proofs.«01_k».proof.Proof.Gen.MixForwardReferenceIdeal.Read
public import proofs.«01_k».proof.Proof.MixForwardResults
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.AdamWIdeal.Value
public import proofs.«01_k».proof.Proof.Gen.AdamWReferenceIdeal
public import proofs.«01_k».proof.Proof.Gen.AdamWReferenceIdeal.Run
public import proofs.«01_k».proof.Proof.Gen.AdamWReferenceIdeal.Read
public import proofs.«01_k».proof.Proof.OptimiserSmallResults
public import proofs.«01_k».proof.Proof.Gen.AdamWProj
public import proofs.«01_k».proof.Proof.Gen.AdamWProj.Skeleton
public import proofs.«01_k».proof.Proof.Gen.AdamWProj.Launch
public import proofs.«01_k».proof.Proof.Gen.AdamWProj.Points
public import proofs.«01_k».proof.Proof.Gen.AdamWProj.Frame
public import proofs.«01_k».proof.Proof.Gen.AdamWProjIdeal
public import proofs.«01_k».proof.Proof.Gen.AdamWProjIdeal.Skeleton
public import proofs.«01_k».proof.Proof.Gen.AdamWProjIdeal.Launch
public import proofs.«01_k».proof.Proof.Gen.AdamWProjIdeal.Points
public import proofs.«01_k».proof.Proof.Gen.AdamWProjIdeal.Frame
public import proofs.«01_k».proof.Proof.Gen.AdamWProjIdeal.Value
public import proofs.«01_k».proof.Proof.Gen.AdamWProjReferenceIdeal
public import proofs.«01_k».proof.Proof.Gen.AdamWProjReferenceIdeal.Run
public import proofs.«01_k».proof.Proof.Gen.AdamWProjReferenceIdeal.Read
public import proofs.«01_k».proof.Proof.OptimiserProjResults
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- From memories that agree on the arguments, kernel and reference end with the same five gradients. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨_, _, _, _, _, Cert.KernelIdeal.Value.run m ρ, (θ_run _ _ _).mono (fun _ h c => by
    obtain ⟨e0, e1, e2, e3, e4, e5, e6, e7⟩ := hag c
    obtain ⟨h0, h1, h2, h3, h4, ha⟩ := h c
    refine ⟨h0.trans ?_, h1.trans ?_, h2.trans ?_, h3.trans ?_, h4.trans ?_, ha⟩
    · rw [Cert.ReferenceIdeal.Read.val_main_v43_eq, e2, e4, e6, e7]
      exact (Cert.Mix.doa_eq m c).symm
    · rw [Cert.ReferenceIdeal.Read.val_main_v44_eq, e3, e5, e6, e7]
      exact (Cert.Mix.dob_eq m c).symm
    · rw [Cert.ReferenceIdeal.Read.val_main_v45_eq, e0, e1, e2, e3, e4, e5, e6, e7]
      exact (Cert.Mix.dgt_eq m c).symm
    · rw [Cert.ReferenceIdeal.Read.val_main_v46_eq, e0, e1, e2, e3, e4, e5, e7]
      exact (Cert.Mix.gwo_eq m c).symm
    · rw [Cert.ReferenceIdeal.Read.val_main_v47_eq, e0, e1, e2, e3, e6, e7]
      exact (Cert.Mix.gwp_eq m c).symm)
    (Cert.ReferenceIdeal.Value.run m' ρ')⟩

/-- The reference has no semaphore, so its run is its frame. -/
theorem frame_reference : Cert.quiescent_ReferenceIdeal (hReferenceIdeal := Cert.ReferenceIdeal.Gen.facts) := fun m ρ _ =>
  (θ_run _ _ _).mono (fun r h => ⟨fun c => (h c).2.2.2.2.2, sem_eq_zero_of_no_sems (by decide) r.2⟩)
    (Cert.ReferenceIdeal.Value.run m ρ)

/-- The gradient of a weight whose product is plain: the array the launch leaves is the reference's gradient. -/
theorem weight_algebraic : Cert.algebraic_WeightIdeal_WeightReferenceIdeal (hWeightIdeal := Cert.WeightIdeal.Gen.facts)
    (hWeightReferenceIdeal := Cert.WeightReferenceIdeal.Gen.facts) := fun m ρ m' ρ' _ hag =>
  ⟨_, Cert.WeightIdeal.Value.run_blocks m ρ, (θ_run _ _ _).mono (fun _ h c => by
    obtain ⟨e0, e1⟩ := hag c
    obtain ⟨h0, ha⟩ := h c
    refine ⟨h0.trans ?_, ha⟩
    rw [Cert.WeightReferenceIdeal.Read.val_main_v5_eq, e0, e1]
    exact (Cert.WeightGradient.result_eq m c).symm)
    (Cert.WeightReferenceIdeal.Value.run m' ρ')⟩

theorem weight_frame_reference : Cert.quiescent_WeightReferenceIdeal (hWeightReferenceIdeal := Cert.WeightReferenceIdeal.Gen.facts) := fun m ρ _ =>
  (θ_run _ _ _).mono (fun r h => ⟨fun c => (h c).2, sem_eq_zero_of_no_sems (by decide) r.2⟩)
    (Cert.WeightReferenceIdeal.Value.run m ρ)

/-- The gradient of the input projection's weight, whose product's gradient comes in six pieces. -/
theorem w_in_algebraic : Cert.algebraic_WInIdeal_WInReferenceIdeal (hWInIdeal := Cert.WInIdeal.Gen.facts)
    (hWInReferenceIdeal := Cert.WInReferenceIdeal.Gen.facts) := fun m ρ m' ρ' _ hag =>
  ⟨_, Cert.WInIdeal.Value.run_blocks m ρ, (θ_run _ _ _).mono (fun _ h c => by
    obtain ⟨e0, e1, e2, e3, e4, e5, e6⟩ := hag c
    obtain ⟨h0, ha⟩ := h c
    refine ⟨h0.trans ?_, ha⟩
    rw [Cert.WInReferenceIdeal.Read.val_main_v6_eq, e0, e1, e2, e3, e4, e5, e6]
    exact (Cert.WInGradient.result_eq m c).symm)
    (Cert.WInReferenceIdeal.Value.run m' ρ')⟩

theorem w_in_frame_reference : Cert.quiescent_WInReferenceIdeal (hWInReferenceIdeal := Cert.WInReferenceIdeal.Gen.facts) := fun m ρ _ =>
  (θ_run _ _ _).mono (fun r h => ⟨fun c => (h c).2, sem_eq_zero_of_no_sems (by decide) r.2⟩)
    (Cert.WInReferenceIdeal.Value.run m ρ)

set_option maxHeartbeats 8000000 in
/-- The backward pass of the last feed-forward block, from the loss to the block's input: on finite arguments the seven arrays the
    launch leaves are the reference's. -/
theorem head_algebraic : Cert.algebraic_HeadIdeal_HeadReferenceIdeal_pre_finite (hHeadIdeal := Cert.HeadIdeal.Gen.facts)
    (hHeadReferenceIdeal := Cert.HeadReferenceIdeal.Gen.facts) (hPre_finite := Cert.Pre_finite.Gen.facts) := fun m ρ m' ρ' hpre hag =>
  ⟨_, _, _, _, _, _, _, Cert.HeadIdeal.Value.run_blocks m ρ, (θ_run _ _ _).mono (fun _ h c => by
    have H := Cert.HeadGrad.holds_of_finite m c hpre
    obtain ⟨e0, e1, e2, e3, e4, e5, e6⟩ := hag c
    obtain ⟨h0, h1, h2, h3, h4, h5, h6, ha⟩ := h c
    replace e0 : StableHlo.launchContents m' c (Proc.tc.devRef Cert.HeadReferenceIdeal.main_arg0) = (Cert.HeadGrad.argsOf m c).aX := e0.trans H.x
    replace e1 : StableHlo.launchContents m' c (Proc.tc.devRef Cert.HeadReferenceIdeal.main_arg1) = (Cert.HeadGrad.argsOf m c).aGain := e1.trans H.gain
    replace e2 : StableHlo.launchContents m' c (Proc.tc.devRef Cert.HeadReferenceIdeal.main_arg2) = (Cert.HeadGrad.argsOf m c).aWg := e2.trans H.wg
    replace e3 : StableHlo.launchContents m' c (Proc.tc.devRef Cert.HeadReferenceIdeal.main_arg3) = (Cert.HeadGrad.argsOf m c).aWu := e3.trans H.wu
    replace e4 : StableHlo.launchContents m' c (Proc.tc.devRef Cert.HeadReferenceIdeal.main_arg4) = (Cert.HeadGrad.argsOf m c).aWd := e4.trans H.wd
    replace e5 : StableHlo.launchContents m' c (Proc.tc.devRef Cert.HeadReferenceIdeal.main_arg5) = (Cert.HeadGrad.argsOf m c).aGainF := e5.trans H.gainF
    replace e6 : StableHlo.launchContents m' c (Proc.tc.devRef Cert.HeadReferenceIdeal.main_arg6) = (Cert.HeadGrad.argsOf m c).aTarget := e6.trans H.target
    refine ⟨h0.trans ?_, h1.trans ?_, h2.trans ?_, h3.trans ?_, h4.trans ?_, h5.trans ?_, h6.trans ?_, ha⟩
    · rw [Cert.HeadReferenceIdeal.Read.val_main_v99_eq, e0, e1, e2, e3, e4, e5, e6]
      exact (Cert.HeadGrad.dx_eq H).symm
    · rw [Cert.HeadReferenceIdeal.Read.val_main_v100_eq, e0, e1, e2, e3, e4, e5, e6]
      exact (Cert.HeadGrad.dg_eq H).symm
    · rw [Cert.HeadReferenceIdeal.Read.val_main_v101_eq, e0, e1, e2, e3, e4, e5, e6]
      exact (Cert.HeadGrad.du_eq H).symm
    · rw [Cert.HeadReferenceIdeal.Read.val_main_v102_eq, e0, e1, e2, e3, e4, e5, e6]
      exact (Cert.HeadGrad.db_eq H).symm
    · rw [Cert.HeadReferenceIdeal.Read.val_main_v104_eq, e0, e1, e2, e3, e4, e5, e6]
      exact (Cert.HeadGrad.gain_eq H).symm
    · rw [Cert.HeadReferenceIdeal.Read.val_main_v106_eq, e0, e1, e2, e3, e4, e5, e6]
      exact (Cert.HeadGrad.gainF_eq H).symm
    · rw [Cert.HeadReferenceIdeal.Read.val_main_v112_eq, e0, e1, e2, e3, e4, e5, e6]
      exact (Cert.HeadGrad.loss_eq H).symm)
    (Cert.HeadReferenceIdeal.Value.run m' ρ')⟩

theorem head_frame_reference : Cert.quiescent_HeadReferenceIdeal (hHeadReferenceIdeal := Cert.HeadReferenceIdeal.Gen.facts) := fun m ρ _ =>
  (θ_run _ _ _).mono (fun r h => ⟨fun c => (h c).2.2.2.2.2.2.2, sem_eq_zero_of_no_sems (by decide) r.2⟩)
    (Cert.HeadReferenceIdeal.Value.run m ρ)

theorem head_frame_reference_finite : Cert.quiescent_HeadReferenceIdeal_pre_finite (hHeadReferenceIdeal := Cert.HeadReferenceIdeal.Gen.facts)
    (hPre_finite := Cert.Pre_finite.Gen.facts) := fun m ρ _ => head_frame_reference m ρ trivial

/-- The gradients of the first feed-forward block's hidden layer: on finite arguments the two arrays the launch leaves are the
    reference's. -/
theorem act_algebraic : Cert.algebraic_ActIdeal_ActReferenceIdeal_pre_finite_act (hActIdeal := Cert.ActIdeal.Gen.facts)
    (hActReferenceIdeal := Cert.ActReferenceIdeal.Gen.facts) (hPre_finite_act := Cert.Pre_finite_act.Gen.facts) := fun m ρ m' ρ' hpre hag =>
  ⟨_, _, Cert.ActIdeal.Value.run_blocks m ρ, (θ_run _ _ _).mono (fun _ h c => by
    have H := Cert.ActGrad.holds_of_finite m c hpre
    obtain ⟨e0, e1, e2, e3⟩ := hag c
    obtain ⟨h0, h1, ha⟩ := h c
    replace e0 := e0.trans H.d
    replace e1 := e1.trans H.g
    replace e2 := e2.trans H.u
    replace e3 := e3.trans H.wd
    refine ⟨h0.trans ?_, h1.trans ?_, ha⟩
    · rw [Cert.ActReferenceIdeal.Read.val_main_v11_eq, e0, e1, e2, e3]
      exact (Cert.ActGrad.dg_eq H).symm
    · rw [Cert.ActReferenceIdeal.Read.val_main_v12_eq, e0, e1, e3]
      exact (Cert.ActGrad.du_eq H).symm)
    (Cert.ActReferenceIdeal.Value.run m' ρ')⟩

theorem act_frame_reference : Cert.quiescent_ActReferenceIdeal (hActReferenceIdeal := Cert.ActReferenceIdeal.Gen.facts) := fun m ρ _ =>
  (θ_run _ _ _).mono (fun r h => ⟨fun c => (h c).2.2, sem_eq_zero_of_no_sems (by decide) r.2⟩)
    (Cert.ActReferenceIdeal.Value.run m ρ)

theorem act_frame_reference_finite : Cert.quiescent_ActReferenceIdeal_pre_finite_act
    (hActReferenceIdeal := Cert.ActReferenceIdeal.Gen.facts) (hPre_finite_act := Cert.Pre_finite_act.Gen.facts) :=
  fun m ρ _ => act_frame_reference m ρ trivial

set_option maxHeartbeats 8000000 in
/-- The gradients of the first feed-forward block's input and, row by row summed by residue, of its gain. -/
theorem norm_algebraic : Cert.algebraic_NormIdeal_NormReferenceIdeal (hNormIdeal := Cert.NormIdeal.Gen.facts)
    (hNormReferenceIdeal := Cert.NormReferenceIdeal.Gen.facts) := fun m ρ m' ρ' _ hag =>
  ⟨_, _, Cert.NormIdeal.Value.run_blocks m ρ, (θ_run _ _ _).mono (fun _ h c => by
    obtain ⟨e0, e1, e2, e3, e4, e5, e6⟩ := hag c
    obtain ⟨h0, h1, ha⟩ := h c
    refine ⟨h0.trans ?_, h1.trans ?_, ha⟩
    · rw [Cert.NormReferenceIdeal.Read.val_main_v36_eq, e0, e1, e2, e3, e4, e5, e6]
      exact Cert.NormGrad.dx_eq.symm
    · rw [Cert.NormReferenceIdeal.Read.val_main_v38_eq, e1, e3, e4, e5, e6]
      exact Cert.NormGrad.gain_eq.symm)
    (Cert.NormReferenceIdeal.Value.run m' ρ')⟩

theorem norm_frame_reference : Cert.quiescent_NormReferenceIdeal (hNormReferenceIdeal := Cert.NormReferenceIdeal.Gen.facts) := fun m ρ _ =>
  (θ_run _ _ _).mono (fun r h => ⟨fun c => (h c).2.2, sem_eq_zero_of_no_sems (by decide) r.2⟩)
    (Cert.NormReferenceIdeal.Value.run m ρ)

set_option maxHeartbeats 8000000 in
/-- The last feed-forward block: the five arrays the launch leaves are the reference's. -/
theorem ffn_algebraic : Cert.algebraic_FfnIdeal_FfnReferenceIdeal (hFfnIdeal := Cert.FfnIdeal.Gen.facts)
    (hFfnReferenceIdeal := Cert.FfnReferenceIdeal.Gen.facts) := fun m ρ m' ρ' _ hag =>
  ⟨_, _, _, _, _, Cert.FfnIdeal.Value.run_blocks m ρ, (θ_run _ _ _).mono (fun _ h c => by
    obtain ⟨e0, e1, e2, e3, e4⟩ := hag c
    obtain ⟨h0, h1, h2, h3, h4, ha⟩ := h c
    refine ⟨h0.trans ?_, h1.trans ?_, h2.trans ?_, h3.trans ?_, h4.trans ?_, ha⟩
    · rw [Cert.FfnReferenceIdeal.Read.val_main_v16_eq, e0, e1]
      exact Cert.FfnForward.h_eq.symm
    · rw [Cert.FfnReferenceIdeal.Read.val_main_v17_eq, e0, e1, e2]
      exact Cert.FfnForward.g_eq.symm
    · rw [Cert.FfnReferenceIdeal.Read.val_main_v18_eq, e0, e1, e3]
      exact Cert.FfnForward.u_eq.symm
    · rw [Cert.FfnReferenceIdeal.Read.val_main_v19_eq, e0, e1, e2, e3]
      exact Cert.FfnForward.a_eq.symm
    · rw [Cert.FfnReferenceIdeal.Read.val_main_v23_eq, e0, e1, e2, e3, e4]
      exact Cert.FfnForward.y_eq.symm)
    (Cert.FfnReferenceIdeal.Value.run m' ρ')⟩

theorem ffn_frame_reference : Cert.quiescent_FfnReferenceIdeal (hFfnReferenceIdeal := Cert.FfnReferenceIdeal.Gen.facts) := fun m ρ _ =>
  (θ_run _ _ _).mono (fun r h => ⟨fun c => (h c).2.2.2.2.2, sem_eq_zero_of_no_sems (by decide) r.2⟩)
    (Cert.FfnReferenceIdeal.Value.run m ρ)

set_option maxHeartbeats 8000000 in
/-- The first feed-forward block's hidden layer: the four arrays the launch leaves are the reference's. -/
theorem up_algebraic : Cert.algebraic_UpIdeal_UpReferenceIdeal (hUpIdeal := Cert.UpIdeal.Gen.facts)
    (hUpReferenceIdeal := Cert.UpReferenceIdeal.Gen.facts) := fun m ρ m' ρ' _ hag =>
  ⟨_, _, _, _, Cert.UpIdeal.Value.run_blocks m ρ, (θ_run _ _ _).mono (fun _ h c => by
    obtain ⟨e0, e1, e2, e3⟩ := hag c
    obtain ⟨h0, h1, h2, h3, ha⟩ := h c
    refine ⟨h0.trans ?_, h1.trans ?_, h2.trans ?_, h3.trans ?_, ha⟩
    · rw [Cert.UpReferenceIdeal.Read.val_main_v16_eq, e0, e1]
      exact Cert.UpForward.h_eq.symm
    · rw [Cert.UpReferenceIdeal.Read.val_main_v17_eq, e0, e1, e2]
      exact Cert.UpForward.g_eq.symm
    · rw [Cert.UpReferenceIdeal.Read.val_main_v18_eq, e0, e1, e3]
      exact Cert.UpForward.u_eq.symm
    · rw [Cert.UpReferenceIdeal.Read.val_main_v19_eq, e0, e1, e2, e3]
      exact Cert.UpForward.a_eq.symm)
    (Cert.UpReferenceIdeal.Value.run m' ρ')⟩

theorem up_frame_reference : Cert.quiescent_UpReferenceIdeal (hUpReferenceIdeal := Cert.UpReferenceIdeal.Gen.facts) := fun m ρ _ =>
  (θ_run _ _ _).mono (fun r h => ⟨fun c => (h c).2.2.2.2, sem_eq_zero_of_no_sems (by decide) r.2⟩)
    (Cert.UpReferenceIdeal.Value.run m ρ)

set_option maxHeartbeats 8000000 in
/-- The first feed-forward block's output. -/
theorem down_algebraic : Cert.algebraic_DownIdeal_DownReferenceIdeal (hDownIdeal := Cert.DownIdeal.Gen.facts)
    (hDownReferenceIdeal := Cert.DownReferenceIdeal.Gen.facts) := fun m ρ m' ρ' _ hag =>
  ⟨_, Cert.DownIdeal.Value.run_blocks m ρ, (θ_run _ _ _).mono (fun _ h c => by
    obtain ⟨e0, e1, e2⟩ := hag c
    obtain ⟨h0, ha⟩ := h c
    refine ⟨h0.trans ?_, ha⟩
    · rw [Cert.DownReferenceIdeal.Read.val_main_v3_eq, e0, e1, e2]
      exact Cert.DownForward.y_eq.symm)
    (Cert.DownReferenceIdeal.Value.run m' ρ')⟩

theorem down_frame_reference : Cert.quiescent_DownReferenceIdeal (hDownReferenceIdeal := Cert.DownReferenceIdeal.Gen.facts) := fun m ρ _ =>
  (θ_run _ _ _).mono (fun r h => ⟨fun c => (h c).2, sem_eq_zero_of_no_sems (by decide) r.2⟩)
    (Cert.DownReferenceIdeal.Value.run m ρ)

set_option maxHeartbeats 8000000 in
/-- The input projection's backward pass: the three arrays the launch leaves are the reference's. -/
theorem proj_back_algebraic : Cert.algebraic_ProjBackIdeal_ProjBackReferenceIdeal (hProjBackIdeal := Cert.ProjBackIdeal.Gen.facts)
    (hProjBackReferenceIdeal := Cert.ProjBackReferenceIdeal.Gen.facts) := fun m ρ m' ρ' _ hag =>
  ⟨_, _, _, Cert.ProjBackIdeal.Value.run_blocks m ρ, (θ_run _ _ _).mono (fun _ h c => by
    obtain ⟨e0, e1, e2, e3, e4, e5, e6, e7, e8, e9⟩ := hag c
    obtain ⟨h0, h1, h2, ha⟩ := h c
    refine ⟨h0.trans ?_, h1.trans ?_, h2.trans ?_, ha⟩
    · rw [Cert.ProjBackReferenceIdeal.Read.val_main_v34_eq, e0, e1, e2, e3, e4, e5, e6, e7, e8, e9]
      exact Cert.ProjBackward.dx_eq.symm
    · rw [Cert.ProjBackReferenceIdeal.Read.val_main_v39_eq, e0, e1, e2, e3, e4, e5, e6, e7, e8, e9]
      exact Cert.ProjBackward.dz_eq.symm
    · rw [Cert.ProjBackReferenceIdeal.Read.val_main_v41_eq, e1, e3, e4, e5, e6, e7, e8, e9]
      exact Cert.ProjBackward.gain_eq.symm)
    (Cert.ProjBackReferenceIdeal.Value.run m' ρ')⟩

theorem proj_back_frame_reference : Cert.quiescent_ProjBackReferenceIdeal (hProjBackReferenceIdeal := Cert.ProjBackReferenceIdeal.Gen.facts) := fun m ρ _ =>
  (θ_run _ _ _).mono (fun r h => ⟨fun c => (h c).2.2.2, sem_eq_zero_of_no_sems (by decide) r.2⟩)
    (Cert.ProjBackReferenceIdeal.Value.run m ρ)

set_option maxHeartbeats 8000000 in
/-- The input projection: the four arrays the launch leaves are the reference's. -/
theorem proj_algebraic : Cert.algebraic_ProjIdeal_ProjReferenceIdeal (hProjIdeal := Cert.ProjIdeal.Gen.facts)
    (hProjReferenceIdeal := Cert.ProjReferenceIdeal.Gen.facts) := fun m ρ m' ρ' _ hag =>
  ⟨_, _, _, _, Cert.ProjIdeal.Value.run_blocks m ρ, (θ_run _ _ _).mono (fun _ h c => by
    obtain ⟨e0, e1, e2⟩ := hag c
    obtain ⟨h0, h1, h2, h3, ha⟩ := h c
    refine ⟨h0.trans ?_, h1.trans ?_, h2.trans ?_, h3.trans ?_, ha⟩
    · rw [Cert.ProjReferenceIdeal.Read.val_main_v16_eq, e0, e1]
      exact Cert.ProjForward.h_eq.symm
    · rw [Cert.ProjReferenceIdeal.Read.val_main_v17_eq, e0, e1, e2]
      exact Cert.ProjForward.a_eq.symm
    · rw [Cert.ProjReferenceIdeal.Read.val_main_v18_eq, e0, e1, e2]
      exact Cert.ProjForward.b_eq.symm
    · rw [Cert.ProjReferenceIdeal.Read.val_main_v15_eq, e0, e1, e2]
      exact Cert.ProjForward.gates_eq.symm)
    (Cert.ProjReferenceIdeal.Value.run m' ρ')⟩

theorem proj_frame_reference : Cert.quiescent_ProjReferenceIdeal (hProjReferenceIdeal := Cert.ProjReferenceIdeal.Gen.facts) := fun m ρ _ =>
  (θ_run _ _ _).mono (fun r h => ⟨fun c => (h c).2.2.2.2, sem_eq_zero_of_no_sems (by decide) r.2⟩)
    (Cert.ProjReferenceIdeal.Value.run m ρ)

set_option maxHeartbeats 8000000 in
/-- The mixing block: the four arrays the launch leaves are the reference's. -/
theorem mix_algebraic : Cert.algebraic_MixForwardIdeal_MixForwardReferenceIdeal (hMixForwardIdeal := Cert.MixForwardIdeal.Gen.facts)
    (hMixForwardReferenceIdeal := Cert.MixForwardReferenceIdeal.Gen.facts) := fun m ρ m' ρ' _ hag =>
  ⟨_, _, _, _, Cert.MixForwardIdeal.Value.run_blocks m ρ, (θ_run _ _ _).mono (fun _ h c => by
    obtain ⟨e0, e1, e2, e3, e4, e5, e6, e7⟩ := hag c
    obtain ⟨h0, h1, h2, h3, ha⟩ := h c
    refine ⟨h0.trans ?_, h1.trans ?_, h2.trans ?_, h3.trans ?_, ha⟩
    · rw [Cert.MixForwardReferenceIdeal.Read.val_main_v18_eq, e0, e1, e2, e3, e4, e5, e6, e7]
      exact Cert.MixOut.out_eq.symm
    · rw [Cert.MixForwardReferenceIdeal.Read.val_main_v19_eq, e1, e5]
      exact Cert.MixOut.ya_eq.symm
    · rw [Cert.MixForwardReferenceIdeal.Read.val_main_v20_eq, e2, e6]
      exact Cert.MixOut.yb_eq.symm
    · rw [Cert.MixForwardReferenceIdeal.Read.val_main_v21_eq, e1, e2, e3, e4, e5, e6]
      exact Cert.MixOut.mixed_eq.symm)
    (Cert.MixForwardReferenceIdeal.Value.run m' ρ')⟩

theorem mix_frame_reference : Cert.quiescent_MixForwardReferenceIdeal (hMixForwardReferenceIdeal := Cert.MixForwardReferenceIdeal.Gen.facts) := fun m ρ _ =>
  (θ_run _ _ _).mono (fun r h => ⟨fun c => (h c).2.2.2.2, sem_eq_zero_of_no_sems (by decide) r.2⟩)
    (Cert.MixForwardReferenceIdeal.Value.run m ρ)

/-- The two reciprocals the kernel multiplies by are named. -/
theorem adamw_preserves : Cert.preserves_AdamW_AdamWIdeal :=
  ⟨IdealRules.named_const.statement Cert.AdamWIdeal.κ "inv_c1" .f32 0x3FC48605#32 ((8388608 / 5463681 : ℝ) : EReal) rfl,
    IdealRules.named_const.statement Cert.AdamWIdeal.κ "inv_c2" .f32 0x42C8E6D3#32 ((268435456 / 2672307 : ℝ) : EReal) rfl⟩

set_option maxHeartbeats 8000000 in
/-- The optimiser of the six small weights: the three arrays the launch leaves are the reference's. -/
theorem adamw_algebraic : Cert.algebraic_AdamWIdeal_AdamWReferenceIdeal (hAdamWIdeal := Cert.AdamWIdeal.Gen.facts)
    (hAdamWReferenceIdeal := Cert.AdamWReferenceIdeal.Gen.facts) := fun m ρ m' ρ' _ hag =>
  ⟨_, _, _, Cert.AdamWIdeal.Value.run m ρ, (θ_run _ _ _).mono (fun _ h c => by
    obtain ⟨e0, e1, e2, e3⟩ := hag c
    obtain ⟨h0, h1, h2, ha⟩ := h c
    refine ⟨h0.trans ?_, h1.trans ?_, h2.trans ?_, ha⟩
    · rw [Cert.AdamWReferenceIdeal.Read.val_main_v23_eq, e0, e1, e2, e3]
      exact Cert.OptimiserSmall.step _ _ _ _
    · rw [Cert.AdamWReferenceIdeal.Read.val_main_v4_eq, e1, e2]
      exact Cert.OptimiserSmall.first _ _
    · rw [Cert.AdamWReferenceIdeal.Read.val_main_v10_eq, e1, e3]
      exact Cert.OptimiserSmall.second _ _)
    (Cert.AdamWReferenceIdeal.Value.run m' ρ')⟩

theorem adamw_frame_reference : Cert.quiescent_AdamWReferenceIdeal (hAdamWReferenceIdeal := Cert.AdamWReferenceIdeal.Gen.facts) := fun m ρ _ =>
  (θ_run _ _ _).mono (fun r h => ⟨fun c => (h c).2.2.2, sem_eq_zero_of_no_sems (by decide) r.2⟩)
    (Cert.AdamWReferenceIdeal.Value.run m ρ)

/-- The two reciprocals the kernel multiplies by are named. -/
theorem adamw_proj_preserves : Cert.preserves_AdamWProj_AdamWProjIdeal :=
  ⟨IdealRules.named_const.statement Cert.AdamWProjIdeal.κ "inv_c1" .f32 0x3FC48605#32 ((8388608 / 5463681 : ℝ) : EReal) rfl,
    IdealRules.named_const.statement Cert.AdamWProjIdeal.κ "inv_c2" .f32 0x42C8E6D3#32 ((268435456 / 2672307 : ℝ) : EReal) rfl⟩

set_option maxHeartbeats 8000000 in
/-- The optimiser of the two projections: the six arrays the launch leaves are the reference's. -/
theorem adamw_proj_algebraic : Cert.algebraic_AdamWProjIdeal_AdamWProjReferenceIdeal (hAdamWProjIdeal := Cert.AdamWProjIdeal.Gen.facts)
    (hAdamWProjReferenceIdeal := Cert.AdamWProjReferenceIdeal.Gen.facts) := fun m ρ m' ρ' _ hag =>
  ⟨_, _, _, _, _, _, Cert.AdamWProjIdeal.Value.run m ρ, (θ_run _ _ _).mono (fun _ h c => by
    obtain ⟨e0, e1, e2, e3, e4, e5, e6, e7⟩ := hag c
    obtain ⟨h0, h1, h2, h3, h4, h5, ha⟩ := h c
    refine ⟨h0.trans ?_, h1.trans ?_, h2.trans ?_, h3.trans ?_, h4.trans ?_, h5.trans ?_, ha⟩
    · rw [Cert.AdamWProjReferenceIdeal.Read.val_main_v23_eq, e0, e2, e4, e6]
      exact Cert.OptimiserProj.step_a _ _ _ _
    · rw [Cert.AdamWProjReferenceIdeal.Read.val_main_v47_eq, e1, e3, e5, e7]
      exact Cert.OptimiserProj.step_b _ _ _ _
    · rw [Cert.AdamWProjReferenceIdeal.Read.val_main_v4_eq, e2, e4]
      exact Cert.OptimiserProj.first_a _ _
    · rw [Cert.AdamWProjReferenceIdeal.Read.val_main_v28_eq, e3, e5]
      exact Cert.OptimiserProj.first_b _ _
    · rw [Cert.AdamWProjReferenceIdeal.Read.val_main_v10_eq, e2, e6]
      exact Cert.OptimiserProj.second_a _ _
    · rw [Cert.AdamWProjReferenceIdeal.Read.val_main_v34_eq, e3, e7]
      exact Cert.OptimiserProj.second_b _ _)
    (Cert.AdamWProjReferenceIdeal.Value.run m' ρ')⟩

theorem adamw_proj_frame_reference : Cert.quiescent_AdamWProjReferenceIdeal (hAdamWProjReferenceIdeal := Cert.AdamWProjReferenceIdeal.Gen.facts) := fun m ρ _ =>
  (θ_run _ _ _).mono (fun r h => ⟨fun c => (h c).2.2.2.2.2.2, sem_eq_zero_of_no_sems (by decide) r.2⟩)
    (Cert.AdamWProjReferenceIdeal.Value.run m ρ)

theorem claim : Cert.Claim := ⟨Cert.Kernel.Gen.facts, Cert.KernelIdeal.Gen.facts, Cert.ReferenceIdeal.Gen.facts,
  Cert.Weight.Gen.facts, Cert.WeightIdeal.Gen.facts, Cert.WeightReferenceIdeal.Gen.facts,
  Cert.WIn.Gen.facts, Cert.WInIdeal.Gen.facts, Cert.WInReferenceIdeal.Gen.facts,
  Cert.Head.Gen.facts, Cert.HeadIdeal.Gen.facts, Cert.HeadReferenceIdeal.Gen.facts,
  Cert.Act.Gen.facts, Cert.ActIdeal.Gen.facts, Cert.ActReferenceIdeal.Gen.facts,
  Cert.Norm.Gen.facts, Cert.NormIdeal.Gen.facts, Cert.NormReferenceIdeal.Gen.facts,
  Cert.Ffn.Gen.facts, Cert.FfnIdeal.Gen.facts, Cert.FfnReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.ProjBack.Gen.facts, Cert.ProjBackIdeal.Gen.facts, Cert.ProjBackReferenceIdeal.Gen.facts,
  Cert.Proj.Gen.facts, Cert.ProjIdeal.Gen.facts, Cert.ProjReferenceIdeal.Gen.facts,
  Cert.MixForward.Gen.facts, Cert.MixForwardIdeal.Gen.facts, Cert.MixForwardReferenceIdeal.Gen.facts,
  Cert.AdamW.Gen.facts, Cert.AdamWIdeal.Gen.facts, Cert.AdamWReferenceIdeal.Gen.facts,
  Cert.AdamWProj.Gen.facts, Cert.AdamWProjIdeal.Gen.facts, Cert.AdamWProjReferenceIdeal.Gen.facts,
  Cert.Pre_finite.Gen.facts, Cert.Pre_finite_act.Gen.facts,
  fun m ρ _ => Cert.Kernel.Gen.frame m ρ, fun m ρ _ => Cert.KernelIdeal.Gen.frame m ρ, frame_reference,
  fun m ρ _ => Cert.Weight.Gen.frame m ρ, fun m ρ _ => Cert.WeightIdeal.Gen.frame m ρ, weight_frame_reference,
  fun m ρ _ => Cert.WIn.Gen.frame m ρ, fun m ρ _ => Cert.WInIdeal.Gen.frame m ρ, w_in_frame_reference,
  fun m ρ _ => Cert.Head.Gen.frame m ρ, fun m ρ _ => Cert.HeadIdeal.Gen.frame m ρ, fun m ρ _ => Cert.HeadIdeal.Gen.frame m ρ,
  head_frame_reference, head_frame_reference_finite,
  fun m ρ _ => Cert.Act.Gen.frame m ρ, fun m ρ _ => Cert.ActIdeal.Gen.frame m ρ, fun m ρ _ => Cert.ActIdeal.Gen.frame m ρ,
  act_frame_reference, act_frame_reference_finite,
  fun m ρ _ => Cert.Norm.Gen.frame m ρ, fun m ρ _ => Cert.NormIdeal.Gen.frame m ρ, norm_frame_reference,
  fun m ρ _ => Cert.Ffn.Gen.frame m ρ, fun m ρ _ => Cert.FfnIdeal.Gen.frame m ρ, ffn_frame_reference,
  fun m ρ _ => Cert.Up.Gen.frame m ρ, fun m ρ _ => Cert.UpIdeal.Gen.frame m ρ, up_frame_reference,
  fun m ρ _ => Cert.Down.Gen.frame m ρ, fun m ρ _ => Cert.DownIdeal.Gen.frame m ρ, down_frame_reference,
  fun m ρ _ => Cert.ProjBack.Gen.frame m ρ, fun m ρ _ => Cert.ProjBackIdeal.Gen.frame m ρ, proj_back_frame_reference,
  fun m ρ _ => Cert.Proj.Gen.frame m ρ, fun m ρ _ => Cert.ProjIdeal.Gen.frame m ρ, proj_frame_reference,
  fun m ρ _ => Cert.MixForward.Gen.frame m ρ, fun m ρ _ => Cert.MixForwardIdeal.Gen.frame m ρ, mix_frame_reference,
  fun m ρ _ => Cert.AdamW.Gen.frame m ρ, fun m ρ _ => Cert.AdamWIdeal.Gen.frame m ρ, adamw_frame_reference,
  fun m ρ _ => Cert.AdamWProj.Gen.frame m ρ, fun m ρ _ => Cert.AdamWProjIdeal.Gen.frame m ρ, adamw_proj_frame_reference,
  trivial, algebraic, trivial, weight_algebraic, trivial, w_in_algebraic,
  trivial, head_algebraic, trivial, act_algebraic, trivial, norm_algebraic,
  trivial, ffn_algebraic, trivial, up_algebraic, trivial, down_algebraic,
  trivial, proj_back_algebraic, trivial, proj_algebraic, trivial, mix_algebraic,
  adamw_preserves, adamw_algebraic, adamw_proj_preserves, adamw_proj_algebraic⟩

end Cert.Proof

end
